-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Boundary (m : (ℓ : Loc Cert.Boundary.nD Cert.Boundary.τ Cert.Boundary.sig) → Buf (Elt Bits) ℓ) : Prop :=
  True

def Pre_BoundaryIdeal (m : (ℓ : Loc Cert.BoundaryIdeal.nD Cert.BoundaryIdeal.τ Cert.BoundaryIdeal.sig) → Buf (Elt Ideal) ℓ) : Prop :=
  True

def Pre_BoundaryReferenceIdeal (m : (ℓ : Loc Cert.BoundaryReferenceIdeal.nD Cert.BoundaryReferenceIdeal.τ Cert.BoundaryReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_DiffAttn (m : (ℓ : Loc Cert.DiffAttn.nD Cert.DiffAttn.τ Cert.DiffAttn.sig) → Buf (Elt Bits) ℓ) : Prop :=
  True

def Pre_DiffAttnIdeal (m : (ℓ : Loc Cert.DiffAttnIdeal.nD Cert.DiffAttnIdeal.τ Cert.DiffAttnIdeal.sig) → Buf (Elt Ideal) ℓ) : Prop :=
  True

def Pre_DiffAttnIdeal_finite4 [hPre_finite4 : Cert.Pre_finite4.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_finite4.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4)) (m ((c.tc : Thread Cert.DiffAttnIdeal.nD Cert.DiffAttnIdeal.τ).loc Cert.DiffAttnIdeal.main_arg5))) = (fun _ => 1#1)

def Pre_DiffAttnReferenceIdeal (m : (ℓ : Loc Cert.DiffAttnReferenceIdeal.nD Cert.DiffAttnReferenceIdeal.τ Cert.DiffAttnReferenceIdeal.sig) → Buf (Elt Ideal) ℓ) : Prop :=
  True

def Pre_DiffAttnReferenceIdeal_finite4 [hPre_finite4 : Cert.Pre_finite4.Facts] (m : (ℓ : Loc Cert.DiffAttnReferenceIdeal.nD Cert.DiffAttnReferenceIdeal.τ Cert.DiffAttnReferenceIdeal.sig) → Buf (Elt Ideal) ℓ) : Prop :=
  ∀ c : Dev Cert.DiffAttnReferenceIdeal.nD,
    (Cert.Pre_finite4.fn (F := Ideal) (m ((c.tc : Thread Cert.DiffAttnReferenceIdeal.nD Cert.DiffAttnReferenceIdeal.τ).loc Cert.DiffAttnReferenceIdeal.main_arg0)) (m ((c.tc : Thread Cert.DiffAttnReferenceIdeal.nD Cert.DiffAttnReferenceIdeal.τ).loc Cert.DiffAttnReferenceIdeal.main_arg1)) (m ((c.tc : Thread Cert.DiffAttnReferenceIdeal.nD Cert.DiffAttnReferenceIdeal.τ).loc Cert.DiffAttnReferenceIdeal.main_arg2)) (m ((c.tc : Thread Cert.DiffAttnReferenceIdeal.nD Cert.DiffAttnReferenceIdeal.τ).loc Cert.DiffAttnReferenceIdeal.main_arg3)) (m ((c.tc : Thread Cert.DiffAttnReferenceIdeal.nD Cert.DiffAttnReferenceIdeal.τ).loc Cert.DiffAttnReferenceIdeal.main_arg4)) (m ((c.tc : Thread Cert.DiffAttnReferenceIdeal.nD Cert.DiffAttnReferenceIdeal.τ).loc Cert.DiffAttnReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Boundary [hBoundary : Cert.Boundary.Facts] : Prop :=
  ∀ (m : (ℓ : Loc Cert.Boundary.nD Cert.Boundary.τ Cert.Boundary.sig) → Buf (Elt Bits) ℓ) (g : Dev Cert.Boundary.nD → PrngReg), Pre_Boundary m →
    θ_run (Cert.Boundary.defs (F := Bits)) (onTc (τ := Cert.Boundary.τ) (Cert.Boundary.main (F := Bits))) ⟨m, fun _ => 0, g⟩ (fun r => (∀ c : Dev Cert.Boundary.nD,
      r.2.mem ((c.tc : Thread Cert.Boundary.nD Cert.Boundary.τ).loc Cert.Boundary.main_arg0) = m ((c.tc : Thread Cert.Boundary.nD Cert.Boundary.τ).loc Cert.Boundary.main_arg0)
      ∧ r.2.mem ((c.tc : Thread Cert.Boundary.nD Cert.Boundary.τ).loc Cert.Boundary.main_arg1) = m ((c.tc : Thread Cert.Boundary.nD Cert.Boundary.τ).loc Cert.Boundary.main_arg1)
      ∧ r.2.mem ((c.tc : Thread Cert.Boundary.nD Cert.Boundary.τ).loc Cert.Boundary.main_arg2) = m ((c.tc : Thread Cert.Boundary.nD Cert.Boundary.τ).loc Cert.Boundary.main_arg2)
      ∧ r.2.mem ((c.tc : Thread Cert.Boundary.nD Cert.Boundary.τ).loc Cert.Boundary.main_arg3) = m ((c.tc : Thread Cert.Boundary.nD Cert.Boundary.τ).loc Cert.Boundary.main_arg3)
      ∧ r.2.mem ((c.tc : Thread Cert.Boundary.nD Cert.Boundary.τ).loc Cert.Boundary.main_arg4) = m ((c.tc : Thread Cert.Boundary.nD Cert.Boundary.τ).loc Cert.Boundary.main_arg4)
      ∧ r.2.mem ((c.tc : Thread Cert.Boundary.nD Cert.Boundary.τ).loc Cert.Boundary.main_arg5) = m ((c.tc : Thread Cert.Boundary.nD Cert.Boundary.τ).loc Cert.Boundary.main_arg5)
      ∧ r.2.mem ((c.tc : Thread Cert.Boundary.nD Cert.Boundary.τ).loc Cert.Boundary.main_arg6) = m ((c.tc : Thread Cert.Boundary.nD Cert.Boundary.τ).loc Cert.Boundary.main_arg6))
      ∧ r.2.sem = fun _ => 0)

def quiescent_BoundaryIdeal [hBoundaryIdeal : Cert.BoundaryIdeal.Facts] : Prop :=
  ∀ (m : (ℓ : Loc Cert.BoundaryIdeal.nD Cert.BoundaryIdeal.τ Cert.BoundaryIdeal.sig) → Buf (Elt Ideal) ℓ) (g : Dev Cert.BoundaryIdeal.nD → PrngReg), Pre_BoundaryIdeal m →
    θ_run (Cert.BoundaryIdeal.defs (F := Ideal)) (onTc (τ := Cert.BoundaryIdeal.τ) (Cert.BoundaryIdeal.main (F := Ideal))) ⟨m, fun _ => 0, g⟩ (fun r => (∀ c : Dev Cert.BoundaryIdeal.nD,
      r.2.mem ((c.tc : Thread Cert.BoundaryIdeal.nD Cert.BoundaryIdeal.τ).loc Cert.BoundaryIdeal.main_arg0) = m ((c.tc : Thread Cert.BoundaryIdeal.nD Cert.BoundaryIdeal.τ).loc Cert.BoundaryIdeal.main_arg0)
      ∧ r.2.mem ((c.tc : Thread Cert.BoundaryIdeal.nD Cert.BoundaryIdeal.τ).loc Cert.BoundaryIdeal.main_arg1) = m ((c.tc : Thread Cert.BoundaryIdeal.nD Cert.BoundaryIdeal.τ).loc Cert.BoundaryIdeal.main_arg1)
      ∧ r.2.mem ((c.tc : Thread Cert.BoundaryIdeal.nD Cert.BoundaryIdeal.τ).loc Cert.BoundaryIdeal.main_arg2) = m ((c.tc : Thread Cert.BoundaryIdeal.nD Cert.BoundaryIdeal.τ).loc Cert.BoundaryIdeal.main_arg2)
      ∧ r.2.mem ((c.tc : Thread Cert.BoundaryIdeal.nD Cert.BoundaryIdeal.τ).loc Cert.BoundaryIdeal.main_arg3) = m ((c.tc : Thread Cert.BoundaryIdeal.nD Cert.BoundaryIdeal.τ).loc Cert.BoundaryIdeal.main_arg3)
      ∧ r.2.mem ((c.tc : Thread Cert.BoundaryIdeal.nD Cert.BoundaryIdeal.τ).loc Cert.BoundaryIdeal.main_arg4) = m ((c.tc : Thread Cert.BoundaryIdeal.nD Cert.BoundaryIdeal.τ).loc Cert.BoundaryIdeal.main_arg4)
      ∧ r.2.mem ((c.tc : Thread Cert.BoundaryIdeal.nD Cert.BoundaryIdeal.τ).loc Cert.BoundaryIdeal.main_arg5) = m ((c.tc : Thread Cert.BoundaryIdeal.nD Cert.BoundaryIdeal.τ).loc Cert.BoundaryIdeal.main_arg5)
      ∧ r.2.mem ((c.tc : Thread Cert.BoundaryIdeal.nD Cert.BoundaryIdeal.τ).loc Cert.BoundaryIdeal.main_arg6) = m ((c.tc : Thread Cert.BoundaryIdeal.nD Cert.BoundaryIdeal.τ).loc Cert.BoundaryIdeal.main_arg6))
      ∧ r.2.sem = fun _ => 0)

def quiescent_BoundaryReferenceIdeal [hBoundaryReferenceIdeal : Cert.BoundaryReferenceIdeal.Facts] : Prop :=
  ∀ (m : (ℓ : Loc Cert.BoundaryReferenceIdeal.nD Cert.BoundaryReferenceIdeal.τ Cert.BoundaryReferenceIdeal.sig) → Buf (Elt Ideal) ℓ) (g : Dev Cert.BoundaryReferenceIdeal.nD → PrngReg), Pre_BoundaryReferenceIdeal m →
    θ_run (Cert.BoundaryReferenceIdeal.defs (F := Ideal)) (onTc (τ := Cert.BoundaryReferenceIdeal.τ) (Cert.BoundaryReferenceIdeal.main (F := Ideal))) ⟨m, fun _ => 0, g⟩ (fun r => (∀ c : Dev Cert.BoundaryReferenceIdeal.nD,
      r.2.mem ((c.tc : Thread Cert.BoundaryReferenceIdeal.nD Cert.BoundaryReferenceIdeal.τ).loc Cert.BoundaryReferenceIdeal.main_arg0) = m ((c.tc : Thread Cert.BoundaryReferenceIdeal.nD Cert.BoundaryReferenceIdeal.τ).loc Cert.BoundaryReferenceIdeal.main_arg0)
      ∧ r.2.mem ((c.tc : Thread Cert.BoundaryReferenceIdeal.nD Cert.BoundaryReferenceIdeal.τ).loc Cert.BoundaryReferenceIdeal.main_arg1) = m ((c.tc : Thread Cert.BoundaryReferenceIdeal.nD Cert.BoundaryReferenceIdeal.τ).loc Cert.BoundaryReferenceIdeal.main_arg1)
      ∧ r.2.mem ((c.tc : Thread Cert.BoundaryReferenceIdeal.nD Cert.BoundaryReferenceIdeal.τ).loc Cert.BoundaryReferenceIdeal.main_arg2) = m ((c.tc : Thread Cert.BoundaryReferenceIdeal.nD Cert.BoundaryReferenceIdeal.τ).loc Cert.BoundaryReferenceIdeal.main_arg2)
      ∧ r.2.mem ((c.tc : Thread Cert.BoundaryReferenceIdeal.nD Cert.BoundaryReferenceIdeal.τ).loc Cert.BoundaryReferenceIdeal.main_arg3) = m ((c.tc : Thread Cert.BoundaryReferenceIdeal.nD Cert.BoundaryReferenceIdeal.τ).loc Cert.BoundaryReferenceIdeal.main_arg3)
      ∧ r.2.mem ((c.tc : Thread Cert.BoundaryReferenceIdeal.nD Cert.BoundaryReferenceIdeal.τ).loc Cert.BoundaryReferenceIdeal.main_arg4) = m ((c.tc : Thread Cert.BoundaryReferenceIdeal.nD Cert.BoundaryReferenceIdeal.τ).loc Cert.BoundaryReferenceIdeal.main_arg4)
      ∧ r.2.mem ((c.tc : Thread Cert.BoundaryReferenceIdeal.nD Cert.BoundaryReferenceIdeal.τ).loc Cert.BoundaryReferenceIdeal.main_arg5) = m ((c.tc : Thread Cert.BoundaryReferenceIdeal.nD Cert.BoundaryReferenceIdeal.τ).loc Cert.BoundaryReferenceIdeal.main_arg5)
      ∧ r.2.mem ((c.tc : Thread Cert.BoundaryReferenceIdeal.nD Cert.BoundaryReferenceIdeal.τ).loc Cert.BoundaryReferenceIdeal.main_arg6) = m ((c.tc : Thread Cert.BoundaryReferenceIdeal.nD Cert.BoundaryReferenceIdeal.τ).loc Cert.BoundaryReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_DiffAttn [hDiffAttn : Cert.DiffAttn.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4)
      ∧ r.2.mem ((c.tc : Thread Cert.DiffAttn.nD Cert.DiffAttn.τ).loc Cert.DiffAttn.main_arg5) = m ((c.tc : Thread Cert.DiffAttn.nD Cert.DiffAttn.τ).loc Cert.DiffAttn.main_arg5))
      ∧ r.2.sem = fun _ => 0)

def quiescent_DiffAttnIdeal [hDiffAttnIdeal : Cert.DiffAttnIdeal.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5))
      ∧ r.2.sem = fun _ => 0)

def quiescent_DiffAttnIdeal_pre_finite4 [hDiffAttnIdeal : Cert.DiffAttnIdeal.Facts] [hPre_finite4 : Cert.Pre_finite4.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal_finite4 m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5))
      ∧ r.2.sem = fun _ => 0)

def quiescent_DiffAttnReferenceIdeal [hDiffAttnReferenceIdeal : Cert.DiffAttnReferenceIdeal.Facts] : Prop :=
  ∀ (m : (ℓ : Loc Cert.DiffAttnReferenceIdeal.nD Cert.DiffAttnReferenceIdeal.τ Cert.DiffAttnReferenceIdeal.sig) → Buf (Elt Ideal) ℓ) (g : Dev Cert.DiffAttnReferenceIdeal.nD → PrngReg), Pre_DiffAttnReferenceIdeal m →
    θ_run (Cert.DiffAttnReferenceIdeal.defs (F := Ideal)) (onTc (τ := Cert.DiffAttnReferenceIdeal.τ) (Cert.DiffAttnReferenceIdeal.main (F := Ideal))) ⟨m, fun _ => 0, g⟩ (fun r => (∀ c : Dev Cert.DiffAttnReferenceIdeal.nD,
      r.2.mem ((c.tc : Thread Cert.DiffAttnReferenceIdeal.nD Cert.DiffAttnReferenceIdeal.τ).loc Cert.DiffAttnReferenceIdeal.main_arg0) = m ((c.tc : Thread Cert.DiffAttnReferenceIdeal.nD Cert.DiffAttnReferenceIdeal.τ).loc Cert.DiffAttnReferenceIdeal.main_arg0)
      ∧ r.2.mem ((c.tc : Thread Cert.DiffAttnReferenceIdeal.nD Cert.DiffAttnReferenceIdeal.τ).loc Cert.DiffAttnReferenceIdeal.main_arg1) = m ((c.tc : Thread Cert.DiffAttnReferenceIdeal.nD Cert.DiffAttnReferenceIdeal.τ).loc Cert.DiffAttnReferenceIdeal.main_arg1)
      ∧ r.2.mem ((c.tc : Thread Cert.DiffAttnReferenceIdeal.nD Cert.DiffAttnReferenceIdeal.τ).loc Cert.DiffAttnReferenceIdeal.main_arg2) = m ((c.tc : Thread Cert.DiffAttnReferenceIdeal.nD Cert.DiffAttnReferenceIdeal.τ).loc Cert.DiffAttnReferenceIdeal.main_arg2)
      ∧ r.2.mem ((c.tc : Thread Cert.DiffAttnReferenceIdeal.nD Cert.DiffAttnReferenceIdeal.τ).loc Cert.DiffAttnReferenceIdeal.main_arg3) = m ((c.tc : Thread Cert.DiffAttnReferenceIdeal.nD Cert.DiffAttnReferenceIdeal.τ).loc Cert.DiffAttnReferenceIdeal.main_arg3)
      ∧ r.2.mem ((c.tc : Thread Cert.DiffAttnReferenceIdeal.nD Cert.DiffAttnReferenceIdeal.τ).loc Cert.DiffAttnReferenceIdeal.main_arg4) = m ((c.tc : Thread Cert.DiffAttnReferenceIdeal.nD Cert.DiffAttnReferenceIdeal.τ).loc Cert.DiffAttnReferenceIdeal.main_arg4)
      ∧ r.2.mem ((c.tc : Thread Cert.DiffAttnReferenceIdeal.nD Cert.DiffAttnReferenceIdeal.τ).loc Cert.DiffAttnReferenceIdeal.main_arg5) = m ((c.tc : Thread Cert.DiffAttnReferenceIdeal.nD Cert.DiffAttnReferenceIdeal.τ).loc Cert.DiffAttnReferenceIdeal.main_arg5))
      ∧ r.2.sem = fun _ => 0)

def quiescent_DiffAttnReferenceIdeal_pre_finite4 [hDiffAttnReferenceIdeal : Cert.DiffAttnReferenceIdeal.Facts] [hPre_finite4 : Cert.Pre_finite4.Facts] : Prop :=
  ∀ (m : (ℓ : Loc Cert.DiffAttnReferenceIdeal.nD Cert.DiffAttnReferenceIdeal.τ Cert.DiffAttnReferenceIdeal.sig) → Buf (Elt Ideal) ℓ) (g : Dev Cert.DiffAttnReferenceIdeal.nD → PrngReg), Pre_DiffAttnReferenceIdeal_finite4 m →
    θ_run (Cert.DiffAttnReferenceIdeal.defs (F := Ideal)) (onTc (τ := Cert.DiffAttnReferenceIdeal.τ) (Cert.DiffAttnReferenceIdeal.main (F := Ideal))) ⟨m, fun _ => 0, g⟩ (fun r => (∀ c : Dev Cert.DiffAttnReferenceIdeal.nD,
      r.2.mem ((c.tc : Thread Cert.DiffAttnReferenceIdeal.nD Cert.DiffAttnReferenceIdeal.τ).loc Cert.DiffAttnReferenceIdeal.main_arg0) = m ((c.tc : Thread Cert.DiffAttnReferenceIdeal.nD Cert.DiffAttnReferenceIdeal.τ).loc Cert.DiffAttnReferenceIdeal.main_arg0)
      ∧ r.2.mem ((c.tc : Thread Cert.DiffAttnReferenceIdeal.nD Cert.DiffAttnReferenceIdeal.τ).loc Cert.DiffAttnReferenceIdeal.main_arg1) = m ((c.tc : Thread Cert.DiffAttnReferenceIdeal.nD Cert.DiffAttnReferenceIdeal.τ).loc Cert.DiffAttnReferenceIdeal.main_arg1)
      ∧ r.2.mem ((c.tc : Thread Cert.DiffAttnReferenceIdeal.nD Cert.DiffAttnReferenceIdeal.τ).loc Cert.DiffAttnReferenceIdeal.main_arg2) = m ((c.tc : Thread Cert.DiffAttnReferenceIdeal.nD Cert.DiffAttnReferenceIdeal.τ).loc Cert.DiffAttnReferenceIdeal.main_arg2)
      ∧ r.2.mem ((c.tc : Thread Cert.DiffAttnReferenceIdeal.nD Cert.DiffAttnReferenceIdeal.τ).loc Cert.DiffAttnReferenceIdeal.main_arg3) = m ((c.tc : Thread Cert.DiffAttnReferenceIdeal.nD Cert.DiffAttnReferenceIdeal.τ).loc Cert.DiffAttnReferenceIdeal.main_arg3)
      ∧ r.2.mem ((c.tc : Thread Cert.DiffAttnReferenceIdeal.nD Cert.DiffAttnReferenceIdeal.τ).loc Cert.DiffAttnReferenceIdeal.main_arg4) = m ((c.tc : Thread Cert.DiffAttnReferenceIdeal.nD Cert.DiffAttnReferenceIdeal.τ).loc Cert.DiffAttnReferenceIdeal.main_arg4)
      ∧ r.2.mem ((c.tc : Thread Cert.DiffAttnReferenceIdeal.nD Cert.DiffAttnReferenceIdeal.τ).loc Cert.DiffAttnReferenceIdeal.main_arg5) = m ((c.tc : Thread Cert.DiffAttnReferenceIdeal.nD Cert.DiffAttnReferenceIdeal.τ).loc Cert.DiffAttnReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Boundary_BoundaryIdeal : Prop :=
  IdealRules.named_const.Statement Cert.BoundaryIdeal.κ "q_scale" .f32 0x3E38AA3B#32 (((1 / 8) * (Real.log 2)⁻¹ : ℝ) : EReal)

def algebraic_BoundaryIdeal_BoundaryReferenceIdeal [hBoundaryIdeal : Cert.BoundaryIdeal.Facts] [hBoundaryReferenceIdeal : Cert.BoundaryReferenceIdeal.Facts] : Prop :=
  ∀ (m : (ℓ : Loc Cert.BoundaryIdeal.nD Cert.BoundaryIdeal.τ Cert.BoundaryIdeal.sig) → Buf (Elt Ideal) ℓ) (g : Dev Cert.BoundaryIdeal.nD → PrngReg)
    (m' : (ℓ : Loc Cert.BoundaryReferenceIdeal.nD Cert.BoundaryReferenceIdeal.τ Cert.BoundaryReferenceIdeal.sig) → Buf (Elt Ideal) ℓ) (g' : Dev Cert.BoundaryReferenceIdeal.nD → PrngReg), Pre_BoundaryIdeal m →
    (∀ c : Dev Cert.BoundaryIdeal.nD,
      m' ((c.tc : Thread Cert.BoundaryReferenceIdeal.nD Cert.BoundaryReferenceIdeal.τ).loc Cert.BoundaryReferenceIdeal.main_arg0) = m ((c.tc : Thread Cert.BoundaryIdeal.nD Cert.BoundaryIdeal.τ).loc Cert.BoundaryIdeal.main_arg0)
      ∧ m' ((c.tc : Thread Cert.BoundaryReferenceIdeal.nD Cert.BoundaryReferenceIdeal.τ).loc Cert.BoundaryReferenceIdeal.main_arg1) = m ((c.tc : Thread Cert.BoundaryIdeal.nD Cert.BoundaryIdeal.τ).loc Cert.BoundaryIdeal.main_arg1)
      ∧ m' ((c.tc : Thread Cert.BoundaryReferenceIdeal.nD Cert.BoundaryReferenceIdeal.τ).loc Cert.BoundaryReferenceIdeal.main_arg2) = m ((c.tc : Thread Cert.BoundaryIdeal.nD Cert.BoundaryIdeal.τ).loc Cert.BoundaryIdeal.main_arg2)
      ∧ m' ((c.tc : Thread Cert.BoundaryReferenceIdeal.nD Cert.BoundaryReferenceIdeal.τ).loc Cert.BoundaryReferenceIdeal.main_arg3) = m ((c.tc : Thread Cert.BoundaryIdeal.nD Cert.BoundaryIdeal.τ).loc Cert.BoundaryIdeal.main_arg3)
      ∧ m' ((c.tc : Thread Cert.BoundaryReferenceIdeal.nD Cert.BoundaryReferenceIdeal.τ).loc Cert.BoundaryReferenceIdeal.main_arg4) = m ((c.tc : Thread Cert.BoundaryIdeal.nD Cert.BoundaryIdeal.τ).loc Cert.BoundaryIdeal.main_arg4)
      ∧ m' ((c.tc : Thread Cert.BoundaryReferenceIdeal.nD Cert.BoundaryReferenceIdeal.τ).loc Cert.BoundaryReferenceIdeal.main_arg5) = m ((c.tc : Thread Cert.BoundaryIdeal.nD Cert.BoundaryIdeal.τ).loc Cert.BoundaryIdeal.main_arg5)
      ∧ m' ((c.tc : Thread Cert.BoundaryReferenceIdeal.nD Cert.BoundaryReferenceIdeal.τ).loc Cert.BoundaryReferenceIdeal.main_arg6) = m ((c.tc : Thread Cert.BoundaryIdeal.nD Cert.BoundaryIdeal.τ).loc Cert.BoundaryIdeal.main_arg6)) →
    ∃ (v0 : (c : Dev Cert.BoundaryIdeal.nD) → Buf (Elt Ideal) ((c.tc : Thread Cert.BoundaryIdeal.nD Cert.BoundaryIdeal.τ).loc Cert.BoundaryIdeal.main_v1_0)) (v1 : (c : Dev Cert.BoundaryIdeal.nD) → Buf (Elt Ideal) ((c.tc : Thread Cert.BoundaryIdeal.nD Cert.BoundaryIdeal.τ).loc Cert.BoundaryIdeal.main_v1_1)) (v2 : (c : Dev Cert.BoundaryIdeal.nD) → Buf (Elt Ideal) ((c.tc : Thread Cert.BoundaryIdeal.nD Cert.BoundaryIdeal.τ).loc Cert.BoundaryIdeal.main_v1_2)),
      θ_run (Cert.BoundaryIdeal.defs (F := Ideal)) (onTc (τ := Cert.BoundaryIdeal.τ) (Cert.BoundaryIdeal.main (F := Ideal))) ⟨m, fun _ => 0, g⟩ (fun r => ∀ c : Dev Cert.BoundaryIdeal.nD,
          r.2.mem ((c.tc : Thread Cert.BoundaryIdeal.nD Cert.BoundaryIdeal.τ).loc Cert.BoundaryIdeal.main_v1_0) = v0 c
          ∧ r.2.mem ((c.tc : Thread Cert.BoundaryIdeal.nD Cert.BoundaryIdeal.τ).loc Cert.BoundaryIdeal.main_v1_1) = v1 c
          ∧ r.2.mem ((c.tc : Thread Cert.BoundaryIdeal.nD Cert.BoundaryIdeal.τ).loc Cert.BoundaryIdeal.main_v1_2) = v2 c
          ∧ r.2.mem ((c.tc : Thread Cert.BoundaryIdeal.nD Cert.BoundaryIdeal.τ).loc Cert.BoundaryIdeal.main_arg0) = m ((c.tc : Thread Cert.BoundaryIdeal.nD Cert.BoundaryIdeal.τ).loc Cert.BoundaryIdeal.main_arg0)
          ∧ r.2.mem ((c.tc : Thread Cert.BoundaryIdeal.nD Cert.BoundaryIdeal.τ).loc Cert.BoundaryIdeal.main_arg1) = m ((c.tc : Thread Cert.BoundaryIdeal.nD Cert.BoundaryIdeal.τ).loc Cert.BoundaryIdeal.main_arg1)
          ∧ r.2.mem ((c.tc : Thread Cert.BoundaryIdeal.nD Cert.BoundaryIdeal.τ).loc Cert.BoundaryIdeal.main_arg2) = m ((c.tc : Thread Cert.BoundaryIdeal.nD Cert.BoundaryIdeal.τ).loc Cert.BoundaryIdeal.main_arg2)
          ∧ r.2.mem ((c.tc : Thread Cert.BoundaryIdeal.nD Cert.BoundaryIdeal.τ).loc Cert.BoundaryIdeal.main_arg3) = m ((c.tc : Thread Cert.BoundaryIdeal.nD Cert.BoundaryIdeal.τ).loc Cert.BoundaryIdeal.main_arg3)
          ∧ r.2.mem ((c.tc : Thread Cert.BoundaryIdeal.nD Cert.BoundaryIdeal.τ).loc Cert.BoundaryIdeal.main_arg4) = m ((c.tc : Thread Cert.BoundaryIdeal.nD Cert.BoundaryIdeal.τ).loc Cert.BoundaryIdeal.main_arg4)
          ∧ r.2.mem ((c.tc : Thread Cert.BoundaryIdeal.nD Cert.BoundaryIdeal.τ).loc Cert.BoundaryIdeal.main_arg5) = m ((c.tc : Thread Cert.BoundaryIdeal.nD Cert.BoundaryIdeal.τ).loc Cert.BoundaryIdeal.main_arg5)
          ∧ r.2.mem ((c.tc : Thread Cert.BoundaryIdeal.nD Cert.BoundaryIdeal.τ).loc Cert.BoundaryIdeal.main_arg6) = m ((c.tc : Thread Cert.BoundaryIdeal.nD Cert.BoundaryIdeal.τ).loc Cert.BoundaryIdeal.main_arg6))
      ∧ θ_run (Cert.BoundaryReferenceIdeal.defs (F := Ideal)) (onTc (τ := Cert.BoundaryReferenceIdeal.τ) (Cert.BoundaryReferenceIdeal.main (F := Ideal))) ⟨m', fun _ => 0, g'⟩ (fun r => ∀ c : Dev Cert.BoundaryReferenceIdeal.nD,
          r.2.mem ((c.tc : Thread Cert.BoundaryReferenceIdeal.nD Cert.BoundaryReferenceIdeal.τ).loc Cert.BoundaryReferenceIdeal.main_v10) = v0 c
          ∧ r.2.mem ((c.tc : Thread Cert.BoundaryReferenceIdeal.nD Cert.BoundaryReferenceIdeal.τ).loc Cert.BoundaryReferenceIdeal.main_v43) = v1 c
          ∧ r.2.mem ((c.tc : Thread Cert.BoundaryReferenceIdeal.nD Cert.BoundaryReferenceIdeal.τ).loc Cert.BoundaryReferenceIdeal.main_v50) = v2 c
          ∧ r.2.mem ((c.tc : Thread Cert.BoundaryReferenceIdeal.nD Cert.BoundaryReferenceIdeal.τ).loc Cert.BoundaryReferenceIdeal.main_arg0) = m' ((c.tc : Thread Cert.BoundaryReferenceIdeal.nD Cert.BoundaryReferenceIdeal.τ).loc Cert.BoundaryReferenceIdeal.main_arg0)
          ∧ r.2.mem ((c.tc : Thread Cert.BoundaryReferenceIdeal.nD Cert.BoundaryReferenceIdeal.τ).loc Cert.BoundaryReferenceIdeal.main_arg1) = m' ((c.tc : Thread Cert.BoundaryReferenceIdeal.nD Cert.BoundaryReferenceIdeal.τ).loc Cert.BoundaryReferenceIdeal.main_arg1)
          ∧ r.2.mem ((c.tc : Thread Cert.BoundaryReferenceIdeal.nD Cert.BoundaryReferenceIdeal.τ).loc Cert.BoundaryReferenceIdeal.main_arg2) = m' ((c.tc : Thread Cert.BoundaryReferenceIdeal.nD Cert.BoundaryReferenceIdeal.τ).loc Cert.BoundaryReferenceIdeal.main_arg2)
          ∧ r.2.mem ((c.tc : Thread Cert.BoundaryReferenceIdeal.nD Cert.BoundaryReferenceIdeal.τ).loc Cert.BoundaryReferenceIdeal.main_arg3) = m' ((c.tc : Thread Cert.BoundaryReferenceIdeal.nD Cert.BoundaryReferenceIdeal.τ).loc Cert.BoundaryReferenceIdeal.main_arg3)
          ∧ r.2.mem ((c.tc : Thread Cert.BoundaryReferenceIdeal.nD Cert.BoundaryReferenceIdeal.τ).loc Cert.BoundaryReferenceIdeal.main_arg4) = m' ((c.tc : Thread Cert.BoundaryReferenceIdeal.nD Cert.BoundaryReferenceIdeal.τ).loc Cert.BoundaryReferenceIdeal.main_arg4)
          ∧ r.2.mem ((c.tc : Thread Cert.BoundaryReferenceIdeal.nD Cert.BoundaryReferenceIdeal.τ).loc Cert.BoundaryReferenceIdeal.main_arg5) = m' ((c.tc : Thread Cert.BoundaryReferenceIdeal.nD Cert.BoundaryReferenceIdeal.τ).loc Cert.BoundaryReferenceIdeal.main_arg5)
          ∧ r.2.mem ((c.tc : Thread Cert.BoundaryReferenceIdeal.nD Cert.BoundaryReferenceIdeal.τ).loc Cert.BoundaryReferenceIdeal.main_arg6) = m' ((c.tc : Thread Cert.BoundaryReferenceIdeal.nD Cert.BoundaryReferenceIdeal.τ).loc Cert.BoundaryReferenceIdeal.main_arg6))

def preserves_Inproj_InprojIdeal : Prop :=
  IdealRules.named_const.Statement Cert.InprojIdeal.κ "q_scale" .f32 0x3E38AA3B#32 (((1 / 8) * (Real.log 2)⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v33) = v0 c
          ∧ r.2.mem ((c.tc : Thread Cert.InprojReferenceIdeal.nD Cert.InprojReferenceIdeal.τ).loc Cert.InprojReferenceIdeal.main_v40) = v1 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_DiffAttn_DiffAttnIdeal : Prop :=
  IdealRules.named_const.Statement Cert.DiffAttnIdeal.κ "log2e" .f32 0x3FB8AA3B#32 (((Real.log 2)⁻¹ : ℝ) : EReal)

def algebraic_DiffAttnIdeal_DiffAttnReferenceIdeal_pre_finite4 [hDiffAttnIdeal : Cert.DiffAttnIdeal.Facts] [hDiffAttnReferenceIdeal : Cert.DiffAttnReferenceIdeal.Facts] [hPre_finite4 : Cert.Pre_finite4.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg)
    (m' : (ℓ : Loc Cert.DiffAttnReferenceIdeal.nD Cert.DiffAttnReferenceIdeal.τ Cert.DiffAttnReferenceIdeal.sig) → Buf (Elt Ideal) ℓ) (g' : Dev Cert.DiffAttnReferenceIdeal.nD → PrngReg), Pre_DiffAttnIdeal_finite4 m →
    (∀ c : Dev Cert.DiffAttnIdeal.nD,
      m' ((c.tc : Thread Cert.DiffAttnReferenceIdeal.nD Cert.DiffAttnReferenceIdeal.τ).loc Cert.DiffAttnReferenceIdeal.main_arg0) = m ((c.tc : Thread Cert.DiffAttnIdeal.nD Cert.DiffAttnIdeal.τ).loc Cert.DiffAttnIdeal.main_arg0)
      ∧ m' ((c.tc : Thread Cert.DiffAttnReferenceIdeal.nD Cert.DiffAttnReferenceIdeal.τ).loc Cert.DiffAttnReferenceIdeal.main_arg1) = m ((c.tc : Thread Cert.DiffAttnIdeal.nD Cert.DiffAttnIdeal.τ).loc Cert.DiffAttnIdeal.main_arg1)
      ∧ m' ((c.tc : Thread Cert.DiffAttnReferenceIdeal.nD Cert.DiffAttnReferenceIdeal.τ).loc Cert.DiffAttnReferenceIdeal.main_arg2) = m ((c.tc : Thread Cert.DiffAttnIdeal.nD Cert.DiffAttnIdeal.τ).loc Cert.DiffAttnIdeal.main_arg2)
      ∧ m' ((c.tc : Thread Cert.DiffAttnReferenceIdeal.nD Cert.DiffAttnReferenceIdeal.τ).loc Cert.DiffAttnReferenceIdeal.main_arg3) = m ((c.tc : Thread Cert.DiffAttnIdeal.nD Cert.DiffAttnIdeal.τ).loc Cert.DiffAttnIdeal.main_arg3)
      ∧ m' ((c.tc : Thread Cert.DiffAttnReferenceIdeal.nD Cert.DiffAttnReferenceIdeal.τ).loc Cert.DiffAttnReferenceIdeal.main_arg4) = m ((c.tc : Thread Cert.DiffAttnIdeal.nD Cert.DiffAttnIdeal.τ).loc Cert.DiffAttnIdeal.main_arg4)
      ∧ m' ((c.tc : Thread Cert.DiffAttnReferenceIdeal.nD Cert.DiffAttnReferenceIdeal.τ).loc Cert.DiffAttnReferenceIdeal.main_arg5) = m ((c.tc : Thread Cert.DiffAttnIdeal.nD Cert.DiffAttnIdeal.τ).loc Cert.DiffAttnIdeal.main_arg5)) →
    ∃ (v0 : (c : Dev Cert.DiffAttnIdeal.nD) → Buf (Elt Ideal) ((c.tc : Thread Cert.DiffAttnIdeal.nD Cert.DiffAttnIdeal.τ).loc Cert.DiffAttnIdeal.main_v40)),
      θ_run (Cert.DiffAttnIdeal.defs (F := Ideal)) (onTc (τ := Cert.DiffAttnIdeal.τ) (Cert.DiffAttnIdeal.main (F := Ideal))) ⟨m, fun _ => 0, g⟩ (fun r => ∀ c : Dev Cert.DiffAttnIdeal.nD,
          r.2.mem ((c.tc : Thread Cert.DiffAttnIdeal.nD Cert.DiffAttnIdeal.τ).loc Cert.DiffAttnIdeal.main_v40) = v0 c
          ∧ r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
          ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
          ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
          ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
          ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
          ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5))
      ∧ θ_run (Cert.DiffAttnReferenceIdeal.defs (F := Ideal)) (onTc (τ := Cert.DiffAttnReferenceIdeal.τ) (Cert.DiffAttnReferenceIdeal.main (F := Ideal))) ⟨m', fun _ => 0, g'⟩ (fun r => ∀ c : Dev Cert.DiffAttnReferenceIdeal.nD,
          r.2.mem ((c.tc : Thread Cert.DiffAttnReferenceIdeal.nD Cert.DiffAttnReferenceIdeal.τ).loc Cert.DiffAttnReferenceIdeal.main_v79) = v0 c
          ∧ r.2.mem ((c.tc : Thread Cert.DiffAttnReferenceIdeal.nD Cert.DiffAttnReferenceIdeal.τ).loc Cert.DiffAttnReferenceIdeal.main_arg0) = m' ((c.tc : Thread Cert.DiffAttnReferenceIdeal.nD Cert.DiffAttnReferenceIdeal.τ).loc Cert.DiffAttnReferenceIdeal.main_arg0)
          ∧ r.2.mem ((c.tc : Thread Cert.DiffAttnReferenceIdeal.nD Cert.DiffAttnReferenceIdeal.τ).loc Cert.DiffAttnReferenceIdeal.main_arg1) = m' ((c.tc : Thread Cert.DiffAttnReferenceIdeal.nD Cert.DiffAttnReferenceIdeal.τ).loc Cert.DiffAttnReferenceIdeal.main_arg1)
          ∧ r.2.mem ((c.tc : Thread Cert.DiffAttnReferenceIdeal.nD Cert.DiffAttnReferenceIdeal.τ).loc Cert.DiffAttnReferenceIdeal.main_arg2) = m' ((c.tc : Thread Cert.DiffAttnReferenceIdeal.nD Cert.DiffAttnReferenceIdeal.τ).loc Cert.DiffAttnReferenceIdeal.main_arg2)
          ∧ r.2.mem ((c.tc : Thread Cert.DiffAttnReferenceIdeal.nD Cert.DiffAttnReferenceIdeal.τ).loc Cert.DiffAttnReferenceIdeal.main_arg3) = m' ((c.tc : Thread Cert.DiffAttnReferenceIdeal.nD Cert.DiffAttnReferenceIdeal.τ).loc Cert.DiffAttnReferenceIdeal.main_arg3)
          ∧ r.2.mem ((c.tc : Thread Cert.DiffAttnReferenceIdeal.nD Cert.DiffAttnReferenceIdeal.τ).loc Cert.DiffAttnReferenceIdeal.main_arg4) = m' ((c.tc : Thread Cert.DiffAttnReferenceIdeal.nD Cert.DiffAttnReferenceIdeal.τ).loc Cert.DiffAttnReferenceIdeal.main_arg4)
          ∧ r.2.mem ((c.tc : Thread Cert.DiffAttnReferenceIdeal.nD Cert.DiffAttnReferenceIdeal.τ).loc Cert.DiffAttnReferenceIdeal.main_arg5) = m' ((c.tc : Thread Cert.DiffAttnReferenceIdeal.nD Cert.DiffAttnReferenceIdeal.τ).loc Cert.DiffAttnReferenceIdeal.main_arg5))

def Claim : Prop :=
  ∃ (hKernel : Cert.Kernel.Facts) (hKernelIdeal : Cert.KernelIdeal.Facts) (hReferenceIdeal : Cert.ReferenceIdeal.Facts) (hBoundary : Cert.Boundary.Facts) (hBoundaryIdeal : Cert.BoundaryIdeal.Facts) (hBoundaryReferenceIdeal : Cert.BoundaryReferenceIdeal.Facts) (hInproj : Cert.Inproj.Facts) (hInprojIdeal : Cert.InprojIdeal.Facts) (hInprojReferenceIdeal : Cert.InprojReferenceIdeal.Facts) (hDiffAttn : Cert.DiffAttn.Facts) (hDiffAttnIdeal : Cert.DiffAttnIdeal.Facts) (hDiffAttnReferenceIdeal : Cert.DiffAttnReferenceIdeal.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Boundary (hBoundary := hBoundary)
    ∧ quiescent_BoundaryIdeal (hBoundaryIdeal := hBoundaryIdeal)
    ∧ quiescent_BoundaryReferenceIdeal (hBoundaryReferenceIdeal := hBoundaryReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_DiffAttn (hDiffAttn := hDiffAttn)
    ∧ quiescent_DiffAttnIdeal (hDiffAttnIdeal := hDiffAttnIdeal)
    ∧ quiescent_DiffAttnIdeal_pre_finite4 (hDiffAttnIdeal := hDiffAttnIdeal) (hPre_finite4 := hPre_finite4)
    ∧ quiescent_DiffAttnReferenceIdeal (hDiffAttnReferenceIdeal := hDiffAttnReferenceIdeal)
    ∧ quiescent_DiffAttnReferenceIdeal_pre_finite4 (hDiffAttnReferenceIdeal := hDiffAttnReferenceIdeal) (hPre_finite4 := hPre_finite4)
    ∧ preserves_Kernel_KernelIdeal
    ∧ algebraic_KernelIdeal_ReferenceIdeal (hKernelIdeal := hKernelIdeal) (hReferenceIdeal := hReferenceIdeal)
    ∧ preserves_Boundary_BoundaryIdeal
    ∧ algebraic_BoundaryIdeal_BoundaryReferenceIdeal (hBoundaryIdeal := hBoundaryIdeal) (hBoundaryReferenceIdeal := hBoundaryReferenceIdeal)
    ∧ preserves_Inproj_InprojIdeal
    ∧ algebraic_InprojIdeal_InprojReferenceIdeal (hInprojIdeal := hInprojIdeal) (hInprojReferenceIdeal := hInprojReferenceIdeal)
    ∧ preserves_DiffAttn_DiffAttnIdeal
    ∧ algebraic_DiffAttnIdeal_DiffAttnReferenceIdeal_pre_finite4 (hDiffAttnIdeal := hDiffAttnIdeal) (hDiffAttnReferenceIdeal := hDiffAttnReferenceIdeal) (hPre_finite4 := hPre_finite4)
-- ==== Pre_finite4.lean ====
abbrev S8x2048x4096 : Shape := ⟨3, ![8, 2048, 4096]⟩
abbrev S4x64 : Shape := ⟨2, ![4, 64]⟩
abbrev S4x128 : Shape := ⟨2, ![4, 128]⟩
abbrev S8x2048x1536 : Shape := ⟨3, ![8, 2048, 1536]⟩
abbrev S_ : Shape := ⟨0, ![]⟩
abbrev S1x64 : Shape := ⟨2, ![1, 64]⟩
abbrev S64 : Shape := ⟨1, ![64]⟩

class Facts : Prop where
  slices_S8x2048x4096_S8x2048x1536_0_0_0 : S8x2048x4096.Slices ![0, 0, 0] S8x2048x1536
  bcast_S_S8x2048x1536 : S_.BroadcastsInDim S8x2048x1536 (![] : Fin 0 → Fin S8x2048x1536.rank)
  reducesTo_S8x2048x1536_S_d0_1_2 : S8x2048x1536.ReducesTo [0, 1, 2] S_
  h_S_ : 0 < S_.numel
  slices_S4x64_S1x64_0_0 : S4x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_

variable [Facts]

def fn_part1 {F : FTy → Type} [FloatOps F] (main_arg3 : FVec F S4x64 .f32) (main_arg4 : FVec F S4x64 .f32) (main_v11 : IVec S_ 1) (main_v17 : IVec S_ 1) : IVec S_ 1 :=
  let main_v18 : IVec S_ 1 := andi main_v11 main_v17
  let main_v19 : FVec F S1x64 .f32 := (extractStridedSlice S1x64 ![0, 0] · slices_S4x64_S1x64_0_0) main_arg3
  let main_v20 : FVec F S64 .f32 := shapeCast S64 main_v19 shapeCasts_S1x64_S64
  let main_v21 : FVec F S64 .f32 := Host.absf main_v20
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_c_5 : IVec S_ 1 := constantI S_ 1 1#1
  let main_v24 : IVec S_ 1 := (fun x v => Host.reduce IntOp.andi x v reducesTo_S64_S_d0 h_S_) main_v23 main_c_5
  let main_v25 : IVec S_ 1 := andi main_v18 main_v24
  let main_v26 : FVec F S1x64 .f32 := (extractStridedSlice S1x64 ![0, 0] · slices_S4x64_S1x64_0_0) main_arg4
  let main_v27 : FVec F S64 .f32 := shapeCast S64 main_v26 shapeCasts_S1x64_S64
  let main_v28 : FVec F S64 .f32 := Host.absf main_v27
  let main_cst_6 : FVec F S_ .f32 := constant S_ .f32 0x7F800000#32
  let main_v29 : FVec F S64 .f32 := broadcastInDim S64 ![] bcast_S_S64 main_cst_6
  let main_v30 : IVec S64 1 := cmpf .olt main_v28 main_v29
  let main_c_7 : IVec S_ 1 := constantI S_ 1 1#1
  let main_v31 : IVec S_ 1 := (fun x v => Host.reduce IntOp.andi x v reducesTo_S64_S_d0 h_S_) main_v30 main_c_7
  let main_v32 : IVec S_ 1 := andi main_v25 main_v31
  main_v32

def fn {F : FTy → Type} [FloatOps F] (main_arg0 : FVec F S8x2048x4096 .f32) (main_arg1 : FVec F S4x64 .f32) (main_arg2 : FVec F S4x64 .f32) (main_arg3 : FVec F S4x64 .f32) (main_arg4 : FVec F S4x64 .f32) (main_arg5 : FVec F S4x128 .f32) : IVec S_ 1 :=
  let main_v0 : FVec F S8x2048x1536 .f32 := (extractStridedSlice S8x2048x1536 ![0, 0, 0] · slices_S8x2048x4096_S8x2048x1536_0_0_0) main_arg0
  let main_v1 : FVec F S8x2048x1536 .f32 := Host.absf main_v0
  let main_cst : FVec F S_ .f32 := constant S_ .f32 0x7F800000#32
  let main_v2 : FVec F S8x2048x1536 .f32 := broadcastInDim S8x2048x1536 ![] bcast_S_S8x2048x1536 main_cst
  let main_v3 : IVec S8x2048x1536 1 := cmpf .olt main_v1 main_v2
  let main_c : IVec S_ 1 := constantI S_ 1 1#1
  let main_v4 : IVec S_ 1 := (fun x v => Host.reduce IntOp.andi x v reducesTo_S8x2048x1536_S_d0_1_2 h_S_) main_v3 main_c
  let main_v5 : FVec F S1x64 .f32 := (extractStridedSlice S1x64 ![0, 0] · slices_S4x64_S1x64_0_0) main_arg1
  let main_v6 : FVec F S64 .f32 := shapeCast S64 main_v5 shapeCasts_S1x64_S64
  let main_v7 : FVec F S64 .f32 := Host.absf main_v6
  let main_cst_0 : FVec F S_ .f32 := constant S_ .f32 0x7F800000#32
  let main_v8 : FVec F S64 .f32 := broadcastInDim S64 ![] bcast_S_S64 main_cst_0
  let main_v9 : IVec S64 1 := cmpf .olt main_v7 main_v8
  let main_c_1 : IVec S_ 1 := constantI S_ 1 1#1
  let main_v10 : IVec S_ 1 := (fun x v => Host.reduce IntOp.andi x v reducesTo_S64_S_d0 h_S_) main_v9 main_c_1
  let main_v11 : IVec S_ 1 := andi main_v4 main_v10
  let main_v12 : FVec F S1x64 .f32 := (extractStridedSlice S1x64 ![0, 0] · slices_S4x64_S1x64_0_0) main_arg2
  let main_v13 : FVec F S64 .f32 := shapeCast S64 main_v12 shapeCasts_S1x64_S64
  let main_v14 : FVec F S64 .f32 := Host.absf main_v13
  let main_cst_2 : FVec F S_ .f32 := constant S_ .f32 0x7F800000#32
  let main_v15 : FVec F S64 .f32 := broadcastInDim S64 ![] bcast_S_S64 main_cst_2
  let main_v16 : IVec S64 1 := cmpf .olt main_v14 main_v15
  let main_c_3 : IVec S_ 1 := constantI S_ 1 1#1
  let main_v17 : IVec S_ 1 := (fun x v => Host.reduce IntOp.andi x v reducesTo_S64_S_d0 h_S_) main_v16 main_c_3
  fn_part1 (F := F) main_arg3 main_arg4 main_v11 main_v17
-- ==== Kernel.lean ====
abbrev S16384x1024 : Shape := ⟨2, ![16384, 1024]⟩
abbrev S16384x512 : Shape := ⟨2, ![16384, 512]⟩
abbrev S16384x4096 : Shape := ⟨2, ![16384, 4096]⟩
abbrev S4x1024x1024 : Shape := ⟨3, ![4, 1024, 1024]⟩
abbrev S1024 : Shape := ⟨1, ![1024]⟩
abbrev S1x1024 : Shape := ⟨2, ![1, 1024]⟩
abbrev S3x1024x1024 : Shape := ⟨3, ![3, 1024, 1024]⟩
abbrev S3 : Shape := ⟨1, ![3]⟩
abbrev S3x1024x512 : Shape := ⟨3, ![3, 1024, 512]⟩
abbrev S1024x1024 : Shape := ⟨2, ![1024, 1024]⟩
abbrev S2x1024x1024 : Shape := ⟨3, ![2, 1024, 1024]⟩
abbrev S2 : Shape := ⟨1, ![2]⟩
abbrev S_ : Shape := ⟨0, ![]⟩
abbrev S1x1024x1024 : Shape := ⟨3, ![1, 1024, 1024]⟩
abbrev S1 : Shape := ⟨1, ![1]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x4096, .bf16⟩
  | .hbm, ⟨4, _⟩ => ⟨S4x1024x1024, .f32⟩
  | .hbm, ⟨5, _⟩ => ⟨S1024, .f32⟩
  | .hbm, ⟨6, _⟩ => ⟨S1x1024, .f32⟩
  | .hbm, ⟨7, _⟩ => ⟨S16384x1024, .f32⟩
  | .local _ .vmem, ⟨0, _⟩ => ⟨S3x1024x1024, .f32⟩
  | .local _ .vmem, ⟨1, _⟩ => ⟨S3x1024x512, .bf16⟩
  | .local _ .vmem, ⟨2, _⟩ => ⟨S3x1024x512, .bf16⟩
  | .local _ .vmem, ⟨3, _⟩ => ⟨S3x1024x1024, .bf16⟩
  | .local _ .vmem, ⟨4, _⟩ => ⟨S1024x1024, .f32⟩
  | .local _ .vmem, ⟨5, _⟩ => ⟨S1x1024, .f32⟩
  | .local _ .vmem, ⟨6, _⟩ => ⟨S2x1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped9 : Ref sig .tc := ⟨.vmem, 5, rfl⟩
abbrev cc0_scoped10 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c3_i32_23_r0 : BitVec 32 := 3#32
  let v23_r0 : BitVec 32 := Scalar.remui c0_i32_22_r0 c3_i32_23_r0
  ![v23_r0.toNat]
def k0_off2 : Fin 3 → Nat :=
  let c0_i32_22_r0 : BitVec 32 := 0#32
  let c3_i32_23_r0 : BitVec 32 := 3#32
  let v23_r0 : BitVec 32 := Scalar.remui c0_i32_22_r0 c3_i32_23_r0
  let c0_i32_24_r0 : BitVec 32 := 0#32
  let c0_i32_25_r0 : BitVec 32 := 0#32
  ![v23_r0.toNat, 0, 0]
def k0_off3 : Fin 3 → Nat :=
  let c0_i32_30_r0 : BitVec 32 := 0#32
  let c3_i32_31_r0 : BitVec 32 := 3#32
  let v30_r0 : BitVec 32 := Scalar.remui c0_i32_30_r0 c3_i32_31_r0
  let c0_i32_32_r0 : BitVec 32 := 0#32
  let c0_i32_33_r0 : BitVec 32 := 0#32
  ![v30_r0.toNat, 0, 0]
def k0_cond1 : BitVec 1 :=
  let true_54_r0 : BitVec 1 := 1#1
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let c0_i32_53_r0 : BitVec 32 := 0#32
  let v51_r0 : BitVec 1 := Scalar.cmpi .ne v12_r0 c0_i32_53_r0
  let v52_r0 : BitVec 1 := Scalar.andi true_54_r0 v51_r0
  let true_55_r0 : BitVec 1 := 1#1
  let v53_r0 : BitVec 1 := Scalar.andi v52_r0 true_55_r0
  let v54_r0 : BitVec 32 := Scalar.extui v53_r0
  let c0_i32_56_r0 : BitVec 32 := 0#32
  let v55_r0 : BitVec 1 := Scalar.cmpi .ne v54_r0 c0_i32_56_r0
  v55_r0

def k0_off4 : Fin 1 → Nat :=
  let c0_i32_28_r0 : BitVec 32 := 0#32
  let c1_i32_29_r0 : BitVec 32 := 1#32
  let v29_r0 : BitVec 32 := Scalar.addi c0_i32_28_r0 c1_i32_29_r0
  let c3_i32_116_r0 : BitVec 32 := 3#32
  let v113_r0 : BitVec 32 := Scalar.remui v29_r0 c3_i32_116_r0
  ![v113_r0.toNat]
def k0_off5 : Fin 3 → Nat :=
  let c0_i32_28_r0 : BitVec 32 := 0#32
  let c1_i32_29_r0 : BitVec 32 := 1#32
  let v29_r0 : BitVec 32 := Scalar.addi c0_i32_28_r0 c1_i32_29_r0
  let c3_i32_116_r0 : BitVec 32 := 3#32
  let v113_r0 : BitVec 32 := Scalar.remui v29_r0 c3_i32_116_r0
  let c0_i32_118_r0 : BitVec 32 := 0#32
  let c0_i32_119_r0 : BitVec 32 := 0#32
  ![v113_r0.toNat, 0, 0]
def k0_off6 : Fin 2 → Nat :=
  let c1024_i32_117_r0 : BitVec 32 := 1024#32
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let v114_r0 : BitVec 32 := Scalar.muli c1024_i32_117_r0 v12_r0
  let c0_i32_120_r0 : BitVec 32 := 0#32
  ![v114_r0.toNat, 0]
def k0_cond2 : BitVec 1 :=
  let true_59_r0 : BitVec 1 := 1#1
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let c0_i32_58_r0 : BitVec 32 := 0#32
  let v58_r0 : BitVec 1 := Scalar.cmpi .ne v12_r0 c0_i32_58_r0
  let v59_r0 : BitVec 1 := Scalar.andi true_59_r0 v58_r0
  let true_60_r0 : BitVec 1 := 1#1
  let v60_r0 : BitVec 1 := Scalar.andi v59_r0 true_60_r0
  let v61_r0 : BitVec 32 := Scalar.extui v60_r0
  let c0_i32_61_r0 : BitVec 32 := 0#32
  let v62_r0 : BitVec 1 := Scalar.cmpi .ne v61_r0 c0_i32_61_r0
  v62_r0

def k0_off7 : Fin 1 → Nat :=
  let c0_i32_36_r0 : BitVec 32 := 0#32
  let c1_i32_37_r0 : BitVec 32 := 1#32
  let v36_r0 : BitVec 32 := Scalar.addi c0_i32_36_r0 c1_i32_37_r0
  let c3_i32_116_r0 : BitVec 32 := 3#32
  let v113_r0 : BitVec 32 := Scalar.remui v36_r0 c3_i32_116_r0
  ![v113_r0.toNat]
def k0_off8 : Fin 3 → Nat :=
  let c0_i32_36_r0 : BitVec 32 := 0#32
  let c1_i32_37_r0 : BitVec 32 := 1#32
  let v36_r0 : BitVec 32 := Scalar.addi c0_i32_36_r0 c1_i32_37_r0
  let c3_i32_116_r0 : BitVec 32 := 3#32
  let v113_r0 : BitVec 32 := Scalar.remui v36_r0 c3_i32_116_r0
  let c0_i32_118_r0 : BitVec 32 := 0#32
  let c0_i32_119_r0 : BitVec 32 := 0#32
  ![v113_r0.toNat, 0, 0]
def k0_off9 : Fin 2 → Nat :=
  let c1024_i32_117_r0 : BitVec 32 := 1024#32
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let v114_r0 : BitVec 32 := Scalar.muli c1024_i32_117_r0 v12_r0
  let c0_i32_120_r0 : BitVec 32 := 0#32
  ![v114_r0.toNat, 0]
def k0_cond3 : BitVec 1 :=
  let true_64_r0 : BitVec 1 := 1#1
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let c0_i32_63_r0 : BitVec 32 := 0#32
  let v65_r0 : BitVec 1 := Scalar.cmpi .ne v12_r0 c0_i32_63_r0
  let v66_r0 : BitVec 1 := Scalar.andi true_64_r0 v65_r0
  let true_65_r0 : BitVec 1 := 1#1
  let v67_r0 : BitVec 1 := Scalar.andi v66_r0 true_65_r0
  let v68_r0 : BitVec 32 := Scalar.extui v67_r0
  let c0_i32_66_r0 : BitVec 32 := 0#32
  let v69_r0 : BitVec 1 := Scalar.cmpi .ne v68_r0 c0_i32_66_r0
  v69_r0

def k0_off10 : Fin 1 → Nat :=
  let c0_i32_44_r0 : BitVec 32 := 0#32
  let c1_i32_45_r0 : BitVec 32 := 1#32
  let v43_r0 : BitVec 32 := Scalar.addi c0_i32_44_r0 c1_i32_45_r0
  let c3_i32_116_r0 : BitVec 32 := 3#32
  let v113_r0 : BitVec 32 := Scalar.remui v43_r0 c3_i32_116_r0
  ![v113_r0.toNat]
def k0_off11 : Fin 3 → Nat :=
  let c0_i32_44_r0 : BitVec 32 := 0#32
  let c1_i32_45_r0 : BitVec 32 := 1#32
  let v43_r0 : BitVec 32 := Scalar.addi c0_i32_44_r0 c1_i32_45_r0
  let c3_i32_116_r0 : BitVec 32 := 3#32
  let v113_r0 : BitVec 32 := Scalar.remui v43_r0 c3_i32_116_r0
  let c0_i32_118_r0 : BitVec 32 := 0#32
  let c0_i32_119_r0 : BitVec 32 := 0#32
  ![v113_r0.toNat, 0, 0]
def k0_off12 : Fin 2 → Nat :=
  let c1024_i32_117_r0 : BitVec 32 := 1024#32
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let v114_r0 : BitVec 32 := Scalar.muli c1024_i32_117_r0 v12_r0
  let c0_i32_120_r0 : BitVec 32 := 0#32
  ![v114_r0.toNat, 0]
def k0_cond4 : BitVec 1 :=
  let true_69_r0 : BitVec 1 := 1#1
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let c0_i32_68_r0 : BitVec 32 := 0#32
  let v72_r0 : BitVec 1 := Scalar.cmpi .ne v12_r0 c0_i32_68_r0
  let v73_r0 : BitVec 1 := Scalar.andi true_69_r0 v72_r0
  let true_70_r0 : BitVec 1 := 1#1
  let v74_r0 : BitVec 1 := Scalar.andi v73_r0 true_70_r0
  let v75_r0 : BitVec 32 := Scalar.extui v74_r0
  let c0_i32_71_r0 : BitVec 32 := 0#32
  let v76_r0 : BitVec 1 := Scalar.cmpi .ne v75_r0 c0_i32_71_r0
  v76_r0

def k0_off13 : Fin 1 → Nat :=
  let c0_i32_51_r0 : BitVec 32 := 0#32
  let c1_i32_52_r0 : BitVec 32 := 1#32
  let v50_r0 : BitVec 32 := Scalar.addi c0_i32_51_r0 c1_i32_52_r0
  let c3_i32_116_r0 : BitVec 32 := 3#32
  let v113_r0 : BitVec 32 := Scalar.remui v50_r0 c3_i32_116_r0
  ![v113_r0.toNat]
def k0_off14 : Fin 3 → Nat :=
  let c0_i32_51_r0 : BitVec 32 := 0#32
  let c1_i32_52_r0 : BitVec 32 := 1#32
  let v50_r0 : BitVec 32 := Scalar.addi c0_i32_51_r0 c1_i32_52_r0
  let c3_i32_116_r0 : BitVec 32 := 3#32
  let v113_r0 : BitVec 32 := Scalar.remui v50_r0 c3_i32_116_r0
  let c0_i32_118_r0 : BitVec 32 := 0#32
  let c0_i32_119_r0 : BitVec 32 := 0#32
  ![v113_r0.toNat, 0, 0]
def k0_off15 : Fin 2 → Nat :=
  let c1024_i32_117_r0 : BitVec 32 := 1024#32
  let true_8_r0 : BitVec 1 := 1#1
  let c1_i32_r0 : BitVec 32 := 1#32
  let c0_i32_9_r0 : BitVec 32 := 0#32
  let v9_r0 : BitVec 32 := Scalar.select true_8_r0 c1_i32_r0 c0_i32_9_r0
  let c16_i32_r0 : BitVec 32 := 16#32
  let v10_r0 : BitVec 1 := Scalar.cmpi .eq v9_r0 c16_i32_r0
  let c0_i32_10_r0 : BitVec 32 := 0#32
  let v11_r0 : BitVec 32 := Scalar.select v10_r0 c0_i32_10_r0 v9_r0
  let c0_i32_11_r0 : BitVec 32 := 0#32
  let v12_r0 : BitVec 32 := Scalar.addi v11_r0 c0_i32_11_r0
  let v114_r0 : BitVec 32 := Scalar.muli c1024_i32_117_r0 v12_r0
  let c3072_i32_120_r0 : BitVec 32 := 3072#32
  ![v114_r0.toNat, 3072]
@[reducible] def k0_t1_loop : Scf.Loop 32 :=
  let c0_i32_84_r0 : BitVec 32 := 0#32
  let c16_i32_85_r0 : BitVec 32 := 16#32
  let v79_r0 : BitVec 32 := Scalar.addi c0_i32_84_r0 c16_i32_85_r0
  let c1_i32_86_r0 : BitVec 32 := 1#32
  ⟨c0_i32_84_r0, v79_r0, c1_i32_86_r0⟩
def k0_off16 (arg8_r0 : BitVec 32) : Fin 1 → Nat :=
  let c3_i32_233_r0 : BitVec 32 := 3#32
  let v339_r0 : BitVec 32 := Scalar.remui arg8_r0 c3_i32_233_r0
  ![v339_r0.toNat]
def k0_cond5 (k0_t1 : Fin k0_t1_loop.trips) (arg20_r0 : BitVec 32) : BitVec 1 :=
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c0_i32_128_r0 : BitVec 32 := 0#32
  let v125_r0 : BitVec 32 := Scalar.addi v124_r0 c0_i32_128_r0
  let true_130_r0 : BitVec 1 := 1#1
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v136_r0 : BitVec 1 := Scalar.cmpi .ne v125_r0 v130_r0
  let c0_i32_84_r0 : BitVec 32 := 0#32
  let c1_i32_86_r0 : BitVec 32 := 1#32
  let arg7_r0 : BitVec 32 := Scf.iv c0_i32_84_r0 c1_i32_86_r0 k0_t1
  let c14_i32_r0 : BitVec 32 := 14#32
  let v137_r0 : BitVec 1 := Scalar.cmpi .sge arg7_r0 c14_i32_r0
  let true_139_r0 : BitVec 1 := 1#1
  let v138_r0 : BitVec 1 := Scalar.xori v137_r0 true_139_r0
  let v139_r0 : BitVec 1 := Scalar.andi v136_r0 v138_r0
  let true_140_r0 : BitVec 1 := 1#1
  let v140_r0 : BitVec 1 := Scalar.andi v139_r0 true_140_r0
  let v141_r0 : BitVec 32 := Scalar.extui v140_r0
  let c0_i32_141_r0 : BitVec 32 := 0#32
  let v142_r0 : BitVec 1 := Scalar.cmpi .ne v141_r0 c0_i32_141_r0
  v142_r0

def k0_off17 (arg8_r0 : BitVec 32) : Fin 3 → Nat :=
  let c3_i32_233_r0 : BitVec 32 := 3#32
  let v339_r0 : BitVec 32 := Scalar.remui arg8_r0 c3_i32_233_r0
  let c0_i32_235_r0 : BitVec 32 := 0#32
  let c0_i32_236_r0 : BitVec 32 := 0#32
  ![v339_r0.toNat, 0, 0]
def k0_off18 (arg20_r0 : BitVec 32) : Fin 2 → Nat :=
  let c1024_i32_234_r0 : BitVec 32 := 1024#32
  let true_130_r0 : BitVec 1 := 1#1
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v340_r0 : BitVec 32 := Scalar.muli c1024_i32_234_r0 v130_r0
  let c0_i32_237_r0 : BitVec 32 := 0#32
  ![v340_r0.toNat, 0]
def k0_off19 (arg10_r0 : BitVec 32) : Fin 1 → Nat :=
  let c3_i32_233_r0 : BitVec 32 := 3#32
  let v339_r0 : BitVec 32 := Scalar.remui arg10_r0 c3_i32_233_r0
  ![v339_r0.toNat]
def k0_cond6 (k0_t1 : Fin k0_t1_loop.trips) (arg20_r0 : BitVec 32) : BitVec 1 :=
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c0_i32_128_r0 : BitVec 32 := 0#32
  let v125_r0 : BitVec 32 := Scalar.addi v124_r0 c0_i32_128_r0
  let true_130_r0 : BitVec 1 := 1#1
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v146_r0 : BitVec 1 := Scalar.cmpi .ne v125_r0 v130_r0
  let c0_i32_84_r0 : BitVec 32 := 0#32
  let c1_i32_86_r0 : BitVec 32 := 1#32
  let arg7_r0 : BitVec 32 := Scf.iv c0_i32_84_r0 c1_i32_86_r0 k0_t1
  let c14_i32_144_r0 : BitVec 32 := 14#32
  let v147_r0 : BitVec 1 := Scalar.cmpi .sge arg7_r0 c14_i32_144_r0
  let true_145_r0 : BitVec 1 := 1#1
  let v148_r0 : BitVec 1 := Scalar.xori v147_r0 true_145_r0
  let v149_r0 : BitVec 1 := Scalar.andi v146_r0 v148_r0
  let true_146_r0 : BitVec 1 := 1#1
  let v150_r0 : BitVec 1 := Scalar.andi v149_r0 true_146_r0
  let v151_r0 : BitVec 32 := Scalar.extui v150_r0
  let c0_i32_147_r0 : BitVec 32 := 0#32
  let v152_r0 : BitVec 1 := Scalar.cmpi .ne v151_r0 c0_i32_147_r0
  v152_r0

def k0_off20 (arg10_r0 : BitVec 32) : Fin 3 → Nat :=
  let c3_i32_233_r0 : BitVec 32 := 3#32
  let v339_r0 : BitVec 32 := Scalar.remui arg10_r0 c3_i32_233_r0
  let c0_i32_235_r0 : BitVec 32 := 0#32
  let c0_i32_236_r0 : BitVec 32 := 0#32
  ![v339_r0.toNat, 0, 0]
def k0_off21 (arg20_r0 : BitVec 32) : Fin 2 → Nat :=
  let c1024_i32_234_r0 : BitVec 32 := 1024#32
  let true_130_r0 : BitVec 1 := 1#1
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v340_r0 : BitVec 32 := Scalar.muli c1024_i32_234_r0 v130_r0
  let c0_i32_237_r0 : BitVec 32 := 0#32
  ![v340_r0.toNat, 0]
def k0_off22 (arg12_r0 : BitVec 32) : Fin 1 → Nat :=
  let c3_i32_233_r0 : BitVec 32 := 3#32
  let v339_r0 : BitVec 32 := Scalar.remui arg12_r0 c3_i32_233_r0
  ![v339_r0.toNat]
def k0_cond7 (k0_t1 : Fin k0_t1_loop.trips) (arg20_r0 : BitVec 32) : BitVec 1 :=
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c0_i32_128_r0 : BitVec 32 := 0#32
  let v125_r0 : BitVec 32 := Scalar.addi v124_r0 c0_i32_128_r0
  let true_130_r0 : BitVec 1 := 1#1
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v156_r0 : BitVec 1 := Scalar.cmpi .ne v125_r0 v130_r0
  let c0_i32_84_r0 : BitVec 32 := 0#32
  let c1_i32_86_r0 : BitVec 32 := 1#32
  let arg7_r0 : BitVec 32 := Scf.iv c0_i32_84_r0 c1_i32_86_r0 k0_t1
  let c14_i32_150_r0 : BitVec 32 := 14#32
  let v157_r0 : BitVec 1 := Scalar.cmpi .sge arg7_r0 c14_i32_150_r0
  let true_151_r0 : BitVec 1 := 1#1
  let v158_r0 : BitVec 1 := Scalar.xori v157_r0 true_151_r0
  let v159_r0 : BitVec 1 := Scalar.andi v156_r0 v158_r0
  let true_152_r0 : BitVec 1 := 1#1
  let v160_r0 : BitVec 1 := Scalar.andi v159_r0 true_152_r0
  let v161_r0 : BitVec 32 := Scalar.extui v160_r0
  let c0_i32_153_r0 : BitVec 32 := 0#32
  let v162_r0 : BitVec 1 := Scalar.cmpi .ne v161_r0 c0_i32_153_r0
  v162_r0

def k0_off23 (arg12_r0 : BitVec 32) : Fin 3 → Nat :=
  let c3_i32_233_r0 : BitVec 32 := 3#32
  let v339_r0 : BitVec 32 := Scalar.remui arg12_r0 c3_i32_233_r0
  let c0_i32_235_r0 : BitVec 32 := 0#32
  let c0_i32_236_r0 : BitVec 32 := 0#32
  ![v339_r0.toNat, 0, 0]
def k0_off24 (arg20_r0 : BitVec 32) : Fin 2 → Nat :=
  let c1024_i32_234_r0 : BitVec 32 := 1024#32
  let true_130_r0 : BitVec 1 := 1#1
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v340_r0 : BitVec 32 := Scalar.muli c1024_i32_234_r0 v130_r0
  let c0_i32_237_r0 : BitVec 32 := 0#32
  ![v340_r0.toNat, 0]
def k0_off25 (arg14_r0 : BitVec 32) : Fin 1 → Nat :=
  let c3_i32_233_r0 : BitVec 32 := 3#32
  let v339_r0 : BitVec 32 := Scalar.remui arg14_r0 c3_i32_233_r0
  ![v339_r0.toNat]
def k0_cond8 (k0_t1 : Fin k0_t1_loop.trips) (arg20_r0 : BitVec 32) : BitVec 1 :=
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c0_i32_128_r0 : BitVec 32 := 0#32
  let v125_r0 : BitVec 32 := Scalar.addi v124_r0 c0_i32_128_r0
  let true_130_r0 : BitVec 1 := 1#1
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v166_r0 : BitVec 1 := Scalar.cmpi .ne v125_r0 v130_r0
  let c0_i32_84_r0 : BitVec 32 := 0#32
  let c1_i32_86_r0 : BitVec 32 := 1#32
  let arg7_r0 : BitVec 32 := Scf.iv c0_i32_84_r0 c1_i32_86_r0 k0_t1
  let c14_i32_156_r0 : BitVec 32 := 14#32
  let v167_r0 : BitVec 1 := Scalar.cmpi .sge arg7_r0 c14_i32_156_r0
  let true_157_r0 : BitVec 1 := 1#1
  let v168_r0 : BitVec 1 := Scalar.xori v167_r0 true_157_r0
  let v169_r0 : BitVec 1 := Scalar.andi v166_r0 v168_r0
  let true_158_r0 : BitVec 1 := 1#1
  let v170_r0 : BitVec 1 := Scalar.andi v169_r0 true_158_r0
  let v171_r0 : BitVec 32 := Scalar.extui v170_r0
  let c0_i32_159_r0 : BitVec 32 := 0#32
  let v172_r0 : BitVec 1 := Scalar.cmpi .ne v171_r0 c0_i32_159_r0
  v172_r0

def k0_off26 (arg14_r0 : BitVec 32) : Fin 3 → Nat :=
  let c3_i32_233_r0 : BitVec 32 := 3#32
  let v339_r0 : BitVec 32 := Scalar.remui arg14_r0 c3_i32_233_r0
  let c0_i32_235_r0 : BitVec 32 := 0#32
  let c0_i32_236_r0 : BitVec 32 := 0#32
  ![v339_r0.toNat, 0, 0]
def k0_off27 (arg20_r0 : BitVec 32) : Fin 2 → Nat :=
  let c1024_i32_234_r0 : BitVec 32 := 1024#32
  let true_130_r0 : BitVec 1 := 1#1
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c1_i32_129_r0 : BitVec 32 := 1#32
  let v126_r0 : BitVec 32 := Scalar.addi v124_r0 c1_i32_129_r0
  let v127_r0 : BitVec 32 := Scalar.select true_130_r0 v126_r0 v124_r0
  let c16_i32_131_r0 : BitVec 32 := 16#32
  let v128_r0 : BitVec 1 := Scalar.cmpi .eq v127_r0 c16_i32_131_r0
  let c0_i32_132_r0 : BitVec 32 := 0#32
  let v129_r0 : BitVec 32 := Scalar.select v128_r0 c0_i32_132_r0 v127_r0
  let c0_i32_133_r0 : BitVec 32 := 0#32
  let v130_r0 : BitVec 32 := Scalar.addi v129_r0 c0_i32_133_r0
  let v340_r0 : BitVec 32 := Scalar.muli c1024_i32_234_r0 v130_r0
  let c3072_i32_237_r0 : BitVec 32 := 3072#32
  ![v340_r0.toNat, 3072]
def k0_off28 (arg9_r0 : BitVec 32) : Fin 1 → Nat :=
  let c3_i32_234_r0 : BitVec 32 := 3#32
  let v340_r0 : BitVec 32 := Scalar.remui arg9_r0 c3_i32_234_r0
  ![v340_r0.toNat]
def k0_cond9 (k0_t1 : Fin k0_t1_loop.trips) (arg20_r0 : BitVec 32) : BitVec 1 :=
  let c0_i32_118_r0 : BitVec 32 := 0#32
  let v115_r0 : BitVec 32 := Scalar.addi arg20_r0 c0_i32_118_r0
  let true_120_r0 : BitVec 1 := 1#1
  let c1_i32_119_r0 : BitVec 32 := 1#32
  let v116_r0 : BitVec 32 := Scalar.subi arg20_r0 c1_i32_119_r0
  let v117_r0 : BitVec 32 := Scalar.select true_120_r0 v116_r0 arg20_r0
  let c_m1_i32_121_r0 : BitVec 32 := 4294967295#32
  let v118_r0 : BitVec 1 := Scalar.cmpi .eq v117_r0 c_m1_i32_121_r0
  let c15_i32_122_r0 : BitVec 32 := 15#32
  let v119_r0 : BitVec 32 := Scalar.select v118_r0 c15_i32_122_r0 v117_r0
  let c0_i32_123_r0 : BitVec 32 := 0#32
  let v120_r0 : BitVec 32 := Scalar.addi v119_r0 c0_i32_123_r0
  let v180_r0 : BitVec 1 := Scalar.cmpi .ne v115_r0 v120_r0
  let c0_i32_84_r0 : BitVec 32 := 0#32
  let c1_i32_86_r0 : BitVec 32 := 1#32
  let arg7_r0 : BitVec 32 := Scf.iv c0_i32_84_r0 c1_i32_86_r0 k0_t1
  let c0_i32_116_r0 : BitVec 32 := 0#32
  let v113_r0 : BitVec 1 := Scalar.cmpi .eq arg7_r0 c0_i32_116_r0
  let v181_r0 : BitVec 1 := Scalar.ori v180_r0 v113_r0
  let c0_i32_164_r0 : BitVec 32 := 0#32
  let v182_r0 : BitVec 1 := Scalar.cmpi .sge arg7_r0 c0_i32_164_r0
  let v183_r0 : BitVec 1 := Scalar.andi v181_r0 v182_r0
  let v184_r0 : BitVec 32 := Scalar.extui v183_r0
  let c0_i32_165_r0 : BitVec 32 := 0#32
  let v185_r0 : BitVec 1 := Scalar.cmpi .ne v184_r0 c0_i32_165_r0
  v185_r0

def k0_off29 (arg9_r0 : BitVec 32) : Fin 3 → Nat :=
  let c3_i32_234_r0 : BitVec 32 := 3#32
  let v340_r0 : BitVec 32 := Scalar.remui arg9_r0 c3_i32_234_r0
  let c0_i32_235_r0 : BitVec 32 := 0#32
  let c0_i32_236_r0 : BitVec 32 := 0#32
  ![v340_r0.toNat, 0, 0]
def k0_off30 (arg20_r0 : BitVec 32) : Fin 2 → Nat :=
  let c1024_i32_233_r0 : BitVec 32 := 1024#32
  let c0_i32_118_r0 : BitVec 32 := 0#32
  let v115_r0 : BitVec 32 := Scalar.addi arg20_r0 c0_i32_118_r0
  let v339_r0 : BitVec 32 := Scalar.muli c1024_i32_233_r0 v115_r0
  let c0_i32_237_r0 : BitVec 32 := 0#32
  ![v339_r0.toNat, 0]
def k0_off31 (arg11_r0 : BitVec 32) : Fin 1 → Nat :=
  let c3_i32_234_r0 : BitVec 32 := 3#32
  let v340_r0 : BitVec 32 := Scalar.remui arg11_r0 c3_i32_234_r0
  ![v340_r0.toNat]
def k0_cond10 (k0_t1 : Fin k0_t1_loop.trips) (arg20_r0 : BitVec 32) : BitVec 1 :=
  let c0_i32_118_r0 : BitVec 32 := 0#32
  let v115_r0 : BitVec 32 := Scalar.addi arg20_r0 c0_i32_118_r0
  let true_120_r0 : BitVec 1 := 1#1
  let c1_i32_119_r0 : BitVec 32 := 1#32
  let v116_r0 : BitVec 32 := Scalar.subi arg20_r0 c1_i32_119_r0
  let v117_r0 : BitVec 32 := Scalar.select true_120_r0 v116_r0 arg20_r0
  let c_m1_i32_121_r0 : BitVec 32 := 4294967295#32
  let v118_r0 : BitVec 1 := Scalar.cmpi .eq v117_r0 c_m1_i32_121_r0
  let c15_i32_122_r0 : BitVec 32 := 15#32
  let v119_r0 : BitVec 32 := Scalar.select v118_r0 c15_i32_122_r0 v117_r0
  let c0_i32_123_r0 : BitVec 32 := 0#32
  let v120_r0 : BitVec 32 := Scalar.addi v119_r0 c0_i32_123_r0
  let v186_r0 : BitVec 1 := Scalar.cmpi .ne v115_r0 v120_r0
  let c0_i32_84_r0 : BitVec 32 := 0#32
  let c1_i32_86_r0 : BitVec 32 := 1#32
  let arg7_r0 : BitVec 32 := Scf.iv c0_i32_84_r0 c1_i32_86_r0 k0_t1
  let c0_i32_116_r0 : BitVec 32 := 0#32
  let v113_r0 : BitVec 1 := Scalar.cmpi .eq arg7_r0 c0_i32_116_r0
  let v187_r0 : BitVec 1 := Scalar.ori v186_r0 v113_r0
  let c0_i32_166_r0 : BitVec 32 := 0#32
  let v188_r0 : BitVec 1 := Scalar.cmpi .sge arg7_r0 c0_i32_166_r0
  let v189_r0 : BitVec 1 := Scalar.andi v187_r0 v188_r0
  let v190_r0 : BitVec 32 := Scalar.extui v189_r0
  let c0_i32_167_r0 : BitVec 32 := 0#32
  let v191_r0 : BitVec 1 := Scalar.cmpi .ne v190_r0 c0_i32_167_r0
  v191_r0

def k0_off32 (arg11_r0 : BitVec 32) : Fin 3 → Nat :=
  let c3_i32_234_r0 : BitVec 32 := 3#32
  let v340_r0 : BitVec 32 := Scalar.remui arg11_r0 c3_i32_234_r0
  let c0_i32_235_r0 : BitVec 32 := 0#32
  let c0_i32_236_r0 : BitVec 32 := 0#32
  ![v340_r0.toNat, 0, 0]
def k0_off33 (arg20_r0 : BitVec 32) : Fin 2 → Nat :=
  let c1024_i32_233_r0 : BitVec 32 := 1024#32
  let c0_i32_118_r0 : BitVec 32 := 0#32
  let v115_r0 : BitVec 32 := Scalar.addi arg20_r0 c0_i32_118_r0
  let v339_r0 : BitVec 32 := Scalar.muli c1024_i32_233_r0 v115_r0
  let c0_i32_237_r0 : BitVec 32 := 0#32
  ![v339_r0.toNat, 0]
def k0_off34 (arg13_r0 : BitVec 32) : Fin 1 → Nat :=
  let c3_i32_234_r0 : BitVec 32 := 3#32
  let v340_r0 : BitVec 32 := Scalar.remui arg13_r0 c3_i32_234_r0
  ![v340_r0.toNat]
def k0_cond11 (k0_t1 : Fin k0_t1_loop.trips) (arg20_r0 : BitVec 32) : BitVec 1 :=
  let c0_i32_118_r0 : BitVec 32 := 0#32
  let v115_r0 : BitVec 32 := Scalar.addi arg20_r0 c0_i32_118_r0
  let true_120_r0 : BitVec 1 := 1#1
  let c1_i32_119_r0 : BitVec 32 := 1#32
  let v116_r0 : BitVec 32 := Scalar.subi arg20_r0 c1_i32_119_r0
  let v117_r0 : BitVec 32 := Scalar.select true_120_r0 v116_r0 arg20_r0
  let c_m1_i32_121_r0 : BitVec 32 := 4294967295#32
  let v118_r0 : BitVec 1 := Scalar.cmpi .eq v117_r0 c_m1_i32_121_r0
  let c15_i32_122_r0 : BitVec 32 := 15#32
  let v119_r0 : BitVec 32 := Scalar.select v118_r0 c15_i32_122_r0 v117_r0
  let c0_i32_123_r0 : BitVec 32 := 0#32
  let v120_r0 : BitVec 32 := Scalar.addi v119_r0 c0_i32_123_r0
  let v192_r0 : BitVec 1 := Scalar.cmpi .ne v115_r0 v120_r0
  let c0_i32_84_r0 : BitVec 32 := 0#32
  let c1_i32_86_r0 : BitVec 32 := 1#32
  let arg7_r0 : BitVec 32 := Scf.iv c0_i32_84_r0 c1_i32_86_r0 k0_t1
  let c0_i32_116_r0 : BitVec 32 := 0#32
  let v113_r0 : BitVec 1 := Scalar.cmpi .eq arg7_r0 c0_i32_116_r0
  let v193_r0 : BitVec 1 := Scalar.ori v192_r0 v113_r0
  let c0_i32_168_r0 : BitVec 32 := 0#32
  let v194_r0 : BitVec 1 := Scalar.cmpi .sge arg7_r0 c0_i32_168_r0
  let v195_r0 : BitVec 1 := Scalar.andi v193_r0 v194_r0
  let v196_r0 : BitVec 32 := Scalar.extui v195_r0
  let c0_i32_169_r0 : BitVec 32 := 0#32
  let v197_r0 : BitVec 1 := Scalar.cmpi .ne v196_r0 c0_i32_169_r0
  v197_r0

def k0_off35 (arg13_r0 : BitVec 32) : Fin 3 → Nat :=
  let c3_i32_234_r0 : BitVec 32 := 3#32
  let v340_r0 : BitVec 32 := Scalar.remui arg13_r0 c3_i32_234_r0
  let c0_i32_235_r0 : BitVec 32 := 0#32
  let c0_i32_236_r0 : BitVec 32 := 0#32
  ![v340_r0.toNat, 0, 0]
def k0_off36 (arg20_r0 : BitVec 32) : Fin 2 → Nat :=
  let c1024_i32_233_r0 : BitVec 32 := 1024#32
  let c0_i32_118_r0 : BitVec 32 := 0#32
  let v115_r0 : BitVec 32 := Scalar.addi arg20_r0 c0_i32_118_r0
  let v339_r0 : BitVec 32 := Scalar.muli c1024_i32_233_r0 v115_r0
  let c0_i32_237_r0 : BitVec 32 := 0#32
  ![v339_r0.toNat, 0]
def k0_off37 (arg15_r0 : BitVec 32) : Fin 1 → Nat :=
  let c3_i32_234_r0 : BitVec 32 := 3#32
  let v340_r0 : BitVec 32 := Scalar.remui arg15_r0 c3_i32_234_r0
  ![v340_r0.toNat]
def k0_cond12 (k0_t1 : Fin k0_t1_loop.trips) (arg20_r0 : BitVec 32) : BitVec 1 :=
  let c0_i32_118_r0 : BitVec 32 := 0#32
  let v115_r0 : BitVec 32 := Scalar.addi arg20_r0 c0_i32_118_r0
  let true_120_r0 : BitVec 1 := 1#1
  let c1_i32_119_r0 : BitVec 32 := 1#32
  let v116_r0 : BitVec 32 := Scalar.subi arg20_r0 c1_i32_119_r0
  let v117_r0 : BitVec 32 := Scalar.select true_120_r0 v116_r0 arg20_r0
  let c_m1_i32_121_r0 : BitVec 32 := 4294967295#32
  let v118_r0 : BitVec 1 := Scalar.cmpi .eq v117_r0 c_m1_i32_121_r0
  let c15_i32_122_r0 : BitVec 32 := 15#32
  let v119_r0 : BitVec 32 := Scalar.select v118_r0 c15_i32_122_r0 v117_r0
  let c0_i32_123_r0 : BitVec 32 := 0#32
  let v120_r0 : BitVec 32 := Scalar.addi v119_r0 c0_i32_123_r0
  let v198_r0 : BitVec 1 := Scalar.cmpi .ne v115_r0 v120_r0
  let c0_i32_84_r0 : BitVec 32 := 0#32
  let c1_i32_86_r0 : BitVec 32 := 1#32
  let arg7_r0 : BitVec 32 := Scf.iv c0_i32_84_r0 c1_i32_86_r0 k0_t1
  let c0_i32_116_r0 : BitVec 32 := 0#32
  let v113_r0 : BitVec 1 := Scalar.cmpi .eq arg7_r0 c0_i32_116_r0
  let v199_r0 : BitVec 1 := Scalar.ori v198_r0 v113_r0
  let c0_i32_170_r0 : BitVec 32 := 0#32
  let v200_r0 : BitVec 1 := Scalar.cmpi .sge arg7_r0 c0_i32_170_r0
  let v201_r0 : BitVec 1 := Scalar.andi v199_r0 v200_r0
  let v202_r0 : BitVec 32 := Scalar.extui v201_r0
  let c0_i32_171_r0 : BitVec 32 := 0#32
  let v203_r0 : BitVec 1 := Scalar.cmpi .ne v202_r0 c0_i32_171_r0
  v203_r0

def k0_off38 (arg15_r0 : BitVec 32) : Fin 3 → Nat :=
  let c3_i32_234_r0 : BitVec 32 := 3#32
  let v340_r0 : BitVec 32 := Scalar.remui arg15_r0 c3_i32_234_r0
  let c0_i32_235_r0 : BitVec 32 := 0#32
  let c0_i32_236_r0 : BitVec 32 := 0#32
  ![v340_r0.toNat, 0, 0]
def k0_off39 (arg20_r0 : BitVec 32) : Fin 2 → Nat :=
  let c1024_i32_233_r0 : BitVec 32 := 1024#32
  let c0_i32_118_r0 : BitVec 32 := 0#32
  let v115_r0 : BitVec 32 := Scalar.addi arg20_r0 c0_i32_118_r0
  let v339_r0 : BitVec 32 := Scalar.muli c1024_i32_233_r0 v115_r0
  let c3072_i32_237_r0 : BitVec 32 := 3072#32
  ![v339_r0.toNat, 3072]
def k0_off40 (arg15_r0 : BitVec 32) : Fin 3 → Nat :=
  let c3_i32_177_r0 : BitVec 32 := 3#32
  let v213_r0 : BitVec 32 := Scalar.remui arg15_r0 c3_i32_177_r0
  let v215_r0 : Index := Scalar.indexCast v213_r0
  let c0_r0 : Index := 0#32
  let c0_179_r0 : Index := 0#32
  ![v215_r0.toNat, 0, 0]

def k0_chk2 (arg15_r0 : BitVec 32) : Prop :=
  (∀ a, (k0_off40 arg15_r0) a + S1x1024x1024.size a ≤ S3x1024x1024.size a)
theorem k0_off40_inb : ∀ (arg15_r0 : BitVec 32) (k0_hw2 : k0_chk2 arg15_r0), ∀ a, (k0_off40 arg15_r0) a + S1x1024x1024.size a ≤ S3x1024x1024.size a := fun arg15_r0 k0_hw2 => k0_hw2

def k0_off41 (arg11_r0 : BitVec 32) : Fin 3 → Nat :=
  let c3_i32_175_r0 : BitVec 32 := 3#32
  let v211_r0 : BitVec 32 := Scalar.remui arg11_r0 c3_i32_175_r0
  let v219_r0 : Index := Scalar.indexCast v211_r0
  let c0_180_r0 : Index := 0#32
  let c0_181_r0 : Index := 0#32
  ![v219_r0.toNat, 0, 0]

def k0_chk3 (arg11_r0 : BitVec 32) : Prop :=
  (∀ a, (k0_off41 arg11_r0) a + S1x1024x512.size a ≤ S3x1024x512.size a)
theorem k0_off41_inb : ∀ (arg11_r0 : BitVec 32) (k0_hw3 : k0_chk3 arg11_r0), ∀ a, (k0_off41 arg11_r0) a + S1x1024x512.size a ≤ S3x1024x512.size a := fun arg11_r0 k0_hw3 => k0_hw3

def k0_off42 (arg13_r0 : BitVec 32) : Fin 3 → Nat :=
  let c3_i32_176_r0 : BitVec 32 := 3#32
  let v212_r0 : BitVec 32 := Scalar.remui arg13_r0 c3_i32_176_r0
  let v222_r0 : Index := Scalar.indexCast v212_r0
  let c0_182_r0 : Index := 0#32
  let c0_183_r0 : Index := 0#32
  ![v222_r0.toNat, 0, 0]

def k0_chk4 (arg13_r0 : BitVec 32) : Prop :=
  (∀ a, (k0_off42 arg13_r0) a + S1x1024x512.size a ≤ S3x1024x512.size a)
theorem k0_off42_inb : ∀ (arg13_r0 : BitVec 32) (k0_hw4 : k0_chk4 arg13_r0), ∀ a, (k0_off42 arg13_r0) a + S1x1024x512.size a ≤ S3x1024x512.size a := fun arg13_r0 k0_hw4 => k0_hw4

def k0_off43 (arg9_r0 : BitVec 32) : Fin 3 → Nat :=
  let c3_i32_174_r0 : BitVec 32 := 3#32
  let v210_r0 : BitVec 32 := Scalar.remui arg9_r0 c3_i32_174_r0
  let v230_r0 : Index := Scalar.indexCast v210_r0
  let c0_184_r0 : Index := 0#32
  let c0_185_r0 : Index := 0#32
  ![v230_r0.toNat, 0, 0]

def k0_chk5 (arg9_r0 : BitVec 32) : Prop :=
  (∀ a, (k0_off43 arg9_r0) a + S1x1024x1024.size a ≤ S3x1024x1024.size a)
theorem k0_off43_inb : ∀ (arg9_r0 : BitVec 32) (k0_hw5 : k0_chk5 arg9_r0), ∀ a, (k0_off43 arg9_r0) a + S1x1024x1024.size a ≤ S3x1024x1024.size a := fun arg9_r0 k0_hw5 => k0_hw5

def k0_off44 (arg18_r0 : BitVec 32) : Fin 3 → Nat :=
  let c2_i32_178_r0 : BitVec 32 := 2#32
  let v214_r0 : BitVec 32 := Scalar.remui arg18_r0 c2_i32_178_r0
  let v250_r0 : Index := Scalar.indexCast v214_r0
  let c0_193_r0 : Index := 0#32
  let c0_194_r0 : Index := 0#32
  ![v250_r0.toNat, 0, 0]

def k0_chk6 (arg18_r0 : BitVec 32) : Prop :=
  (∀ a, (k0_off44 arg18_r0) a + S1x1024x1024.size a ≤ S2x1024x1024.size a)
theorem k0_off44_inb : ∀ (arg18_r0 : BitVec 32) (k0_hw6 : k0_chk6 arg18_r0), ∀ a, (k0_off44 arg18_r0) a + S1x1024x1024.size a ≤ S2x1024x1024.size a := fun arg18_r0 k0_hw6 => k0_hw6

def k0_off45 (arg18_r0 : BitVec 32) : Fin 1 → Nat :=
  let c2_i32_233_r0 : BitVec 32 := 2#32
  let v339_r0 : BitVec 32 := Scalar.remui arg18_r0 c2_i32_233_r0
  ![v339_r0.toNat]
def k0_cond18 (k0_t1 : Fin k0_t1_loop.trips) (arg20_r0 : BitVec 32) : BitVec 1 :=
  let c0_i32_118_r0 : BitVec 32 := 0#32
  let v115_r0 : BitVec 32 := Scalar.addi arg20_r0 c0_i32_118_r0
  let true_125_r0 : BitVec 1 := 1#1
  let c1_i32_124_r0 : BitVec 32 := 1#32
  let v121_r0 : BitVec 32 := Scalar.addi arg20_r0 c1_i32_124_r0
  let v122_r0 : BitVec 32 := Scalar.select true_125_r0 v121_r0 arg20_r0
  let c16_i32_126_r0 : BitVec 32 := 16#32
  let v123_r0 : BitVec 1 := Scalar.cmpi .eq v122_r0 c16_i32_126_r0
  let c0_i32_127_r0 : BitVec 32 := 0#32
  let v124_r0 : BitVec 32 := Scalar.select v123_r0 c0_i32_127_r0 v122_r0
  let c0_i32_128_r0 : BitVec 32 := 0#32
  let v125_r0 : BitVec 32 := Scalar.addi v124_r0 c0_i32_128_r0
  let v274_r0 : BitVec 1 := Scalar.cmpi .ne v115_r0 v125_r0
  let c0_i32_84_r0 : BitVec 32 := 0#32
  let c1_i32_86_r0 : BitVec 32 := 1#32
  let arg7_r0 : BitVec 32 := Scf.iv c0_i32_84_r0 c1_i32_86_r0 k0_t1
  let c15_i32_117_r0 : BitVec 32 := 15#32
  let v114_r0 : BitVec 1 := Scalar.cmpi .eq arg7_r0 c15_i32_117_r0
  let v275_r0 : BitVec 1 := Scalar.ori v274_r0 v114_r0
  let v276_r0 : BitVec 32 := Scalar.extui v275_r0
  let c0_i32_202_r0 : BitVec 32 := 0#32
  let v277_r0 : BitVec 1 := Scalar.cmpi .ne v276_r0 c0_i32_202_r0
  v277_r0

def k0_off46 (arg20_r0 : BitVec 32) : Fin 2 → Nat :=
  let c1024_i32_234_r0 : BitVec 32 := 1024#32
  let c0_i32_118_r0 : BitVec 32 := 0#32
  let v115_r0 : BitVec 32 := Scalar.addi arg20_r0 c0_i32_118_r0
  let v340_r0 : BitVec 32 := Scalar.muli c1024_i32_234_r0 v115_r0
  let c0_i32_235_r0 : BitVec 32 := 0#32
  ![v340_r0.toNat, 0]
def k0_off47 (arg18_r0 : BitVec 32) : Fin 3 → Nat :=
  let c2_i32_233_r0 : BitVec 32 := 2#32
  let v339_r0 : BitVec 32 := Scalar.remui arg18_r0 c2_i32_233_r0
  let c0_i32_236_r0 : BitVec 32 := 0#32
  let c0_i32_237_r0 : BitVec 32 := 0#32
  ![v339_r0.toNat, 0, 0]
def k0_off48 (arg19_r0 : BitVec 32) : Fin 1 → Nat :=
  let c2_i32_233_r0 : BitVec 32 := 2#32
  let v339_r0 : BitVec 32 := Scalar.remui arg19_r0 c2_i32_233_r0
  ![v339_r0.toNat]
def k0_cond23 (k0_t1 : Fin k0_t1_loop.trips) (arg20_r0 : BitVec 32) : BitVec 1 :=
  let c0_i32_118_r0 : BitVec 32 := 0#32
  let v115_r0 : BitVec 32 := Scalar.addi arg20_r0 c0_i32_118_r0
  let true_120_r0 : BitVec 1 := 1#1
  let c1_i32_119_r0 : BitVec 32 := 1#32
  let v116_r0 : BitVec 32 := Scalar.subi arg20_r0 c1_i32_119_r0
  let v117_r0 : BitVec 32 := Scalar.select true_120_r0 v116_r0 arg20_r0
  let c_m1_i32_121_r0 : BitVec 32 := 4294967295#32
  let v118_r0 : BitVec 1 := Scalar.cmpi .eq v117_r0 c_m1_i32_121_r0
  let c15_i32_122_r0 : BitVec 32 := 15#32
  let v119_r0 : BitVec 32 := Scalar.select v118_r0 c15_i32_122_r0 v117_r0
  let c0_i32_123_r0 : BitVec 32 := 0#32
  let v120_r0 : BitVec 32 := Scalar.addi v119_r0 c0_i32_123_r0
  let v305_r0 : BitVec 1 := Scalar.cmpi .ne v115_r0 v120_r0
  let c0_i32_84_r0 : BitVec 32 := 0#32
  let c1_i32_86_r0 : BitVec 32 := 1#32
  let arg7_r0 : BitVec 32 := Scf.iv c0_i32_84_r0 c1_i32_86_r0 k0_t1
  let c0_i32_116_r0 : BitVec 32 := 0#32
  let v113_r0 : BitVec 1 := Scalar.cmpi .eq arg7_r0 c0_i32_116_r0
  let true_217_r0 : BitVec 1 := 1#1
  let v306_r0 : BitVec 1 := Scalar.xori v113_r0 true_217_r0
  let v307_r0 : BitVec 1 := Scalar.andi v305_r0 v306_r0
  let v308_r0 : BitVec 32 := Scalar.extui v307_r0
  let c0_i32_218_r0 : BitVec 32 := 0#32
  let v309_r0 : BitVec 1 := Scalar.cmpi .ne v308_r0 c0_i32_218_r0
  v309_r0

def k0_off49 (arg20_r0 : BitVec 32) : Fin 2 → Nat :=
  let c1024_i32_234_r0 : BitVec 32 := 1024#32
  let true_120_r0 : BitVec 1 := 1#1
  let c1_i32_119_r0 : BitVec 32 := 1#32
  let v116_r0 : BitVec 32 := Scalar.subi arg20_r0 c1_i32_119_r0
  let v117_r0 : BitVec 32 := Scalar.select true_120_r0 v116_r0 arg20_r0
  let c_m1_i32_121_r0 : BitVec 32 := 4294967295#32
  let v118_r0 : BitVec 1 := Scalar.cmpi .eq v117_r0 c_m1_i32_121_r0
  let c15_i32_122_r0 : BitVec 32 := 15#32
  let v119_r0 : BitVec 32 := Scalar.select v118_r0 c15_i32_122_r0 v117_r0
  let c0_i32_123_r0 : BitVec 32 := 0#32
  let v120_r0 : BitVec 32 := Scalar.addi v119_r0 c0_i32_123_r0
  let v340_r0 : BitVec 32 := Scalar.muli c1024_i32_234_r0 v120_r0
  let c0_i32_235_r0 : BitVec 32 := 0#32
  ![v340_r0.toNat, 0]
def k0_off50 (arg19_r0 : BitVec 32) : Fin 3 → Nat :=
  let c2_i32_233_r0 : BitVec 32 := 2#32
  let v339_r0 : BitVec 32 := Scalar.remui arg19_r0 c2_i32_233_r0
  let c0_i32_236_r0 : BitVec 32 := 0#32
  let c0_i32_237_r0 : BitVec 32 := 0#32
  ![v339_r0.toNat, 0, 0]

def k0_chk1_0 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) : Prop :=
  (∀ (k0_h5 : k0_cond5 k0_t1 arg20_r0 = 1#1), ∀ a, (k0_off16 arg8_r0) a + S1.size a ≤ S3.size a) ∧
  (∀ (k0_h5 : k0_cond5 k0_t1 arg20_r0 = 1#1), ∀ a, (k0_off17 arg8_r0) a + S1x1024x1024.size a ≤ S3x1024x1024.size a) ∧
  (∀ (k0_h5 : k0_cond5 k0_t1 arg20_r0 = 1#1), ∀ a, (k0_off18 arg20_r0) a + S1024x1024.size a ≤ S16384x1024.size a) ∧
  (∀ (k0_h6 : k0_cond6 k0_t1 arg20_r0 = 1#1), ∀ a, (k0_off19 arg10_r0) a + S1.size a ≤ S3.size a) ∧
  (∀ (k0_h6 : k0_cond6 k0_t1 arg20_r0 = 1#1), ∀ a, (k0_off20 arg10_r0) a + S1x1024x512.size a ≤ S3x1024x512.size a) ∧
  (∀ (k0_h6 : k0_cond6 k0_t1 arg20_r0 = 1#1), ∀ a, (k0_off21 arg20_r0) a + S1024x512.size a ≤ S16384x512.size a) ∧
  (∀ (k0_h6 : k0_cond6 k0_t1 arg20_r0 = 1#1), ∀ (hinb : ∀ a, (k0_off21 arg20_r0) a + S1024x512.size a ≤ S16384x512.size a), (Rect.unit (s := S16384x512) (k0_off21 arg20_r0) S1024x512.size hinb).WholeWords (EltTy.packing .bf16)) ∧
  (∀ (k0_h6 : k0_cond6 k0_t1 arg20_r0 = 1#1), ∀ (hinb : ∀ a, (k0_off20 arg10_r0) a + S1x1024x512.size a ≤ S3x1024x512.size a), (Rect.unit (s := S3x1024x512) (k0_off20 arg10_r0) S1x1024x512.size hinb).WholeWords (EltTy.packing .bf16)) ∧
  (∀ (k0_h7 : k0_cond7 k0_t1 arg20_r0 = 1#1), ∀ a, (k0_off22 arg12_r0) a + S1.size a ≤ S3.size a) ∧
  (∀ (k0_h7 : k0_cond7 k0_t1 arg20_r0 = 1#1), ∀ a, (k0_off23 arg12_r0) a + S1x1024x512.size a ≤ S3x1024x512.size a) ∧
  (∀ (k0_h7 : k0_cond7 k0_t1 arg20_r0 = 1#1), ∀ a, (k0_off24 arg20_r0) a + S1024x512.size a ≤ S16384x512.size a) ∧
  (∀ (k0_h7 : k0_cond7 k0_t1 arg20_r0 = 1#1), ∀ (hinb : ∀ a, (k0_off24 arg20_r0) a + S1024x512.size a ≤ S16384x512.size a), (Rect.unit (s := S16384x512) (k0_off24 arg20_r0) S1024x512.size hinb).WholeWords (EltTy.packing .bf16)) ∧
  (∀ (k0_h7 : k0_cond7 k0_t1 arg20_r0 = 1#1), ∀ (hinb : ∀ a, (k0_off23 arg12_r0) a + S1x1024x512.size a ≤ S3x1024x512.size a), (Rect.unit (s := S3x1024x512) (k0_off23 arg12_r0) S1x1024x512.size hinb).WholeWords (EltTy.packing .bf16)) ∧
  (∀ (k0_h8 : k0_cond8 k0_t1 arg20_r0 = 1#1), ∀ a, (k0_off25 arg14_r0) a + S1.size a ≤ S3.size a) ∧
  (∀ (k0_h8 : k0_cond8 k0_t1 arg20_r0 = 1#1), ∀ a, (k0_off26 arg14_r0) a + S1x1024x1024.size a ≤ S3x1024x1024.size a) ∧
  (∀ (k0_h8 : k0_cond8 k0_t1 arg20_r0 = 1#1), ∀ a, (k0_off27 arg20_r0) a + S1024x1024.size a ≤ S16384x4096.size a) ∧
  (∀ (k0_h8 : k0_cond8 k0_t1 arg20_r0 = 1#1), ∀ (hinb : ∀ a, (k0_off27 arg20_r0) a + S1024x1024.size a ≤ S16384x4096.size a), (Rect.unit (s := S16384x4096) (k0_off27 arg20_r0) S1024x1024.size hinb).WholeWords (EltTy.packing .bf16)) ∧
  (∀ (k0_h8 : k0_cond8 k0_t1 arg20_r0 = 1#1), ∀ (hinb : ∀ a, (k0_off26 arg14_r0) a + S1x1024x1024.size a ≤ S3x1024x1024.size a), (Rect.unit (s := S3x1024x1024) (k0_off26 arg14_r0) S1x1024x1024.size hinb).WholeWords (EltTy.packing .bf16)) ∧
  (∀ (k0_h9 : k0_cond9 k0_t1 arg20_r0 = 1#1), ∀ a, (k0_off28 arg9_r0) a + S1.size a ≤ S3.size a) ∧
  (∀ (k0_h9 : k0_cond9 k0_t1 arg20_r0 = 1#1), ∀ a, (k0_off29 arg9_r0) a + S1x1024x1024.size a ≤ S3x1024x1024.size a) ∧
  (∀ (k0_h9 : k0_cond9 k0_t1 arg20_r0 = 1#1), ∀ a, (k0_off30 arg20_r0) a + S1024x1024.size a ≤ S16384x1024.size a) ∧
  (∀ (k0_h10 : k0_cond10 k0_t1 arg20_r0 = 1#1), ∀ a, (k0_off31 arg11_r0) a + S1.size a ≤ S3.size a) ∧
  (∀ (k0_h10 : k0_cond10 k0_t1 arg20_r0 = 1#1), ∀ a, (k0_off32 arg11_r0) a + S1x1024x512.size a ≤ S3x1024x512.size a) ∧
  (∀ (k0_h10 : k0_cond10 k0_t1 arg20_r0 = 1#1), ∀ a, (k0_off33 arg20_r0) a + S1024x512.size a ≤ S16384x512.size a) ∧
  (∀ (k0_h10 : k0_cond10 k0_t1 arg20_r0 = 1#1), ∀ (hinb : ∀ a, (k0_off33 arg20_r0) a + S1024x512.size a ≤ S16384x512.size a), (Rect.unit (s := S16384x512) (k0_off33 arg20_r0) S1024x512.size hinb).WholeWords (EltTy.packing .bf16)) ∧
  (∀ (k0_h10 : k0_cond10 k0_t1 arg20_r0 = 1#1), ∀ (hinb : ∀ a, (k0_off32 arg11_r0) a + S1x1024x512.size a ≤ S3x1024x512.size a), (Rect.unit (s := S3x1024x512) (k0_off32 arg11_r0) S1x1024x512.size hinb).WholeWords (EltTy.packing .bf16)) ∧
  (∀ (k0_h11 : k0_cond11 k0_t1 arg20_r0 = 1#1), ∀ a, (k0_off34 arg13_r0) a + S1.size a ≤ S3.size a) ∧
  (∀ (k0_h11 : k0_cond11 k0_t1 arg20_r0 = 1#1), ∀ a, (k0_off35 arg13_r0) a + S1x1024x512.size a ≤ S3x1024x512.size a) ∧
  (∀ (k0_h11 : k0_cond11 k0_t1 arg20_r0 = 1#1), ∀ a, (k0_off36 arg20_r0) a + S1024x512.size a ≤ S16384x512.size a) ∧
  (∀ (k0_h11 : k0_cond11 k0_t1 arg20_r0 = 1#1), ∀ (hinb : ∀ a, (k0_off36 arg20_r0) a + S1024x512.size a ≤ S16384x512.size a), (Rect.unit (s := S16384x512) (k0_off36 arg20_r0) S1024x512.size hinb).WholeWords (EltTy.packing .bf16)) ∧
  (∀ (k0_h11 : k0_cond11 k0_t1 arg20_r0 = 1#1), ∀ (hinb : ∀ a, (k0_off35 arg13_r0) a + S1x1024x512.size a ≤ S3x1024x512.size a), (Rect.unit (s := S3x1024x512) (k0_off35 arg13_r0) S1x1024x512.size hinb).WholeWords (EltTy.packing .bf16)) ∧
  (∀ (k0_h12 : k0_cond12 k0_t1 arg20_r0 = 1#1), ∀ a, (k0_off37 arg15_r0) a + S1.size a ≤ S3.size a)
def k0_chk1_1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) : Prop :=
  (∀ (k0_h12 : k0_cond12 k0_t1 arg20_r0 = 1#1), ∀ a, (k0_off38 arg15_r0) a + S1x1024x1024.size a ≤ S3x1024x1024.size a) ∧
  (∀ (k0_h12 : k0_cond12 k0_t1 arg20_r0 = 1#1), ∀ a, (k0_off39 arg20_r0) a + S1024x1024.size a ≤ S16384x4096.size a) ∧
  (∀ (k0_h12 : k0_cond12 k0_t1 arg20_r0 = 1#1), ∀ (hinb : ∀ a, (k0_off39 arg20_r0) a + S1024x1024.size a ≤ S16384x4096.size a), (Rect.unit (s := S16384x4096) (k0_off39 arg20_r0) S1024x1024.size hinb).WholeWords (EltTy.packing .bf16)) ∧
  (∀ (k0_h12 : k0_cond12 k0_t1 arg20_r0 = 1#1), ∀ (hinb : ∀ a, (k0_off38 arg15_r0) a + S1x1024x1024.size a ≤ S3x1024x1024.size a), (Rect.unit (s := S3x1024x1024) (k0_off38 arg15_r0) S1x1024x1024.size hinb).WholeWords (EltTy.packing .bf16)) ∧
  (∀ (k0_h18 : k0_cond18 k0_t1 arg20_r0 = 1#1), ∀ a, (k0_off45 arg18_r0) a + S1.size a ≤ S2.size a) ∧
  (∀ (k0_h18 : k0_cond18 k0_t1 arg20_r0 = 1#1), ∀ a, (k0_off46 arg20_r0) a + S1024x1024.size a ≤ S16384x1024.size a) ∧
  (∀ (k0_h18 : k0_cond18 k0_t1 arg20_r0 = 1#1), ∀ a, (k0_off47 arg18_r0) a + S1x1024x1024.size a ≤ S2x1024x1024.size a) ∧
  (∀ (k0_h23 : k0_cond23 k0_t1 arg20_r0 = 1#1), ∀ a, (k0_off48 arg19_r0) a + S1.size a ≤ S2.size a) ∧
  (∀ (k0_h23 : k0_cond23 k0_t1 arg20_r0 = 1#1), ∀ a, (k0_off49 arg20_r0) a + S1024x1024.size a ≤ S16384x1024.size a) ∧
  (∀ (k0_h23 : k0_cond23 k0_t1 arg20_r0 = 1#1), ∀ a, (k0_off50 arg19_r0) a + S1x1024x1024.size a ≤ S2x1024x1024.size a)
def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) : Prop :=
  k0_chk1_0 k0_t1 arg8_r0 arg9_r0 arg10_r0 arg11_r0 arg12_r0 arg13_r0 arg14_r0 arg15_r0 arg18_r0 arg19_r0 arg20_r0 ∧
  k0_chk1_1 k0_t1 arg8_r0 arg9_r0 arg10_r0 arg11_r0 arg12_r0 arg13_r0 arg14_r0 arg15_r0 arg18_r0 arg19_r0 arg20_r0
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h5 : k0_cond5 k0_t1 arg20_r0 = 1#1), ∀ a, (k0_off16 arg8_r0) a + S1.size a ≤ S3.size a := fun k0_t1 arg8_r0 arg9_r0 arg10_r0 arg11_r0 arg12_r0 arg13_r0 arg14_r0 arg15_r0 arg18_r0 arg19_r0 arg20_r0 k0_hw1 k0_h5 => k0_hw1.1.1 k0_h5
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h5 : k0_cond5 k0_t1 arg20_r0 = 1#1), ∀ a, (k0_off17 arg8_r0) a + S1x1024x1024.size a ≤ S3x1024x1024.size a := fun k0_t1 arg8_r0 arg9_r0 arg10_r0 arg11_r0 arg12_r0 arg13_r0 arg14_r0 arg15_r0 arg18_r0 arg19_r0 arg20_r0 k0_hw1 k0_h5 => k0_hw1.1.2.1 k0_h5
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h5 : k0_cond5 k0_t1 arg20_r0 = 1#1), ∀ a, (k0_off18 arg20_r0) a + S1024x1024.size a ≤ S16384x1024.size a := fun k0_t1 arg8_r0 arg9_r0 arg10_r0 arg11_r0 arg12_r0 arg13_r0 arg14_r0 arg15_r0 arg18_r0 arg19_r0 arg20_r0 k0_hw1 k0_h5 => k0_hw1.1.2.2.1 k0_h5
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h6 : k0_cond6 k0_t1 arg20_r0 = 1#1), ∀ a, (k0_off19 arg10_r0) a + S1.size a ≤ S3.size a := fun k0_t1 arg8_r0 arg9_r0 arg10_r0 arg11_r0 arg12_r0 arg13_r0 arg14_r0 arg15_r0 arg18_r0 arg19_r0 arg20_r0 k0_hw1 k0_h6 => k0_hw1.1.2.2.2.1 k0_h6
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h6 : k0_cond6 k0_t1 arg20_r0 = 1#1), ∀ a, (k0_off20 arg10_r0) a + S1x1024x512.size a ≤ S3x1024x512.size a := fun k0_t1 arg8_r0 arg9_r0 arg10_r0 arg11_r0 arg12_r0 arg13_r0 arg14_r0 arg15_r0 arg18_r0 arg19_r0 arg20_r0 k0_hw1 k0_h6 => k0_hw1.1.2.2.2.2.1 k0_h6
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h6 : k0_cond6 k0_t1 arg20_r0 = 1#1), ∀ a, (k0_off21 arg20_r0) a + S1024x512.size a ≤ S16384x512.size a := fun k0_t1 arg8_r0 arg9_r0 arg10_r0 arg11_r0 arg12_r0 arg13_r0 arg14_r0 arg15_r0 arg18_r0 arg19_r0 arg20_r0 k0_hw1 k0_h6 => k0_hw1.1.2.2.2.2.2.1 k0_h6
theorem k0_off21_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h6 : k0_cond6 k0_t1 arg20_r0 = 1#1), (Rect.unit (s := S16384x512) (k0_off21 arg20_r0) S1024x512.size (k0_off21_inb k0_t1 arg8_r0 arg9_r0 arg10_r0 arg11_r0 arg12_r0 arg13_r0 arg14_r0 arg15_r0 arg18_r0 arg19_r0 arg20_r0 k0_hw1 k0_h6)).WholeWords (EltTy.packing .bf16) := fun k0_t1 arg8_r0 arg9_r0 arg10_r0 arg11_r0 arg12_r0 arg13_r0 arg14_r0 arg15_r0 arg18_r0 arg19_r0 arg20_r0 k0_hw1 k0_h6 => k0_hw1.1.2.2.2.2.2.2.1 k0_h6 (k0_off21_inb k0_t1 arg8_r0 arg9_r0 arg10_r0 arg11_r0 arg12_r0 arg13_r0 arg14_r0 arg15_r0 arg18_r0 arg19_r0 arg20_r0 k0_hw1 k0_h6)
theorem k0_off20_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h6 : k0_cond6 k0_t1 arg20_r0 = 1#1), (Rect.unit (s := S3x1024x512) (k0_off20 arg10_r0) S1x1024x512.size (k0_off20_inb k0_t1 arg8_r0 arg9_r0 arg10_r0 arg11_r0 arg12_r0 arg13_r0 arg14_r0 arg15_r0 arg18_r0 arg19_r0 arg20_r0 k0_hw1 k0_h6)).WholeWords (EltTy.packing .bf16) := fun k0_t1 arg8_r0 arg9_r0 arg10_r0 arg11_r0 arg12_r0 arg13_r0 arg14_r0 arg15_r0 arg18_r0 arg19_r0 arg20_r0 k0_hw1 k0_h6 => k0_hw1.1.2.2.2.2.2.2.2.1 k0_h6 (k0_off20_inb k0_t1 arg8_r0 arg9_r0 arg10_r0 arg11_r0 arg12_r0 arg13_r0 arg14_r0 arg15_r0 arg18_r0 arg19_r0 arg20_r0 k0_hw1 k0_h6)
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h7 : k0_cond7 k0_t1 arg20_r0 = 1#1), ∀ a, (k0_off22 arg12_r0) a + S1.size a ≤ S3.size a := fun k0_t1 arg8_r0 arg9_r0 arg10_r0 arg11_r0 arg12_r0 arg13_r0 arg14_r0 arg15_r0 arg18_r0 arg19_r0 arg20_r0 k0_hw1 k0_h7 => k0_hw1.1.2.2.2.2.2.2.2.2.1 k0_h7
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h7 : k0_cond7 k0_t1 arg20_r0 = 1#1), ∀ a, (k0_off23 arg12_r0) a + S1x1024x512.size a ≤ S3x1024x512.size a := fun k0_t1 arg8_r0 arg9_r0 arg10_r0 arg11_r0 arg12_r0 arg13_r0 arg14_r0 arg15_r0 arg18_r0 arg19_r0 arg20_r0 k0_hw1 k0_h7 => k0_hw1.1.2.2.2.2.2.2.2.2.2.1 k0_h7
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h7 : k0_cond7 k0_t1 arg20_r0 = 1#1), ∀ a, (k0_off24 arg20_r0) a + S1024x512.size a ≤ S16384x512.size a := fun k0_t1 arg8_r0 arg9_r0 arg10_r0 arg11_r0 arg12_r0 arg13_r0 arg14_r0 arg15_r0 arg18_r0 arg19_r0 arg20_r0 k0_hw1 k0_h7 => k0_hw1.1.2.2.2.2.2.2.2.2.2.2.1 k0_h7
theorem k0_off24_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h7 : k0_cond7 k0_t1 arg20_r0 = 1#1), (Rect.unit (s := S16384x512) (k0_off24 arg20_r0) S1024x512.size (k0_off24_inb k0_t1 arg8_r0 arg9_r0 arg10_r0 arg11_r0 arg12_r0 arg13_r0 arg14_r0 arg15_r0 arg18_r0 arg19_r0 arg20_r0 k0_hw1 k0_h7)).WholeWords (EltTy.packing .bf16) := fun k0_t1 arg8_r0 arg9_r0 arg10_r0 arg11_r0 arg12_r0 arg13_r0 arg14_r0 arg15_r0 arg18_r0 arg19_r0 arg20_r0 k0_hw1 k0_h7 => k0_hw1.1.2.2.2.2.2.2.2.2.2.2.2.1 k0_h7 (k0_off24_inb k0_t1 arg8_r0 arg9_r0 arg10_r0 arg11_r0 arg12_r0 arg13_r0 arg14_r0 arg15_r0 arg18_r0 arg19_r0 arg20_r0 k0_hw1 k0_h7)
theorem k0_off23_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h7 : k0_cond7 k0_t1 arg20_r0 = 1#1), (Rect.unit (s := S3x1024x512) (k0_off23 arg12_r0) S1x1024x512.size (k0_off23_inb k0_t1 arg8_r0 arg9_r0 arg10_r0 arg11_r0 arg12_r0 arg13_r0 arg14_r0 arg15_r0 arg18_r0 arg19_r0 arg20_r0 k0_hw1 k0_h7)).WholeWords (EltTy.packing .bf16) := fun k0_t1 arg8_r0 arg9_r0 arg10_r0 arg11_r0 arg12_r0 arg13_r0 arg14_r0 arg15_r0 arg18_r0 arg19_r0 arg20_r0 k0_hw1 k0_h7 => k0_hw1.1.2.2.2.2.2.2.2.2.2.2.2.2.1 k0_h7 (k0_off23_inb k0_t1 arg8_r0 arg9_r0 arg10_r0 arg11_r0 arg12_r0 arg13_r0 arg14_r0 arg15_r0 arg18_r0 arg19_r0 arg20_r0 k0_hw1 k0_h7)
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h8 : k0_cond8 k0_t1 arg20_r0 = 1#1), ∀ a, (k0_off25 arg14_r0) a + S1.size a ≤ S3.size a := fun k0_t1 arg8_r0 arg9_r0 arg10_r0 arg11_r0 arg12_r0 arg13_r0 arg14_r0 arg15_r0 arg18_r0 arg19_r0 arg20_r0 k0_hw1 k0_h8 => k0_hw1.1.2.2.2.2.2.2.2.2.2.2.2.2.2.1 k0_h8
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h8 : k0_cond8 k0_t1 arg20_r0 = 1#1), ∀ a, (k0_off26 arg14_r0) a + S1x1024x1024.size a ≤ S3x1024x1024.size a := fun k0_t1 arg8_r0 arg9_r0 arg10_r0 arg11_r0 arg12_r0 arg13_r0 arg14_r0 arg15_r0 arg18_r0 arg19_r0 arg20_r0 k0_hw1 k0_h8 => k0_hw1.1.2.2.2.2.2.2.2.2.2.2.2.2.2.2.1 k0_h8
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h8 : k0_cond8 k0_t1 arg20_r0 = 1#1), ∀ a, (k0_off27 arg20_r0) a + S1024x1024.size a ≤ S16384x4096.size a := fun k0_t1 arg8_r0 arg9_r0 arg10_r0 arg11_r0 arg12_r0 arg13_r0 arg14_r0 arg15_r0 arg18_r0 arg19_r0 arg20_r0 k0_hw1 k0_h8 => k0_hw1.1.2.2.2.2.2.2.2.2.2.2.2.2.2.2.2.1 k0_h8
theorem k0_off27_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h8 : k0_cond8 k0_t1 arg20_r0 = 1#1), (Rect.unit (s := S16384x4096) (k0_off27 arg20_r0) S1024x1024.size (k0_off27_inb k0_t1 arg8_r0 arg9_r0 arg10_r0 arg11_r0 arg12_r0 arg13_r0 arg14_r0 arg15_r0 arg18_r0 arg19_r0 arg20_r0 k0_hw1 k0_h8)).WholeWords (EltTy.packing .bf16) := fun k0_t1 arg8_r0 arg9_r0 arg10_r0 arg11_r0 arg12_r0 arg13_r0 arg14_r0 arg15_r0 arg18_r0 arg19_r0 arg20_r0 k0_hw1 k0_h8 => k0_hw1.1.2.2.2.2.2.2.2.2.2.2.2.2.2.2.2.2.1 k0_h8 (k0_off27_inb k0_t1 arg8_r0 arg9_r0 arg10_r0 arg11_r0 arg12_r0 arg13_r0 arg14_r0 arg15_r0 arg18_r0 arg19_r0 arg20_r0 k0_hw1 k0_h8)
theorem k0_off26_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h8 : k0_cond8 k0_t1 arg20_r0 = 1#1), (Rect.unit (s := S3x1024x1024) (k0_off26 arg14_r0) S1x1024x1024.size (k0_off26_inb k0_t1 arg8_r0 arg9_r0 arg10_r0 arg11_r0 arg12_r0 arg13_r0 arg14_r0 arg15_r0 arg18_r0 arg19_r0 arg20_r0 k0_hw1 k0_h8)).WholeWords (EltTy.packing .bf16) := fun k0_t1 arg8_r0 arg9_r0 arg10_r0 arg11_r0 arg12_r0 arg13_r0 arg14_r0 arg15_r0 arg18_r0 arg19_r0 arg20_r0 k0_hw1 k0_h8 => k0_hw1.1.2.2.2.2.2.2.2.2.2.2.2.2.2.2.2.2.2.1 k0_h8 (k0_off26_inb k0_t1 arg8_r0 arg9_r0 arg10_r0 arg11_r0 arg12_r0 arg13_r0 arg14_r0 arg15_r0 arg18_r0 arg19_r0 arg20_r0 k0_hw1 k0_h8)
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h9 : k0_cond9 k0_t1 arg20_r0 = 1#1), ∀ a, (k0_off28 arg9_r0) a + S1.size a ≤ S3.size a := fun k0_t1 arg8_r0 arg9_r0 arg10_r0 arg11_r0 arg12_r0 arg13_r0 arg14_r0 arg15_r0 arg18_r0 arg19_r0 arg20_r0 k0_hw1 k0_h9 => k0_hw1.1.2.2.2.2.2.2.2.2.2.2.2.2.2.2.2.2.2.2.1 k0_h9
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h9 : k0_cond9 k0_t1 arg20_r0 = 1#1), ∀ a, (k0_off29 arg9_r0) a + S1x1024x1024.size a ≤ S3x1024x1024.size a := fun k0_t1 arg8_r0 arg9_r0 arg10_r0 arg11_r0 arg12_r0 arg13_r0 arg14_r0 arg15_r0 arg18_r0 arg19_r0 arg20_r0 k0_hw1 k0_h9 => k0_hw1.1.2.2.2.2.2.2.2.2.2.2.2.2.2.2.2.2.2.2.2.1 k0_h9
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h9 : k0_cond9 k0_t1 arg20_r0 = 1#1), ∀ a, (k0_off30 arg20_r0) a + S1024x1024.size a ≤ S16384x1024.size a := fun k0_t1 arg8_r0 arg9_r0 arg10_r0 arg11_r0 arg12_r0 arg13_r0 arg14_r0 arg15_r0 arg18_r0 arg19_r0 arg20_r0 k0_hw1 k0_h9 => k0_hw1.1.2.2.2.2.2.2.2.2.2.2.2.2.2.2.2.2.2.2.2.2.1 k0_h9
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h10 : k0_cond10 k0_t1 arg20_r0 = 1#1), ∀ a, (k0_off31 arg11_r0) a + S1.size a ≤ S3.size a := fun k0_t1 arg8_r0 arg9_r0 arg10_r0 arg11_r0 arg12_r0 arg13_r0 arg14_r0 arg15_r0 arg18_r0 arg19_r0 arg20_r0 k0_hw1 k0_h10 => k0_hw1.1.2.2.2.2.2.2.2.2.2.2.2.2.2.2.2.2.2.2.2.2.2.1 k0_h10
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h10 : k0_cond10 k0_t1 arg20_r0 = 1#1), ∀ a, (k0_off32 arg11_r0) a + S1x1024x512.size a ≤ S3x1024x512.size a := fun k0_t1 arg8_r0 arg9_r0 arg10_r0 arg11_r0 arg12_r0 arg13_r0 arg14_r0 arg15_r0 arg18_r0 arg19_r0 arg20_r0 k0_hw1 k0_h10 => k0_hw1.1.2.2.2.2.2.2.2.2.2.2.2.2.2.2.2.2.2.2.2.2.2.2.1 k0_h10
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h10 : k0_cond10 k0_t1 arg20_r0 = 1#1), ∀ a, (k0_off33 arg20_r0) a + S1024x512.size a ≤ S16384x512.size a := fun k0_t1 arg8_r0 arg9_r0 arg10_r0 arg11_r0 arg12_r0 arg13_r0 arg14_r0 arg15_r0 arg18_r0 arg19_r0 arg20_r0 k0_hw1 k0_h10 => k0_hw1.1.2.2.2.2.2.2.2.2.2.2.2.2.2.2.2.2.2.2.2.2.2.2.2.1 k0_h10
theorem k0_off33_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h10 : k0_cond10 k0_t1 arg20_r0 = 1#1), (Rect.unit (s := S16384x512) (k0_off33 arg20_r0) S1024x512.size (k0_off33_inb k0_t1 arg8_r0 arg9_r0 arg10_r0 arg11_r0 arg12_r0 arg13_r0 arg14_r0 arg15_r0 arg18_r0 arg19_r0 arg20_r0 k0_hw1 k0_h10)).WholeWords (EltTy.packing .bf16) := fun k0_t1 arg8_r0 arg9_r0 arg10_r0 arg11_r0 arg12_r0 arg13_r0 arg14_r0 arg15_r0 arg18_r0 arg19_r0 arg20_r0 k0_hw1 k0_h10 => k0_hw1.1.2.2.2.2.2.2.2.2.2.2.2.2.2.2.2.2.2.2.2.2.2.2.2.2.1 k0_h10 (k0_off33_inb k0_t1 arg8_r0 arg9_r0 arg10_r0 arg11_r0 arg12_r0 arg13_r0 arg14_r0 arg15_r0 arg18_r0 arg19_r0 arg20_r0 k0_hw1 k0_h10)
theorem k0_off32_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h10 : k0_cond10 k0_t1 arg20_r0 = 1#1), (Rect.unit (s := S3x1024x512) (k0_off32 arg11_r0) S1x1024x512.size (k0_off32_inb k0_t1 arg8_r0 arg9_r0 arg10_r0 arg11_r0 arg12_r0 arg13_r0 arg14_r0 arg15_r0 arg18_r0 arg19_r0 arg20_r0 k0_hw1 k0_h10)).WholeWords (EltTy.packing .bf16) := fun k0_t1 arg8_r0 arg9_r0 arg10_r0 arg11_r0 arg12_r0 arg13_r0 arg14_r0 arg15_r0 arg18_r0 arg19_r0 arg20_r0 k0_hw1 k0_h10 => k0_hw1.1.2.2.2.2.2.2.2.2.2.2.2.2.2.2.2.2.2.2.2.2.2.2.2.2.2.1 k0_h10 (k0_off32_inb k0_t1 arg8_r0 arg9_r0 arg10_r0 arg11_r0 arg12_r0 arg13_r0 arg14_r0 arg15_r0 arg18_r0 arg19_r0 arg20_r0 k0_hw1 k0_h10)
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h11 : k0_cond11 k0_t1 arg20_r0 = 1#1), ∀ a, (k0_off34 arg13_r0) a + S1.size a ≤ S3.size a := fun k0_t1 arg8_r0 arg9_r0 arg10_r0 arg11_r0 arg12_r0 arg13_r0 arg14_r0 arg15_r0 arg18_r0 arg19_r0 arg20_r0 k0_hw1 k0_h11 => k0_hw1.1.2.2.2.2.2.2.2.2.2.2.2.2.2.2.2.2.2.2.2.2.2.2.2.2.2.2.1 k0_h11
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h11 : k0_cond11 k0_t1 arg20_r0 = 1#1), ∀ a, (k0_off35 arg13_r0) a + S1x1024x512.size a ≤ S3x1024x512.size a := fun k0_t1 arg8_r0 arg9_r0 arg10_r0 arg11_r0 arg12_r0 arg13_r0 arg14_r0 arg15_r0 arg18_r0 arg19_r0 arg20_r0 k0_hw1 k0_h11 => k0_hw1.1.2.2.2.2.2.2.2.2.2.2.2.2.2.2.2.2.2.2.2.2.2.2.2.2.2.2.2.1 k0_h11
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h11 : k0_cond11 k0_t1 arg20_r0 = 1#1), ∀ a, (k0_off36 arg20_r0) a + S1024x512.size a ≤ S16384x512.size a := fun k0_t1 arg8_r0 arg9_r0 arg10_r0 arg11_r0 arg12_r0 arg13_r0 arg14_r0 arg15_r0 arg18_r0 arg19_r0 arg20_r0 k0_hw1 k0_h11 => k0_hw1.1.2.2.2.2.2.2.2.2.2.2.2.2.2.2.2.2.2.2.2.2.2.2.2.2.2.2.2.2.1 k0_h11
theorem k0_off36_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h11 : k0_cond11 k0_t1 arg20_r0 = 1#1), (Rect.unit (s := S16384x512) (k0_off36 arg20_r0) S1024x512.size (k0_off36_inb k0_t1 arg8_r0 arg9_r0 arg10_r0 arg11_r0 arg12_r0 arg13_r0 arg14_r0 arg15_r0 arg18_r0 arg19_r0 arg20_r0 k0_hw1 k0_h11)).WholeWords (EltTy.packing .bf16) := fun k0_t1 arg8_r0 arg9_r0 arg10_r0 arg11_r0 arg12_r0 arg13_r0 arg14_r0 arg15_r0 arg18_r0 arg19_r0 arg20_r0 k0_hw1 k0_h11 => k0_hw1.1.2.2.2.2.2.2.2.2.2.2.2.2.2.2.2.2.2.2.2.2.2.2.2.2.2.2.2.2.2.1 k0_h11 (k0_off36_inb k0_t1 arg8_r0 arg9_r0 arg10_r0 arg11_r0 arg12_r0 arg13_r0 arg14_r0 arg15_r0 arg18_r0 arg19_r0 arg20_r0 k0_hw1 k0_h11)
theorem k0_off35_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h11 : k0_cond11 k0_t1 arg20_r0 = 1#1), (Rect.unit (s := S3x1024x512) (k0_off35 arg13_r0) S1x1024x512.size (k0_off35_inb k0_t1 arg8_r0 arg9_r0 arg10_r0 arg11_r0 arg12_r0 arg13_r0 arg14_r0 arg15_r0 arg18_r0 arg19_r0 arg20_r0 k0_hw1 k0_h11)).WholeWords (EltTy.packing .bf16) := fun k0_t1 arg8_r0 arg9_r0 arg10_r0 arg11_r0 arg12_r0 arg13_r0 arg14_r0 arg15_r0 arg18_r0 arg19_r0 arg20_r0 k0_hw1 k0_h11 => k0_hw1.1.2.2.2.2.2.2.2.2.2.2.2.2.2.2.2.2.2.2.2.2.2.2.2.2.2.2.2.2.2.2.1 k0_h11 (k0_off35_inb k0_t1 arg8_r0 arg9_r0 arg10_r0 arg11_r0 arg12_r0 arg13_r0 arg14_r0 arg15_r0 arg18_r0 arg19_r0 arg20_r0 k0_hw1 k0_h11)
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h12 : k0_cond12 k0_t1 arg20_r0 = 1#1), ∀ a, (k0_off37 arg15_r0) a + S1.size a ≤ S3.size a := fun k0_t1 arg8_r0 arg9_r0 arg10_r0 arg11_r0 arg12_r0 arg13_r0 arg14_r0 arg15_r0 arg18_r0 arg19_r0 arg20_r0 k0_hw1 k0_h12 => k0_hw1.1.2.2.2.2.2.2.2.2.2.2.2.2.2.2.2.2.2.2.2.2.2.2.2.2.2.2.2.2.2.2.2 k0_h12
theorem k0_off38_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h12 : k0_cond12 k0_t1 arg20_r0 = 1#1), ∀ a, (k0_off38 arg15_r0) a + S1x1024x1024.size a ≤ S3x1024x1024.size a := fun k0_t1 arg8_r0 arg9_r0 arg10_r0 arg11_r0 arg12_r0 arg13_r0 arg14_r0 arg15_r0 arg18_r0 arg19_r0 arg20_r0 k0_hw1 k0_h12 => k0_hw1.2.1 k0_h12
theorem k0_off39_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h12 : k0_cond12 k0_t1 arg20_r0 = 1#1), ∀ a, (k0_off39 arg20_r0) a + S1024x1024.size a ≤ S16384x4096.size a := fun k0_t1 arg8_r0 arg9_r0 arg10_r0 arg11_r0 arg12_r0 arg13_r0 arg14_r0 arg15_r0 arg18_r0 arg19_r0 arg20_r0 k0_hw1 k0_h12 => k0_hw1.2.2.1 k0_h12
theorem k0_off39_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h12 : k0_cond12 k0_t1 arg20_r0 = 1#1), (Rect.unit (s := S16384x4096) (k0_off39 arg20_r0) S1024x1024.size (k0_off39_inb k0_t1 arg8_r0 arg9_r0 arg10_r0 arg11_r0 arg12_r0 arg13_r0 arg14_r0 arg15_r0 arg18_r0 arg19_r0 arg20_r0 k0_hw1 k0_h12)).WholeWords (EltTy.packing .bf16) := fun k0_t1 arg8_r0 arg9_r0 arg10_r0 arg11_r0 arg12_r0 arg13_r0 arg14_r0 arg15_r0 arg18_r0 arg19_r0 arg20_r0 k0_hw1 k0_h12 => k0_hw1.2.2.2.1 k0_h12 (k0_off39_inb k0_t1 arg8_r0 arg9_r0 arg10_r0 arg11_r0 arg12_r0 arg13_r0 arg14_r0 arg15_r0 arg18_r0 arg19_r0 arg20_r0 k0_hw1 k0_h12)
theorem k0_off38_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h12 : k0_cond12 k0_t1 arg20_r0 = 1#1), (Rect.unit (s := S3x1024x1024) (k0_off38 arg15_r0) S1x1024x1024.size (k0_off38_inb k0_t1 arg8_r0 arg9_r0 arg10_r0 arg11_r0 arg12_r0 arg13_r0 arg14_r0 arg15_r0 arg18_r0 arg19_r0 arg20_r0 k0_hw1 k0_h12)).WholeWords (EltTy.packing .bf16) := fun k0_t1 arg8_r0 arg9_r0 arg10_r0 arg11_r0 arg12_r0 arg13_r0 arg14_r0 arg15_r0 arg18_r0 arg19_r0 arg20_r0 k0_hw1 k0_h12 => k0_hw1.2.2.2.2.1 k0_h12 (k0_off38_inb k0_t1 arg8_r0 arg9_r0 arg10_r0 arg11_r0 arg12_r0 arg13_r0 arg14_r0 arg15_r0 arg18_r0 arg19_r0 arg20_r0 k0_hw1 k0_h12)
theorem k0_off45_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h18 : k0_cond18 k0_t1 arg20_r0 = 1#1), ∀ a, (k0_off45 arg18_r0) a + S1.size a ≤ S2.size a := fun k0_t1 arg8_r0 arg9_r0 arg10_r0 arg11_r0 arg12_r0 arg13_r0 arg14_r0 arg15_r0 arg18_r0 arg19_r0 arg20_r0 k0_hw1 k0_h18 => k0_hw1.2.2.2.2.2.1 k0_h18
theorem k0_off46_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h18 : k0_cond18 k0_t1 arg20_r0 = 1#1), ∀ a, (k0_off46 arg20_r0) a + S1024x1024.size a ≤ S16384x1024.size a := fun k0_t1 arg8_r0 arg9_r0 arg10_r0 arg11_r0 arg12_r0 arg13_r0 arg14_r0 arg15_r0 arg18_r0 arg19_r0 arg20_r0 k0_hw1 k0_h18 => k0_hw1.2.2.2.2.2.2.1 k0_h18
theorem k0_off47_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h18 : k0_cond18 k0_t1 arg20_r0 = 1#1), ∀ a, (k0_off47 arg18_r0) a + S1x1024x1024.size a ≤ S2x1024x1024.size a := fun k0_t1 arg8_r0 arg9_r0 arg10_r0 arg11_r0 arg12_r0 arg13_r0 arg14_r0 arg15_r0 arg18_r0 arg19_r0 arg20_r0 k0_hw1 k0_h18 => k0_hw1.2.2.2.2.2.2.2.1 k0_h18
theorem k0_off48_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h23 : k0_cond23 k0_t1 arg20_r0 = 1#1), ∀ a, (k0_off48 arg19_r0) a + S1.size a ≤ S2.size a := fun k0_t1 arg8_r0 arg9_r0 arg10_r0 arg11_r0 arg12_r0 arg13_r0 arg14_r0 arg15_r0 arg18_r0 arg19_r0 arg20_r0 k0_hw1 k0_h23 => k0_hw1.2.2.2.2.2.2.2.2.1 k0_h23
theorem k0_off49_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h23 : k0_cond23 k0_t1 arg20_r0 = 1#1), ∀ a, (k0_off49 arg20_r0) a + S1024x1024.size a ≤ S16384x1024.size a := fun k0_t1 arg8_r0 arg9_r0 arg10_r0 arg11_r0 arg12_r0 arg13_r0 arg14_r0 arg15_r0 arg18_r0 arg19_r0 arg20_r0 k0_hw1 k0_h23 => k0_hw1.2.2.2.2.2.2.2.2.2.1 k0_h23
theorem k0_off50_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg18_r0 : BitVec 32) (arg19_r0 : BitVec 32) (arg20_r0 : BitVec 32) (k0_hw1 : k0_chk1 k0_t1 arg8_r0 arg9_r0 arg10_r0 arg11_r0 arg12_r0 arg13_r0 arg14_r0 arg15_r0 arg18_r0 arg19_r0 arg20_r0), ∀ (k0_h23 : k0_cond23 k0_t1 arg20_r0 = 1#1), ∀ a, (k0_off50 arg19_r0) a + S1x1024x1024.size a ≤ S2x1024x1024.size a := fun k0_t1 arg8_r0 arg9_r0 arg10_r0 arg11_r0 arg12_r0 arg13_r0 arg14_r0 arg15_r0 arg18_r0 arg19_r0 arg20_r0 k0_hw1 k0_h23 => k0_hw1.2.2.2.2.2.2.2.2.2.2 k0_h23

def k0_off51 (v80_11_r0 : BitVec 32) : Fin 1 → Nat :=
  let c2_i32_r0 : BitVec 32 := 2#32
  let v106_r0 : BitVec 32 := Scalar.remui v80_11_r0 c2_i32_r0
  ![v106_r0.toNat]

def k0_off52 (v80_12_r0 : BitVec 32) : Fin 2 → Nat :=
  let c1024_i32_r0 : BitVec 32 := 1024#32
  let true_89_r0 : BitVec 1 := 1#1
  let c1_i32_88_r0 : BitVec 32 := 1#32
  let v81_r0 : BitVec 32 := Scalar.subi v80_12_r0 c1_i32_88_r0
  let v82_r0 : BitVec 32 := Scalar.select true_89_r0 v81_r0 v80_12_r0
  let c_m1_i32_90_r0 : BitVec 32 := 4294967295#32
  let v83_r0 : BitVec 1 := Scalar.cmpi .eq v82_r0 c_m1_i32_90_r0
  let c15_i32_91_r0 : BitVec 32 := 15#32
  let v84_r0 : BitVec 32 := Scalar.select v83_r0 c15_i32_91_r0 v82_r0
  let c0_i32_92_r0 : BitVec 32 := 0#32
  let v85_r0 : BitVec 32 := Scalar.addi v84_r0 c0_i32_92_r0
  let v107_r0 : BitVec 32 := Scalar.muli c1024_i32_r0 v85_r0
  let c0_i32_113_r0 : BitVec 32 := 0#32
  ![v107_r0.toNat, 0]

def k0_chk8 (v80_12_r0 : BitVec 32) : Prop :=
  (∀ a, (k0_off52 v80_12_r0) a + S1024x1024.size a ≤ S16384x1024.size a)
theorem k0_off52_inb : ∀ (v80_12_r0 : BitVec 32) (k0_hw8 : k0_chk8 v80_12_r0), ∀ a, (k0_off52 v80_12_r0) a + S1024x1024.size a ≤ S16384x1024.size a := fun v80_12_r0 k0_hw8 => k0_hw8

def k0_off53 (v80_11_r0 : BitVec 32) : Fin 3 → Nat :=
  let c2_i32_r0 : BitVec 32 := 2#32
  let v106_r0 : BitVec 32 := Scalar.remui v80_11_r0 c2_i32_r0
  let c0_i32_114_r0 : BitVec 32 := 0#32
  let c0_i32_115_r0 : BitVec 32 := 0#32
  ![v106_r0.toNat, 0, 0]

def k0_chk7 (v80_11_r0 : BitVec 32) : Prop :=
  (∀ a, (k0_off51 v80_11_r0) a + S1.size a ≤ S2.size a) ∧
  (∀ a, (k0_off53 v80_11_r0) a + S1x1024x1024.size a ≤ S2x1024x1024.size a)
theorem k0_off51_inb : ∀ (v80_11_r0 : BitVec 32) (k0_hw7 : k0_chk7 v80_11_r0), ∀ a, (k0_off51 v80_11_r0) a + S1.size a ≤ S2.size a := fun v80_11_r0 k0_hw7 => k0_hw7.1
theorem k0_off53_inb : ∀ (v80_11_r0 : BitVec 32) (k0_hw7 : k0_chk7 v80_11_r0), ∀ a, (k0_off53 v80_11_r0) a + S1x1024x1024.size a ≤ S2x1024x1024.size a := fun v80_11_r0 k0_hw7 => k0_hw7.2
-- ==== ReferenceIdeal.lean ====
abbrev S16384x1024 : Shape := ⟨2, ![16384, 1024]⟩
abbrev S16384x512 : Shape := ⟨2, ![16384, 512]⟩
abbrev S16384x4096 : Shape := ⟨2, ![16384, 4096]⟩
abbrev S4x1024x1024 : Shape := ⟨3, ![4, 1024, 1024]⟩
abbrev S1024 : Shape := ⟨1, ![1024]⟩
abbrev S_ : Shape := ⟨0, ![]⟩
abbrev S1x1024x1024 : Shape := ⟨3, ![1, 1024, 1024]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x4096, .bf16⟩
  | .hbm, ⟨4, _⟩ => ⟨S4x1024x1024, .f32⟩
  | .hbm, ⟨5, _⟩ => ⟨S1024, .f32⟩
  | .hbm, ⟨6, _⟩ => ⟨S16384x1024, .bf16⟩
  | .hbm, ⟨7, _⟩ => ⟨S16384x1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1x1024x1024, .f32⟩
  | .hbm, ⟨22, _⟩ => ⟨S1024x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Boundary.lean ====
abbrev S16384x1024 : Shape := ⟨2, ![16384, 1024]⟩
abbrev S16384x512 : Shape := ⟨2, ![16384, 512]⟩
abbrev S16384x4096 : Shape := ⟨2, ![16384, 4096]⟩
abbrev S4x1024x1024 : Shape := ⟨3, ![4, 1024, 1024]⟩
abbrev S4x1024 : Shape := ⟨2, ![4, 1024]⟩
abbrev S4x1024x4096 : Shape := ⟨3, ![4, 1024, 4096]⟩
abbrev S4x1x1024 : Shape := ⟨3, ![4, 1, 1024]⟩
abbrev S1152x16384 : Shape := ⟨2, ![1152, 16384]⟩
abbrev S512x1024 : Shape := ⟨2, ![512, 1024]⟩
abbrev S512x512 : Shape := ⟨2, ![512, 512]⟩
abbrev S1x1024x1024 : Shape := ⟨3, ![1, 1024, 1024]⟩
abbrev S1x1x1024 : Shape := ⟨3, ![1, 1, 1024]⟩
abbrev S1x1024x4096 : Shape := ⟨3, ![1, 1024, 4096]⟩
abbrev S512x4096 : Shape := ⟨2, ![512, 4096]⟩
abbrev S1152x512 : Shape := ⟨2, ![1152, 512]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S16x512 : Shape := ⟨2, ![16, 512]⟩
abbrev S1x1024x512 : Shape := ⟨3, ![1, 1024, 512]⟩
abbrev S1024x512 : Shape := ⟨2, ![1024, 512]⟩
abbrev S128x512 : Shape := ⟨2, ![128, 512]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x4096, .bf16⟩
  | .hbm, ⟨4, _⟩ => ⟨S4x1024x1024, .f32⟩
  | .hbm, ⟨5, _⟩ => ⟨S4x1024, .f32⟩
  | .hbm, ⟨6, _⟩ => ⟨S4x1024x4096, .f32⟩
  | .hbm, ⟨7, _⟩ => ⟨S4x1x1024, .f32⟩
  | .hbm, ⟨8, _⟩ => ⟨S16384x1024, .f32⟩
  | .hbm, ⟨9, _⟩ => ⟨S16384x4096, .bf16⟩
  | .hbm, ⟨10, _⟩ => ⟨S1152x16384, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024x1024, .f32⟩
  | .local _ .vmem, ⟨9, _⟩ => ⟨S1x1x1024, .f32⟩
  | .local _ .vmem, ⟨10, _⟩ => ⟨S1x1024x4096, .f32⟩
  | .local _ .vmem, ⟨11, _⟩ => ⟨S512x1024, .f32⟩
  | .local _ .vmem, ⟨12, _⟩ => ⟨S512x1024, .f32⟩
  | .local _ .vmem, ⟨13, _⟩ => ⟨S512x4096, .bf16⟩
  | .local _ .vmem, ⟨14, _⟩ => ⟨S512x4096, .bf16⟩
  | .local _ .vmem, ⟨15, _⟩ => ⟨S1152x512, .bf16⟩
  | .local _ .vmem, ⟨16, _⟩ => ⟨S1152x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1152x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== BoundaryIdeal.lean ====
variable {F : FTy → Type} [FloatOps F] [Named F]
def κ : String → Option EReal := fun
  | "q_scale" => some (((1 / 8) * (Real.log 2)⁻¹ : ℝ) : EReal)
  | _ => none
-- ==== BoundaryReferenceIdeal.lean ====
abbrev S16384x1024 : Shape := ⟨2, ![16384, 1024]⟩
abbrev S16384x512 : Shape := ⟨2, ![16384, 512]⟩
abbrev S16384x4096 : Shape := ⟨2, ![16384, 4096]⟩
abbrev S4x1024x1024 : Shape := ⟨3, ![4, 1024, 1024]⟩
abbrev S4x1024 : Shape := ⟨2, ![4, 1024]⟩
abbrev S4x1024x4096 : Shape := ⟨3, ![4, 1024, 4096]⟩
abbrev S_ : Shape := ⟨0, ![]⟩
abbrev S1x1024x1024 : Shape := ⟨3, ![1, 1024, 1024]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1024x16384 : Shape := ⟨2, ![1024, 16384]⟩
abbrev S8x128x16384 : Shape := ⟨3, ![8, 128, 16384]⟩
abbrev S8x16x16384 : Shape := ⟨3, ![8, 16, 16384]⟩
abbrev S8x144x16384 : Shape := ⟨3, ![8, 144, 16384]⟩
abbrev S1152x16384 : Shape := ⟨2, ![1152, 16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x4096, .bf16⟩
  | .hbm, ⟨4, _⟩ => ⟨S4x1024x1024, .f32⟩
  | .hbm, ⟨5, _⟩ => ⟨S4x1024, .f32⟩
  | .hbm, ⟨6, _⟩ => ⟨S4x1024x4096, .f32⟩
  | .hbm, ⟨7, _⟩ => ⟨S16384x1024, .bf16⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024x1024, .f32⟩
  | .hbm, ⟨23, _⟩ => ⟨S1024x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024x4096, .f32⟩
  | .hbm, ⟨45, _⟩ => ⟨S1024x4096, .f32⟩
  | .hbm, ⟨46, _⟩ => ⟨S16384x4096, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x4096, .f32⟩
  | .hbm, ⟨63, _⟩ => ⟨S16384x4096, .bf16⟩
  | .hbm, ⟨64, _⟩ => ⟨S16384x1024, .f32⟩
  | .hbm, ⟨65, _⟩ => ⟨S16384x1024, .bf16⟩
  | .hbm, ⟨66, _⟩ => ⟨S1024x16384, .bf16⟩
  | .hbm, ⟨67, _⟩ => ⟨S8x128x16384, .bf16⟩
  | .hbm, ⟨68, _⟩ => ⟨S_, .bf16⟩
  | .hbm, ⟨69, _⟩ => ⟨S8x16x16384, .bf16⟩
  | .hbm, ⟨70, _⟩ => ⟨S8x144x16384, .bf16⟩
  | .hbm, ⟨71, _⟩ => ⟨S1152x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Inproj.lean ====
abbrev S8x2048x1024 : Shape := ⟨3, ![8, 2048, 1024]⟩
abbrev S4x1024 : Shape := ⟨2, ![4, 1024]⟩
abbrev S4x1024x4096 : Shape := ⟨3, ![4, 1024, 4096]⟩
abbrev S4x8x15x31 : Shape := ⟨4, ![4, 8, 15, 31]⟩
abbrev S16384x1024 : Shape := ⟨2, ![16384, 1024]⟩
abbrev S4x1x1024 : Shape := ⟨3, ![4, 1, 1024]⟩
abbrev S_ : Shape := ⟨0, ![]⟩
abbrev S4x8x15x128 : Shape := ⟨4, ![4, 8, 15, 128]⟩
abbrev S32x15x128 : Shape := ⟨3, ![32, 15, 128]⟩
abbrev S16384x4096 : Shape := ⟨2, ![16384, 4096]⟩
abbrev S1152x16384 : Shape := ⟨2, ![1152, 16384]⟩
abbrev S4x4x3x704x512 : Shape := ⟨5, ![4, 4, 3, 704, 512]⟩
abbrev S512x1024 : Shape := ⟨2, ![512, 1024]⟩
abbrev S1x1x1024 : Shape := ⟨3, ![1, 1, 1024]⟩
abbrev S1x1024x4096 : Shape := ⟨3, ![1, 1024, 4096]⟩
abbrev S1x15x128 : Shape := ⟨3, ![1, 15, 128]⟩
abbrev S512x4096 : Shape := ⟨2, ![512, 4096]⟩
abbrev S1152x512 : Shape := ⟨2, ![1152, 512]⟩
abbrev S1x1x3x704x256 : Shape := ⟨5, ![1, 1, 3, 704, 256]⟩
abbrev S15x64x64 : Shape := ⟨3, ![15, 64, 64]⟩
abbrev S1x1024 : Shape := ⟨2, ![1, 1024]⟩
abbrev S512 : Shape := ⟨1, ![512]⟩
abbrev S512x1 : Shape := ⟨2, ![512, 1]⟩
abbrev S16x512 : Shape := ⟨2, ![16, 512]⟩
abbrev S1x1024x512 : Shape := ⟨3, ![1, 1024, 512]⟩
abbrev S1024x512 : Shape := ⟨2, ![1024, 512]⟩
abbrev S512x512 : Shape := ⟨2, ![512, 512]⟩
abbrev S128x512 : Shape := ⟨2, ![128, 512]⟩
abbrev S64x64 : Shape := ⟨2, ![64, 64]⟩
abbrev S8x128 : Shape := ⟨2, ![8, 128]⟩
abbrev S1x1x128 : Shape := ⟨3, ![1, 1, 128]⟩
abbrev S1x128 : Shape := ⟨2, ![1, 128]⟩
abbrev S64x128 : Shape := ⟨2, ![64, 128]⟩
abbrev S1x64x64 : Shape := ⟨3, ![1, 64, 64]⟩
abbrev S1x1x1x64x64 : Shape := ⟨5, ![1, 1, 1, 64, 64]⟩

abbrev nBuf : Space → Nat
  | .hbm => 14
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x4096, .f32⟩
  | .hbm, ⟨3, _⟩ => ⟨S4x8x15x31, .f32⟩
  | .hbm, ⟨4, _⟩ => ⟨S16384x1024, .f32⟩
  | .hbm, ⟨5, _⟩ => ⟨S4x1x1024, .f32⟩
  | .hbm, ⟨6, _⟩ => ⟨S4x8x15x31, .f32⟩
  | .hbm, ⟨7, _⟩ => ⟨S_, .i32⟩
  | .hbm, ⟨8, _⟩ => ⟨S_, .f32⟩
  | .hbm, ⟨9, _⟩ => ⟨S4x8x15x128, .f32⟩
  | .hbm, ⟨10, _⟩ => ⟨S32x15x128, .f32⟩
  | .hbm, ⟨11, _⟩ => ⟨S16384x4096, .bf16⟩
  | .hbm, ⟨12, _⟩ => ⟨S1152x16384, .bf16⟩
  | .hbm, ⟨13, _⟩ => ⟨S4x4x3x704x512, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x4096, .f32⟩
  | .local _ .vmem, ⟨4, _⟩ => ⟨S1x15x128, .f32⟩
  | .local _ .vmem, ⟨5, _⟩ => ⟨S1x15x128, .f32⟩
  | .local _ .vmem, ⟨6, _⟩ => ⟨S512x4096, .bf16⟩
  | .local _ .vmem, ⟨7, _⟩ => ⟨S512x4096, .bf16⟩
  | .local _ .vmem, ⟨8, _⟩ => ⟨S1152x512, .bf16⟩
  | .local _ .vmem, ⟨9, _⟩ => ⟨S1152x512, .bf16⟩
  | .local _ .vmem, ⟨10, _⟩ => ⟨S1x1x3x704x256, .f32⟩
  | .local _ .vmem, ⟨11, _⟩ => ⟨S1x1x3x704x256, .f32⟩
  | .local _ .vmem, ⟨12, _⟩ => ⟨S15x64x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.divsi v26 c2_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  let c0_i32_24 : BitVec 32 := 0#32
  ![v16.toNat, v43.toNat, c0_i32_22.toNat, c0_i32_23.toNat, v53.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x15x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x3x704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InprojIdeal.lean ====
variable {F : FTy → Type} [FloatOps F] [Named F]
def κ : String → Option EReal := fun
  | "q_scale" => some (((1 / 8) * (Real.log 2)⁻¹ : ℝ) : EReal)
  | _ => none
-- ==== InprojReferenceIdeal.lean ====
abbrev S8x2048x1024 : Shape := ⟨3, ![8, 2048, 1024]⟩
abbrev S4x1024 : Shape := ⟨2, ![4, 1024]⟩
abbrev S4x1024x4096 : Shape := ⟨3, ![4, 1024, 4096]⟩
abbrev S4x8x15x31 : Shape := ⟨4, ![4, 8, 15, 31]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S16384x4096 : Shape := ⟨2, ![16384, 4096]⟩
abbrev S16384x512 : Shape := ⟨2, ![16384, 512]⟩
abbrev S1024x16384 : Shape := ⟨2, ![1024, 16384]⟩
abbrev S8x128x16384 : Shape := ⟨3, ![8, 128, 16384]⟩
abbrev S8x16x16384 : Shape := ⟨3, ![8, 16, 16384]⟩
abbrev S8x144x16384 : Shape := ⟨3, ![8, 144, 16384]⟩
abbrev S1152x16384 : Shape := ⟨2, ![1152, 16384]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x4096, .f32⟩
  | .hbm, ⟨3, _⟩ => ⟨S4x8x15x31, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x4096, .f32⟩
  | .hbm, ⟨24, _⟩ => ⟨S1024x4096, .f32⟩
  | .hbm, ⟨25, _⟩ => ⟨S16384x4096, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x4096, .f32⟩
  | .hbm, ⟨42, _⟩ => ⟨S16384x4096, .bf16⟩
  | .hbm, ⟨43, _⟩ => ⟨S16384x1024, .f32⟩
  | .hbm, ⟨44, _⟩ => ⟨S16384x1024, .bf16⟩
  | .hbm, ⟨45, _⟩ => ⟨S1024x16384, .bf16⟩
  | .hbm, ⟨46, _⟩ => ⟨S8x128x16384, .bf16⟩
  | .hbm, ⟨47, _⟩ => ⟨S_, .bf16⟩
  | .hbm, ⟨48, _⟩ => ⟨S8x16x16384, .bf16⟩
  | .hbm, ⟨49, _⟩ => ⟨S8x144x16384, .bf16⟩
  | .hbm, ⟨50, _⟩ => ⟨S1152x16384, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== DiffAttn.lean ====
abbrev S8x2048x4096 : Shape := ⟨3, ![8, 2048, 4096]⟩
abbrev S4x64 : Shape := ⟨2, ![4, 64]⟩
abbrev S4x128 : Shape := ⟨2, ![4, 128]⟩
abbrev S8 : Shape := ⟨1, ![8]⟩
abbrev S16384x4096 : Shape := ⟨2, ![16384, 4096]⟩
abbrev S16384x512 : Shape := ⟨2, ![16384, 512]⟩
abbrev S16384x1024 : Shape := ⟨2, ![16384, 1024]⟩
abbrev S_ : Shape := ⟨0, ![]⟩
abbrev S1024x16384 : Shape := ⟨2, ![1024, 16384]⟩
abbrev S8x128x16384 : Shape := ⟨3, ![8, 128, 16384]⟩
abbrev S8x16x16384 : Shape := ⟨3, ![8, 16, 16384]⟩
abbrev S8x144x16384 : Shape := ⟨3, ![8, 144, 16384]⟩
abbrev S1152x16384 : Shape := ⟨2, ![1152, 16384]⟩
abbrev S1x64 : Shape := ⟨2, ![1, 64]⟩
abbrev S64 : Shape := ⟨1, ![64]⟩
abbrev S1x128 : Shape := ⟨2, ![1, 128]⟩
abbrev S128 : Shape := ⟨1, ![128]⟩
abbrev S128x1 : Shape := ⟨2, ![128, 1]⟩
abbrev S8x2048x512 : Shape := ⟨3, ![8, 2048, 512]⟩
abbrev S1x2048x128 : Shape := ⟨3, ![1, 2048, 128]⟩
abbrev S144x2048 : Shape := ⟨2, ![144, 2048]⟩
abbrev S15x256x256 : Shape := ⟨3, ![15, 256, 256]⟩
abbrev S2048x512 : Shape := ⟨2, ![2048, 512]⟩
abbrev S144x512 : Shape := ⟨2, ![144, 512]⟩
abbrev S1 : Shape := ⟨1, ![1]⟩
abbrev S256x256 : Shape := ⟨2, ![256, 256]⟩
abbrev S1x256x256 : Shape := ⟨3, ![1, 256, 256]⟩
abbrev S1x1 : Shape := ⟨2, ![1, 1]⟩
abbrev S1x256x128 : Shape := ⟨3, ![1, 256, 128]⟩
abbrev S256x128 : Shape := ⟨2, ![256, 128]⟩
abbrev S512x128 : Shape := ⟨2, ![512, 128]⟩
abbrev S2048x256 : Shape := ⟨2, ![2048, 256]⟩
abbrev S2048x128 : Shape := ⟨2, ![2048, 128]⟩
abbrev S512 : Shape := ⟨1, ![512]⟩
abbrev S1x512 : Shape := ⟨2, ![1, 512]⟩
abbrev S128x512 : Shape := ⟨2, ![128, 512]⟩
abbrev S128x256 : Shape := ⟨2, ![128, 256]⟩
abbrev S1x256 : Shape := ⟨2, ![1, 256]⟩
abbrev S256 : Shape := ⟨1, ![256]⟩

abbrev nBuf : Space → Nat
  | .hbm => 51
  | .vmem => 15
  | .smem => 1
  | _ => 0

abbrev bufTy : (tb : Table) → Fin (tcTables nBuf tb) → BufTy
  | .hbm, ⟨0, _⟩ => ⟨S8x2048x4096, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x128, .f32⟩
  | .hbm, ⟨6, _⟩ => ⟨S8, .f32⟩
  | .hbm, ⟨7, _⟩ => ⟨S16384x4096, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x4096, .f32⟩
  | .hbm, ⟨24, _⟩ => ⟨S16384x4096, .bf16⟩
  | .hbm, ⟨25, _⟩ => ⟨S16384x1024, .f32⟩
  | .hbm, ⟨26, _⟩ => ⟨S16384x1024, .bf16⟩
  | .hbm, ⟨27, _⟩ => ⟨S1024x16384, .bf16⟩
  | .hbm, ⟨28, _⟩ => ⟨S8x128x16384, .bf16⟩
  | .hbm, ⟨29, _⟩ => ⟨S_, .bf16⟩
  | .hbm, ⟨30, _⟩ => ⟨S8x16x16384, .bf16⟩
  | .hbm, ⟨31, _⟩ => ⟨S8x144x16384, .bf16⟩
  | .hbm, ⟨32, _⟩ => ⟨S1152x16384, .bf16⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S4x64, .f32⟩
  | .hbm, ⟨46, _⟩ => ⟨S8x2048x4096, .bf16⟩
  | .hbm, ⟨47, _⟩ => ⟨S1x128, .f32⟩
  | .hbm, ⟨48, _⟩ => ⟨S128, .f32⟩
  | .hbm, ⟨49, _⟩ => ⟨S128x1, .f32⟩
  | .hbm, ⟨50, _⟩ => ⟨S8x2048x512, .bf16⟩
  | .local _ .vmem, ⟨0, _⟩ => ⟨S4x64, .f32⟩
  | .local _ .vmem, ⟨1, _⟩ => ⟨S128x1, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S144x2048, .bf16⟩
  | .local _ .vmem, ⟨7, _⟩ => ⟨S144x2048, .bf16⟩
  | .local _ .vmem, ⟨8, _⟩ => ⟨S1x2048x128, .bf16⟩
  | .local _ .vmem, ⟨9, _⟩ => ⟨S1x2048x128, .bf16⟩
  | .local _ .vmem, ⟨10, _⟩ => ⟨S15x256x256, .f32⟩
  | .local _ .vmem, ⟨11, _⟩ => ⟨S2048x512, .f32⟩
  | .local _ .vmem, ⟨12, _⟩ => ⟨S2048x512, .f32⟩
  | .local _ .vmem, ⟨13, _⟩ => ⟨S144x512, .f32⟩
  | .local _ .vmem, ⟨14, _⟩ => ⟨S144x512, .f32⟩
  | .local _ .smem, ⟨0, _⟩ => ⟨S8, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 1 → Nat :=
  let arg0 : BitVec 32 := BitVec.ofNat 32 (i 0).val
  let v723 : Index := Scalar.indexCast arg0
  ![v723.toNat]
def k0_mult1 (i : grid0.Coords) : BitVec 32 :=
  let arg1 : BitVec 32 := BitVec.ofNat 32 (i 1).val
  let c0_i32_5 : BitVec 32 := 0#32
  let v25 : BitVec 32 := Scalar.minsi arg1 c0_i32_5
  v25
def k0_off2 (i : grid0.Coords) : Fin 2 → Nat :=
  let arg1 : BitVec 32 := BitVec.ofNat 32 (i 1).val
  let c0_i32_5 : BitVec 32 := 0#32
  let v25 : BitVec 32 := Scalar.minsi arg1 c0_i32_5
  let v26 : BitVec 32 := v25
  let v109 : Index := Scalar.indexCast v26
  let c0_69 : Index := 0#32
  ![v109.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S144x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DiffAttnIdeal.lean ====
variable {F : FTy → Type} [FloatOps F] [Named F]
def κ : String → Option EReal := fun
  | "log2e" => some (((Real.log 2)⁻¹ : ℝ) : EReal)
  | _ => none
-- ==== DiffAttnReferenceIdeal.lean ====
abbrev S8x2048x4096 : Shape := ⟨3, ![8, 2048, 4096]⟩
abbrev S4x64 : Shape := ⟨2, ![4, 64]⟩
abbrev S4x128 : Shape := ⟨2, ![4, 128]⟩
abbrev S4 : Shape := ⟨1, ![4]⟩
abbrev S8x2048x1536 : Shape := ⟨3, ![8, 2048, 1536]⟩
abbrev S8x2048x512 : Shape := ⟨3, ![8, 2048, 512]⟩
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S64 : Shape := ⟨1, ![64]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x4x2x2048x2048 : Shape := ⟨5, ![8, 4, 2, 2048, 2048]⟩
abbrev S1x4x1x1x1 : Shape := ⟨5, ![1, 4, 1, 1, 1]⟩
abbrev S1x1x1x2048x2048 : Shape := ⟨5, ![1, 1, 1, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x128, .f32⟩
  | .hbm, ⟨6, _⟩ => ⟨S4, .f32⟩
  | .hbm, ⟨7, _⟩ => ⟨S8x2048x1536, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S8x2048x4x2x64, .f32⟩
  | .hbm, ⟨12, _⟩ => ⟨S8x2048x4x2x64, .f32⟩
  | .hbm, ⟨13, _⟩ => ⟨S8x2048x4x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048, .i32⟩
  | .hbm, ⟨34, _⟩ => ⟨S2048x1, .i32⟩
  | .hbm, ⟨35, _⟩ => ⟨S1x2048, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S2048x2048, .i32⟩
  | .hbm, ⟨40, _⟩ => ⟨S2048x2048, .f32⟩
  | .hbm, ⟨41, _⟩ => ⟨S8x4x2x2048x2048, .f32⟩
  | .hbm, ⟨42, _⟩ => ⟨S_, .f32⟩
  | .hbm, ⟨43, _⟩ => ⟨S8x4x2x2048x2048, .f32⟩
  | .hbm, ⟨44, _⟩ => ⟨S8x4x2x2048x2048, .f32⟩
  | .hbm, ⟨45, _⟩ => ⟨S1x4x1x1x1, .f32⟩
  | .hbm, ⟨46, _⟩ => ⟨S1x1x1x2048x2048, .f32⟩
  | .hbm, ⟨47, _⟩ => ⟨S1x4x1x2048x2048, .f32⟩
  | .hbm, ⟨48, _⟩ => ⟨S1x4x1x2048x2048, .f32⟩
  | .hbm, ⟨49, _⟩ => ⟨S1x4x1x2048x2048, .f32⟩
  | .hbm, ⟨50, _⟩ => ⟨S8x4x2x2048x2048, .f32⟩
  | .hbm, ⟨51, _⟩ => ⟨S8x4x2x2048x2048, .f32⟩
  | .hbm, ⟨52, _⟩ => ⟨S_, .f32⟩
  | .hbm, ⟨53, _⟩ => ⟨S8x4x2x2048, .f32⟩
  | .hbm, ⟨54, _⟩ => ⟨S_, .f32⟩
  | .hbm, ⟨55, _⟩ => ⟨S8x4x2x2048, .f32⟩
  | .hbm, ⟨56, _⟩ => ⟨S8x4x2x2048, .f32⟩
  | .hbm, ⟨57, _⟩ => ⟨S8x4x2x2048x1, .f32⟩
  | .hbm, ⟨58, _⟩ => ⟨S8x4x2x2048x2048, .f32⟩
  | .hbm, ⟨59, _⟩ => ⟨S8x4x2x2048x2048, .f32⟩
  | .hbm, ⟨60, _⟩ => ⟨S8x4x2x2048x2048, .f32⟩
  | .hbm, ⟨61, _⟩ => ⟨S_, .f32⟩
  | .hbm, ⟨62, _⟩ => ⟨S8x4x2x2048, .f32⟩
  | .hbm, ⟨63, _⟩ => ⟨S8x4x2x2048x1, .f32⟩
  | .hbm, ⟨64, _⟩ => ⟨S8x4x2x2048x2048, .f32⟩
  | .hbm, ⟨65, _⟩ => ⟨S8x4x2x2048x2048, .f32⟩
  | .hbm, ⟨66, _⟩ => ⟨S8x4x1x2048x2048, .f32⟩
  | .hbm, ⟨67, _⟩ => ⟨S8x4x2048x2048, .f32⟩
  | .hbm, ⟨68, _⟩ => ⟨S8x4x1x2048x2048, .f32⟩
  | .hbm, ⟨69, _⟩ => ⟨S8x4x2048x2048, .f32⟩
  | .hbm, ⟨70, _⟩ => ⟨S8x4x2048x2048, .f32⟩
  | .hbm, ⟨71, _⟩ => ⟨S8x4x2048x2048, .f32⟩
  | .hbm, ⟨72, _⟩ => ⟨S8x4x2048x2048, .f32⟩
  | .hbm, ⟨73, _⟩ => ⟨S8x4x128x2048, .f32⟩
  | .hbm, ⟨74, _⟩ => ⟨S8x2048x4x128, .f32⟩
  | .hbm, ⟨75, _⟩ => ⟨S8x2048x4x128, .f32⟩
  | .hbm, ⟨76, _⟩ => ⟨S_, .f32⟩
  | .hbm, ⟨77, _⟩ => ⟨S8x2048x4, .f32⟩
  | .hbm, ⟨78, _⟩ => ⟨S8x2048x4x1, .f32⟩
  | .hbm, ⟨79, _⟩ => ⟨S_, .f32⟩
  | .hbm, ⟨80, _⟩ => ⟨S8x2048x4x1, .f32⟩
  | .hbm, ⟨81, _⟩ => ⟨S8x2048x4x1, .f32⟩
  | .hbm, ⟨82, _⟩ => ⟨S_, .f32⟩
  | .hbm, ⟨83, _⟩ => ⟨S8x2048x4x1, .f32⟩
  | .hbm, ⟨84, _⟩ => ⟨S8x2048x4x1, .f32⟩
  | .hbm, ⟨85, _⟩ => ⟨S8x2048x4x1, .f32⟩
  | .hbm, ⟨86, _⟩ => ⟨S8x2048x4x128, .f32⟩
  | .hbm, ⟨87, _⟩ => ⟨S8x2048x4x128, .f32⟩
  | .hbm, ⟨88, _⟩ => ⟨S1x128, .f32⟩
  | .hbm, ⟨89, _⟩ => ⟨S128, .f32⟩
  | .hbm, ⟨90, _⟩ => ⟨S1x1x1x128, .f32⟩
  | .hbm, ⟨91, _⟩ => ⟨S8x2048x4x128, .f32⟩
  | .hbm, ⟨92, _⟩ => ⟨S8x2048x4x128, .f32⟩
  | .hbm, ⟨93, _⟩ => ⟨S_, .f32⟩
  | .hbm, ⟨94, _⟩ => ⟨S8x2048x4x128, .f32⟩
  | .hbm, ⟨95, _⟩ => ⟨S8x2048x4x128, .f32⟩
  | .hbm, ⟨96, _⟩ => ⟨S8x2048x512, .f32⟩
  | .hbm, ⟨97, _⟩ => ⟨S8x2048x512, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Proof.Names.lean ====
/-
  The names of the kernel's pieces.

  The kernel keeps its six arrays in HBM and streams four of them (the residual rows `x`, the two attention
  outputs `o` and `n`, the gate columns `z`) through three VMEM slots each, block by block of 1024 rows; the
  result goes back through two slots. This module names those slots, their semaphores and the blocks of the
  arrays, says what each word of the loop is before trip `k` (the issue counters `wI`, the wait counters `wW`,
  the output wait counter `wP`, the grid index `wG`), and proves that the offsets and conditions the kernel
  computes from these words are the named slots and blocks.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring.Trips
public import Idealize.ShloMosaic.Lib.Affine
public import Idealize.ShloMosaic.Lib.Tactic

@[expose] public section

set_option maxRecDepth 16384

noncomputable section

namespace Cert.Proof.OutProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The arrays and the scratch, whole -/

abbrev xM : Memref sig .tc .hbm S16384x1024 .f32 := Memref.whole main_arg0
abbrev oM : Memref sig .tc .hbm S16384x512 .bf16 := Memref.whole main_arg1
abbrev nM : Memref sig .tc .hbm S16384x512 .bf16 := Memref.whole main_arg2
abbrev zM : Memref sig .tc .hbm S16384x4096 .bf16 := Memref.whole main_arg3
abbrev yM : Memref sig .tc .hbm S16384x1024 .f32 := Memref.whole main_v1
abbrev wM : Memref sig .tc .hbm S4x1024x1024 .f32 := Memref.whole main_arg4
abbrev gM : Memref sig .tc .hbm S1x1024 .f32 := Memref.whole main_v0
abbrev xB : Memref sig .tc .vmem S3x1024x1024 .f32 := Memref.whole cc0_scoped0
abbrev oB : Memref sig .tc .vmem S3x1024x512 .bf16 := Memref.whole cc0_scoped2
abbrev nB : Memref sig .tc .vmem S3x1024x512 .bf16 := Memref.whole cc0_scoped4
abbrev zB : Memref sig .tc .vmem S3x1024x1024 .bf16 := Memref.whole cc0_scoped6
abbrev yB : Memref sig .tc .vmem S2x1024x1024 .f32 := Memref.whole cc0_scoped10
abbrev wB : Memref sig .tc .vmem S1024x1024 .f32 := Memref.whole cc0_scoped8
abbrev gB : Memref sig .tc .vmem S1x1024 .f32 := Memref.whole cc0_scoped9

/-! ## Offsets: block `b` of an array, slot `s` of a buffer, the semaphore of slot `s` -/

abbrev rowOff (b : Fin 16) : Fin 2 → Nat := ![1024 * b.val, 0]
abbrev gateOff (b : Fin 16) : Fin 2 → Nat := ![1024 * b.val, 3072]
abbrev slotOff {n : ℕ} (s : Fin n) : Fin 3 → Nat := ![s.val, 0, 0]
abbrev semOff {n : ℕ} (s : Fin n) : Fin 1 → Nat := ![s.val]

theorem row_inb : ∀ (i : Fin 16) (a), rowOff i a + S1024x1024.size a ≤ S16384x1024.size a := by decide +kernel
theorem half_inb : ∀ (i : Fin 16) (a), rowOff i a + S1024x512.size a ≤ S16384x512.size a := by decide +kernel
theorem gate_inb : ∀ (i : Fin 16) (a), gateOff i a + S1024x1024.size a ≤ S16384x4096.size a := by decide +kernel
theorem slot3_inb : ∀ (i : Fin 3) (a), slotOff i a + S1x1024x1024.size a ≤ S3x1024x1024.size a := by decide +kernel
theorem slot3h_inb : ∀ (i : Fin 3) (a), slotOff i a + S1x1024x512.size a ≤ S3x1024x512.size a := by decide +kernel
theorem slot2_inb : ∀ (i : Fin 2) (a), slotOff i a + S1x1024x1024.size a ≤ S2x1024x1024.size a := by decide +kernel
theorem sem3_inb : ∀ (i : Fin 3) (a), semOff i a + S1.size a ≤ S3.size a := by decide +kernel
theorem sem2_inb : ∀ (i : Fin 2) (a), semOff i a + S1.size a ≤ S2.size a := by decide +kernel

/-! ## The named pieces -/

/-- Block `b` of the residual rows; -/
def xG (b : Fin 16) : Memref sig .tc .hbm S1024x1024 .f32 :=
  xM.slice (Rect.unit (s := S16384x1024) (rowOff b) S1024x1024.size (row_inb b)) (fun _ => rfl)
/-- slot `s` of its buffer; -/
def xS (s : Fin 3) : Memref sig .tc .vmem S1024x1024 .f32 :=
  (xB.slice (Rect.unit (s := S3x1024x1024) (slotOff s) S1x1024x1024.size (slot3_inb s)) (fun _ => rfl)).squeeze S1024x1024 squeezes_S1x1024x1024_S1024x1024
/-- the slot's semaphore. -/
def xC (s : Fin 3) : DmaSems sig S_ :=
  (cc0_scoped1.slice (Rect.unit (s := S3) (semOff s) S1.size (sem3_inb s))).squeeze S_ squeezes_S1_S_
/-- Block `b` of the first attention output; -/
def oG (b : Fin 16) : Memref sig .tc .hbm S1024x512 .bf16 :=
  oM.slice (Rect.unit (s := S16384x512) (rowOff b) S1024x512.size (half_inb b)) (fun _ => rfl)
/-- slot `s` of its buffer; -/
def oS (s : Fin 3) : Memref sig .tc .vmem S1024x512 .bf16 :=
  (oB.slice (Rect.unit (s := S3x1024x512) (slotOff s) S1x1024x512.size (slot3h_inb s)) (fun _ => rfl)).squeeze S1024x512 squeezes_S1x1024x512_S1024x512
/-- the slot's semaphore. -/
def oC (s : Fin 3) : DmaSems sig S_ :=
  (cc0_scoped3.slice (Rect.unit (s := S3) (semOff s) S1.size (sem3_inb s))).squeeze S_ squeezes_S1_S_
/-- Block `b` of the second attention output; -/
def nG (b : Fin 16) : Memref sig .tc .hbm S1024x512 .bf16 :=
  nM.slice (Rect.unit (s := S16384x512) (rowOff b) S1024x512.size (half_inb b)) (fun _ => rfl)
/-- slot `s` of its buffer; -/
def nS (s : Fin 3) : Memref sig .tc .vmem S1024x512 .bf16 :=
  (nB.slice (Rect.unit (s := S3x1024x512) (slotOff s) S1x1024x512.size (slot3h_inb s)) (fun _ => rfl)).squeeze S1024x512 squeezes_S1x1024x512_S1024x512
/-- the slot's semaphore. -/
def nC (s : Fin 3) : DmaSems sig S_ :=
  (cc0_scoped5.slice (Rect.unit (s := S3) (semOff s) S1.size (sem3_inb s))).squeeze S_ squeezes_S1_S_
/-- Block `b` of the gate columns; -/
def zG (b : Fin 16) : Memref sig .tc .hbm S1024x1024 .bf16 :=
  zM.slice (Rect.unit (s := S16384x4096) (gateOff b) S1024x1024.size (gate_inb b)) (fun _ => rfl)
/-- slot `s` of its buffer; -/
def zS (s : Fin 3) : Memref sig .tc .vmem S1024x1024 .bf16 :=
  (zB.slice (Rect.unit (s := S3x1024x1024) (slotOff s) S1x1024x1024.size (slot3_inb s)) (fun _ => rfl)).squeeze S1024x1024 squeezes_S1x1024x1024_S1024x1024
/-- the slot's semaphore. -/
def zC (s : Fin 3) : DmaSems sig S_ :=
  (cc0_scoped7.slice (Rect.unit (s := S3) (semOff s) S1.size (sem3_inb s))).squeeze S_ squeezes_S1_S_
/-- Block `b` of the result; -/
def yG (b : Fin 16) : Memref sig .tc .hbm S1024x1024 .f32 :=
  yM.slice (Rect.unit (s := S16384x1024) (rowOff b) S1024x1024.size (row_inb b)) (fun _ => rfl)
/-- slot `s` of its buffer; -/
def yS (s : Fin 2) : Memref sig .tc .vmem S1024x1024 .f32 :=
  (yB.slice (Rect.unit (s := S2x1024x1024) (slotOff s) S1x1024x1024.size (slot2_inb s)) (fun _ => rfl)).squeeze S1024x1024 squeezes_S1x1024x1024_S1024x1024
/-- the slot's semaphore. -/
def yC (s : Fin 2) : DmaSems sig S_ :=
  (cc0_scoped11.slice (Rect.unit (s := S2) (semOff s) S1.size (sem2_inb s))).squeeze S_ squeezes_S1_S_

instance {n : ℕ} (s : Fin n) : ClosedOff (slotOff s) := ⟨slotOff s, rfl⟩
instance (b : Fin 16) : ClosedOff (rowOff b) := ⟨rowOff b, rfl⟩
instance (b : Fin 16) : ClosedOff (gateOff b) := ⟨gateOff b, rfl⟩

/-! ## The words the loop carries before trip `k` -/

/-- how many blocks of an input have been issued; -/
def wI (k : ℕ) : BitVec 32 := BitVec.ofNat 32 (min (k + 2) 16)
/-- how many have been waited for, and how many result blocks have been sent; -/
def wW (k : ℕ) : BitVec 32 := BitVec.ofNat 32 k
/-- how many result blocks have been waited for; -/
def wP (k : ℕ) : BitVec 32 := BitVec.ofNat 32 (k - 1)
/-- the weights' and the gain's counters; -/
def wC (k : ℕ) : BitVec 32 := BitVec.ofNat 32 (k / 16)
/-- the grid index, which is back at zero after the last trip. -/
def wG (k : ℕ) : BitVec 32 := BitVec.ofNat 32 (k % 16)
/-- All thirteen words before trip `k`. -/
abbrev words (k : ℕ) : BitVec 32 × BitVec 32 × BitVec 32 × BitVec 32 × BitVec 32 × BitVec 32 × BitVec 32 × BitVec 32 × BitVec 32 × BitVec 32 × BitVec 32 × BitVec 32 × BitVec 32 :=
  (wI k, wW k, wI k, wW k, wI k, wW k, wI k, wW k, wC k, wC k, wW k, wP k, wG k)

theorem trips_eq : k0_t1_loop.trips = 16 := by decide
/-- A fact of the sixteen trips, decided trip by trip. -/
theorem of_trips {P : (k : Fin k0_t1_loop.trips) → Prop} (h : ∀ k : Fin 16, P (k.cast trips_eq.symm)) (k : Fin k0_t1_loop.trips) : P k :=
  h (k.cast trips_eq)

/-! ### Conditions -/

theorem cond5_on (k : Fin k0_t1_loop.trips) : k.val < 14 → k0_cond5 k (wG k.val) = 1#1 := of_trips (P := fun k => k.val < 14 → k0_cond5 k (wG k.val) = 1#1) (by decide +kernel) k
theorem cond5_off (k : Fin k0_t1_loop.trips) : ¬ k.val < 14 → ¬ k0_cond5 k (wG k.val) = 1#1 := of_trips (P := fun k => ¬ k.val < 14 → ¬ k0_cond5 k (wG k.val) = 1#1) (by decide +kernel) k
theorem cond6_on (k : Fin k0_t1_loop.trips) : k.val < 14 → k0_cond6 k (wG k.val) = 1#1 := of_trips (P := fun k => k.val < 14 → k0_cond6 k (wG k.val) = 1#1) (by decide +kernel) k
theorem cond6_off (k : Fin k0_t1_loop.trips) : ¬ k.val < 14 → ¬ k0_cond6 k (wG k.val) = 1#1 := of_trips (P := fun k => ¬ k.val < 14 → ¬ k0_cond6 k (wG k.val) = 1#1) (by decide +kernel) k
theorem cond7_on (k : Fin k0_t1_loop.trips) : k.val < 14 → k0_cond7 k (wG k.val) = 1#1 := of_trips (P := fun k => k.val < 14 → k0_cond7 k (wG k.val) = 1#1) (by decide +kernel) k
theorem cond7_off (k : Fin k0_t1_loop.trips) : ¬ k.val < 14 → ¬ k0_cond7 k (wG k.val) = 1#1 := of_trips (P := fun k => ¬ k.val < 14 → ¬ k0_cond7 k (wG k.val) = 1#1) (by decide +kernel) k
theorem cond8_on (k : Fin k0_t1_loop.trips) : k.val < 14 → k0_cond8 k (wG k.val) = 1#1 := of_trips (P := fun k => k.val < 14 → k0_cond8 k (wG k.val) = 1#1) (by decide +kernel) k
theorem cond8_off (k : Fin k0_t1_loop.trips) : ¬ k.val < 14 → ¬ k0_cond8 k (wG k.val) = 1#1 := of_trips (P := fun k => ¬ k.val < 14 → ¬ k0_cond8 k (wG k.val) = 1#1) (by decide +kernel) k
theorem cond9_on (k : Fin k0_t1_loop.trips) : k0_cond9 k (wG k.val) = 1#1 := of_trips (P := fun k => k0_cond9 k (wG k.val) = 1#1) (by decide +kernel) k
theorem cond10_on (k : Fin k0_t1_loop.trips) : k0_cond10 k (wG k.val) = 1#1 := of_trips (P := fun k => k0_cond10 k (wG k.val) = 1#1) (by decide +kernel) k
theorem cond11_on (k : Fin k0_t1_loop.trips) : k0_cond11 k (wG k.val) = 1#1 := of_trips (P := fun k => k0_cond11 k (wG k.val) = 1#1) (by decide +kernel) k
theorem cond12_on (k : Fin k0_t1_loop.trips) : k0_cond12 k (wG k.val) = 1#1 := of_trips (P := fun k => k0_cond12 k (wG k.val) = 1#1) (by decide +kernel) k
theorem cond18_on (k : Fin k0_t1_loop.trips) : k0_cond18 k (wG k.val) = 1#1 := of_trips (P := fun k => k0_cond18 k (wG k.val) = 1#1) (by decide +kernel) k
theorem cond23_on (k : Fin k0_t1_loop.trips) : 1 ≤ k.val → k0_cond23 k (wG k.val) = 1#1 := of_trips (P := fun k => 1 ≤ k.val → k0_cond23 k (wG k.val) = 1#1) (by decide +kernel) k
theorem cond23_off (k : Fin k0_t1_loop.trips) : ¬ 1 ≤ k.val → ¬ k0_cond23 k (wG k.val) = 1#1 := of_trips (P := fun k => ¬ 1 ≤ k.val → ¬ k0_cond23 k (wG k.val) = 1#1) (by decide +kernel) k
theorem cond1_on : k0_cond1 = 1#1 := by decide +kernel
theorem cond2_on : k0_cond2 = 1#1 := by decide +kernel
theorem cond3_on : k0_cond3 = 1#1 := by decide +kernel
theorem cond4_on : k0_cond4 = 1#1 := by decide +kernel

/-! ### The checks the kernel makes of its words -/

theorem chk2_ok (k : Fin k0_t1_loop.trips) : k0_chk2 (wW k.val) := of_trips (P := fun k => k0_chk2 (wW k.val)) (by decide +kernel) k
theorem chk3_ok (k : Fin k0_t1_loop.trips) : k0_chk3 (wW k.val) := of_trips (P := fun k => k0_chk3 (wW k.val)) (by decide +kernel) k
theorem chk4_ok (k : Fin k0_t1_loop.trips) : k0_chk4 (wW k.val) := of_trips (P := fun k => k0_chk4 (wW k.val)) (by decide +kernel) k
theorem chk5_ok (k : Fin k0_t1_loop.trips) : k0_chk5 (wW k.val) := of_trips (P := fun k => k0_chk5 (wW k.val)) (by decide +kernel) k
theorem chk6_ok (k : Fin k0_t1_loop.trips) : k0_chk6 (wW k.val) := of_trips (P := fun k => k0_chk6 (wW k.val)) (by decide +kernel) k
theorem chk1_ok (k : Fin k0_t1_loop.trips) :
    k0_chk1 k (wI k.val) (wW k.val) (wI k.val) (wW k.val) (wI k.val) (wW k.val) (wI k.val) (wW k.val) (wW k.val) (wP k.val) (wG k.val) :=
  of_trips (P := fun k => k0_chk1 k (wI k.val) (wW k.val) (wI k.val) (wW k.val) (wI k.val) (wW k.val) (wI k.val) (wW k.val) (wW k.val) (wP k.val) (wG k.val)) (by decide +kernel) k
theorem chk8_ok : k0_chk8 (wG k0_t1_loop.trips) := by decide +kernel
theorem chk7_ok : k0_chk7 (wP k0_t1_loop.trips) := by decide +kernel

/-! ### Offsets -/

theorem off16_eq (k : Fin k0_t1_loop.trips) : k.val < 14 → k0_off16 (wI k.val) = semOff (Ring.sl 3 (k.val + 2)) := of_trips (P := fun k => k.val < 14 → k0_off16 (wI k.val) = semOff (Ring.sl 3 (k.val + 2))) (by decide +kernel) k
theorem off17_eq (k : Fin k0_t1_loop.trips) : k.val < 14 → k0_off17 (wI k.val) = slotOff (Ring.sl 3 (k.val + 2)) := of_trips (P := fun k => k.val < 14 → k0_off17 (wI k.val) = slotOff (Ring.sl 3 (k.val + 2))) (by decide +kernel) k
theorem off18_eq (k : Fin k0_t1_loop.trips) : k.val < 14 → k0_off18 (wG k.val) = rowOff (Ring.bk 16 (k.val + 2)) := of_trips (P := fun k => k.val < 14 → k0_off18 (wG k.val) = rowOff (Ring.bk 16 (k.val + 2))) (by decide +kernel) k
theorem off19_eq (k : Fin k0_t1_loop.trips) : k.val < 14 → k0_off19 (wI k.val) = semOff (Ring.sl 3 (k.val + 2)) := of_trips (P := fun k => k.val < 14 → k0_off19 (wI k.val) = semOff (Ring.sl 3 (k.val + 2))) (by decide +kernel) k
theorem off20_eq (k : Fin k0_t1_loop.trips) : k.val < 14 → k0_off20 (wI k.val) = slotOff (Ring.sl 3 (k.val + 2)) := of_trips (P := fun k => k.val < 14 → k0_off20 (wI k.val) = slotOff (Ring.sl 3 (k.val + 2))) (by decide +kernel) k
theorem off21_eq (k : Fin k0_t1_loop.trips) : k.val < 14 → k0_off21 (wG k.val) = rowOff (Ring.bk 16 (k.val + 2)) := of_trips (P := fun k => k.val < 14 → k0_off21 (wG k.val) = rowOff (Ring.bk 16 (k.val + 2))) (by decide +kernel) k
theorem off22_eq (k : Fin k0_t1_loop.trips) : k.val < 14 → k0_off22 (wI k.val) = semOff (Ring.sl 3 (k.val + 2)) := of_trips (P := fun k => k.val < 14 → k0_off22 (wI k.val) = semOff (Ring.sl 3 (k.val + 2))) (by decide +kernel) k
theorem off23_eq (k : Fin k0_t1_loop.trips) : k.val < 14 → k0_off23 (wI k.val) = slotOff (Ring.sl 3 (k.val + 2)) := of_trips (P := fun k => k.val < 14 → k0_off23 (wI k.val) = slotOff (Ring.sl 3 (k.val + 2))) (by decide +kernel) k
theorem off24_eq (k : Fin k0_t1_loop.trips) : k.val < 14 → k0_off24 (wG k.val) = rowOff (Ring.bk 16 (k.val + 2)) := of_trips (P := fun k => k.val < 14 → k0_off24 (wG k.val) = rowOff (Ring.bk 16 (k.val + 2))) (by decide +kernel) k
theorem off25_eq (k : Fin k0_t1_loop.trips) : k.val < 14 → k0_off25 (wI k.val) = semOff (Ring.sl 3 (k.val + 2)) := of_trips (P := fun k => k.val < 14 → k0_off25 (wI k.val) = semOff (Ring.sl 3 (k.val + 2))) (by decide +kernel) k
theorem off26_eq (k : Fin k0_t1_loop.trips) : k.val < 14 → k0_off26 (wI k.val) = slotOff (Ring.sl 3 (k.val + 2)) := of_trips (P := fun k => k.val < 14 → k0_off26 (wI k.val) = slotOff (Ring.sl 3 (k.val + 2))) (by decide +kernel) k
theorem off27_eq (k : Fin k0_t1_loop.trips) : k.val < 14 → k0_off27 (wG k.val) = gateOff (Ring.bk 16 (k.val + 2)) := of_trips (P := fun k => k.val < 14 → k0_off27 (wG k.val) = gateOff (Ring.bk 16 (k.val + 2))) (by decide +kernel) k
theorem off28_eq (k : Fin k0_t1_loop.trips) : k0_off28 (wW k.val) = semOff (Ring.sl 3 k.val) := of_trips (P := fun k => k0_off28 (wW k.val) = semOff (Ring.sl 3 k.val)) (by decide +kernel) k
theorem off29_eq (k : Fin k0_t1_loop.trips) : k0_off29 (wW k.val) = slotOff (Ring.sl 3 k.val) := of_trips (P := fun k => k0_off29 (wW k.val) = slotOff (Ring.sl 3 k.val)) (by decide +kernel) k
theorem off30_eq (k : Fin k0_t1_loop.trips) : k0_off30 (wG k.val) = rowOff (Ring.bk 16 k.val) := of_trips (P := fun k => k0_off30 (wG k.val) = rowOff (Ring.bk 16 k.val)) (by decide +kernel) k
theorem off31_eq (k : Fin k0_t1_loop.trips) : k0_off31 (wW k.val) = semOff (Ring.sl 3 k.val) := of_trips (P := fun k => k0_off31 (wW k.val) = semOff (Ring.sl 3 k.val)) (by decide +kernel) k
theorem off32_eq (k : Fin k0_t1_loop.trips) : k0_off32 (wW k.val) = slotOff (Ring.sl 3 k.val) := of_trips (P := fun k => k0_off32 (wW k.val) = slotOff (Ring.sl 3 k.val)) (by decide +kernel) k
theorem off33_eq (k : Fin k0_t1_loop.trips) : k0_off33 (wG k.val) = rowOff (Ring.bk 16 k.val) := of_trips (P := fun k => k0_off33 (wG k.val) = rowOff (Ring.bk 16 k.val)) (by decide +kernel) k
theorem off34_eq (k : Fin k0_t1_loop.trips) : k0_off34 (wW k.val) = semOff (Ring.sl 3 k.val) := of_trips (P := fun k => k0_off34 (wW k.val) = semOff (Ring.sl 3 k.val)) (by decide +kernel) k
theorem off35_eq (k : Fin k0_t1_loop.trips) : k0_off35 (wW k.val) = slotOff (Ring.sl 3 k.val) := of_trips (P := fun k => k0_off35 (wW k.val) = slotOff (Ring.sl 3 k.val)) (by decide +kernel) k
theorem off36_eq (k : Fin k0_t1_loop.trips) : k0_off36 (wG k.val) = rowOff (Ring.bk 16 k.val) := of_trips (P := fun k => k0_off36 (wG k.val) = rowOff (Ring.bk 16 k.val)) (by decide +kernel) k
theorem off37_eq (k : Fin k0_t1_loop.trips) : k0_off37 (wW k.val) = semOff (Ring.sl 3 k.val) := of_trips (P := fun k => k0_off37 (wW k.val) = semOff (Ring.sl 3 k.val)) (by decide +kernel) k
theorem off38_eq (k : Fin k0_t1_loop.trips) : k0_off38 (wW k.val) = slotOff (Ring.sl 3 k.val) := of_trips (P := fun k => k0_off38 (wW k.val) = slotOff (Ring.sl 3 k.val)) (by decide +kernel) k
theorem off39_eq (k : Fin k0_t1_loop.trips) : k0_off39 (wG k.val) = gateOff (Ring.bk 16 k.val) := of_trips (P := fun k => k0_off39 (wG k.val) = gateOff (Ring.bk 16 k.val)) (by decide +kernel) k
theorem off40_eq (k : Fin k0_t1_loop.trips) : k0_off40 (wW k.val) = slotOff (Ring.sl 3 k.val) := of_trips (P := fun k => k0_off40 (wW k.val) = slotOff (Ring.sl 3 k.val)) (by decide +kernel) k
theorem off41_eq (k : Fin k0_t1_loop.trips) : k0_off41 (wW k.val) = slotOff (Ring.sl 3 k.val) := of_trips (P := fun k => k0_off41 (wW k.val) = slotOff (Ring.sl 3 k.val)) (by decide +kernel) k
theorem off42_eq (k : Fin k0_t1_loop.trips) : k0_off42 (wW k.val) = slotOff (Ring.sl 3 k.val) := of_trips (P := fun k => k0_off42 (wW k.val) = slotOff (Ring.sl 3 k.val)) (by decide +kernel) k
theorem off43_eq (k : Fin k0_t1_loop.trips) : k0_off43 (wW k.val) = slotOff (Ring.sl 3 k.val) := of_trips (P := fun k => k0_off43 (wW k.val) = slotOff (Ring.sl 3 k.val)) (by decide +kernel) k
theorem off44_eq (k : Fin k0_t1_loop.trips) : k0_off44 (wW k.val) = slotOff (Ring.sl 2 k.val) := of_trips (P := fun k => k0_off44 (wW k.val) = slotOff (Ring.sl 2 k.val)) (by decide +kernel) k
theorem off45_eq (k : Fin k0_t1_loop.trips) : k0_off45 (wW k.val) = semOff (Ring.sl 2 k.val) := of_trips (P := fun k => k0_off45 (wW k.val) = semOff (Ring.sl 2 k.val)) (by decide +kernel) k
theorem off46_eq (k : Fin k0_t1_loop.trips) : k0_off46 (wG k.val) = rowOff (Ring.bk 16 k.val) := of_trips (P := fun k => k0_off46 (wG k.val) = rowOff (Ring.bk 16 k.val)) (by decide +kernel) k
theorem off47_eq (k : Fin k0_t1_loop.trips) : k0_off47 (wW k.val) = slotOff (Ring.sl 2 k.val) := of_trips (P := fun k => k0_off47 (wW k.val) = slotOff (Ring.sl 2 k.val)) (by decide +kernel) k
theorem off48_eq (k : Fin k0_t1_loop.trips) : 1 ≤ k.val → k0_off48 (wP k.val) = semOff (Ring.sl 2 (k.val - 1)) := of_trips (P := fun k => 1 ≤ k.val → k0_off48 (wP k.val) = semOff (Ring.sl 2 (k.val - 1))) (by decide +kernel) k
theorem off49_eq (k : Fin k0_t1_loop.trips) : 1 ≤ k.val → k0_off49 (wG k.val) = rowOff (Ring.bk 16 (k.val - 1)) := of_trips (P := fun k => 1 ≤ k.val → k0_off49 (wG k.val) = rowOff (Ring.bk 16 (k.val - 1))) (by decide +kernel) k
theorem off50_eq (k : Fin k0_t1_loop.trips) : 1 ≤ k.val → k0_off50 (wP k.val) = slotOff (Ring.sl 2 (k.val - 1)) := of_trips (P := fun k => 1 ≤ k.val → k0_off50 (wP k.val) = slotOff (Ring.sl 2 (k.val - 1))) (by decide +kernel) k

/-- The loads' windows are the slots of trip `k`. -/
instance (k : Fin k0_t1_loop.trips) : ClosedOff (k0_off40 (wW k.val)) := ⟨slotOff (Ring.sl 3 k.val), off40_eq k⟩
instance (k : Fin k0_t1_loop.trips) : ClosedOff (k0_off41 (wW k.val)) := ⟨slotOff (Ring.sl 3 k.val), off41_eq k⟩
instance (k : Fin k0_t1_loop.trips) : ClosedOff (k0_off42 (wW k.val)) := ⟨slotOff (Ring.sl 3 k.val), off42_eq k⟩
instance (k : Fin k0_t1_loop.trips) : ClosedOff (k0_off43 (wW k.val)) := ⟨slotOff (Ring.sl 3 k.val), off43_eq k⟩
instance (k : Fin k0_t1_loop.trips) : ClosedOff (k0_off44 (wW k.val)) := ⟨slotOff (Ring.sl 2 k.val), off44_eq k⟩

/-! ## The kernel's slices are the named pieces -/

private theorem xC_congr {off : Fin 1 → Nat} {s : Fin 3} (e : off = semOff s) (hh) :
    (cc0_scoped1.slice (Rect.unit (s := S3) off S1.size hh)).squeeze S_ squeezes_S1_S_ = xC s :=
  congrArg (fun A : DmaSems sig S1 => A.squeeze S_ squeezes_S1_S_) (SemArray.slice_unit_congr _ e _ _)
private theorem xS_congr {off : Fin 3 → Nat} {s : Fin 3} (e : off = slotOff s) (hh hs) :
    (xB.slice (Rect.unit (s := S3x1024x1024) off S1x1024x1024.size hh) hs).squeeze S1024x1024 squeezes_S1x1024x1024_S1024x1024 = xS s :=
  congrArg (fun M : Memref sig .tc .vmem S1x1024x1024 .f32 => M.squeeze S1024x1024 squeezes_S1x1024x1024_S1024x1024) (Memref.slice_unit_congr _ e _ _ _ _)
private theorem xG_congr {off : Fin 2 → Nat} {b : Fin 16} (e : off = rowOff b) (hh hs) :
    xM.slice (Rect.unit (s := S16384x1024) off S1024x1024.size hh) hs = xG b :=
  Memref.slice_unit_congr _ e _ _ _ (fun _ => rfl)
private theorem oC_congr {off : Fin 1 → Nat} {s : Fin 3} (e : off = semOff s) (hh) :
    (cc0_scoped3.slice (Rect.unit (s := S3) off S1.size hh)).squeeze S_ squeezes_S1_S_ = oC s :=
  congrArg (fun A : DmaSems sig S1 => A.squeeze S_ squeezes_S1_S_) (SemArray.slice_unit_congr _ e _ _)
private theorem oS_congr {off : Fin 3 → Nat} {s : Fin 3} (e : off = slotOff s) (hh hs) :
    (oB.slice (Rect.unit (s := S3x1024x512) off S1x1024x512.size hh) hs).squeeze S1024x512 squeezes_S1x1024x512_S1024x512 = oS s :=
  congrArg (fun M : Memref sig .tc .vmem S1x1024x512 .bf16 => M.squeeze S1024x512 squeezes_S1x1024x512_S1024x512) (Memref.slice_unit_congr _ e _ _ _ _)
private theorem oG_congr {off : Fin 2 → Nat} {b : Fin 16} (e : off = rowOff b) (hh hs) :
    oM.slice (Rect.unit (s := S16384x512) off S1024x512.size hh) hs = oG b :=
  Memref.slice_unit_congr _ e _ _ _ (fun _ => rfl)
private theorem nC_congr {off : Fin 1 → Nat} {s : Fin 3} (e : off = semOff s) (hh) :
    (cc0_scoped5.slice (Rect.unit (s := S3) off S1.size hh)).squeeze S_ squeezes_S1_S_ = nC s :=
  congrArg (fun A : DmaSems sig S1 => A.squeeze S_ squeezes_S1_S_) (SemArray.slice_unit_congr _ e _ _)
private theorem nS_congr {off : Fin 3 → Nat} {s : Fin 3} (e : off = slotOff s) (hh hs) :
    (nB.slice (Rect.unit (s := S3x1024x512) off S1x1024x512.size hh) hs).squeeze S1024x512 squeezes_S1x1024x512_S1024x512 = nS s :=
  congrArg (fun M : Memref sig .tc .vmem S1x1024x512 .bf16 => M.squeeze S1024x512 squeezes_S1x1024x512_S1024x512) (Memref.slice_unit_congr _ e _ _ _ _)
private theorem nG_congr {off : Fin 2 → Nat} {b : Fin 16} (e : off = rowOff b) (hh hs) :
    nM.slice (Rect.unit (s := S16384x512) off S1024x512.size hh) hs = nG b :=
  Memref.slice_unit_congr _ e _ _ _ (fun _ => rfl)
private theorem zC_congr {off : Fin 1 → Nat} {s : Fin 3} (e : off = semOff s) (hh) :
    (cc0_scoped7.slice (Rect.unit (s := S3) off S1.size hh)).squeeze S_ squeezes_S1_S_ = zC s :=
  congrArg (fun A : DmaSems sig S1 => A.squeeze S_ squeezes_S1_S_) (SemArray.slice_unit_congr _ e _ _)
private theorem zS_congr {off : Fin 3 → Nat} {s : Fin 3} (e : off = slotOff s) (hh hs) :
    (zB.slice (Rect.unit (s := S3x1024x1024) off S1x1024x1024.size hh) hs).squeeze S1024x1024 squeezes_S1x1024x1024_S1024x1024 = zS s :=
  congrArg (fun M : Memref sig .tc .vmem S1x1024x1024 .bf16 => M.squeeze S1024x1024 squeezes_S1x1024x1024_S1024x1024) (Memref.slice_unit_congr _ e _ _ _ _)
private theorem zG_congr {off : Fin 2 → Nat} {b : Fin 16} (e : off = gateOff b) (hh hs) :
    zM.slice (Rect.unit (s := S16384x4096) off S1024x1024.size hh) hs = zG b :=
  Memref.slice_unit_congr _ e _ _ _ (fun _ => rfl)
private theorem yC_congr {off : Fin 1 → Nat} {s : Fin 2} (e : off = semOff s) (hh) :
    (cc0_scoped11.slice (Rect.unit (s := S2) off S1.size hh)).squeeze S_ squeezes_S1_S_ = yC s :=
  congrArg (fun A : DmaSems sig S1 => A.squeeze S_ squeezes_S1_S_) (SemArray.slice_unit_congr _ e _ _)
private theorem yS_congr {off : Fin 3 → Nat} {s : Fin 2} (e : off = slotOff s) (hh hs) :
    (yB.slice (Rect.unit (s := S2x1024x1024) off S1x1024x1024.size hh) hs).squeeze S1024x1024 squeezes_S1x1024x1024_S1024x1024 = yS s :=
  congrArg (fun M : Memref sig .tc .vmem S1x1024x1024 .f32 => M.squeeze S1024x1024 squeezes_S1x1024x1024_S1024x1024) (Memref.slice_unit_congr _ e _ _ _ _)
private theorem yG_congr {off : Fin 2 → Nat} {b : Fin 16} (e : off = rowOff b) (hh hs) :
    yM.slice (Rect.unit (s := S16384x1024) off S1024x1024.size hh) hs = yG b :=
  Memref.slice_unit_congr _ e _ _ _ (fun _ => rfl)

/-! ### The prologue: blocks 0 and 1 -/

@[sl_canon] theorem xC_first (hh) : (cc0_scoped1.slice (Rect.unit (s := S3) k0_off1 S1.size hh)).squeeze S_ squeezes_S1_S_ = xC 0 := xC_congr (by decide +kernel) _
@[sl_canon] theorem xS_first (hh hs) : (xB.slice (Rect.unit (s := S3x1024x1024) k0_off2 S1x1024x1024.size hh) hs).squeeze S1024x1024 squeezes_S1x1024x1024_S1024x1024 = xS 0 := xS_congr (by decide +kernel) _ _
@[sl_canon] theorem xG_first (hh hs) : xM.slice (Rect.unit (s := S16384x1024) ![0, 0] S1024x1024.size hh) hs = xG 0 := xG_congr (by decide +kernel) _ _
@[sl_canon] theorem xC_second (hh) : (cc0_scoped1.slice (Rect.unit (s := S3) k0_off4 S1.size hh)).squeeze S_ squeezes_S1_S_ = xC 1 := xC_congr (by decide +kernel) _
@[sl_canon] theorem xS_second (hh hs) : (xB.slice (Rect.unit (s := S3x1024x1024) k0_off5 S1x1024x1024.size hh) hs).squeeze S1024x1024 squeezes_S1x1024x1024_S1024x1024 = xS 1 := xS_congr (by decide +kernel) _ _
@[sl_canon] theorem xG_second (hh hs) : xM.slice (Rect.unit (s := S16384x1024) k0_off6 S1024x1024.size hh) hs = xG 1 := xG_congr (by decide +kernel) _ _
@[sl_canon] theorem oC_first (hh) : (cc0_scoped3.slice (Rect.unit (s := S3) k0_off1 S1.size hh)).squeeze S_ squeezes_S1_S_ = oC 0 := oC_congr (by decide +kernel) _
@[sl_canon] theorem oS_first (hh hs) : (oB.slice (Rect.unit (s := S3x1024x512) k0_off3 S1x1024x512.size hh) hs).squeeze S1024x512 squeezes_S1x1024x512_S1024x512 = oS 0 := oS_congr (by decide +kernel) _ _
@[sl_canon] theorem oG_first (hh hs) : oM.slice (Rect.unit (s := S16384x512) ![0, 0] S1024x512.size hh) hs = oG 0 := oG_congr (by decide +kernel) _ _
@[sl_canon] theorem oC_second (hh) : (cc0_scoped3.slice (Rect.unit (s := S3) k0_off7 S1.size hh)).squeeze S_ squeezes_S1_S_ = oC 1 := oC_congr (by decide +kernel) _
@[sl_canon] theorem oS_second (hh hs) : (oB.slice (Rect.unit (s := S3x1024x512) k0_off8 S1x1024x512.size hh) hs).squeeze S1024x512 squeezes_S1x1024x512_S1024x512 = oS 1 := oS_congr (by decide +kernel) _ _
@[sl_canon] theorem oG_second (hh hs) : oM.slice (Rect.unit (s := S16384x512) k0_off9 S1024x512.size hh) hs = oG 1 := oG_congr (by decide +kernel) _ _
@[sl_canon] theorem nC_first (hh) : (cc0_scoped5.slice (Rect.unit (s := S3) k0_off1 S1.size hh)).squeeze S_ squeezes_S1_S_ = nC 0 := nC_congr (by decide +kernel) _
@[sl_canon] theorem nS_first (hh hs) : (nB.slice (Rect.unit (s := S3x1024x512) k0_off3 S1x1024x512.size hh) hs).squeeze S1024x512 squeezes_S1x1024x512_S1024x512 = nS 0 := nS_congr (by decide +kernel) _ _
@[sl_canon] theorem nG_first (hh hs) : nM.slice (Rect.unit (s := S16384x512) ![0, 0] S1024x512.size hh) hs = nG 0 := nG_congr (by decide +kernel) _ _
@[sl_canon] theorem nC_second (hh) : (cc0_scoped5.slice (Rect.unit (s := S3) k0_off10 S1.size hh)).squeeze S_ squeezes_S1_S_ = nC 1 := nC_congr (by decide +kernel) _
@[sl_canon] theorem nS_second (hh hs) : (nB.slice (Rect.unit (s := S3x1024x512) k0_off11 S1x1024x512.size hh) hs).squeeze S1024x512 squeezes_S1x1024x512_S1024x512 = nS 1 := nS_congr (by decide +kernel) _ _
@[sl_canon] theorem nG_second (hh hs) : nM.slice (Rect.unit (s := S16384x512) k0_off12 S1024x512.size hh) hs = nG 1 := nG_congr (by decide +kernel) _ _
@[sl_canon] theorem zC_first (hh) : (cc0_scoped7.slice (Rect.unit (s := S3) k0_off1 S1.size hh)).squeeze S_ squeezes_S1_S_ = zC 0 := zC_congr (by decide +kernel) _
@[sl_canon] theorem zS_first (hh hs) : (zB.slice (Rect.unit (s := S3x1024x1024) k0_off2 S1x1024x1024.size hh) hs).squeeze S1024x1024 squeezes_S1x1024x1024_S1024x1024 = zS 0 := zS_congr (by decide +kernel) _ _
@[sl_canon] theorem zG_first (hh hs) : zM.slice (Rect.unit (s := S16384x4096) ![0, 3072] S1024x1024.size hh) hs = zG 0 := zG_congr (by decide +kernel) _ _
@[sl_canon] theorem zC_second (hh) : (cc0_scoped7.slice (Rect.unit (s := S3) k0_off13 S1.size hh)).squeeze S_ squeezes_S1_S_ = zC 1 := zC_congr (by decide +kernel) _
@[sl_canon] theorem zS_second (hh hs) : (zB.slice (Rect.unit (s := S3x1024x1024) k0_off14 S1x1024x1024.size hh) hs).squeeze S1024x1024 squeezes_S1x1024x1024_S1024x1024 = zS 1 := zS_congr (by decide +kernel) _ _
@[sl_canon] theorem zG_second (hh hs) : zM.slice (Rect.unit (s := S16384x4096) k0_off15 S1024x1024.size hh) hs = zG 1 := zG_congr (by decide +kernel) _ _

/-! ### Trip `k` -/

@[sl_canon] theorem xC_issue (k : Fin k0_t1_loop.trips) (hk : k.val < 14) (hh) : (cc0_scoped1.slice (Rect.unit (s := S3) (k0_off16 (wI k.val)) S1.size hh)).squeeze S_ squeezes_S1_S_ = xC (Ring.sl 3 (k.val + 2)) := xC_congr (off16_eq k hk) _
@[sl_canon] theorem xS_issue (k : Fin k0_t1_loop.trips) (hk : k.val < 14) (hh hs) : (xB.slice (Rect.unit (s := S3x1024x1024) (k0_off17 (wI k.val)) S1x1024x1024.size hh) hs).squeeze S1024x1024 squeezes_S1x1024x1024_S1024x1024 = xS (Ring.sl 3 (k.val + 2)) := xS_congr (off17_eq k hk) _ _
@[sl_canon] theorem xG_issue (k : Fin k0_t1_loop.trips) (hk : k.val < 14) (hh hs) : xM.slice (Rect.unit (s := S16384x1024) (k0_off18 (wG k.val)) S1024x1024.size hh) hs = xG (Ring.bk 16 (k.val + 2)) := xG_congr (off18_eq k hk) _ _
@[sl_canon] theorem oC_issue (k : Fin k0_t1_loop.trips) (hk : k.val < 14) (hh) : (cc0_scoped3.slice (Rect.unit (s := S3) (k0_off19 (wI k.val)) S1.size hh)).squeeze S_ squeezes_S1_S_ = oC (Ring.sl 3 (k.val + 2)) := oC_congr (off19_eq k hk) _
@[sl_canon] theorem oS_issue (k : Fin k0_t1_loop.trips) (hk : k.val < 14) (hh hs) : (oB.slice (Rect.unit (s := S3x1024x512) (k0_off20 (wI k.val)) S1x1024x512.size hh) hs).squeeze S1024x512 squeezes_S1x1024x512_S1024x512 = oS (Ring.sl 3 (k.val + 2)) := oS_congr (off20_eq k hk) _ _
@[sl_canon] theorem oG_issue (k : Fin k0_t1_loop.trips) (hk : k.val < 14) (hh hs) : oM.slice (Rect.unit (s := S16384x512) (k0_off21 (wG k.val)) S1024x512.size hh) hs = oG (Ring.bk 16 (k.val + 2)) := oG_congr (off21_eq k hk) _ _
@[sl_canon] theorem nC_issue (k : Fin k0_t1_loop.trips) (hk : k.val < 14) (hh) : (cc0_scoped5.slice (Rect.unit (s := S3) (k0_off22 (wI k.val)) S1.size hh)).squeeze S_ squeezes_S1_S_ = nC (Ring.sl 3 (k.val + 2)) := nC_congr (off22_eq k hk) _
@[sl_canon] theorem nS_issue (k : Fin k0_t1_loop.trips) (hk : k.val < 14) (hh hs) : (nB.slice (Rect.unit (s := S3x1024x512) (k0_off23 (wI k.val)) S1x1024x512.size hh) hs).squeeze S1024x512 squeezes_S1x1024x512_S1024x512 = nS (Ring.sl 3 (k.val + 2)) := nS_congr (off23_eq k hk) _ _
@[sl_canon] theorem nG_issue (k : Fin k0_t1_loop.trips) (hk : k.val < 14) (hh hs) : nM.slice (Rect.unit (s := S16384x512) (k0_off24 (wG k.val)) S1024x512.size hh) hs = nG (Ring.bk 16 (k.val + 2)) := nG_congr (off24_eq k hk) _ _
@[sl_canon] theorem zC_issue (k : Fin k0_t1_loop.trips) (hk : k.val < 14) (hh) : (cc0_scoped7.slice (Rect.unit (s := S3) (k0_off25 (wI k.val)) S1.size hh)).squeeze S_ squeezes_S1_S_ = zC (Ring.sl 3 (k.val + 2)) := zC_congr (off25_eq k hk) _
@[sl_canon] theorem zS_issue (k : Fin k0_t1_loop.trips) (hk : k.val < 14) (hh hs) : (zB.slice (Rect.unit (s := S3x1024x1024) (k0_off26 (wI k.val)) S1x1024x1024.size hh) hs).squeeze S1024x1024 squeezes_S1x1024x1024_S1024x1024 = zS (Ring.sl 3 (k.val + 2)) := zS_congr (off26_eq k hk) _ _
@[sl_canon] theorem zG_issue (k : Fin k0_t1_loop.trips) (hk : k.val < 14) (hh hs) : zM.slice (Rect.unit (s := S16384x4096) (k0_off27 (wG k.val)) S1024x1024.size hh) hs = zG (Ring.bk 16 (k.val + 2)) := zG_congr (off27_eq k hk) _ _
@[sl_canon] theorem xC_wait (k : Fin k0_t1_loop.trips) (hh) : (cc0_scoped1.slice (Rect.unit (s := S3) (k0_off28 (wW k.val)) S1.size hh)).squeeze S_ squeezes_S1_S_ = xC (Ring.sl 3 k.val) := xC_congr (off28_eq k) _
@[sl_canon] theorem xS_wait (k : Fin k0_t1_loop.trips) (hh hs) : (xB.slice (Rect.unit (s := S3x1024x1024) (k0_off29 (wW k.val)) S1x1024x1024.size hh) hs).squeeze S1024x1024 squeezes_S1x1024x1024_S1024x1024 = xS (Ring.sl 3 k.val) := xS_congr (off29_eq k) _ _
@[sl_canon] theorem xG_wait (k : Fin k0_t1_loop.trips) (hh hs) : xM.slice (Rect.unit (s := S16384x1024) (k0_off30 (wG k.val)) S1024x1024.size hh) hs = xG (Ring.bk 16 k.val) := xG_congr (off30_eq k) _ _
@[sl_canon] theorem oC_wait (k : Fin k0_t1_loop.trips) (hh) : (cc0_scoped3.slice (Rect.unit (s := S3) (k0_off31 (wW k.val)) S1.size hh)).squeeze S_ squeezes_S1_S_ = oC (Ring.sl 3 k.val) := oC_congr (off31_eq k) _
@[sl_canon] theorem oS_wait (k : Fin k0_t1_loop.trips) (hh hs) : (oB.slice (Rect.unit (s := S3x1024x512) (k0_off32 (wW k.val)) S1x1024x512.size hh) hs).squeeze S1024x512 squeezes_S1x1024x512_S1024x512 = oS (Ring.sl 3 k.val) := oS_congr (off32_eq k) _ _
@[sl_canon] theorem oG_wait (k : Fin k0_t1_loop.trips) (hh hs) : oM.slice (Rect.unit (s := S16384x512) (k0_off33 (wG k.val)) S1024x512.size hh) hs = oG (Ring.bk 16 k.val) := oG_congr (off33_eq k) _ _
@[sl_canon] theorem nC_wait (k : Fin k0_t1_loop.trips) (hh) : (cc0_scoped5.slice (Rect.unit (s := S3) (k0_off34 (wW k.val)) S1.size hh)).squeeze S_ squeezes_S1_S_ = nC (Ring.sl 3 k.val) := nC_congr (off34_eq k) _
@[sl_canon] theorem nS_wait (k : Fin k0_t1_loop.trips) (hh hs) : (nB.slice (Rect.unit (s := S3x1024x512) (k0_off35 (wW k.val)) S1x1024x512.size hh) hs).squeeze S1024x512 squeezes_S1x1024x512_S1024x512 = nS (Ring.sl 3 k.val) := nS_congr (off35_eq k) _ _
@[sl_canon] theorem nG_wait (k : Fin k0_t1_loop.trips) (hh hs) : nM.slice (Rect.unit (s := S16384x512) (k0_off36 (wG k.val)) S1024x512.size hh) hs = nG (Ring.bk 16 k.val) := nG_congr (off36_eq k) _ _
@[sl_canon] theorem zC_wait (k : Fin k0_t1_loop.trips) (hh) : (cc0_scoped7.slice (Rect.unit (s := S3) (k0_off37 (wW k.val)) S1.size hh)).squeeze S_ squeezes_S1_S_ = zC (Ring.sl 3 k.val) := zC_congr (off37_eq k) _
@[sl_canon] theorem zS_wait (k : Fin k0_t1_loop.trips) (hh hs) : (zB.slice (Rect.unit (s := S3x1024x1024) (k0_off38 (wW k.val)) S1x1024x1024.size hh) hs).squeeze S1024x1024 squeezes_S1x1024x1024_S1024x1024 = zS (Ring.sl 3 k.val) := zS_congr (off38_eq k) _ _
@[sl_canon] theorem zG_wait (k : Fin k0_t1_loop.trips) (hh hs) : zM.slice (Rect.unit (s := S16384x4096) (k0_off39 (wG k.val)) S1024x1024.size hh) hs = zG (Ring.bk 16 k.val) := zG_congr (off39_eq k) _ _
@[sl_canon] theorem yC_send (k : Fin k0_t1_loop.trips) (hh) : (cc0_scoped11.slice (Rect.unit (s := S2) (k0_off45 (wW k.val)) S1.size hh)).squeeze S_ squeezes_S1_S_ = yC (Ring.sl 2 k.val) := yC_congr (off45_eq k) _
@[sl_canon] theorem yG_send (k : Fin k0_t1_loop.trips) (hh hs) : yM.slice (Rect.unit (s := S16384x1024) (k0_off46 (wG k.val)) S1024x1024.size hh) hs = yG (Ring.bk 16 k.val) := yG_congr (off46_eq k) _ _
@[sl_canon] theorem yS_send (k : Fin k0_t1_loop.trips) (hh hs) : (yB.slice (Rect.unit (s := S2x1024x1024) (k0_off47 (wW k.val)) S1x1024x1024.size hh) hs).squeeze S1024x1024 squeezes_S1x1024x1024_S1024x1024 = yS (Ring.sl 2 k.val) := yS_congr (off47_eq k) _ _
@[sl_canon] theorem yC_sent (k : Fin k0_t1_loop.trips) (hk : 1 ≤ k.val) (hh) : (cc0_scoped11.slice (Rect.unit (s := S2) (k0_off48 (wP k.val)) S1.size hh)).squeeze S_ squeezes_S1_S_ = yC (Ring.sl 2 (k.val - 1)) := yC_congr (off48_eq k hk) _
@[sl_canon] theorem yG_sent (k : Fin k0_t1_loop.trips) (hk : 1 ≤ k.val) (hh hs) : yM.slice (Rect.unit (s := S16384x1024) (k0_off49 (wG k.val)) S1024x1024.size hh) hs = yG (Ring.bk 16 (k.val - 1)) := yG_congr (off49_eq k hk) _ _
@[sl_canon] theorem yS_sent (k : Fin k0_t1_loop.trips) (hk : 1 ≤ k.val) (hh hs) : (yB.slice (Rect.unit (s := S2x1024x1024) (k0_off50 (wP k.val)) S1x1024x1024.size hh) hs).squeeze S1024x1024 squeezes_S1x1024x1024_S1024x1024 = yS (Ring.sl 2 (k.val - 1)) := yS_congr (off50_eq k hk) _ _

/-! ### After the loop: the last result block -/

@[sl_canon] theorem yC_last (hh) : (cc0_scoped11.slice (Rect.unit (s := S2) (k0_off51 (wP k0_t1_loop.trips)) S1.size hh)).squeeze S_ squeezes_S1_S_ = yC 1 := yC_congr (by decide +kernel) _
@[sl_canon] theorem yG_last (hh hs) : yM.slice (Rect.unit (s := S16384x1024) (k0_off52 (wG k0_t1_loop.trips)) S1024x1024.size hh) hs = yG 15 := yG_congr (by decide +kernel) _ _
@[sl_canon] theorem yS_last (hh hs) : (yB.slice (Rect.unit (s := S2x1024x1024) (k0_off53 (wP k0_t1_loop.trips)) S1x1024x1024.size hh) hs).squeeze S1024x1024 squeezes_S1x1024x1024_S1024x1024 = yS 1 := yS_congr (by decide +kernel) _ _

end Cert.Proof.OutProj

end
-- ==== Proof.Pieces.lean ====
/-
  The pieces of the proof: a block at home, a slot held, a slot in flight, and what the core holds before trip `k`.

  Before trip `k` each input ring has blocks `k` and `k + 1` in flight in slots `k % 3` and `(k + 1) % 3` and slot
  `(k + 2) % 3` free; the blocks from `k + 2` on have not been issued, those below `k` are back. The result's blocks
  from `k` on still hold what they held at the start, those below `k - 1` hold the result, and block `k - 1` is in
  flight from slot `(k - 1) % 2`.
-/
module

public import proofs.«01_k».proof.Proof.Names

@[expose] public section

set_option maxRecDepth 16384

noncomputable section

namespace Cert.Proof.OutProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the launch's, beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Pieces

variable (c : Dev nD)

/-! ### Ring `x` -/

abbrev xCell (s : Fin 3) : sProp 𝕄 := semVal ((c : Thread nD τ), SemLoc.dma (xC s).sem) 0
abbrev xSlot (s : Fin 3) (f : Buf (Elt F) ((xS s).view.loc (c : Thread nD τ))) : sProp 𝕄 :=
  (xS s).view.loc (c : Thread nD τ) ↦[(xS s).view.set]{fullShare} f
/-- A slot free: held at anything, its semaphore at zero. -/
abbrev xFree (s : Fin 3) : sProp 𝕄 := iprop((∃ f, xSlot c s f) ∗ xCell c s)
/-- Block `b` held at the array contents `A`. -/
abbrev xHome (A : Buf (Elt F) (xM.view.loc (c : Thread nD τ))) (b : Fin 16) : sProp 𝕄 :=
  (xG b).view.loc (c : Thread nD τ) ↦[(xG b).view.set]{fullShare} A
/-- Slot `s` in flight with block `b`: it will hold the block over what it held before. -/
abbrev xFlight (A : Buf (Elt F) (xM.view.loc (c : Thread nD τ))) (s : Fin 3) (b : Fin 16) (f : Buf (Elt F) ((xS s).view.loc (c : Thread nD τ))) : sProp 𝕄 :=
  Transfers.Flight countersEmb (c : Thread nD τ) (SemLoc.dma (xC s).sem) () 131072
    iprop(xSlot c s ((xS s).view.writes (Elt F) f [⟨Rect.whole S1024x1024, ReadAs.same.apply ((xG b).view.read (Elt F) A)⟩]) ∗ xHome c A b)
abbrev xRole (A : Buf (Elt F) (xM.view.loc (c : Thread nD τ))) (p : ℕ) : sProp 𝕄 :=
  Ring.roleAt (xFree c (Ring.sl 3 p)) (fun b : Fin 16 => iprop(∃ f, xFlight c A (Ring.sl 3 p) b f)) p
/-- The ring before trip `k`. -/
def xRing (A : Buf (Elt F) (xM.view.loc (c : Thread nD τ))) (k : ℕ) : sProp 𝕄 :=
  iprop(bigSep (Ring.aheadSet (k + 2)) (xHome c A) ∗ bigSep (Ring.behindSet 0 k) (xHome c A)
    ∗ xRole c A k ∗ xRole c A (k + 1) ∗ xFree c (Ring.sl 3 (k + 2)))

/-- While block `k + 2` exists: it apart from the rest ahead, blocks `k` and `k + 1` in flight; -/
theorem xRing_here (A : Buf (Elt F) (xM.view.loc (c : Thread nD τ))) (k : ℕ) (hk : k < 14) :
    xRing c A k = iprop((xHome c A (Ring.bk 16 (k + 2)) ∗ bigSep (Ring.aheadSet (k + 3)) (xHome c A)) ∗ bigSep (Ring.behindSet 0 k) (xHome c A)
      ∗ (∃ f, xFlight c A (Ring.sl 3 k) (Ring.bk 16 k) f) ∗ (∃ f, xFlight c A (Ring.sl 3 (k + 1)) (Ring.bk 16 (k + 1)) f) ∗ xFree c (Ring.sl 3 (k + 2))) := by
  unfold xRing xRole
  rw [Ring.aheadSet_open (k + 2) (by omega), Ring.roleAt_of_lt _ _ k (by omega), Ring.roleAt_of_lt _ _ (k + 1) (by omega)]
  rw [bigSep_insert (Ring.bk_not_mem_aheadSet_succ (k + 2) (by omega))]
  rfl
/-- and before the next trip: block `k` behind, blocks `k + 1` and `k + 2` in flight, slot `k % 3` free. -/
theorem xRing_next (A : Buf (Elt F) (xM.view.loc (c : Thread nD τ))) (k : ℕ) (hk : k < 14) :
    xRing c A (k + 1) = iprop(bigSep (Ring.aheadSet (k + 3)) (xHome c A) ∗ (xHome c A (Ring.bk 16 k) ∗ bigSep (Ring.behindSet 0 k) (xHome c A))
      ∗ (∃ f, xFlight c A (Ring.sl 3 (k + 1)) (Ring.bk 16 (k + 1)) f) ∗ (∃ f, xFlight c A (Ring.sl 3 (k + 2)) (Ring.bk 16 (k + 2)) f) ∗ xFree c (Ring.sl 3 k)) := by
  unfold xRing xRole
  rw [Ring.behindSet_close 0 k (by omega) (by omega), bigSep_insert (Ring.bk_not_mem_behindSet 0 k (by omega) (by omega)), Ring.roleAt_of_lt _ _ (k + 1) (by omega),
    Ring.roleAt_of_lt _ _ (k + 1 + 1) (by omega), Ring.sl_succ_add 3 k 2 rfl]
  rfl
/-- In the last two trips nothing is issued: slot `(k + 1) % 3` keeps its role. -/
theorem xRing_late (A : Buf (Elt F) (xM.view.loc (c : Thread nD τ))) (k : ℕ) (hk : ¬ k < 14) (h16 : k < 16) :
    xRing c A k = iprop(bigSep (Ring.behindSet 0 k) (xHome c A)
      ∗ (∃ f, xFlight c A (Ring.sl 3 k) (Ring.bk 16 k) f) ∗ xRole c A (k + 1) ∗ xFree c (Ring.sl 3 (k + 2))) := by
  unfold xRing
  rw [Ring.aheadSet_end (k + 2) (by omega), bigSep_empty]
  rw [show xRole c A k = _ from Ring.roleAt_of_lt _ _ k (by omega)]
  exact BI.equiv_iff.mp BI.emp_sep
theorem xRing_late_next (A : Buf (Elt F) (xM.view.loc (c : Thread nD τ))) (k : ℕ) (hk : ¬ k < 14) (h16 : k < 16) :
    xRing c A (k + 1) = iprop((xHome c A (Ring.bk 16 k) ∗ bigSep (Ring.behindSet 0 k) (xHome c A))
      ∗ xRole c A (k + 1) ∗ xFree c (Ring.sl 3 (k + 2)) ∗ xFree c (Ring.sl 3 k)) := by
  unfold xRing
  rw [Ring.aheadSet_end (k + 1 + 2) (by omega), bigSep_empty, Ring.behindSet_close 0 k (by omega) (by omega),
    bigSep_insert (Ring.bk_not_mem_behindSet 0 k (by omega) (by omega)), Ring.sl_succ_add 3 k 2 rfl]
  rw [show xRole c A (k + 1 + 1) = _ from Ring.roleAt_of_le _ _ (k + 1 + 1) (by omega)]
  exact BI.equiv_iff.mp BI.emp_sep

/-! ### Ring `o` -/

abbrev oCell (s : Fin 3) : sProp 𝕄 := semVal ((c : Thread nD τ), SemLoc.dma (oC s).sem) 0
abbrev oSlot (s : Fin 3) (f : Buf (Elt F) ((oS s).view.loc (c : Thread nD τ))) : sProp 𝕄 :=
  (oS s).view.loc (c : Thread nD τ) ↦[(oS s).view.set]{fullShare} f
/-- A slot free: held at anything, its semaphore at zero. -/
abbrev oFree (s : Fin 3) : sProp 𝕄 := iprop((∃ f, oSlot c s f) ∗ oCell c s)
/-- Block `b` held at the array contents `A`. -/
abbrev oHome (A : Buf (Elt F) (oM.view.loc (c : Thread nD τ))) (b : Fin 16) : sProp 𝕄 :=
  (oG b).view.loc (c : Thread nD τ) ↦[(oG b).view.set]{fullShare} A
/-- Slot `s` in flight with block `b`: it will hold the block over what it held before. -/
abbrev oFlight (A : Buf (Elt F) (oM.view.loc (c : Thread nD τ))) (s : Fin 3) (b : Fin 16) (f : Buf (Elt F) ((oS s).view.loc (c : Thread nD τ))) : sProp 𝕄 :=
  Transfers.Flight countersEmb (c : Thread nD τ) (SemLoc.dma (oC s).sem) () 32768
    iprop(oSlot c s ((oS s).view.writes (Elt F) f [⟨Rect.whole S1024x512, ReadAs.same.apply ((oG b).view.read (Elt F) A)⟩]) ∗ oHome c A b)
abbrev oRole (A : Buf (Elt F) (oM.view.loc (c : Thread nD τ))) (p : ℕ) : sProp 𝕄 :=
  Ring.roleAt (oFree c (Ring.sl 3 p)) (fun b : Fin 16 => iprop(∃ f, oFlight c A (Ring.sl 3 p) b f)) p
/-- The ring before trip `k`. -/
def oRing (A : Buf (Elt F) (oM.view.loc (c : Thread nD τ))) (k : ℕ) : sProp 𝕄 :=
  iprop(bigSep (Ring.aheadSet (k + 2)) (oHome c A) ∗ bigSep (Ring.behindSet 0 k) (oHome c A)
    ∗ oRole c A k ∗ oRole c A (k + 1) ∗ oFree c (Ring.sl 3 (k + 2)))

/-- While block `k + 2` exists: it apart from the rest ahead, blocks `k` and `k + 1` in flight; -/
theorem oRing_here (A : Buf (Elt F) (oM.view.loc (c : Thread nD τ))) (k : ℕ) (hk : k < 14) :
    oRing c A k = iprop((oHome c A (Ring.bk 16 (k + 2)) ∗ bigSep (Ring.aheadSet (k + 3)) (oHome c A)) ∗ bigSep (Ring.behindSet 0 k) (oHome c A)
      ∗ (∃ f, oFlight c A (Ring.sl 3 k) (Ring.bk 16 k) f) ∗ (∃ f, oFlight c A (Ring.sl 3 (k + 1)) (Ring.bk 16 (k + 1)) f) ∗ oFree c (Ring.sl 3 (k + 2))) := by
  unfold oRing oRole
  rw [Ring.aheadSet_open (k + 2) (by omega), Ring.roleAt_of_lt _ _ k (by omega), Ring.roleAt_of_lt _ _ (k + 1) (by omega)]
  rw [bigSep_insert (Ring.bk_not_mem_aheadSet_succ (k + 2) (by omega))]
  rfl
/-- and before the next trip: block `k` behind, blocks `k + 1` and `k + 2` in flight, slot `k % 3` free. -/
theorem oRing_next (A : Buf (Elt F) (oM.view.loc (c : Thread nD τ))) (k : ℕ) (hk : k < 14) :
    oRing c A (k + 1) = iprop(bigSep (Ring.aheadSet (k + 3)) (oHome c A) ∗ (oHome c A (Ring.bk 16 k) ∗ bigSep (Ring.behindSet 0 k) (oHome c A))
      ∗ (∃ f, oFlight c A (Ring.sl 3 (k + 1)) (Ring.bk 16 (k + 1)) f) ∗ (∃ f, oFlight c A (Ring.sl 3 (k + 2)) (Ring.bk 16 (k + 2)) f) ∗ oFree c (Ring.sl 3 k)) := by
  unfold oRing oRole
  rw [Ring.behindSet_close 0 k (by omega) (by omega), bigSep_insert (Ring.bk_not_mem_behindSet 0 k (by omega) (by omega)), Ring.roleAt_of_lt _ _ (k + 1) (by omega),
    Ring.roleAt_of_lt _ _ (k + 1 + 1) (by omega), Ring.sl_succ_add 3 k 2 rfl]
  rfl
/-- In the last two trips nothing is issued: slot `(k + 1) % 3` keeps its role. -/
theorem oRing_late (A : Buf (Elt F) (oM.view.loc (c : Thread nD τ))) (k : ℕ) (hk : ¬ k < 14) (h16 : k < 16) :
    oRing c A k = iprop(bigSep (Ring.behindSet 0 k) (oHome c A)
      ∗ (∃ f, oFlight c A (Ring.sl 3 k) (Ring.bk 16 k) f) ∗ oRole c A (k + 1) ∗ oFree c (Ring.sl 3 (k + 2))) := by
  unfold oRing
  rw [Ring.aheadSet_end (k + 2) (by omega), bigSep_empty]
  rw [show oRole c A k = _ from Ring.roleAt_of_lt _ _ k (by omega)]
  exact BI.equiv_iff.mp BI.emp_sep
theorem oRing_late_next (A : Buf (Elt F) (oM.view.loc (c : Thread nD τ))) (k : ℕ) (hk : ¬ k < 14) (h16 : k < 16) :
    oRing c A (k + 1) = iprop((oHome c A (Ring.bk 16 k) ∗ bigSep (Ring.behindSet 0 k) (oHome c A))
      ∗ oRole c A (k + 1) ∗ oFree c (Ring.sl 3 (k + 2)) ∗ oFree c (Ring.sl 3 k)) := by
  unfold oRing
  rw [Ring.aheadSet_end (k + 1 + 2) (by omega), bigSep_empty, Ring.behindSet_close 0 k (by omega) (by omega),
    bigSep_insert (Ring.bk_not_mem_behindSet 0 k (by omega) (by omega)), Ring.sl_succ_add 3 k 2 rfl]
  rw [show oRole c A (k + 1 + 1) = _ from Ring.roleAt_of_le _ _ (k + 1 + 1) (by omega)]
  exact BI.equiv_iff.mp BI.emp_sep

/-! ### Ring `n` -/

abbrev nCell (s : Fin 3) : sProp 𝕄 := semVal ((c : Thread nD τ), SemLoc.dma (nC s).sem) 0
abbrev nSlot (s : Fin 3) (f : Buf (Elt F) ((nS s).view.loc (c : Thread nD τ))) : sProp 𝕄 :=
  (nS s).view.loc (c : Thread nD τ) ↦[(nS s).view.set]{fullShare} f
/-- A slot free: held at anything, its semaphore at zero. -/
abbrev nFree (s : Fin 3) : sProp 𝕄 := iprop((∃ f, nSlot c s f) ∗ nCell c s)
/-- Block `b` held at the array contents `A`. -/
abbrev nHome (A : Buf (Elt F) (nM.view.loc (c : Thread nD τ))) (b : Fin 16) : sProp 𝕄 :=
  (nG b).view.loc (c : Thread nD τ) ↦[(nG b).view.set]{fullShare} A
/-- Slot `s` in flight with block `b`: it will hold the block over what it held before. -/
abbrev nFlight (A : Buf (Elt F) (nM.view.loc (c : Thread nD τ))) (s : Fin 3) (b : Fin 16) (f : Buf (Elt F) ((nS s).view.loc (c : Thread nD τ))) : sProp 𝕄 :=
  Transfers.Flight countersEmb (c : Thread nD τ) (SemLoc.dma (nC s).sem) () 32768
    iprop(nSlot c s ((nS s).view.writes (Elt F) f [⟨Rect.whole S1024x512, ReadAs.same.apply ((nG b).view.read (Elt F) A)⟩]) ∗ nHome c A b)
abbrev nRole (A : Buf (Elt F) (nM.view.loc (c : Thread nD τ))) (p : ℕ) : sProp 𝕄 :=
  Ring.roleAt (nFree c (Ring.sl 3 p)) (fun b : Fin 16 => iprop(∃ f, nFlight c A (Ring.sl 3 p) b f)) p
/-- The ring before trip `k`. -/
def nRing (A : Buf (Elt F) (nM.view.loc (c : Thread nD τ))) (k : ℕ) : sProp 𝕄 :=
  iprop(bigSep (Ring.aheadSet (k + 2)) (nHome c A) ∗ bigSep (Ring.behindSet 0 k) (nHome c A)
    ∗ nRole c A k ∗ nRole c A (k + 1) ∗ nFree c (Ring.sl 3 (k + 2)))

/-- While block `k + 2` exists: it apart from the rest ahead, blocks `k` and `k + 1` in flight; -/
theorem nRing_here (A : Buf (Elt F) (nM.view.loc (c : Thread nD τ))) (k : ℕ) (hk : k < 14) :
    nRing c A k = iprop((nHome c A (Ring.bk 16 (k + 2)) ∗ bigSep (Ring.aheadSet (k + 3)) (nHome c A)) ∗ bigSep (Ring.behindSet 0 k) (nHome c A)
      ∗ (∃ f, nFlight c A (Ring.sl 3 k) (Ring.bk 16 k) f) ∗ (∃ f, nFlight c A (Ring.sl 3 (k + 1)) (Ring.bk 16 (k + 1)) f) ∗ nFree c (Ring.sl 3 (k + 2))) := by
  unfold nRing nRole
  rw [Ring.aheadSet_open (k + 2) (by omega), Ring.roleAt_of_lt _ _ k (by omega), Ring.roleAt_of_lt _ _ (k + 1) (by omega)]
  rw [bigSep_insert (Ring.bk_not_mem_aheadSet_succ (k + 2) (by omega))]
  rfl
/-- and before the next trip: block `k` behind, blocks `k + 1` and `k + 2` in flight, slot `k % 3` free. -/
theorem nRing_next (A : Buf (Elt F) (nM.view.loc (c : Thread nD τ))) (k : ℕ) (hk : k < 14) :
    nRing c A (k + 1) = iprop(bigSep (Ring.aheadSet (k + 3)) (nHome c A) ∗ (nHome c A (Ring.bk 16 k) ∗ bigSep (Ring.behindSet 0 k) (nHome c A))
      ∗ (∃ f, nFlight c A (Ring.sl 3 (k + 1)) (Ring.bk 16 (k + 1)) f) ∗ (∃ f, nFlight c A (Ring.sl 3 (k + 2)) (Ring.bk 16 (k + 2)) f) ∗ nFree c (Ring.sl 3 k)) := by
  unfold nRing nRole
  rw [Ring.behindSet_close 0 k (by omega) (by omega), bigSep_insert (Ring.bk_not_mem_behindSet 0 k (by omega) (by omega)), Ring.roleAt_of_lt _ _ (k + 1) (by omega),
    Ring.roleAt_of_lt _ _ (k + 1 + 1) (by omega), Ring.sl_succ_add 3 k 2 rfl]
  rfl
/-- In the last two trips nothing is issued: slot `(k + 1) % 3` keeps its role. -/
theorem nRing_late (A : Buf (Elt F) (nM.view.loc (c : Thread nD τ))) (k : ℕ) (hk : ¬ k < 14) (h16 : k < 16) :
    nRing c A k = iprop(bigSep (Ring.behindSet 0 k) (nHome c A)
      ∗ (∃ f, nFlight c A (Ring.sl 3 k) (Ring.bk 16 k) f) ∗ nRole c A (k + 1) ∗ nFree c (Ring.sl 3 (k + 2))) := by
  unfold nRing
  rw [Ring.aheadSet_end (k + 2) (by omega), bigSep_empty]
  rw [show nRole c A k = _ from Ring.roleAt_of_lt _ _ k (by omega)]
  exact BI.equiv_iff.mp BI.emp_sep
theorem nRing_late_next (A : Buf (Elt F) (nM.view.loc (c : Thread nD τ))) (k : ℕ) (hk : ¬ k < 14) (h16 : k < 16) :
    nRing c A (k + 1) = iprop((nHome c A (Ring.bk 16 k) ∗ bigSep (Ring.behindSet 0 k) (nHome c A))
      ∗ nRole c A (k + 1) ∗ nFree c (Ring.sl 3 (k + 2)) ∗ nFree c (Ring.sl 3 k)) := by
  unfold nRing
  rw [Ring.aheadSet_end (k + 1 + 2) (by omega), bigSep_empty, Ring.behindSet_close 0 k (by omega) (by omega),
    bigSep_insert (Ring.bk_not_mem_behindSet 0 k (by omega) (by omega)), Ring.sl_succ_add 3 k 2 rfl]
  rw [show nRole c A (k + 1 + 1) = _ from Ring.roleAt_of_le _ _ (k + 1 + 1) (by omega)]
  exact BI.equiv_iff.mp BI.emp_sep

/-! ### Ring `z` -/

abbrev zCell (s : Fin 3) : sProp 𝕄 := semVal ((c : Thread nD τ), SemLoc.dma (zC s).sem) 0
abbrev zSlot (s : Fin 3) (f : Buf (Elt F) ((zS s).view.loc (c : Thread nD τ))) : sProp 𝕄 :=
  (zS s).view.loc (c : Thread nD τ) ↦[(zS s).view.set]{fullShare} f
/-- A slot free: held at anything, its semaphore at zero. -/
abbrev zFree (s : Fin 3) : sProp 𝕄 := iprop((∃ f, zSlot c s f) ∗ zCell c s)
/-- Block `b` held at the array contents `A`. -/
abbrev zHome (A : Buf (Elt F) (zM.view.loc (c : Thread nD τ))) (b : Fin 16) : sProp 𝕄 :=
  (zG b).view.loc (c : Thread nD τ) ↦[(zG b).view.set]{fullShare} A
/-- Slot `s` in flight with block `b`: it will hold the block over what it held before. -/
abbrev zFlight (A : Buf (Elt F) (zM.view.loc (c : Thread nD τ))) (s : Fin 3) (b : Fin 16) (f : Buf (Elt F) ((zS s).view.loc (c : Thread nD τ))) : sProp 𝕄 :=
  Transfers.Flight countersEmb (c : Thread nD τ) (SemLoc.dma (zC s).sem) () 65536
    iprop(zSlot c s ((zS s).view.writes (Elt F) f [⟨Rect.whole S1024x1024, ReadAs.same.apply ((zG b).view.read (Elt F) A)⟩]) ∗ zHome c A b)
abbrev zRole (A : Buf (Elt F) (zM.view.loc (c : Thread nD τ))) (p : ℕ) : sProp 𝕄 :=
  Ring.roleAt (zFree c (Ring.sl 3 p)) (fun b : Fin 16 => iprop(∃ f, zFlight c A (Ring.sl 3 p) b f)) p
/-- The ring before trip `k`. -/
def zRing (A : Buf (Elt F) (zM.view.loc (c : Thread nD τ))) (k : ℕ) : sProp 𝕄 :=
  iprop(bigSep (Ring.aheadSet (k + 2)) (zHome c A) ∗ bigSep (Ring.behindSet 0 k) (zHome c A)
    ∗ zRole c A k ∗ zRole c A (k + 1) ∗ zFree c (Ring.sl 3 (k + 2)))

/-- While block `k + 2` exists: it apart from the rest ahead, blocks `k` and `k + 1` in flight; -/
theorem zRing_here (A : Buf (Elt F) (zM.view.loc (c : Thread nD τ))) (k : ℕ) (hk : k < 14) :
    zRing c A k = iprop((zHome c A (Ring.bk 16 (k + 2)) ∗ bigSep (Ring.aheadSet (k + 3)) (zHome c A)) ∗ bigSep (Ring.behindSet 0 k) (zHome c A)
      ∗ (∃ f, zFlight c A (Ring.sl 3 k) (Ring.bk 16 k) f) ∗ (∃ f, zFlight c A (Ring.sl 3 (k + 1)) (Ring.bk 16 (k + 1)) f) ∗ zFree c (Ring.sl 3 (k + 2))) := by
  unfold zRing zRole
  rw [Ring.aheadSet_open (k + 2) (by omega), Ring.roleAt_of_lt _ _ k (by omega), Ring.roleAt_of_lt _ _ (k + 1) (by omega)]
  rw [bigSep_insert (Ring.bk_not_mem_aheadSet_succ (k + 2) (by omega))]
  rfl
/-- and before the next trip: block `k` behind, blocks `k + 1` and `k + 2` in flight, slot `k % 3` free. -/
theorem zRing_next (A : Buf (Elt F) (zM.view.loc (c : Thread nD τ))) (k : ℕ) (hk : k < 14) :
    zRing c A (k + 1) = iprop(bigSep (Ring.aheadSet (k + 3)) (zHome c A) ∗ (zHome c A (Ring.bk 16 k) ∗ bigSep (Ring.behindSet 0 k) (zHome c A))
      ∗ (∃ f, zFlight c A (Ring.sl 3 (k + 1)) (Ring.bk 16 (k + 1)) f) ∗ (∃ f, zFlight c A (Ring.sl 3 (k + 2)) (Ring.bk 16 (k + 2)) f) ∗ zFree c (Ring.sl 3 k)) := by
  unfold zRing zRole
  rw [Ring.behindSet_close 0 k (by omega) (by omega), bigSep_insert (Ring.bk_not_mem_behindSet 0 k (by omega) (by omega)), Ring.roleAt_of_lt _ _ (k + 1) (by omega),
    Ring.roleAt_of_lt _ _ (k + 1 + 1) (by omega), Ring.sl_succ_add 3 k 2 rfl]
  rfl
/-- In the last two trips nothing is issued: slot `(k + 1) % 3` keeps its role. -/
theorem zRing_late (A : Buf (Elt F) (zM.view.loc (c : Thread nD τ))) (k : ℕ) (hk : ¬ k < 14) (h16 : k < 16) :
    zRing c A k = iprop(bigSep (Ring.behindSet 0 k) (zHome c A)
      ∗ (∃ f, zFlight c A (Ring.sl 3 k) (Ring.bk 16 k) f) ∗ zRole c A (k + 1) ∗ zFree c (Ring.sl 3 (k + 2))) := by
  unfold zRing
  rw [Ring.aheadSet_end (k + 2) (by omega), bigSep_empty]
  rw [show zRole c A k = _ from Ring.roleAt_of_lt _ _ k (by omega)]
  exact BI.equiv_iff.mp BI.emp_sep
theorem zRing_late_next (A : Buf (Elt F) (zM.view.loc (c : Thread nD τ))) (k : ℕ) (hk : ¬ k < 14) (h16 : k < 16) :
    zRing c A (k + 1) = iprop((zHome c A (Ring.bk 16 k) ∗ bigSep (Ring.behindSet 0 k) (zHome c A))
      ∗ zRole c A (k + 1) ∗ zFree c (Ring.sl 3 (k + 2)) ∗ zFree c (Ring.sl 3 k)) := by
  unfold zRing
  rw [Ring.aheadSet_end (k + 1 + 2) (by omega), bigSep_empty, Ring.behindSet_close 0 k (by omega) (by omega),
    bigSep_insert (Ring.bk_not_mem_behindSet 0 k (by omega) (by omega)), Ring.sl_succ_add 3 k 2 rfl]
  rw [show zRole c A (k + 1 + 1) = _ from Ring.roleAt_of_le _ _ (k + 1 + 1) (by omega)]
  exact BI.equiv_iff.mp BI.emp_sep

/-! ### Ring `y` -/

abbrev yCell (s : Fin 2) : sProp 𝕄 := semVal ((c : Thread nD τ), SemLoc.dma (yC s).sem) 0
abbrev ySlot (s : Fin 2) (f : Buf (Elt F) ((yS s).view.loc (c : Thread nD τ))) : sProp 𝕄 :=
  (yS s).view.loc (c : Thread nD τ) ↦[(yS s).view.set]{fullShare} f
/-- A slot free: held at anything, its semaphore at zero. -/
abbrev yFree (s : Fin 2) : sProp 𝕄 := iprop((∃ f, ySlot c s f) ∗ yCell c s)
/-- Block `b` held at the array contents `A`. -/
abbrev yHome (A : Buf (Elt F) (yM.view.loc (c : Thread nD τ))) (b : Fin 16) : sProp 𝕄 :=
  (yG b).view.loc (c : Thread nD τ) ↦[(yG b).view.set]{fullShare} A
/-- A result block on its way back: the block will hold the result `G`, the slot comes back at anything. -/
abbrev yFlight (G : Buf (Elt F) (yM.view.loc (c : Thread nD τ))) (s : Fin 2) (b : Fin 16) : sProp 𝕄 :=
  iprop(∃ f fs, ⌜∀ i ∈ (yG b).view.set, f i = G i⌝
    ∗ Transfers.Flight countersEmb (c : Thread nD τ) (SemLoc.dma (yC s).sem) () 131072 iprop(yHome c f b ∗ ySlot c s fs))
abbrev yRole (G : Buf (Elt F) (yM.view.loc (c : Thread nD τ))) (k : ℕ) : sProp 𝕄 :=
  Ring.roleBAt 1 (yFree c (Ring.sl 2 (k + 1))) (fun b : Fin 16 => yFlight c G (Ring.sl 2 (k + 1)) b) k
/-- The result's ring before trip `k`: `Y` what the array held at the start. -/
def yRing (Y G : Buf (Elt F) (yM.view.loc (c : Thread nD τ))) (k : ℕ) : sProp 𝕄 :=
  iprop(bigSep (Ring.aheadSet k) (yHome c Y) ∗ bigSep (Ring.behindSet 1 k) (yHome c G) ∗ yFree c (Ring.sl 2 k) ∗ yRole c G k)

theorem yRing_zero (Y G : Buf (Elt F) (yM.view.loc (c : Thread nD τ))) (k : ℕ) (hk : ¬ 1 ≤ k) :
    yRing c Y G k = iprop((yHome c Y (Ring.bk 16 k) ∗ bigSep (Ring.aheadSet (k + 1)) (yHome c Y)) ∗ yFree c (Ring.sl 2 k) ∗ yFree c (Ring.sl 2 (k + 1))) := by
  unfold yRing yRole
  rw [Ring.aheadSet_open k (by omega), Ring.behindSet_boot 1 k (by omega), Ring.roleBAt_of_lt 1 _ _ k (by omega),
    bigSep_insert (Ring.bk_not_mem_aheadSet_succ k (by omega)), bigSep_empty]
  exact congrArg (fun P => iprop(_ ∗ P)) (BI.equiv_iff.mp BI.emp_sep)
theorem yRing_zero_next (Y G : Buf (Elt F) (yM.view.loc (c : Thread nD τ))) (k : ℕ) (hk : ¬ 1 ≤ k) :
    yRing c Y G (k + 1) = iprop(bigSep (Ring.aheadSet (k + 1)) (yHome c Y) ∗ yFree c (Ring.sl 2 (k + 1)) ∗ yFlight c G (Ring.sl 2 k) (Ring.bk 16 k)) := by
  unfold yRing yRole
  rw [Ring.behindSet_boot 1 (k + 1) (by omega), Ring.roleBAt_of_le 1 _ _ (k + 1) (by omega), bigSep_empty,
    Ring.sl_succ_add 2 k 1 rfl]
  exact congrArg (fun P => iprop(_ ∗ P)) (BI.equiv_iff.mp BI.emp_sep)
theorem yRing_here (Y G : Buf (Elt F) (yM.view.loc (c : Thread nD τ))) (k : ℕ) (hk : 1 ≤ k) (h16 : k < 16) :
    yRing c Y G k = iprop((yHome c Y (Ring.bk 16 k) ∗ bigSep (Ring.aheadSet (k + 1)) (yHome c Y)) ∗ bigSep (Ring.behindSet 1 k) (yHome c G)
      ∗ yFree c (Ring.sl 2 k) ∗ yFlight c G (Ring.sl 2 (k - 1)) (Ring.bk 16 (k - 1))) := by
  unfold yRing yRole
  rw [Ring.aheadSet_open k h16, Ring.roleBAt_of_le 1 _ _ k (by omega), Ring.sl2_succ_eq_pred k hk,
    bigSep_insert (Ring.bk_not_mem_aheadSet_succ k h16)]
  rfl
theorem yRing_next (Y G : Buf (Elt F) (yM.view.loc (c : Thread nD τ))) (k : ℕ) (hk : 1 ≤ k) (h16 : k < 16) :
    yRing c Y G (k + 1) = iprop(bigSep (Ring.aheadSet (k + 1)) (yHome c Y) ∗ (yHome c G (Ring.bk 16 (k - 1)) ∗ bigSep (Ring.behindSet 1 k) (yHome c G))
      ∗ yFree c (Ring.sl 2 (k - 1)) ∗ yFlight c G (Ring.sl 2 k) (Ring.bk 16 k)) := by
  unfold yRing yRole
  rw [Ring.behindSet_close 1 k hk h16, bigSep_insert (Ring.bk_not_mem_behindSet 1 k hk h16), Ring.roleBAt_of_le 1 _ _ (k + 1) (by omega),
    Ring.sl_succ_add 2 k 1 rfl, Ring.sl2_succ_eq_pred k hk]
  rfl

end Pieces

end Cert.Proof.OutProj

end
-- ==== Proof.Block.lean ====
/-
  What one block computes, and what the result holds.

  `block z o n x w g` is the kernel's arithmetic on one block of 1024 rows. The kernel keeps a block in a slot, with a
  leading axis of extent 1, and its payload `k0_pay1` adds and drops that axis; `stored_read` says that what a trip
  sends is `block` of the rows that its four slots received. `result` is the whole array: row `r` is row `r % 1024` of
  block `r / 1024`.
-/
module

public import proofs.«01_k».proof.Proof.Pieces
public import Idealize.ShloMosaic.Lib.Pipeline.Value
public import Idealize.ShloMosaic.Lib.Pipeline.ValueKit.Geometry
public import Idealize.ShloMosaic.Lib.ValueIdxCore

@[expose] public section

set_option maxRecDepth 16384

noncomputable section

namespace Cert.Proof.OutProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The kernel's arithmetic on one block of rows. -/
def block (z : Vec F S1024x1024 .bf16) (o n : Vec F S1024x512 .bf16) (x : Vec F S1024x1024 .f32) (wt : Vec F S1024x1024 .f32)
    (g : Vec F S1x1024 .f32) : FVec F S1024x1024 .f32 :=
  have gate : FVec F S1024x1024 .f32 := extf .f32 z bitsLt_bf16_f32
  have cat : FVec F S1024x1024 .f32 :=
    extf .f32 (concatenate S1024x1024 1 [⟨S1024x512, o⟩, ⟨S1024x512, n⟩] concatenates_S1024x512_S1024x512_S1024x1024_d1 : FVec F S1024x1024 .bf16) bitsLt_bf16_f32
  have gated : FVec F S1024x1024 .f32 := mulf cat (mulf gate (logistic gate))
  have xf : FVec F S1024x1024 .f32 :=
    addf x (matmul dot_S1024x1024_S1024x1024_S1024x1024_1_0_0_1_n_n none gated wt (constant S1024x1024 .f32 0x00000000#32))
  have ss : FVec F S1024 .f32 := multiReduction .add [1] S1024 (mulf xf xf) 0x00000000#32 reduces_S1024x1024_S1024 (.inl rfl) rfl
  have r : FVec F S1024x1 .f32 :=
    rsqrt (addf (divf (shapeCast S1024x1 ss shapeCasts_S1024_S1024x1) (broadcast S1024x1 (Scalar.ofBits .f32 0x44800000#32)))
      (broadcast S1024x1 (Scalar.ofBits .f32 0x358637BD#32)))
  mulf (mulf xf (broadcastTo S1024x1024 r broadcasts_S1024x1_S1024x1024)) (broadcastTo S1024x1024 g broadcasts_S1x1024_S1024x1024)

/-- The kernel's payload is `block` between the two changes of shape. -/
theorem pay1_eq (z : Vec F S1x1024x1024 .bf16) (o n : Vec F S1x1024x512 .bf16) (x : Vec F S1x1024x1024 .f32) (wt : Vec F S1024x1024 .f32)
    (g : Vec F S1x1024 .f32) :
    k0_pay1 z o n x wt g = shapeCast S1x1024x1024
      (block (shapeCast S1024x1024 z shapeCasts_S1x1024x1024_S1024x1024) (shapeCast S1024x512 o shapeCasts_S1x1024x512_S1024x512)
        (shapeCast S1024x512 n shapeCasts_S1x1024x512_S1024x512) (shapeCast S1024x1024 x shapeCasts_S1x1024x1024_S1024x1024) wt g)
      shapeCasts_S1024x1024_S1x1024x1024 := by
  have e : shapeCast S1x1024 g shapeCasts_S1x1024_S1x1024 = g := shapeCast_self g _
  unfold k0_pay1 block
  rw [e]

variable (c : Dev nD)

/-- What the trip loads from a slot of ring `x`, its leading axis dropped: what the slot received. -/
theorem x_load (s : Fin 3) {off : Fin 3 → Nat} (e : off = slotOff s) (hh) (f : Buf (Elt F) ((xS s).view.loc (c : Thread nD τ))) (v : S1024x1024.Idx → Elt F _) :
    shapeCast S1024x1024 (xB.view.readAt (Elt F) (Rect.unit (s := S3x1024x1024) off S1x1024x1024.size hh).toLoadRect ((xS s).view.writes (Elt F) f [⟨Rect.whole S1024x1024, v⟩])) shapeCasts_S1x1024x1024_S1024x1024 = v := by
  subst e
  exact (Memref.read_squeeze_slice xB (Rect.unit (s := S3x1024x1024) (slotOff s) S1x1024x1024.size hh) (fun _ => rfl) squeezes_S1x1024x1024_S1024x1024 shapeCasts_S1x1024x1024_S1024x1024 _).symm.trans
    (View.read_writes_whole (xS s).view f v)

/-- What the trip loads from a slot of ring `o`, its leading axis dropped: what the slot received. -/
theorem o_load (s : Fin 3) {off : Fin 3 → Nat} (e : off = slotOff s) (hh) (f : Buf (Elt F) ((oS s).view.loc (c : Thread nD τ))) (v : S1024x512.Idx → Elt F _) :
    shapeCast S1024x512 (oB.view.readAt (Elt F) (Rect.unit (s := S3x1024x512) off S1x1024x512.size hh).toLoadRect ((oS s).view.writes (Elt F) f [⟨Rect.whole S1024x512, v⟩])) shapeCasts_S1x1024x512_S1024x512 = v := by
  subst e
  exact (Memref.read_squeeze_slice oB (Rect.unit (s := S3x1024x512) (slotOff s) S1x1024x512.size hh) (fun _ => rfl) squeezes_S1x1024x512_S1024x512 shapeCasts_S1x1024x512_S1024x512 _).symm.trans
    (View.read_writes_whole (oS s).view f v)

/-- What the trip loads from a slot of ring `n`, its leading axis dropped: what the slot received. -/
theorem n_load (s : Fin 3) {off : Fin 3 → Nat} (e : off = slotOff s) (hh) (f : Buf (Elt F) ((nS s).view.loc (c : Thread nD τ))) (v : S1024x512.Idx → Elt F _) :
    shapeCast S1024x512 (nB.view.readAt (Elt F) (Rect.unit (s := S3x1024x512) off S1x1024x512.size hh).toLoadRect ((nS s).view.writes (Elt F) f [⟨Rect.whole S1024x512, v⟩])) shapeCasts_S1x1024x512_S1024x512 = v := by
  subst e
  exact (Memref.read_squeeze_slice nB (Rect.unit (s := S3x1024x512) (slotOff s) S1x1024x512.size hh) (fun _ => rfl) squeezes_S1x1024x512_S1024x512 shapeCasts_S1x1024x512_S1024x512 _).symm.trans
    (View.read_writes_whole (nS s).view f v)

/-- What the trip loads from a slot of ring `z`, its leading axis dropped: what the slot received. -/
theorem z_load (s : Fin 3) {off : Fin 3 → Nat} (e : off = slotOff s) (hh) (f : Buf (Elt F) ((zS s).view.loc (c : Thread nD τ))) (v : S1024x1024.Idx → Elt F _) :
    shapeCast S1024x1024 (zB.view.readAt (Elt F) (Rect.unit (s := S3x1024x1024) off S1x1024x1024.size hh).toLoadRect ((zS s).view.writes (Elt F) f [⟨Rect.whole S1024x1024, v⟩])) shapeCasts_S1x1024x1024_S1024x1024 = v := by
  subst e
  exact (Memref.read_squeeze_slice zB (Rect.unit (s := S3x1024x1024) (slotOff s) S1x1024x1024.size hh) (fun _ => rfl) squeezes_S1x1024x1024_S1024x1024 shapeCasts_S1x1024x1024_S1024x1024 _).symm.trans
    (View.read_writes_whole (zS s).view f v)

/-- What leaves a slot of the result after a store of `v` (with its leading axis) through the whole buffer: `v`. -/
theorem y_sent (s : Fin 2) {off : Fin 3 → Nat} (e : off = slotOff s) (hh) (f : Buf (Elt F) ((yS s).view.loc (c : Thread nD τ))) (v : FVec F S1024x1024 .f32) :
    (yS s).view.read (Elt F) (View.write (Elt F) (yB.access (Rect.unit (s := S2x1024x1024) off S1x1024x1024.size hh)) f (shapeCast S1x1024x1024 v shapeCasts_S1024x1024_S1x1024x1024) Finset.univ) = v := by
  subst e
  refine (Memref.read_squeeze_slice yB (Rect.unit (s := S2x1024x1024) (slotOff s) S1x1024x1024.size hh) (fun _ => rfl) squeezes_S1x1024x1024_S1024x1024 shapeCasts_S1x1024x1024_S1024x1024 _).trans ?_
  rw [View.readAt_rect]
  refine (congrArg (fun u => shapeCast S1024x1024 u shapeCasts_S1x1024x1024_S1024x1024) (View.read_write_univ _ _)).trans ?_
  exact shapeCast_shapeCast v _ _

theorem w_load (f : Buf (Elt F) (wB.view.loc (c : Thread nD τ))) : wB.view.readAt (Elt F) (Rect.unit (s := S1024x1024) ![0, 0] S1024x1024.size inb_S1024x1024_S1024x1024_0_0).toLoadRect f = f :=
  Memref.readAt_unit_zero (Elt F) _ (by decide) _ _
theorem g_load (f : Buf (Elt F) (gB.view.loc (c : Thread nD τ))) : gB.view.readAt (Elt F) (Rect.unit (s := S1x1024) ![0, 0] S1x1024.size inb_S1x1024_S1x1024_0_0).toLoadRect f = f :=
  Memref.readAt_unit_zero (Elt F) _ (by decide) _ _

section Result

variable (X : Buf (Elt F) (xM.view.loc (c : Thread nD τ))) (O : Buf (Elt F) (oM.view.loc (c : Thread nD τ)))
  (N : Buf (Elt F) (nM.view.loc (c : Thread nD τ))) (Z : Buf (Elt F) (zM.view.loc (c : Thread nD τ)))
  (fw : Buf (Elt F) (wB.view.loc (c : Thread nD τ))) (fg : Buf (Elt F) (gB.view.loc (c : Thread nD τ)))

/-- Block `b` of the result. -/
def blockAt (b : Fin 16) : FVec F S1024x1024 .f32 :=
  block ((zG b).view.read (Elt F) Z) ((oG b).view.read (Elt F) O) ((nG b).view.read (Elt F) N) ((xG b).view.read (Elt F) X) fw fg
/-- The block a row lies in, and its row there. -/
def blkOf (i : S16384x1024.Idx) : Fin 16 := ⟨(i 0).val / 1024, Nat.div_lt_of_lt_mul (i 0).isLt⟩
def laneOf (i : S16384x1024.Idx) : S1024x1024.Idx := ValueIdx.ix2 ⟨(i 0).val % 1024, Nat.mod_lt _ (by decide)⟩ ⟨(i 1).val, (i 1).isLt⟩
/-- The result. -/
def result : Buf (Elt F) (yM.view.loc (c : Thread nD τ)) := fun i : S16384x1024.Idx => blockAt c X O N Z fw fg (blkOf i) (laneOf i)

theorem yG_emb_val (b : Fin 16) (j : S1024x1024.Idx) (a : Fin 2) : ((yG b).view.emb j a : Nat) = rowOff b a + j a :=
  ValueKit.view_emb_slice_whole_unit_val main_v1 (rowOff b) S1024x1024.size (row_inb b) j a

theorem place (i : S16384x1024.Idx) (b : Fin 16) (j : S1024x1024.Idx) (h0 : (i 0).val = 1024 * b.val + (j 0).val) (h1 : (i 1).val = (j 1).val) :
    blkOf i = b ∧ laneOf i = j := by
  have hj : (j 0).val < 1024 := (j 0).isLt
  constructor
  · apply Fin.ext; show (i 0).val / 1024 = b.val; omega
  · funext a
    apply Fin.ext
    match a with
    | ⟨0, _⟩ => show (i 0).val % 1024 = (j 0).val; omega
    | ⟨1, _⟩ => exact h1

/-- Block `b` of the result, read back. -/
theorem result_emb (b : Fin 16) (j : S1024x1024.Idx) : result c X O N Z fw fg ((yG b).view.emb j) = blockAt c X O N Z fw fg b j := by
  obtain ⟨e0, e1⟩ := place ((yG b).view.emb j) b j (yG_emb_val b j 0) ((yG_emb_val b j 1).trans (Nat.zero_add _))
  unfold result
  rw [e0, e1]

/-- A block of the array after `v` was written there is the result's, when `v` is the result's block. -/
theorem landed_eq (b : Fin 16) (Y : Buf (Elt F) (yM.view.loc (c : Thread nD τ))) (v : S1024x1024.Idx → Elt F .f32) (hv : v = blockAt c X O N Z fw fg b) :
    ∀ i ∈ (yG b).view.set, (yG b).view.writes (Elt F) Y [⟨Rect.whole S1024x1024, v⟩] i = result c X O N Z fw fg i := by
  intro i hi
  obtain ⟨j, -, rfl⟩ := Finset.mem_map.mp hi
  have h := congrFun (View.read_writes_whole (yG b).view Y v) j
  rw [View.read_apply] at h
  rw [result_emb, ← hv, ← h]
  exact (eq_of_heq (cast_heq _ _)).symm

/-- What trip `k` sends: its block. -/
theorem stored_read (s : Fin 3) (t : Fin 2) (b : Fin 16) {oz oo on ox : Fin 3 → Nat} {oy : Fin 3 → Nat} (ez : oz = slotOff s) (eo : oo = slotOff s) (en : on = slotOff s) (ex : ox = slotOff s) (ey : oy = slotOff t)
    (hz ho hn hx hy) (jz jo jn jx) (f : Buf (Elt F) ((yS t).view.loc (c : Thread nD τ))) :
    ReadAs.same.apply ((yS t).view.read (Elt F) (View.write (Elt F) (yB.access (Rect.unit (s := S2x1024x1024) oy S1x1024x1024.size hy)) f
      (k0_pay1
        (zB.view.readAt (Elt F) (Rect.unit (s := S3x1024x1024) oz S1x1024x1024.size hz).toLoadRect ((zS s).view.writes (Elt F) jz [⟨Rect.whole S1024x1024, ReadAs.same.apply ((zG b).view.read (Elt F) Z)⟩]))
        (oB.view.readAt (Elt F) (Rect.unit (s := S3x1024x512) oo S1x1024x512.size ho).toLoadRect ((oS s).view.writes (Elt F) jo [⟨Rect.whole S1024x512, ReadAs.same.apply ((oG b).view.read (Elt F) O)⟩]))
        (nB.view.readAt (Elt F) (Rect.unit (s := S3x1024x512) on S1x1024x512.size hn).toLoadRect ((nS s).view.writes (Elt F) jn [⟨Rect.whole S1024x512, ReadAs.same.apply ((nG b).view.read (Elt F) N)⟩]))
        (xB.view.readAt (Elt F) (Rect.unit (s := S3x1024x1024) ox S1x1024x1024.size hx).toLoadRect ((xS s).view.writes (Elt F) jx [⟨Rect.whole S1024x1024, ReadAs.same.apply ((xG b).view.read (Elt F) X)⟩]))
        (wB.view.readAt (Elt F) (Rect.unit (s := S1024x1024) ![0, 0] S1024x1024.size inb_S1024x1024_S1024x1024_0_0).toLoadRect fw)
        (gB.view.readAt (Elt F) (Rect.unit (s := S1x1024) ![0, 0] S1x1024.size inb_S1x1024_S1x1024_0_0).toLoadRect fg)) Finset.univ))
      = blockAt c X O N Z fw fg b := by
  rw [pay1_eq, z_load c s ez, o_load c s eo, n_load c s en, x_load c s ex, w_load, g_load]
  refine (congrArg ReadAs.same.apply (y_sent c t ey hy f _)).trans ?_
  rfl

end Result

end Cert.Proof.OutProj

end
-- ==== Proof.Row.lean ====
/-
  One row of the layer's last step, as mathematics, and the two sides read against it.

  `mixed` is a row of x + gated · w, where `gated` is the two attention results side by side times silu of the gate.
  `rowOut` is that row divided by its root mean square, times the norm's weight. `block_at` reads the kernel's block of
  1024 rows at an entry, `reference_at` the reference's whole array; both are `rowOut` of that row's data.
-/
module

public import proofs.«01_k».proof.Proof.Block
public import proofs.«01_k».proof.Proof.Gen.ReferenceIdeal.Run
public import Idealize.ShloMosaic.Lib.Pointwise

@[expose] public section

set_option maxRecDepth 16384

noncomputable section

namespace Cert.Proof.OutProj

open Idealize.ShloMosaic
open Idealize.ShloMosaic (ix1 ix2 ix3)

/-- One entry of x + gated · w, from a row `x`, the two attention rows `o` and `n`, the gate row `z` and the weight `w`. -/
def mixed (x : Fin 1024 → EReal) (o n : Fin 512 → EReal) (z : Fin 1024 → EReal) (w : Fin 1024 → Fin 1024 → EReal) (l : Fin 1024) : EReal :=
  x l + ((∑ k : Fin 512, o k * (z ⟨k.val, by omega⟩ * Ideal.logistic (z ⟨k.val, by omega⟩)) * w ⟨k.val, by omega⟩ l)
    + ∑ k : Fin 512, n k * (z ⟨512 + k.val, by omega⟩ * Ideal.logistic (z ⟨512 + k.val, by omega⟩)) * w ⟨512 + k.val, by omega⟩ l)

/-- One entry of the normed row. The constants are the kernel's 1024 and its epsilon. -/
def rowOut (x : Fin 1024 → EReal) (o n : Fin 512 → EReal) (z : Fin 1024 → EReal) (w : Fin 1024 → Fin 1024 → EReal) (g : Fin 1024 → EReal)
    (l : Fin 1024) : EReal :=
  mixed x o n z w l
    * Ideal.rsqrt (Ideal.div (∑ j : Fin 1024, mixed x o n z w j * mixed x o n z w j) (Ideal.ofBits .f32 0x44800000#32)
        + Ideal.ofBits .f32 0x358637BD#32)
    * g l

section Kernel
open Cert.KernelIdeal Cert.KernelIdeal.Gen

/-- The kernel's block at an entry. -/
theorem block_at (z : Vec Ideal S1024x1024 .bf16) (o n : Vec Ideal S1024x512 .bf16) (x : Vec Ideal S1024x1024 .f32)
    (wt : Vec Ideal S1024x1024 .f32) (g : Vec Ideal S1x1024 .f32) (r l : Fin 1024) :
    block z o n x wt g (ix2 r l)
      = rowOut (fun k => x (ix2 r k)) (fun k => o (ix2 r k)) (fun k => n (ix2 r k)) (fun k => z (ix2 r k))
          (fun k j => wt (ix2 k j)) (fun k => g (ix2 0 k)) l := by
  pointwise [block, rowOut, mixed, dot_S1024x1024_S1024x1024_S1024x1024_1_0_0_1_n_n]

end Kernel

section Reference
open Cert.ReferenceIdeal Cert.ReferenceIdeal.Gen

/-- The reference's x + gated · w. -/
def refMixed (X : FVec Ideal S16384x1024 .f32) (O N : FVec Ideal S16384x512 .bf16) (Z : FVec Ideal S16384x4096 .bf16)
    (W : FVec Ideal S4x1024x1024 .f32) : FVec Ideal S16384x1024 .f32 :=
  addf X (Host.dotGeneral dot_S16384x1024_S1024x1024_S16384x1024_1_0_0_1_n_n none (mulf (concatenate S16384x1024 1 [⟨S16384x512, (extf .f32 O bitsLt_bf16_f32)⟩, ⟨S16384x512, (extf .f32 N bitsLt_bf16_f32)⟩] concatenates_S16384x512_S16384x512_S16384x1024_d1) (mulf (extf .f32 (extractStridedSlice S16384x1024 ![0, 3072] Z slices_S16384x4096_S16384x1024_0_3072) bitsLt_bf16_f32) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 (extractStridedSlice S16384x1024 ![0, 3072] Z slices_S16384x4096_S16384x1024_0_3072) bitsLt_bf16_f32))))))) (shapeCast _ (extractStridedSlice S1x1024x1024 ![3, 0, 0] W slices_S4x1024x1024_S1x1024x1024_3_0_0) shapeCasts_S1x1024x1024_S1024x1024))

/-- The reference's result. -/
def refOut (X : FVec Ideal S16384x1024 .f32) (O N : FVec Ideal S16384x512 .bf16) (Z : FVec Ideal S16384x4096 .bf16)
    (W : FVec Ideal S4x1024x1024 .f32) (Gn : FVec Ideal S1024 .f32) : FVec Ideal S16384x1024 .f32 :=
  mulf (mulf (refMixed X O N Z W) (broadcastInDim S16384x1024 ![0, 1] bcast_S16384x1_S16384x1024_0_1 (Host.rsqrt (addf (Host.divf (broadcastInDim S16384x1 ![0] bcast_S16384_S16384x1_0 (Host.reduceAdd (mulf (refMixed X O N Z W) (refMixed X O N Z W)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 Gn))

theorem refMixed_at (X : FVec Ideal S16384x1024 .f32) (O N : FVec Ideal S16384x512 .bf16) (Z : FVec Ideal S16384x4096 .bf16)
    (W : FVec Ideal S4x1024x1024 .f32) (r : Fin 16384) (l : Fin 1024) :
    refMixed X O N Z W (ix2 r l)
      = mixed (fun k => X (ix2 r k)) (fun k => O (ix2 r k)) (fun k => N (ix2 r k)) (fun k => Z (ix2 r ⟨3072 + k.val, by omega⟩))
          (fun k j => W (ix3 3 k j)) l := by
  pointwise [refMixed, mixed, Ideal.logistic, dot_S16384x1024_S1024x1024_S16384x1024_1_0_0_1_n_n]

/-- The reference's result at an entry. -/
theorem reference_at (X : FVec Ideal S16384x1024 .f32) (O N : FVec Ideal S16384x512 .bf16) (Z : FVec Ideal S16384x4096 .bf16)
    (W : FVec Ideal S4x1024x1024 .f32) (Gn : FVec Ideal S1024 .f32) (r : Fin 16384) (l : Fin 1024) :
    refOut X O N Z W Gn (ix2 r l)
      = rowOut (fun k => X (ix2 r k)) (fun k => O (ix2 r k)) (fun k => N (ix2 r k)) (fun k => Z (ix2 r ⟨3072 + k.val, by omega⟩))
          (fun k j => W (ix3 3 k j)) (fun k => Gn (ix1 k)) l := by
  pointwise [refOut, rowOut, refMixed_at]

end Reference

end Cert.Proof.OutProj
-- ==== Proof.Trip.lean ====
/-
  One trip of the loop, and the loop's invariant.

  Trip `k` waits for block `k` of the four inputs, computes its block of the result in the result's slot, sends it,
  waits for the result of trip `k - 1` and issues block `k + 2`. There are three runs: the first trip (no result is in
  flight), a trip in the middle, and the last two trips (nothing is left to issue).
-/
module

public import proofs.«01_k».proof.Proof.Pieces
public import proofs.«01_k».proof.Proof.Block

@[expose] public section

set_option maxRecDepth 16384

noncomputable section

namespace Cert.Proof.OutProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip

variable (c : Dev nD)
  (X : Buf (Elt F) (xM.view.loc (c : Thread nD τ))) (O : Buf (Elt F) (oM.view.loc (c : Thread nD τ)))
  (N : Buf (Elt F) (nM.view.loc (c : Thread nD τ))) (Z : Buf (Elt F) (zM.view.loc (c : Thread nD τ)))
  (Y : Buf (Elt F) (yM.view.loc (c : Thread nD τ)))
  (fw : Buf (Elt F) (wB.view.loc (c : Thread nD τ))) (fg : Buf (Elt F) (gB.view.loc (c : Thread nD τ)))

/-- The result the kernel leaves. -/
abbrev res : Buf (Elt F) (yM.view.loc (c : Thread nD τ)) := result c X O N Z fw fg

/-- The resources before trip `k`: the five rings, the weights and the gains, the core's `owes`. -/
abbrev resAt (k : ℕ) : sProp 𝕄 :=
  iprop(xRing c X k ∗ oRing c O k ∗ nRing c N k ∗ zRing c Z k ∗ yRing c Y (res c X O N Z fw fg) k
    ∗ (wB.view.loc (c : Thread nD τ) ↦[wB.view.set]{fullShare} fw) ∗ (gB.view.loc (c : Thread nD τ) ↦[gB.view.set]{fullShare} fg)
    ∗ (∃ W, owes (c : Thread nD τ) 0 W))

variable (j0 j1 j2 j3 j4 j5 j6 j7 j8 j9 j10 j11 j12 : BitVec 32)
/-- Trip `k` on its words. -/
abbrev tripG (k : Fin k0_t1_loop.trips) : Prog (TpuEff nD τ sig (Elt F) Λ₀ .tc) (BitVec 32 × BitVec 32 × BitVec 32 × BitVec 32 × BitVec 32 × BitVec 32 × BitVec 32 × BitVec 32 × BitVec 32 × BitVec 32 × BitVec 32 × BitVec 32 × BitVec 32) :=
  k0_t1_body (F := F) xM (Memref.isWhole_whole _) oM (Memref.isWhole_whole _) nM (Memref.isWhole_whole _) zM (Memref.isWhole_whole _) wM (Memref.isWhole_whole _) gM (Memref.isWhole_whole _) yM (Memref.isWhole_whole _)
    xB (Memref.isWhole_whole _) cc0_scoped1 oB (Memref.isWhole_whole _) cc0_scoped3 nB (Memref.isWhole_whole _) cc0_scoped5 zB (Memref.isWhole_whole _) cc0_scoped7 wB (Memref.isWhole_whole _) gB (Memref.isWhole_whole _) yB (Memref.isWhole_whole _) cc0_scoped11
    cc0_scoped12 cc0_scoped13 j0 j1 j2 j3 j4 j5 j6 j7 j8 j9 j10 j11 j12 k (words k.val)

/-- The first trip: blocks 0 and 1 are in flight, no result is. -/
theorem trip_first (k : Fin k0_t1_loop.trips) (h1 : ¬ 1 ≤ k.val) :
    resAt c X O N Z Y fw fg k.val ⊢ wp frame (wpE (defs₀ (F := F)) 𝒱₀ (c : Thread nD τ) none) Set.univ (tripG j0 j1 j2 j3 j4 j5 j6 j7 j8 j9 j10 j11 j12 k)
      (fun acc => iprop(⌜acc = words (k.val + 1)⌝ ∗ resAt c X O N Z Y fw fg (k.val + 1))) := by
  have hk : k.val < 14 := by omega
  have h16 : k.val < 16 := by omega
  unfold resAt
  rw [xRing_here c _ k.val hk, xRing_next c _ k.val hk]
  rw [oRing_here c _ k.val hk, oRing_next c _ k.val hk]
  rw [nRing_here c _ k.val hk, nRing_next c _ k.val hk]
  rw [zRing_here c _ k.val hk, zRing_next c _ k.val hk]
  rw [yRing_zero c _ _ k.val h1, yRing_zero_next c _ _ k.val h1]
  have hc5 := cond5_on k hk
  have hc6 := cond6_on k hk
  have hc7 := cond7_on k hk
  have hc8 := cond8_on k hk
  have hc9 := cond9_on k
  have hc10 := cond10_on k
  have hc11 := cond11_on k
  have hc12 := cond12_on k
  have hc18 := cond18_on k
  have hc23 := cond23_off k h1
  have ha6 := chk6_ok k
  have ha5 := chk5_ok k
  have ha4 := chk4_ok k
  have ha3 := chk3_ok k
  have ha2 := chk2_ok k
  have ha1 := chk1_ok k
  iintro ⟨⟨⟨xH, xA⟩, xB, ⟨%xf0, xF0⟩, xF1, ⟨⟨%xf, xS⟩, xC⟩⟩, ⟨⟨oH, oA⟩, oB, ⟨%of0, oF0⟩, oF1, ⟨⟨%of, oS⟩, oC⟩⟩, ⟨⟨nH, nA⟩, nB, ⟨%nf0, nF0⟩, nF1, ⟨⟨%nf, nS⟩, nC⟩⟩, ⟨⟨zH, zA⟩, zB, ⟨%zf0, zF0⟩, zF1, ⟨⟨%zf, zS⟩, zC⟩⟩, ⟨⟨yH, yA⟩, ⟨⟨%yf, yS⟩, yC⟩, yN⟩, Hw, Hg, ⟨%W, HO⟩⟩
  delta tripG words
  sl_unfold [k0_t1_body]
  sl_exec
  sl_step
  isplitr
  · ipureintro
    have e1 : ∀ k, trip_first.sl.v145_r0 k = wI (k.val + 1) := of_trips (by decide +kernel)
    have e2 : ∀ k, trip_first.sl.v280_r0 k = wW (k.val + 1) := of_trips (by decide +kernel)
    have e3 : ∀ k, trip_first.sl.v331_r0 k = wC (k.val + 1) := of_trips (by decide +kernel)
    have e4 : ∀ k, trip_first.sl.v312_r0 k = wP (k.val + 1) := of_trips (by decide +kernel)
    have e5 : ∀ k, trip_first.sl.v124_r0 k = wG (k.val + 1) := of_trips (by decide +kernel)
    rw [e1, e2, e3, e4, e5]
  isplitl [xF0_src xB xF0_dst xF0 xA xF1 xC]
  · isplitl [xA]; · iexact xA
    isplitl [xF0_src xB]
    · isplitl [xF0_src]; · iexact xF0_src
      iexact xB
    isplitl [xF1]; · iexact xF1
    isplitl [xC]; · iexists xf; iexact xC
    isplitl [xF0_dst]; · iexists _; iexact xF0_dst
    iexact xF0
  isplitl [oF0_src oB oF0_dst oF0 oA oF1 oC]
  · isplitl [oA]; · iexact oA
    isplitl [oF0_src oB]
    · isplitl [oF0_src]; · iexact oF0_src
      iexact oB
    isplitl [oF1]; · iexact oF1
    isplitl [oC]; · iexists of; iexact oC
    isplitl [oF0_dst]; · iexists _; iexact oF0_dst
    iexact oF0
  isplitl [nF0_src nB nF0_dst nF0 nA nF1 nC]
  · isplitl [nA]; · iexact nA
    isplitl [nF0_src nB]
    · isplitl [nF0_src]; · iexact nF0_src
      iexact nB
    isplitl [nF1]; · iexact nF1
    isplitl [nC]; · iexists nf; iexact nC
    isplitl [nF0_dst]; · iexists _; iexact nF0_dst
    iexact nF0
  isplitl [zF0_src zB zF0_dst zF0 zA zF1 zC]
  · isplitl [zA]; · iexact zA
    isplitl [zF0_src zB]
    · isplitl [zF0_src]; · iexact zF0_src
      iexact zB
    isplitl [zF1]; · iexact zF1
    isplitl [zC]; · iexists zf; iexact zC
    isplitl [zF0_dst]; · iexists _; iexact zF0_dst
    iexact zF0
  isplitl [yA yN yC]
  · isplitl [yA]; · iexact yA
    isplitl [yN]; · iexact yN
    iexists _; iexists _
    isplitr [yC]
    rotate_left
    · iexact yC
    · ipureintro
      exact landed_eq c X O N Z fw fg (Ring.bk 16 k.val) Y _ (stored_read c X O N Z fw fg (Ring.sl 3 k.val) (Ring.sl 2 k.val) (Ring.bk 16 k.val)
        (off40_eq k) (off41_eq k) (off42_eq k) (off43_eq k) (off44_eq k) _ _ _ _ _ _ _ _ _ _)
  isplitl [Hw]; · iexact Hw
  isplitl [Hg]; · iexact Hg
  iexists _; iexact HO

/-- A trip in the middle: block `k` is waited for, block `k + 2` issued, result `k` sent, result `k - 1` waited for. -/
theorem trip_mid (k : Fin k0_t1_loop.trips) (h1 : 1 ≤ k.val) (hk : k.val < 14) :
    resAt c X O N Z Y fw fg k.val ⊢ wp frame (wpE (defs₀ (F := F)) 𝒱₀ (c : Thread nD τ) none) Set.univ (tripG j0 j1 j2 j3 j4 j5 j6 j7 j8 j9 j10 j11 j12 k)
      (fun acc => iprop(⌜acc = words (k.val + 1)⌝ ∗ resAt c X O N Z Y fw fg (k.val + 1))) := by
  have h16 : k.val < 16 := by omega
  unfold resAt
  rw [xRing_here c _ k.val hk, xRing_next c _ k.val hk]
  rw [oRing_here c _ k.val hk, oRing_next c _ k.val hk]
  rw [nRing_here c _ k.val hk, nRing_next c _ k.val hk]
  rw [zRing_here c _ k.val hk, zRing_next c _ k.val hk]
  rw [yRing_here c _ _ k.val h1 h16, yRing_next c _ _ k.val h1 h16]
  have hc5 := cond5_on k hk
  have hc6 := cond6_on k hk
  have hc7 := cond7_on k hk
  have hc8 := cond8_on k hk
  have hc9 := cond9_on k
  have hc10 := cond10_on k
  have hc11 := cond11_on k
  have hc12 := cond12_on k
  have hc18 := cond18_on k
  have hc23 := cond23_on k h1
  have ha6 := chk6_ok k
  have ha5 := chk5_ok k
  have ha4 := chk4_ok k
  have ha3 := chk3_ok k
  have ha2 := chk2_ok k
  have ha1 := chk1_ok k
  iintro ⟨⟨⟨xH, xA⟩, xB, ⟨%xf0, xF0⟩, xF1, ⟨⟨%xf, xS⟩, xC⟩⟩, ⟨⟨oH, oA⟩, oB, ⟨%of0, oF0⟩, oF1, ⟨⟨%of, oS⟩, oC⟩⟩, ⟨⟨nH, nA⟩, nB, ⟨%nf0, nF0⟩, nF1, ⟨⟨%nf, nS⟩, nC⟩⟩, ⟨⟨zH, zA⟩, zB, ⟨%zf0, zF0⟩, zF1, ⟨⟨%zf, zS⟩, zC⟩⟩, ⟨⟨yH, yA⟩, yB, ⟨⟨%yf, yS⟩, yC⟩, ⟨%ya, %yb, %yhyp, yF⟩⟩, Hw, Hg, ⟨%W, HO⟩⟩
  delta tripG words
  sl_unfold [k0_t1_body]
  sl_exec
  sl_step
  isplitr
  · ipureintro
    have e1 : ∀ k, trip_mid.sl.v145_r0 k = wI (k.val + 1) := of_trips (by decide +kernel)
    have e2 : ∀ k, trip_mid.sl.v280_r0 k = wW (k.val + 1) := of_trips (by decide +kernel)
    have e3 : ∀ k, trip_mid.sl.v331_r0 k = wC (k.val + 1) := of_trips (by decide +kernel)
    have e4 : ∀ k, trip_mid.sl.v312_r0 k = wP (k.val + 1) := of_trips (by decide +kernel)
    have e5 : ∀ k, trip_mid.sl.v124_r0 k = wG (k.val + 1) := of_trips (by decide +kernel)
    rw [e1, e2, e3, e4, e5]
  isplitl [xF0_src xB xF0_dst xF0 xA xF1 xC]
  · isplitl [xA]; · iexact xA
    isplitl [xF0_src xB]
    · isplitl [xF0_src]; · iexact xF0_src
      iexact xB
    isplitl [xF1]; · iexact xF1
    isplitl [xC]; · iexists xf; iexact xC
    isplitl [xF0_dst]; · iexists _; iexact xF0_dst
    iexact xF0
  isplitl [oF0_src oB oF0_dst oF0 oA oF1 oC]
  · isplitl [oA]; · iexact oA
    isplitl [oF0_src oB]
    · isplitl [oF0_src]; · iexact oF0_src
      iexact oB
    isplitl [oF1]; · iexact oF1
    isplitl [oC]; · iexists of; iexact oC
    isplitl [oF0_dst]; · iexists _; iexact oF0_dst
    iexact oF0
  isplitl [nF0_src nB nF0_dst nF0 nA nF1 nC]
  · isplitl [nA]; · iexact nA
    isplitl [nF0_src nB]
    · isplitl [nF0_src]; · iexact nF0_src
      iexact nB
    isplitl [nF1]; · iexact nF1
    isplitl [nC]; · iexists nf; iexact nC
    isplitl [nF0_dst]; · iexists _; iexact nF0_dst
    iexact nF0
  isplitl [zF0_src zB zF0_dst zF0 zA zF1 zC]
  · isplitl [zA]; · iexact zA
    isplitl [zF0_src zB]
    · isplitl [zF0_src]; · iexact zF0_src
      iexact zB
    isplitl [zF1]; · iexact zF1
    isplitl [zC]; · iexists zf; iexact zC
    isplitl [zF0_dst]; · iexists _; iexact zF0_dst
    iexact zF0
  isplitl [yA yF_dst yB yF_src yF yC]
  · isplitl [yA]; · iexact yA
    isplitl [yF_dst yB]
    · isplitl [yF_dst]
      · iapply (entails_of_eq (pointsTo_congr yhyp)); iexact yF_dst
      iexact yB
    isplitl [yF_src yF]
    · isplitl [yF_src]; · iexists _; iexact yF_src
      iexact yF
    iexists _; iexists _
    isplitr [yC]
    rotate_left
    · iexact yC
    · ipureintro
      exact landed_eq c X O N Z fw fg (Ring.bk 16 k.val) Y _ (stored_read c X O N Z fw fg (Ring.sl 3 k.val) (Ring.sl 2 k.val) (Ring.bk 16 k.val)
        (off40_eq k) (off41_eq k) (off42_eq k) (off43_eq k) (off44_eq k) _ _ _ _ _ _ _ _ _ _)
  isplitl [Hw]; · iexact Hw
  isplitl [Hg]; · iexact Hg
  iexists _; iexact HO

/-- One of the last two trips: nothing is issued. -/
theorem trip_late (k : Fin k0_t1_loop.trips) (hk : ¬ k.val < 14) (h16 : k.val < 16) :
    resAt c X O N Z Y fw fg k.val ⊢ wp frame (wpE (defs₀ (F := F)) 𝒱₀ (c : Thread nD τ) none) Set.univ (tripG j0 j1 j2 j3 j4 j5 j6 j7 j8 j9 j10 j11 j12 k)
      (fun acc => iprop(⌜acc = words (k.val + 1)⌝ ∗ resAt c X O N Z Y fw fg (k.val + 1))) := by
  have h1 : 1 ≤ k.val := by omega
  unfold resAt
  rw [xRing_late c _ k.val hk h16, xRing_late_next c _ k.val hk h16]
  rw [oRing_late c _ k.val hk h16, oRing_late_next c _ k.val hk h16]
  rw [nRing_late c _ k.val hk h16, nRing_late_next c _ k.val hk h16]
  rw [zRing_late c _ k.val hk h16, zRing_late_next c _ k.val hk h16]
  rw [yRing_here c _ _ k.val h1 h16, yRing_next c _ _ k.val h1 h16]
  have hc5 := cond5_off k hk
  have hc6 := cond6_off k hk
  have hc7 := cond7_off k hk
  have hc8 := cond8_off k hk
  have hc9 := cond9_on k
  have hc10 := cond10_on k
  have hc11 := cond11_on k
  have hc12 := cond12_on k
  have hc18 := cond18_on k
  have hc23 := cond23_on k h1
  have ha6 := chk6_ok k
  have ha5 := chk5_ok k
  have ha4 := chk4_ok k
  have ha3 := chk3_ok k
  have ha2 := chk2_ok k
  have ha1 := chk1_ok k
  iintro ⟨⟨xB, ⟨%xf0, xF0⟩, xR, xS⟩, ⟨oB, ⟨%of0, oF0⟩, oR, oS⟩, ⟨nB, ⟨%nf0, nF0⟩, nR, nS⟩, ⟨zB, ⟨%zf0, zF0⟩, zR, zS⟩, ⟨⟨yH, yA⟩, yB, ⟨⟨%yf, yS⟩, yC⟩, ⟨%ya, %yb, %yhyp, yF⟩⟩, Hw, Hg, ⟨%W, HO⟩⟩
  delta tripG words
  sl_unfold [k0_t1_body]
  sl_exec
  sl_step
  isplitr
  · ipureintro
    have e1 : ∀ k, trip_late.sl.v145_r0 k = wI (k.val + 1) := of_trips (by decide +kernel)
    have e2 : ∀ k, trip_late.sl.v280_r0 k = wW (k.val + 1) := of_trips (by decide +kernel)
    have e3 : ∀ k, trip_late.sl.v331_r0 k = wC (k.val + 1) := of_trips (by decide +kernel)
    have e4 : ∀ k, trip_late.sl.v312_r0 k = wP (k.val + 1) := of_trips (by decide +kernel)
    have e5 : ∀ k, trip_late.sl.v124_r0 k = wG (k.val + 1) := of_trips (by decide +kernel)
    rw [e1, e2, e3, e4, e5]
  isplitl [xF0_src xB xF0_dst xF0 xR xS]
  · isplitl [xF0_src xB]
    · isplitl [xF0_src]; · iexact xF0_src
      iexact xB
    isplitl [xR]; · iexact xR
    isplitl [xS]; · iexact xS
    isplitl [xF0_dst]; · iexists _; iexact xF0_dst
    iexact xF0
  isplitl [oF0_src oB oF0_dst oF0 oR oS]
  · isplitl [oF0_src oB]
    · isplitl [oF0_src]; · iexact oF0_src
      iexact oB
    isplitl [oR]; · iexact oR
    isplitl [oS]; · iexact oS
    isplitl [oF0_dst]; · iexists _; iexact oF0_dst
    iexact oF0
  isplitl [nF0_src nB nF0_dst nF0 nR nS]
  · isplitl [nF0_src nB]
    · isplitl [nF0_src]; · iexact nF0_src
      iexact nB
    isplitl [nR]; · iexact nR
    isplitl [nS]; · iexact nS
    isplitl [nF0_dst]; · iexists _; iexact nF0_dst
    iexact nF0
  isplitl [zF0_src zB zF0_dst zF0 zR zS]
  · isplitl [zF0_src zB]
    · isplitl [zF0_src]; · iexact zF0_src
      iexact zB
    isplitl [zR]; · iexact zR
    isplitl [zS]; · iexact zS
    isplitl [zF0_dst]; · iexists _; iexact zF0_dst
    iexact zF0
  isplitl [yA yF_dst yB yF_src yF yC]
  · isplitl [yA]; · iexact yA
    isplitl [yF_dst yB]
    · isplitl [yF_dst]
      · iapply (entails_of_eq (pointsTo_congr yhyp)); iexact yF_dst
      iexact yB
    isplitl [yF_src yF]
    · isplitl [yF_src]; · iexists _; iexact yF_src
      iexact yF
    iexists _; iexists _
    isplitr [yC]
    rotate_left
    · iexact yC
    · ipureintro
      exact landed_eq c X O N Z fw fg (Ring.bk 16 k.val) Y _ (stored_read c X O N Z fw fg (Ring.sl 3 k.val) (Ring.sl 2 k.val) (Ring.bk 16 k.val)
        (off40_eq k) (off41_eq k) (off42_eq k) (off43_eq k) (off44_eq k) _ _ _ _ _ _ _ _ _ _)
  isplitl [Hw]; · iexact Hw
  isplitl [Hg]; · iexact Hg
  iexists _; iexact HO

/-- Any trip. -/
theorem trip (k : Fin k0_t1_loop.trips) :
    resAt c X O N Z Y fw fg k.val ⊢ wp frame (wpE (defs₀ (F := F)) 𝒱₀ (c : Thread nD τ) none) Set.univ (tripG j0 j1 j2 j3 j4 j5 j6 j7 j8 j9 j10 j11 j12 k)
      (fun acc => iprop(⌜acc = words (k.val + 1)⌝ ∗ resAt c X O N Z Y fw fg (k.val + 1))) := by
  have h16 : k.val < 16 := Nat.lt_of_lt_of_eq k.isLt trips_eq
  by_cases h1 : 1 ≤ k.val
  · by_cases hk : k.val < 14
    · exact trip_mid c X O N Z Y fw fg j0 j1 j2 j3 j4 j5 j6 j7 j8 j9 j10 j11 j12 k h1 hk
    · exact trip_late c X O N Z Y fw fg j0 j1 j2 j3 j4 j5 j6 j7 j8 j9 j10 j11 j12 k hk h16
  · exact trip_first c X O N Z Y fw fg j0 j1 j2 j3 j4 j5 j6 j7 j8 j9 j10 j11 j12 k h1

end Trip

end Cert.Proof.OutProj

end
-- ==== Proof.Body.lean ====
/-
  The kernel's body: the two synchronous copies, the issues of blocks 0 and 1, the loop, the wait for the last result.
-/
module

public import proofs.«01_k».proof.Proof.Trip

@[expose] public section

set_option maxRecDepth 16384

noncomputable section

namespace Cert.Proof.OutProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Loop

variable (c : Dev nD)
  (X : Buf (Elt F) (xM.view.loc (c : Thread nD τ))) (O : Buf (Elt F) (oM.view.loc (c : Thread nD τ)))
  (N : Buf (Elt F) (nM.view.loc (c : Thread nD τ))) (Z : Buf (Elt F) (zM.view.loc (c : Thread nD τ)))
  (Y : Buf (Elt F) (yM.view.loc (c : Thread nD τ)))
  (fw : Buf (Elt F) (wB.view.loc (c : Thread nD τ))) (fg : Buf (Elt F) (gB.view.loc (c : Thread nD τ)))

/-- At the loop's entry: blocks 0 and 1 in flight, everything else as it was. -/
abbrev entry : sProp 𝕄 :=
  iprop((bigSep (Ring.aheadSet 2) (xHome c X) ∗ (∃ f, xFlight c X 0 0 f) ∗ (∃ f, xFlight c X 1 1 f) ∗ (∃ f, xSlot c 2 f) ∗ xCell c 2)
    ∗ (bigSep (Ring.aheadSet 2) (oHome c O) ∗ (∃ f, oFlight c O 0 0 f) ∗ (∃ f, oFlight c O 1 1 f) ∗ (∃ f, oSlot c 2 f) ∗ oCell c 2)
    ∗ (bigSep (Ring.aheadSet 2) (nHome c N) ∗ (∃ f, nFlight c N 0 0 f) ∗ (∃ f, nFlight c N 1 1 f) ∗ (∃ f, nSlot c 2 f) ∗ nCell c 2)
    ∗ (bigSep (Ring.aheadSet 2) (zHome c Z) ∗ (∃ f, zFlight c Z 0 0 f) ∗ (∃ f, zFlight c Z 1 1 f) ∗ (∃ f, zSlot c 2 f) ∗ zCell c 2)
    ∗ (bigSep (Ring.aheadSet 0) (yHome c Y) ∗ (∃ f, ySlot c 0 f) ∗ yCell c 0 ∗ (∃ f, ySlot c 1 f) ∗ yCell c 1)
    ∗ (wB.view.loc (c : Thread nD τ) ↦[wB.view.set]{fullShare} fw) ∗ (gB.view.loc (c : Thread nD τ) ↦[gB.view.set]{fullShare} fg)
    ∗ (∃ W, owes (c : Thread nD τ) 0 W))
/-- At its exit: the inputs home, their slots free, the last result in flight. -/
abbrev exit : sProp 𝕄 :=
  iprop((bigSep Finset.univ (xHome c X) ∗ xFree c 0 ∗ xFree c 1 ∗ xFree c 2)
    ∗ (bigSep Finset.univ (oHome c O) ∗ oFree c 0 ∗ oFree c 1 ∗ oFree c 2)
    ∗ (bigSep Finset.univ (nHome c N) ∗ nFree c 0 ∗ nFree c 1 ∗ nFree c 2)
    ∗ (bigSep Finset.univ (zHome c Z) ∗ zFree c 0 ∗ zFree c 1 ∗ zFree c 2)
    ∗ (bigSep (Ring.behindSet 1 16) (yHome c (res c X O N Z fw fg)) ∗ yFree c 0 ∗ yFlight c (res c X O N Z fw fg) 1 15)
    ∗ (wB.view.loc (c : Thread nD τ) ↦[wB.view.set]{fullShare} fw) ∗ (gB.view.loc (c : Thread nD τ) ↦[gB.view.set]{fullShare} fg)
    ∗ (∃ W, owes (c : Thread nD τ) 0 W))

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem bk_0 : Ring.bk 16 0 = 0 := Fin.ext (by rfl)
theorem bk_1 : Ring.bk 16 (0 + 1) = 1 := Fin.ext (by rfl)
theorem sl2_0 : Ring.sl 2 0 = 0 := Fin.ext (by rfl)
theorem sl2_1 : Ring.sl 2 (0 + 1) = 1 := Fin.ext (by rfl)
theorem sl3_16 : Ring.sl 3 16 = 1 := Fin.ext (by rfl)
theorem sl3_17 : Ring.sl 3 (16 + 1) = 2 := Fin.ext (by rfl)
theorem sl3_18 : Ring.sl 3 (16 + 2) = 0 := Fin.ext (by rfl)
theorem sl2_16 : Ring.sl 2 16 = 0 := Fin.ext (by rfl)
theorem sl2_17 : Ring.sl 2 (16 + 1) = 1 := Fin.ext (by rfl)
theorem bk_15 : Ring.bk 16 (16 - 1) = 15 := Fin.ext (by rfl)
theorem behind_zero : (Ring.behindSet 0 0 : Finset (Fin 16)) = ∅ := by decide
theorem behind_all : (Ring.behindSet 0 16 : Finset (Fin 16)) = Finset.univ := by decide

theorem xRing_entry (A : Buf (Elt F) (xM.view.loc (c : Thread nD τ))) :
    iprop(bigSep (Ring.aheadSet 2) (xHome c A) ∗ (∃ f, xFlight c A 0 0 f) ∗ (∃ f, xFlight c A 1 1 f) ∗ (∃ f, xSlot c 2 f) ∗ xCell c 2) ⊢ xRing c A 0 := by
  unfold xRing xRole
  rw [behind_zero, bigSep_empty, Ring.roleAt_of_lt _ _ 0 (by omega), Ring.roleAt_of_lt _ _ (0 + 1) (by omega), sl3_0, sl3_1, sl3_2, bk_0, bk_1]
  iintro ⟨H, H0, H1, S, C⟩
  isplitl [H]; · iexact H
  isplitr; · iempintro
  isplitl [H0]; · iexact H0
  isplitl [H1]; · iexact H1
  isplitl [S]; · iexact S
  iexact C
theorem xRing_exit (A : Buf (Elt F) (xM.view.loc (c : Thread nD τ))) :
    xRing c A 16 ⊢ iprop(bigSep Finset.univ (xHome c A) ∗ xFree c 0 ∗ xFree c 1 ∗ xFree c 2) := by
  unfold xRing xRole
  rw [behind_all, Ring.roleAt_of_le _ _ 16 (by omega), Ring.roleAt_of_le _ _ (16 + 1) (by omega), sl3_16, sl3_17, sl3_18]
  iintro ⟨-, H, H1, H2, H0⟩
  isplitl [H]; · iexact H
  isplitl [H0]; · iexact H0
  isplitl [H1]; · iexact H1
  iexact H2

theorem oRing_entry (A : Buf (Elt F) (oM.view.loc (c : Thread nD τ))) :
    iprop(bigSep (Ring.aheadSet 2) (oHome c A) ∗ (∃ f, oFlight c A 0 0 f) ∗ (∃ f, oFlight c A 1 1 f) ∗ (∃ f, oSlot c 2 f) ∗ oCell c 2) ⊢ oRing c A 0 := by
  unfold oRing oRole
  rw [behind_zero, bigSep_empty, Ring.roleAt_of_lt _ _ 0 (by omega), Ring.roleAt_of_lt _ _ (0 + 1) (by omega), sl3_0, sl3_1, sl3_2, bk_0, bk_1]
  iintro ⟨H, H0, H1, S, C⟩
  isplitl [H]; · iexact H
  isplitr; · iempintro
  isplitl [H0]; · iexact H0
  isplitl [H1]; · iexact H1
  isplitl [S]; · iexact S
  iexact C
theorem oRing_exit (A : Buf (Elt F) (oM.view.loc (c : Thread nD τ))) :
    oRing c A 16 ⊢ iprop(bigSep Finset.univ (oHome c A) ∗ oFree c 0 ∗ oFree c 1 ∗ oFree c 2) := by
  unfold oRing oRole
  rw [behind_all, Ring.roleAt_of_le _ _ 16 (by omega), Ring.roleAt_of_le _ _ (16 + 1) (by omega), sl3_16, sl3_17, sl3_18]
  iintro ⟨-, H, H1, H2, H0⟩
  isplitl [H]; · iexact H
  isplitl [H0]; · iexact H0
  isplitl [H1]; · iexact H1
  iexact H2

theorem nRing_entry (A : Buf (Elt F) (nM.view.loc (c : Thread nD τ))) :
    iprop(bigSep (Ring.aheadSet 2) (nHome c A) ∗ (∃ f, nFlight c A 0 0 f) ∗ (∃ f, nFlight c A 1 1 f) ∗ (∃ f, nSlot c 2 f) ∗ nCell c 2) ⊢ nRing c A 0 := by
  unfold nRing nRole
  rw [behind_zero, bigSep_empty, Ring.roleAt_of_lt _ _ 0 (by omega), Ring.roleAt_of_lt _ _ (0 + 1) (by omega), sl3_0, sl3_1, sl3_2, bk_0, bk_1]
  iintro ⟨H, H0, H1, S, C⟩
  isplitl [H]; · iexact H
  isplitr; · iempintro
  isplitl [H0]; · iexact H0
  isplitl [H1]; · iexact H1
  isplitl [S]; · iexact S
  iexact C
theorem nRing_exit (A : Buf (Elt F) (nM.view.loc (c : Thread nD τ))) :
    nRing c A 16 ⊢ iprop(bigSep Finset.univ (nHome c A) ∗ nFree c 0 ∗ nFree c 1 ∗ nFree c 2) := by
  unfold nRing nRole
  rw [behind_all, Ring.roleAt_of_le _ _ 16 (by omega), Ring.roleAt_of_le _ _ (16 + 1) (by omega), sl3_16, sl3_17, sl3_18]
  iintro ⟨-, H, H1, H2, H0⟩
  isplitl [H]; · iexact H
  isplitl [H0]; · iexact H0
  isplitl [H1]; · iexact H1
  iexact H2

theorem zRing_entry (A : Buf (Elt F) (zM.view.loc (c : Thread nD τ))) :
    iprop(bigSep (Ring.aheadSet 2) (zHome c A) ∗ (∃ f, zFlight c A 0 0 f) ∗ (∃ f, zFlight c A 1 1 f) ∗ (∃ f, zSlot c 2 f) ∗ zCell c 2) ⊢ zRing c A 0 := by
  unfold zRing zRole
  rw [behind_zero, bigSep_empty, Ring.roleAt_of_lt _ _ 0 (by omega), Ring.roleAt_of_lt _ _ (0 + 1) (by omega), sl3_0, sl3_1, sl3_2, bk_0, bk_1]
  iintro ⟨H, H0, H1, S, C⟩
  isplitl [H]; · iexact H
  isplitr; · iempintro
  isplitl [H0]; · iexact H0
  isplitl [H1]; · iexact H1
  isplitl [S]; · iexact S
  iexact C
theorem zRing_exit (A : Buf (Elt F) (zM.view.loc (c : Thread nD τ))) :
    zRing c A 16 ⊢ iprop(bigSep Finset.univ (zHome c A) ∗ zFree c 0 ∗ zFree c 1 ∗ zFree c 2) := by
  unfold zRing zRole
  rw [behind_all, Ring.roleAt_of_le _ _ 16 (by omega), Ring.roleAt_of_le _ _ (16 + 1) (by omega), sl3_16, sl3_17, sl3_18]
  iintro ⟨-, H, H1, H2, H0⟩
  isplitl [H]; · iexact H
  isplitl [H0]; · iexact H0
  isplitl [H1]; · iexact H1
  iexact H2

theorem yRing_entry (G : Buf (Elt F) (yM.view.loc (c : Thread nD τ))) :
    iprop(bigSep (Ring.aheadSet 0) (yHome c Y) ∗ (∃ f, ySlot c 0 f) ∗ yCell c 0 ∗ (∃ f, ySlot c 1 f) ∗ yCell c 1) ⊢ yRing c Y G 0 := by
  unfold yRing yRole
  rw [Ring.behindSet_boot 1 0 (by omega), bigSep_empty, Ring.roleBAt_of_lt 1 _ _ 0 (by omega), sl2_0, sl2_1]
  iintro ⟨H, S0, C0, S1, C1⟩
  isplitl [H]; · iexact H
  isplitr; · iempintro
  isplitl [S0 C0]
  · isplitl [S0]; · iexact S0
    iexact C0
  isplitl [S1]; · iexact S1
  iexact C1
theorem yRing_exit (G : Buf (Elt F) (yM.view.loc (c : Thread nD τ))) :
    yRing c Y G 16 ⊢ iprop(bigSep (Ring.behindSet 1 16) (yHome c G) ∗ yFree c 0 ∗ yFlight c G 1 15) := by
  unfold yRing yRole
  rw [Ring.roleBAt_of_le 1 _ _ 16 (by omega), sl2_16, sl2_17, bk_15]
  iintro ⟨-, H, F0, F1⟩
  isplitl [H]; · iexact H
  isplitl [F0]; · iexact F0
  iexact F1

theorem resAt_entry : entry c X O N Z Y fw fg ⊢ resAt c X O N Z Y fw fg 0 := by
  iintro ⟨Hx, Ho, Hn, Hz, Hy, Hw, Hg, HO⟩
  isplitl [Hx]; · iapply (xRing_entry c X); iexact Hx
  isplitl [Ho]; · iapply (oRing_entry c O); iexact Ho
  isplitl [Hn]; · iapply (nRing_entry c N); iexact Hn
  isplitl [Hz]; · iapply (zRing_entry c Z); iexact Hz
  isplitl [Hy]; · iapply (yRing_entry c Y (res c X O N Z fw fg)); iexact Hy
  isplitl [Hw]; · iexact Hw
  isplitl [Hg]; · iexact Hg
  iexact HO
theorem resAt_exit : resAt c X O N Z Y fw fg 16 ⊢ exit c X O N Z fw fg := by
  iintro ⟨Hx, Ho, Hn, Hz, Hy, Hw, Hg, HO⟩
  isplitl [Hx]; · iapply (xRing_exit c X); iexact Hx
  isplitl [Ho]; · iapply (oRing_exit c O); iexact Ho
  isplitl [Hn]; · iapply (nRing_exit c N); iexact Hn
  isplitl [Hz]; · iapply (zRing_exit c Z); iexact Hz
  isplitl [Hy]; · iapply (yRing_exit c Y (res c X O N Z fw fg)); iexact Hy
  isplitl [Hw]; · iexact Hw
  isplitl [Hg]; · iexact Hg
  iexact HO

/-- What the core holds before trip `k`, at the entry spelt out. -/
abbrev heldAt (k : ℕ) : sProp 𝕄 :=
  match k with
  | 0 => entry c X O N Z Y fw fg
  | k + 1 => resAt c X O N Z Y fw fg (k + 1)
theorem heldAt_resAt (k : ℕ) : heldAt c X O N Z Y fw fg k ⊢ resAt c X O N Z Y fw fg k := by
  match k with
  | 0 => exact resAt_entry c X O N Z Y fw fg
  | k + 1 => exact .rfl

variable (j0 j1 j2 j3 j4 j5 j6 j7 j8 j9 j10 j11 j12 : BitVec 32)
  (init : BitVec 32 × BitVec 32 × BitVec 32 × BitVec 32 × BitVec 32 × BitVec 32 × BitVec 32 × BitVec 32 × BitVec 32 × BitVec 32 × BitVec 32 × BitVec 32 × BitVec 32)
set_option warn.classDefReducibility false in
/-- The loop's invariant: the words and what the core holds before trip `k`. -/
@[sl_loop] def loopInv :
    LoopInvTy_k0_t1 (F := F) Unit ℕ (UU nD τ) ℕ 𝒱₀ c none Set.univ xM (Memref.isWhole_whole _) oM (Memref.isWhole_whole _) nM (Memref.isWhole_whole _) zM (Memref.isWhole_whole _) wM (Memref.isWhole_whole _) gM (Memref.isWhole_whole _) yM (Memref.isWhole_whole _)
      xB (Memref.isWhole_whole _) cc0_scoped1 oB (Memref.isWhole_whole _) cc0_scoped3 nB (Memref.isWhole_whole _) cc0_scoped5 zB (Memref.isWhole_whole _) cc0_scoped7 wB (Memref.isWhole_whole _) gB (Memref.isWhole_whole _) yB (Memref.isWhole_whole _) cc0_scoped11
      cc0_scoped12 cc0_scoped13 j0 j1 j2 j3 j4 j5 j6 j7 j8 j9 j10 j11 j12 init where
  inv k acc := iprop(⌜acc = words k⌝ ∗ heldAt c X O N Z Y fw fg k)
  step k acc := by
    iintro ⟨%h, H⟩
    subst h
    iapply (trip c X O N Z Y fw fg j0 j1 j2 j3 j4 j5 j6 j7 j8 j9 j10 j11 j12 k)
    iapply (heldAt_resAt c X O N Z Y fw fg k.val)
    iexact H

instance loopExit : LoopExit (loopInv (F := F) c X O N Z Y fw fg j0 j1 j2 j3 j4 j5 j6 j7 j8 j9 j10 j11 j12 init) where
  post acc := iprop(⌜acc = words 16⌝ ∗ exit c X O N Z fw fg)
  exit acc := by
    show iprop(⌜acc = words k0_t1_loop.trips⌝ ∗ heldAt c X O N Z Y fw fg k0_t1_loop.trips) ⊢ _
    rw [trips_eq]
    iintro ⟨%h, H⟩
    isplitr; · ipureintro; exact h
    iapply (resAt_exit c X O N Z Y fw fg)
    iexact H

theorem words_zero : (2#32, 0#32, 2#32, 0#32, 2#32, 0#32, 2#32, 0#32, 0#32, 0#32, 0#32, 0#32, 0#32) = words 0 := by
  unfold words
  have h1 : wI 0 = 2#32 := by decide +kernel
  have h2 : wW 0 = 0#32 := by decide +kernel
  have h3 : wP 0 = 0#32 := by decide +kernel
  have h4 : wC 0 = 0#32 := by decide +kernel
  have h5 : wG 0 = 0#32 := by decide +kernel
  rw [h1, h2, h3, h4, h5]
theorem loop_enter (h : init = words 0) :
    entry c X O N Z Y fw fg ⊢ (loopInv (F := F) c X O N Z Y fw fg j0 j1 j2 j3 j4 j5 j6 j7 j8 j9 j10 j11 j12 init).inv 0 init := by
  show _ ⊢ iprop(⌜init = words 0⌝ ∗ entry c X O N Z Y fw fg)
  iintro H
  isplitr; · ipureintro; exact h
  iexact H
theorem loop_leave (acc) :
    (loopExit (F := F) c X O N Z Y fw fg j0 j1 j2 j3 j4 j5 j6 j7 j8 j9 j10 j11 j12 init).post acc ⊢ iprop(⌜acc = words 16⌝ ∗ exit c X O N Z fw fg) := .rfl

end Loop

section Body

variable (c : Dev nD)
  (X : Buf (Elt F) (xM.view.loc (c : Thread nD τ))) (O : Buf (Elt F) (oM.view.loc (c : Thread nD τ)))
  (N : Buf (Elt F) (nM.view.loc (c : Thread nD τ))) (Z : Buf (Elt F) (zM.view.loc (c : Thread nD τ)))
  (Y : Buf (Elt F) (yM.view.loc (c : Thread nD τ)))
  (Wt : Buf (Elt F) (wM.view.loc (c : Thread nD τ))) (Gn : Buf (Elt F) (gM.view.loc (c : Thread nD τ)))

/-- The weights the kernel takes: the last of the four matrices. -/
def wTake : Memref sig .tc .hbm S1024x1024 .f32 :=
  (wM.slice (Rect.unit (s := S4x1024x1024) ![3, 0, 0] S1x1024x1024.size (by decide)) (fun _ => rfl)).squeeze S1024x1024 squeezes_S1x1024x1024_S1024x1024

/-- The kernel on its arrays. -/
abbrev bodyG : Prog (TpuEff nD τ sig (Elt F) Λ₀ .tc) PUnit :=
  cc0_outproj_final (F := F) xM (Memref.isWhole_whole _) oM (Memref.isWhole_whole _) nM (Memref.isWhole_whole _) zM (Memref.isWhole_whole _) wM (Memref.isWhole_whole _) gM (Memref.isWhole_whole _) yM (Memref.isWhole_whole _)
    xB (Memref.isWhole_whole _) cc0_scoped1 oB (Memref.isWhole_whole _) cc0_scoped3 nB (Memref.isWhole_whole _) cc0_scoped5 zB (Memref.isWhole_whole _) cc0_scoped7 wB (Memref.isWhole_whole _) gB (Memref.isWhole_whole _) yB (Memref.isWhole_whole _) cc0_scoped11
    cc0_scoped12 cc0_scoped13

/-- What the body is handed: the arrays, the input's blocks 0 and 1 apart, the scratch at anything, the semaphores at zero. -/
abbrev PRE (W : Waits sig Unit) : sProp 𝕄 :=
  iprop((xHome c X 0 ∗ xHome c X 1 ∗ bigSep (Ring.aheadSet 2) (xHome c X) ∗ (∃ f, xSlot c 0 f) ∗ xCell c 0 ∗ (∃ f, xSlot c 1 f) ∗ xCell c 1 ∗ (∃ f, xSlot c 2 f) ∗ xCell c 2)
    ∗ (oHome c O 0 ∗ oHome c O 1 ∗ bigSep (Ring.aheadSet 2) (oHome c O) ∗ (∃ f, oSlot c 0 f) ∗ oCell c 0 ∗ (∃ f, oSlot c 1 f) ∗ oCell c 1 ∗ (∃ f, oSlot c 2 f) ∗ oCell c 2)
    ∗ (nHome c N 0 ∗ nHome c N 1 ∗ bigSep (Ring.aheadSet 2) (nHome c N) ∗ (∃ f, nSlot c 0 f) ∗ nCell c 0 ∗ (∃ f, nSlot c 1 f) ∗ nCell c 1 ∗ (∃ f, nSlot c 2 f) ∗ nCell c 2)
    ∗ (zHome c Z 0 ∗ zHome c Z 1 ∗ bigSep (Ring.aheadSet 2) (zHome c Z) ∗ (∃ f, zSlot c 0 f) ∗ zCell c 0 ∗ (∃ f, zSlot c 1 f) ∗ zCell c 1 ∗ (∃ f, zSlot c 2 f) ∗ zCell c 2)
    ∗ (bigSep (Ring.aheadSet 0) (yHome c Y) ∗ (∃ f, ySlot c 0 f) ∗ yCell c 0 ∗ (∃ f, ySlot c 1 f) ∗ yCell c 1)
    ∗ (wM.view.loc (c : Thread nD τ) ↦[wM.view.set]{fullShare} Wt) ∗ (gM.view.loc (c : Thread nD τ) ↦[gM.view.set]{fullShare} Gn)
    ∗ (∃ f, wB.view.loc (c : Thread nD τ) ↦[wB.view.set]{fullShare} f) ∗ (∃ f, gB.view.loc (c : Thread nD τ) ↦[gB.view.set]{fullShare} f)
    ∗ semVal ((c : Thread nD τ), SemLoc.dma cc0_scoped12.sem) 0 ∗ semVal ((c : Thread nD τ), SemLoc.dma cc0_scoped13.sem) 0
    ∗ owes (c : Thread nD τ) 0 W)

/-- What the copy of the weights leaves. -/
def wKept : Buf (Elt F) (wB.view.loc (c : Thread nD τ)) :=
  wB.view.writes (Elt F) wB.view.junk [⟨Rect.whole S1024x1024, ReadAs.same.apply (wTake.view.read (Elt F) Wt)⟩]
/-- What the copy of the gains leaves. -/
def gKept : Buf (Elt F) (gB.view.loc (c : Thread nD τ)) :=
  gB.view.writes (Elt F) gB.view.junk [⟨Rect.whole S1x1024, ReadAs.same.apply (gM.view.read (Elt F) Gn)⟩]
/-- What the call leaves in its result. -/
abbrev outY : Buf (Elt F) (yM.view.loc (c : Thread nD τ)) := res c X O N Z (wKept c Wt) (gKept c Gn)

/-- What it hands back: the inputs as they were, the result in place. -/
abbrev POST : sProp 𝕄 :=
  iprop((bigSep Finset.univ (xHome c X) ∗ (∃ f, xSlot c 0 f) ∗ xCell c 0 ∗ (∃ f, xSlot c 1 f) ∗ xCell c 1 ∗ (∃ f, xSlot c 2 f) ∗ xCell c 2)
    ∗ (bigSep Finset.univ (oHome c O) ∗ (∃ f, oSlot c 0 f) ∗ oCell c 0 ∗ (∃ f, oSlot c 1 f) ∗ oCell c 1 ∗ (∃ f, oSlot c 2 f) ∗ oCell c 2)
    ∗ (bigSep Finset.univ (nHome c N) ∗ (∃ f, nSlot c 0 f) ∗ nCell c 0 ∗ (∃ f, nSlot c 1 f) ∗ nCell c 1 ∗ (∃ f, nSlot c 2 f) ∗ nCell c 2)
    ∗ (bigSep Finset.univ (zHome c Z) ∗ (∃ f, zSlot c 0 f) ∗ zCell c 0 ∗ (∃ f, zSlot c 1 f) ∗ zCell c 1 ∗ (∃ f, zSlot c 2 f) ∗ zCell c 2)
    ∗ (bigSep Finset.univ (yHome c (outY c X O N Z Wt Gn)) ∗ (∃ f, ySlot c 0 f) ∗ yCell c 0 ∗ (∃ f, ySlot c 1 f) ∗ yCell c 1)
    ∗ (wM.view.loc (c : Thread nD τ) ↦[wM.view.set]{fullShare} Wt) ∗ (gM.view.loc (c : Thread nD τ) ↦[gM.view.set]{fullShare} Gn)
    ∗ (∃ f, wB.view.loc (c : Thread nD τ) ↦[wB.view.set]{fullShare} f) ∗ (∃ f, gB.view.loc (c : Thread nD τ) ↦[gB.view.set]{fullShare} f)
    ∗ semVal ((c : Thread nD τ), SemLoc.dma cc0_scoped12.sem) 0 ∗ semVal ((c : Thread nD τ), SemLoc.dma cc0_scoped13.sem) 0
    ∗ (∃ W, owes (c : Thread nD τ) 0 W))

theorem behind_one : (Finset.univ : Finset (Fin 16)) = insert 15 (Ring.behindSet 1 16) := by decide
theorem behind_one_not : (15 : Fin 16) ∉ Ring.behindSet 1 16 := by decide

theorem homes_rest (G : Buf (Elt F) (yM.view.loc (c : Thread nD τ))) :
    iprop(yHome c G 15 ∗ bigSep (Ring.behindSet 1 16) (yHome c G)) ⊢ bigSep Finset.univ (yHome c G) := by
  rw [behind_one, bigSep_insert behind_one_not]
  exact .rfl

/-- The body, from `PRE` to `POST`. -/
theorem bodyRun (W) (Q : PUnit → sProp 𝕄) :
    iprop(PRE c X O N Z Y Wt Gn W ∗ (POST c X O N Z Wt Gn -∗ Q ⟨⟩))
      ⊢ wp frame (wpE (defs₀ (F := F)) 𝒱₀ (c : Thread nD τ) none) Set.univ (bodyG) Q := by
  have hc1 := cond1_on
  have hc2 := cond2_on
  have hc3 := cond3_on
  have hc4 := cond4_on
  have ha7 := chk7_ok
  have ha8 := chk8_ok
  iintro ⟨⟨⟨x0, x1, xA, ⟨%xf0, xS0⟩, xC0, ⟨%xf1, xS1⟩, xC1, xS2, xC2⟩, ⟨o0, o1, oA, ⟨%of0, oS0⟩, oC0, ⟨%of1, oS1⟩, oC1, oS2, oC2⟩, ⟨n0, n1, nA, ⟨%nf0, nS0⟩, nC0, ⟨%nf1, nS1⟩, nC1, nS2, nC2⟩, ⟨z0, z1, zA, ⟨%zf0, zS0⟩, zC0, ⟨%zf1, zS1⟩, zC1, zS2, zC2⟩, ⟨yA, yS0, yC0, yS1, yC1⟩, HW, HG, ⟨%fw, Hw⟩, ⟨%fg, Hg⟩, Sw, Sg, HO⟩, Hk⟩
  delta bodyG
  sl_exec
  ihave HE : (entry c X O N Z Y (wKept c Wt) (gKept c Gn)) $$ [xA xC0 xC1 xS2 xC2 oA oC0 oC1 oS2 oC2 nA nC0 nC1 nS2 nC2 zA zC0 zC1 zS2 zC2 yA yS0 yC0 yS1 yC1 Hw Hg HO]
  · isplitl [xA xC0 xC1 xS2 xC2]
    · isplitl [xA]; · iexact xA
      isplitl [xC0]; · iexists xf0; iexact xC0
      isplitl [xC1]; · iexists xf1; iexact xC1
      isplitl [xS2]; · iexact xS2
      iexact xC2
    isplitl [oA oC0 oC1 oS2 oC2]
    · isplitl [oA]; · iexact oA
      isplitl [oC0]; · iexists of0; iexact oC0
      isplitl [oC1]; · iexists of1; iexact oC1
      isplitl [oS2]; · iexact oS2
      iexact oC2
    isplitl [nA nC0 nC1 nS2 nC2]
    · isplitl [nA]; · iexact nA
      isplitl [nC0]; · iexists nf0; iexact nC0
      isplitl [nC1]; · iexists nf1; iexact nC1
      isplitl [nS2]; · iexact nS2
      iexact nC2
    isplitl [zA zC0 zC1 zS2 zC2]
    · isplitl [zA]; · iexact zA
      isplitl [zC0]; · iexists zf0; iexact zC0
      isplitl [zC1]; · iexists zf1; iexact zC1
      isplitl [zS2]; · iexact zS2
      iexact zC2
    isplitl [yA yS0 yC0 yS1 yC1]
    · isplitl [yA]; · iexact yA
      isplitl [yS0]; · iexact yS0
      isplitl [yC0]; · iexact yC0
      isplitl [yS1]; · iexact yS1
      iexact yC1
    isplitl [Hw]; · iexact Hw
    isplitl [Hg]; · iexact Hg
    iexists _; iexact HO
  iapply (exec_loopExit frame (wpE (defs₀ (F := F)) 𝒱₀ (c : Thread nD τ) none) Set.univ _ _ _ _ _ _
    (loopInv (F := F) c X O N Z Y (wKept c Wt) (gKept c Gn) _ _ _ _ _ _ _ _ _ _ _ _ _ _) (loopExit (F := F) c X O N Z Y (wKept c Wt) (gKept c Gn) _ _ _ _ _ _ _ _ _ _ _ _ _ _)) $$ [HE]
  · iapply (loop_enter (F := F) c X O N Z Y (wKept c Wt) (gKept c Gn) _ _ _ _ _ _ _ _ _ _ _ _ _ _ words_zero); iexact HE
  iintro %acc HE
  ihave HE := (loop_leave (F := F) c X O N Z Y (wKept c Wt) (gKept c Gn) _ _ _ _ _ _ _ _ _ _ _ _ _ _ acc) $$ HE
  icases HE with ⟨%h, HE⟩
  subst h
  icases HE with ⟨⟨xA, ⟨xS0, xC0⟩, ⟨xS1, xC1⟩, ⟨xS2, xC2⟩⟩, ⟨oA, ⟨oS0, oC0⟩, ⟨oS1, oC1⟩, ⟨oS2, oC2⟩⟩, ⟨nA, ⟨nS0, nC0⟩, ⟨nS1, nC1⟩, ⟨nS2, nC2⟩⟩, ⟨zA, ⟨zS0, zC0⟩, ⟨zS1, zC1⟩, ⟨zS2, zC2⟩⟩, ⟨yA, ⟨yS0, yC0⟩, ⟨%yf, %ys, %hy, yC1⟩⟩, Hw, Hg, ⟨%W', HO⟩⟩
  delta words
  sl_exec
  sl_step
  iapply Hk
  isplitl [xA xS0 xC0 xS1 xC1 xS2 xC2]
  · isplitl [xA]; · iexact xA
    isplitl [xS0]; · iexact xS0
    isplitl [xC0]; · iexact xC0
    isplitl [xS1]; · iexact xS1
    isplitl [xC1]; · iexact xC1
    isplitl [xS2]; · iexact xS2
    iexact xC2
  isplitl [oA oS0 oC0 oS1 oC1 oS2 oC2]
  · isplitl [oA]; · iexact oA
    isplitl [oS0]; · iexact oS0
    isplitl [oC0]; · iexact oC0
    isplitl [oS1]; · iexact oS1
    isplitl [oC1]; · iexact oC1
    isplitl [oS2]; · iexact oS2
    iexact oC2
  isplitl [nA nS0 nC0 nS1 nC1 nS2 nC2]
  · isplitl [nA]; · iexact nA
    isplitl [nS0]; · iexact nS0
    isplitl [nC0]; · iexact nC0
    isplitl [nS1]; · iexact nS1
    isplitl [nC1]; · iexact nC1
    isplitl [nS2]; · iexact nS2
    iexact nC2
  isplitl [zA zS0 zC0 zS1 zC1 zS2 zC2]
  · isplitl [zA]; · iexact zA
    isplitl [zS0]; · iexact zS0
    isplitl [zC0]; · iexact zC0
    isplitl [zS1]; · iexact zS1
    isplitl [zC1]; · iexact zC1
    isplitl [zS2]; · iexact zS2
    iexact zC2
  isplitl [yA yC1_src yC1_dst yS0 yC0 yC1]
  · isplitl [yA yC1_dst]
    · iapply (homes_rest c (outY c X O N Z Wt Gn))
      isplitl [yC1_dst]
      · iapply (entails_of_eq (pointsTo_congr hy)); iexact yC1_dst
      iexact yA
    isplitl [yS0]; · iexact yS0
    isplitl [yC0]; · iexact yC0
    isplitl [yC1_src]; · iexists _; iexact yC1_src
    iexact yC1
  isplitl [HW]; · iexact HW
  isplitl [HG]; · iexact HG
  isplitl [Hw]; · iexists _; iexact Hw
  isplitl [Hg]; · iexists _; iexact Hg
  isplitl [Sw]; · iexact Sw
  isplitl [Sg]; · iexact Sg
  iexists _; iexact HO

end Body

end Cert.Proof.OutProj

end
-- ==== Proof.Split.lean ====
/-
  The arrays as their blocks and the scratch buffers as their slots: how they are cut at the launch, and joined again.
-/
module

public import proofs.«01_k».proof.Proof.Body
public import Idealize.ShloMosaic.Lib.Ring.WriteBehind

@[expose] public section

set_option maxRecDepth 16384

noncomputable section

namespace Cert.Proof.OutProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (c : Dev nD)

/-! ### Element sets -/

abbrev rowJ (b : Fin 16) : Finset S16384x1024.Idx := (Rect.unit (s := S16384x1024) (rowOff b) S1024x1024.size (row_inb b)).set
theorem mem_rowJ (b : Fin 16) (y : S16384x1024.Idx) : y ∈ rowJ b ↔ (1024 * b.val ≤ (y 0).val ∧ (y 0).val < 1024 * b.val + 1024) := by
  rw [Rect.mem_set_unit]
  have h1 : (y 1).val < 1024 := (y 1).isLt
  constructor
  · intro H
    have a0 : 1024 * b.val ≤ (y 0).val ∧ (y 0).val < 1024 * b.val + 1024 := H 0

    exact a0
  · intro H i; fin_cases i
    · show 1024 * b.val ≤ (y 0).val ∧ (y 0).val < 1024 * b.val + 1024; omega
    · show 0 ≤ (y 1).val ∧ (y 1).val < 0 + 1024; omega
theorem rowJ_disjoint : ∀ b b' : Fin 16, b ≠ b' → Disjoint (rowJ b) (rowJ b') := by
  intro b b' hne; rw [Finset.disjoint_left]; intro y hy hy'; rw [mem_rowJ] at hy hy'; exact hne (Fin.ext (by omega))
theorem rowJ_cover : (Finset.univ : Finset (Fin 16)).biUnion rowJ = Finset.univ := by
  ext y
  have h0 : (y 0).val < 16384 := (y 0).isLt
  simp only [Finset.mem_biUnion, Finset.mem_univ, true_and, iff_true]
  exact ⟨⟨(y 0).val / 1024, by omega⟩, by rw [mem_rowJ]; dsimp only; omega⟩
abbrev halfJ (b : Fin 16) : Finset S16384x512.Idx := (Rect.unit (s := S16384x512) (rowOff b) S1024x512.size (half_inb b)).set
theorem mem_halfJ (b : Fin 16) (y : S16384x512.Idx) : y ∈ halfJ b ↔ (1024 * b.val ≤ (y 0).val ∧ (y 0).val < 1024 * b.val + 1024) := by
  rw [Rect.mem_set_unit]
  have h1 : (y 1).val < 512 := (y 1).isLt
  constructor
  · intro H
    have a0 : 1024 * b.val ≤ (y 0).val ∧ (y 0).val < 1024 * b.val + 1024 := H 0

    exact a0
  · intro H i; fin_cases i
    · show 1024 * b.val ≤ (y 0).val ∧ (y 0).val < 1024 * b.val + 1024; omega
    · show 0 ≤ (y 1).val ∧ (y 1).val < 0 + 512; omega
theorem halfJ_disjoint : ∀ b b' : Fin 16, b ≠ b' → Disjoint (halfJ b) (halfJ b') := by
  intro b b' hne; rw [Finset.disjoint_left]; intro y hy hy'; rw [mem_halfJ] at hy hy'; exact hne (Fin.ext (by omega))
theorem halfJ_cover : (Finset.univ : Finset (Fin 16)).biUnion halfJ = Finset.univ := by
  ext y
  have h0 : (y 0).val < 16384 := (y 0).isLt
  simp only [Finset.mem_biUnion, Finset.mem_univ, true_and, iff_true]
  exact ⟨⟨(y 0).val / 1024, by omega⟩, by rw [mem_halfJ]; dsimp only; omega⟩
abbrev gateJ (b : Fin 16) : Finset S16384x4096.Idx := (Rect.unit (s := S16384x4096) (gateOff b) S1024x1024.size (gate_inb b)).set
theorem mem_gateJ (b : Fin 16) (y : S16384x4096.Idx) : y ∈ gateJ b ↔ (1024 * b.val ≤ (y 0).val ∧ (y 0).val < 1024 * b.val + 1024) ∧ 3072 ≤ (y 1).val := by
  rw [Rect.mem_set_unit]
  have h1 : (y 1).val < 4096 := (y 1).isLt
  constructor
  · intro H
    have a0 : 1024 * b.val ≤ (y 0).val ∧ (y 0).val < 1024 * b.val + 1024 := H 0
    have a1 : 3072 ≤ (y 1).val ∧ (y 1).val < 3072 + 1024 := H 1
    exact ⟨a0, a1.1⟩
  · intro H i; fin_cases i
    · show 1024 * b.val ≤ (y 0).val ∧ (y 0).val < 1024 * b.val + 1024; omega
    · show 3072 ≤ (y 1).val ∧ (y 1).val < 3072 + 1024; omega
theorem gateJ_disjoint : ∀ b b' : Fin 16, b ≠ b' → Disjoint (gateJ b) (gateJ b') := by
  intro b b' hne; rw [Finset.disjoint_left]; intro y hy hy'; rw [mem_gateJ] at hy hy'; exact hne (Fin.ext (by omega))
abbrev threeJ (s : Fin 3) : Finset S3x1024x1024.Idx := (Rect.unit (s := S3x1024x1024) (slotOff s) S1x1024x1024.size (slot3_inb s)).set
theorem mem_threeJ (s : Fin 3) (y : S3x1024x1024.Idx) : y ∈ threeJ s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem threeJ_disjoint : ∀ s s' : Fin 3, s ≠ s' → Disjoint (threeJ s) (threeJ s') := by
  intro b b' hne; rw [Finset.disjoint_left]; intro y hy hy'; rw [mem_threeJ] at hy hy'; exact hne (Fin.ext (by omega))
theorem threeJ_cover : (Finset.univ : Finset (Fin 3)).biUnion threeJ = Finset.univ := by
  ext y; simp only [Finset.mem_biUnion, Finset.mem_univ, true_and, iff_true]; exact ⟨⟨(y 0).val, (y 0).isLt⟩, by rw [mem_threeJ]⟩
abbrev threehJ (s : Fin 3) : Finset S3x1024x512.Idx := (Rect.unit (s := S3x1024x512) (slotOff s) S1x1024x512.size (slot3h_inb s)).set
theorem mem_threehJ (s : Fin 3) (y : S3x1024x512.Idx) : y ∈ threehJ s ↔ (y 0).val = s.val := by
  rw [Rect.mem_set_unit]
  have h1 : (y 1).val < 1024 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 512; omega
theorem threehJ_disjoint : ∀ s s' : Fin 3, s ≠ s' → Disjoint (threehJ s) (threehJ s') := by
  intro b b' hne; rw [Finset.disjoint_left]; intro y hy hy'; rw [mem_threehJ] at hy hy'; exact hne (Fin.ext (by omega))
theorem threehJ_cover : (Finset.univ : Finset (Fin 3)).biUnion threehJ = Finset.univ := by
  ext y; simp only [Finset.mem_biUnion, Finset.mem_univ, true_and, iff_true]; exact ⟨⟨(y 0).val, (y 0).isLt⟩, by rw [mem_threehJ]⟩
abbrev twoJ (s : Fin 2) : Finset S2x1024x1024.Idx := (Rect.unit (s := S2x1024x1024) (slotOff s) S1x1024x1024.size (slot2_inb s)).set
theorem mem_twoJ (s : Fin 2) (y : S2x1024x1024.Idx) : y ∈ twoJ s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem twoJ_disjoint : ∀ s s' : Fin 2, s ≠ s' → Disjoint (twoJ s) (twoJ s') := by
  intro b b' hne; rw [Finset.disjoint_left]; intro y hy hy'; rw [mem_twoJ] at hy hy'; exact hne (Fin.ext (by omega))
theorem twoJ_cover : (Finset.univ : Finset (Fin 2)).biUnion twoJ = Finset.univ := by
  ext y; simp only [Finset.mem_biUnion, Finset.mem_univ, true_and, iff_true]; exact ⟨⟨(y 0).val, (y 0).isLt⟩, by rw [mem_twoJ]⟩

theorem ahead_two : (Finset.univ : Finset (Fin 16)) = insert 0 (insert 1 (Ring.aheadSet 2)) := by decide
omit [FloatOps F] in
theorem open_two (Φ : Fin 16 → sProp 𝕄) : bigSep Finset.univ Φ = iprop(Φ 0 ∗ Φ 1 ∗ bigSep (Ring.aheadSet 2) Φ) := by
  rw [ahead_two, bigSep_insert (by decide), bigSep_insert (by decide)]; rfl

/-! ### `x` -/

theorem xG_set (b : Fin 16) : (xG b).view.set = rowJ b := View.set_slice_whole _ _
theorem xS_set (s : Fin 3) : (xS s).view.set = threeJ s := (View.set_reshape _ _).trans (View.set_slice_whole _ _)
omit [FloatOps F] in
theorem xHome_eq (A : Buf (Elt F) (xM.view.loc (c : Thread nD τ))) (b : Fin 16) : xHome c A b = (((c : Thread nD τ).loc main_arg0) ↦[rowJ b]{fullShare} A : sProp 𝕄) :=
  congrArg (fun S => (_ ↦[S]{fullShare} A : sProp 𝕄)) (xG_set b)
omit [FloatOps F] in
theorem xSlot_eq (s : Fin 3) (f) : xSlot c s f = (((c : Thread nD τ).loc cc0_scoped0) ↦[threeJ s]{fullShare} f : sProp 𝕄) :=
  congrArg (fun S => (_ ↦[S]{fullShare} f : sProp 𝕄)) (xS_set s)
/-- The array whole is its sixteen blocks. -/
theorem x_whole (A : Buf (Elt F) (xM.view.loc (c : Thread nD τ))) : (((c : Thread nD τ).loc main_arg0) ↦{fullShare} A : sProp 𝕄) = bigSep Finset.univ (xHome c A) := by
  rw [Ring.pointsTo_blocks (ℓ := (c : Thread nD τ).loc main_arg0) rowJ rowJ_disjoint rowJ_cover]
  exact bigSep_congr fun b _ => (xHome_eq c A b).symm
/-- The scratch whole is its slots, and back. -/
theorem x_slots : iprop(∃ f : Buf (Elt F) ((c : Thread nD τ).loc cc0_scoped0), ((c : Thread nD τ).loc cc0_scoped0) ↦{fullShare} f) ⊢ (iprop((∃ f, xSlot c 0 f) ∗ (∃ f, xSlot c 1 f) ∗ (∃ f, xSlot c 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped0) threeJ threeJ_disjoint threeJ_cover f).trans (Ring.bigSep_fin3 _))) $$ H
  icases H2 with ⟨H0, H1, H2⟩
  isplitl [H0]; · iexists f; iapply (entails_of_eq (xSlot_eq c 0 f).symm); iexact H0
  isplitl [H1]; · iexists f; iapply (entails_of_eq (xSlot_eq c 1 f).symm); iexact H1
  iexists f; iapply (entails_of_eq (xSlot_eq c 2 f).symm); iexact H2
theorem x_unslots : iprop((∃ f, xSlot c 0 f) ∗ (∃ f, xSlot c 1 f) ∗ (∃ f, xSlot c 2 f)) ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) threeJ threeJ_disjoint threeJ_cover f0)
  irw [Ring.bigSep_fin3]
  isplitl [H0]; · iexists f0; iapply (entails_of_eq (xSlot_eq c 0 f0)); iexact H0
  isplitl [H1]; · iexists f1; iapply (entails_of_eq (xSlot_eq c 1 f1)); iexact H1
  iexists f2; iapply (entails_of_eq (xSlot_eq c 2 f2)); iexact H2

/-! ### `o` -/

theorem oG_set (b : Fin 16) : (oG b).view.set = halfJ b := View.set_slice_whole _ _
theorem oS_set (s : Fin 3) : (oS s).view.set = threehJ s := (View.set_reshape _ _).trans (View.set_slice_whole _ _)
omit [FloatOps F] in
theorem oHome_eq (A : Buf (Elt F) (oM.view.loc (c : Thread nD τ))) (b : Fin 16) : oHome c A b = (((c : Thread nD τ).loc main_arg1) ↦[halfJ b]{fullShare} A : sProp 𝕄) :=
  congrArg (fun S => (_ ↦[S]{fullShare} A : sProp 𝕄)) (oG_set b)
omit [FloatOps F] in
theorem oSlot_eq (s : Fin 3) (f) : oSlot c s f = (((c : Thread nD τ).loc cc0_scoped2) ↦[threehJ s]{fullShare} f : sProp 𝕄) :=
  congrArg (fun S => (_ ↦[S]{fullShare} f : sProp 𝕄)) (oS_set s)
/-- The array whole is its sixteen blocks. -/
theorem o_whole (A : Buf (Elt F) (oM.view.loc (c : Thread nD τ))) : (((c : Thread nD τ).loc main_arg1) ↦{fullShare} A : sProp 𝕄) = bigSep Finset.univ (oHome c A) := by
  rw [Ring.pointsTo_blocks (ℓ := (c : Thread nD τ).loc main_arg1) halfJ halfJ_disjoint halfJ_cover]
  exact bigSep_congr fun b _ => (oHome_eq c A b).symm
/-- The scratch whole is its slots, and back. -/
theorem o_slots : iprop(∃ f : Buf (Elt F) ((c : Thread nD τ).loc cc0_scoped2), ((c : Thread nD τ).loc cc0_scoped2) ↦{fullShare} f) ⊢ (iprop((∃ f, oSlot c 0 f) ∗ (∃ f, oSlot c 1 f) ∗ (∃ f, oSlot c 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped2) threehJ threehJ_disjoint threehJ_cover f).trans (Ring.bigSep_fin3 _))) $$ H
  icases H2 with ⟨H0, H1, H2⟩
  isplitl [H0]; · iexists f; iapply (entails_of_eq (oSlot_eq c 0 f).symm); iexact H0
  isplitl [H1]; · iexists f; iapply (entails_of_eq (oSlot_eq c 1 f).symm); iexact H1
  iexists f; iapply (entails_of_eq (oSlot_eq c 2 f).symm); iexact H2
theorem o_unslots : iprop((∃ f, oSlot c 0 f) ∗ (∃ f, oSlot c 1 f) ∗ (∃ f, oSlot c 2 f)) ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped2) threehJ threehJ_disjoint threehJ_cover f0)
  irw [Ring.bigSep_fin3]
  isplitl [H0]; · iexists f0; iapply (entails_of_eq (oSlot_eq c 0 f0)); iexact H0
  isplitl [H1]; · iexists f1; iapply (entails_of_eq (oSlot_eq c 1 f1)); iexact H1
  iexists f2; iapply (entails_of_eq (oSlot_eq c 2 f2)); iexact H2

/-! ### `n` -/

theorem nG_set (b : Fin 16) : (nG b).view.set = halfJ b := View.set_slice_whole _ _
theorem nS_set (s : Fin 3) : (nS s).view.set = threehJ s := (View.set_reshape _ _).trans (View.set_slice_whole _ _)
omit [FloatOps F] in
theorem nHome_eq (A : Buf (Elt F) (nM.view.loc (c : Thread nD τ))) (b : Fin 16) : nHome c A b = (((c : Thread nD τ).loc main_arg2) ↦[halfJ b]{fullShare} A : sProp 𝕄) :=
  congrArg (fun S => (_ ↦[S]{fullShare} A : sProp 𝕄)) (nG_set b)
omit [FloatOps F] in
theorem nSlot_eq (s : Fin 3) (f) : nSlot c s f = (((c : Thread nD τ).loc cc0_scoped4) ↦[threehJ s]{fullShare} f : sProp 𝕄) :=
  congrArg (fun S => (_ ↦[S]{fullShare} f : sProp 𝕄)) (nS_set s)
/-- The array whole is its sixteen blocks. -/
theorem n_whole (A : Buf (Elt F) (nM.view.loc (c : Thread nD τ))) : (((c : Thread nD τ).loc main_arg2) ↦{fullShare} A : sProp 𝕄) = bigSep Finset.univ (nHome c A) := by
  rw [Ring.pointsTo_blocks (ℓ := (c : Thread nD τ).loc main_arg2) halfJ halfJ_disjoint halfJ_cover]
  exact bigSep_congr fun b _ => (nHome_eq c A b).symm
/-- The scratch whole is its slots, and back. -/
theorem n_slots : iprop(∃ f : Buf (Elt F) ((c : Thread nD τ).loc cc0_scoped4), ((c : Thread nD τ).loc cc0_scoped4) ↦{fullShare} f) ⊢ (iprop((∃ f, nSlot c 0 f) ∗ (∃ f, nSlot c 1 f) ∗ (∃ f, nSlot c 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped4) threehJ threehJ_disjoint threehJ_cover f).trans (Ring.bigSep_fin3 _))) $$ H
  icases H2 with ⟨H0, H1, H2⟩
  isplitl [H0]; · iexists f; iapply (entails_of_eq (nSlot_eq c 0 f).symm); iexact H0
  isplitl [H1]; · iexists f; iapply (entails_of_eq (nSlot_eq c 1 f).symm); iexact H1
  iexists f; iapply (entails_of_eq (nSlot_eq c 2 f).symm); iexact H2
theorem n_unslots : iprop((∃ f, nSlot c 0 f) ∗ (∃ f, nSlot c 1 f) ∗ (∃ f, nSlot c 2 f)) ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped4) threehJ threehJ_disjoint threehJ_cover f0)
  irw [Ring.bigSep_fin3]
  isplitl [H0]; · iexists f0; iapply (entails_of_eq (nSlot_eq c 0 f0)); iexact H0
  isplitl [H1]; · iexists f1; iapply (entails_of_eq (nSlot_eq c 1 f1)); iexact H1
  iexists f2; iapply (entails_of_eq (nSlot_eq c 2 f2)); iexact H2

/-! ### `z` -/

theorem zG_set (b : Fin 16) : (zG b).view.set = gateJ b := View.set_slice_whole _ _
theorem zS_set (s : Fin 3) : (zS s).view.set = threeJ s := (View.set_reshape _ _).trans (View.set_slice_whole _ _)
omit [FloatOps F] in
theorem zHome_eq (A : Buf (Elt F) (zM.view.loc (c : Thread nD τ))) (b : Fin 16) : zHome c A b = (((c : Thread nD τ).loc main_arg3) ↦[gateJ b]{fullShare} A : sProp 𝕄) :=
  congrArg (fun S => (_ ↦[S]{fullShare} A : sProp 𝕄)) (zG_set b)
omit [FloatOps F] in
theorem zSlot_eq (s : Fin 3) (f) : zSlot c s f = (((c : Thread nD τ).loc cc0_scoped6) ↦[threeJ s]{fullShare} f : sProp 𝕄) :=
  congrArg (fun S => (_ ↦[S]{fullShare} f : sProp 𝕄)) (zS_set s)
/-- What is left of the array beside the gate's blocks. -/
abbrev zRest (A : Buf (Elt F) (zM.view.loc (c : Thread nD τ))) : sProp 𝕄 := ((c : Thread nD τ).loc main_arg3) ↦[Finset.univ \ Finset.univ.biUnion gateJ]{fullShare} A
/-- The array whole is the gate's sixteen blocks and the rest. -/
theorem z_whole (A : Buf (Elt F) (zM.view.loc (c : Thread nD τ))) : (((c : Thread nD τ).loc main_arg3) ↦{fullShare} A : sProp 𝕄) = iprop(bigSep Finset.univ (zHome c A) ∗ zRest c A) := by
  rw [show (((c : Thread nD τ).loc main_arg3) ↦{fullShare} A : sProp 𝕄) = _ from BI.equiv_iff.mp ⟨(pointsTo_split_subset (Finset.subset_univ (Finset.univ.biUnion gateJ))).1, (pointsTo_split_subset (Finset.subset_univ (Finset.univ.biUnion gateJ))).2⟩]
  have e := pointsTo_biUnion (Ix := Unit) (Name := ℕ) (U := UU nD τ) (Lvl := ℕ) (q := fullShare) (ℓ := (c : Thread nD τ).loc main_arg3) (f := A) Finset.univ gateJ (fun b _ b' _ h => gateJ_disjoint b b' h)
  exact congrArg (fun P : sProp 𝕄 => iprop(P ∗ zRest c A)) (e.trans (bigSep_congr fun b _ => (zHome_eq c A b).symm))
/-- The scratch whole is its slots, and back. -/
theorem z_slots : iprop(∃ f : Buf (Elt F) ((c : Thread nD τ).loc cc0_scoped6), ((c : Thread nD τ).loc cc0_scoped6) ↦{fullShare} f) ⊢ (iprop((∃ f, zSlot c 0 f) ∗ (∃ f, zSlot c 1 f) ∗ (∃ f, zSlot c 2 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped6) threeJ threeJ_disjoint threeJ_cover f).trans (Ring.bigSep_fin3 _))) $$ H
  icases H2 with ⟨H0, H1, H2⟩
  isplitl [H0]; · iexists f; iapply (entails_of_eq (zSlot_eq c 0 f).symm); iexact H0
  isplitl [H1]; · iexists f; iapply (entails_of_eq (zSlot_eq c 1 f).symm); iexact H1
  iexists f; iapply (entails_of_eq (zSlot_eq c 2 f).symm); iexact H2
theorem z_unslots : iprop((∃ f, zSlot c 0 f) ∗ (∃ f, zSlot c 1 f) ∗ (∃ f, zSlot c 2 f)) ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped6) threeJ threeJ_disjoint threeJ_cover f0)
  irw [Ring.bigSep_fin3]
  isplitl [H0]; · iexists f0; iapply (entails_of_eq (zSlot_eq c 0 f0)); iexact H0
  isplitl [H1]; · iexists f1; iapply (entails_of_eq (zSlot_eq c 1 f1)); iexact H1
  iexists f2; iapply (entails_of_eq (zSlot_eq c 2 f2)); iexact H2

/-! ### `y` -/

theorem yG_set (b : Fin 16) : (yG b).view.set = rowJ b := View.set_slice_whole _ _
theorem yS_set (s : Fin 2) : (yS s).view.set = twoJ s := (View.set_reshape _ _).trans (View.set_slice_whole _ _)
omit [FloatOps F] in
theorem yHome_eq (A : Buf (Elt F) (yM.view.loc (c : Thread nD τ))) (b : Fin 16) : yHome c A b = (((c : Thread nD τ).loc main_v1) ↦[rowJ b]{fullShare} A : sProp 𝕄) :=
  congrArg (fun S => (_ ↦[S]{fullShare} A : sProp 𝕄)) (yG_set b)
omit [FloatOps F] in
theorem ySlot_eq (s : Fin 2) (f) : ySlot c s f = (((c : Thread nD τ).loc cc0_scoped10) ↦[twoJ s]{fullShare} f : sProp 𝕄) :=
  congrArg (fun S => (_ ↦[S]{fullShare} f : sProp 𝕄)) (yS_set s)
/-- The array whole is its sixteen blocks. -/
theorem y_whole (A : Buf (Elt F) (yM.view.loc (c : Thread nD τ))) : (((c : Thread nD τ).loc main_v1) ↦{fullShare} A : sProp 𝕄) = bigSep Finset.univ (yHome c A) := by
  rw [Ring.pointsTo_blocks (ℓ := (c : Thread nD τ).loc main_v1) rowJ rowJ_disjoint rowJ_cover]
  exact bigSep_congr fun b _ => (yHome_eq c A b).symm
/-- The scratch whole is its slots, and back. -/
theorem y_slots : iprop(∃ f : Buf (Elt F) ((c : Thread nD τ).loc cc0_scoped10), ((c : Thread nD τ).loc cc0_scoped10) ↦{fullShare} f) ⊢ (iprop((∃ f, ySlot c 0 f) ∗ (∃ f, ySlot c 1 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scoped10) twoJ twoJ_disjoint twoJ_cover f).trans (Ring.bigSep_fin2 _))) $$ H
  icases H2 with ⟨H0, H1⟩
  isplitl [H0]; · iexists f; iapply (entails_of_eq (ySlot_eq c 0 f).symm); iexact H0
  iexists f; iapply (entails_of_eq (ySlot_eq c 1 f).symm); iexact H1
theorem y_unslots : iprop((∃ f, ySlot c 0 f) ∗ (∃ f, ySlot c 1 f)) ⊢ (iprop(∃ f : Buf (Elt F) ((c : Thread nD τ).loc cc0_scoped10), ((c : Thread nD τ).loc cc0_scoped10) ↦{fullShare} f) : sProp 𝕄) := by
  iintro ⟨⟨%f0, H0⟩, ⟨%f1, H1⟩⟩
  iapply (Ring.pointsTo_blocks_join_exists (ℓ := (c : Thread nD τ).loc cc0_scoped10) twoJ twoJ_disjoint twoJ_cover f0)
  irw [Ring.bigSep_fin2]
  isplitl [H0]; · iexists f0; iapply (entails_of_eq (ySlot_eq c 0 f0)); iexact H0
  iexists f1; iapply (entails_of_eq (ySlot_eq c 1 f1)); iexact H1

end Cert.Proof.OutProj

end
-- ==== Proof.Run.lean ====
/-
  The call run: from any memory with zero counters it ends, its arguments unchanged and its result holding `outY`.
-/
module

public import proofs.«01_k».proof.Proof.Split
public import proofs.«01_k».proof.Proof.Gen.KernelIdeal.Frame
public import Idealize.ShloMosaic.Lib.Pipeline.KitQuiescent

@[expose] public section

set_option maxRecDepth 16384

noncomputable section

namespace Cert.Proof.OutProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The kernel's own semaphores: three per input ring, two of the output's, one per copy. -/
abbrev osem : Fin 16 → SemLoc sig := fun i => .dma i
theorem ownSemFacts : Pipeline.OwnSemFacts (cfg0).spec osem := by decide

omit [FloatOps F] in
theorem ownSems0_eq (c : Dev nD) : (Pipeline.ownSems0 (Ix := Unit) (Name := ℕ) (U := UU nD τ) (Lvl := ℕ) (Val := Elt F) (τ := τ) osem c : sProp 𝕄)
    = iprop(xCell c 0 ∗ xCell c 1 ∗ xCell c 2 ∗ oCell c 0 ∗ oCell c 1 ∗ oCell c 2 ∗ nCell c 0 ∗ nCell c 1 ∗ nCell c 2 ∗ zCell c 0 ∗ zCell c 1 ∗ zCell c 2 ∗ yCell c 0 ∗ yCell c 1 ∗ semVal ((c : Thread nD τ), SemLoc.dma cc0_scoped12.sem) 0 ∗ semVal ((c : Thread nD τ), SemLoc.dma cc0_scoped13.sem) 0) := by
  unfold Pipeline.ownSems0
  exact bigSep_univ_eq_bigSepL [((0 : Fin 16)), ((1 : Fin 16)), ((2 : Fin 16)), ((3 : Fin 16)), ((4 : Fin 16)), ((5 : Fin 16)), ((6 : Fin 16)), ((7 : Fin 16)), ((8 : Fin 16)), ((9 : Fin 16)), ((10 : Fin 16)), ((11 : Fin 16)), ((12 : Fin 16)), ((13 : Fin 16)), ((14 : Fin 16)), ((15 : Fin 16))] (by decide) (by decide) _

omit [FloatOps F] in
theorem wM_eq (c : Dev nD) (f : Buf (Elt F) (wM.view.loc (c : Thread nD τ))) :
    (wM.view.loc (c : Thread nD τ) ↦[wM.view.set]{fullShare} f : sProp 𝕄) = (((c : Thread nD τ).loc main_arg4) ↦{fullShare} f : sProp 𝕄) := by
  rw [show wM.view.set = Finset.univ from View.set_whole _]
omit [FloatOps F] in
theorem gM_eq (c : Dev nD) (f : Buf (Elt F) (gM.view.loc (c : Thread nD τ))) :
    (gM.view.loc (c : Thread nD τ) ↦[gM.view.set]{fullShare} f : sProp 𝕄) = (((c : Thread nD τ).loc main_v0) ↦{fullShare} f : sProp 𝕄) := by
  rw [show gM.view.set = Finset.univ from View.set_whole _]
omit [FloatOps F] in
theorem wB_eq (c : Dev nD) (f : Buf (Elt F) (wB.view.loc (c : Thread nD τ))) :
    (wB.view.loc (c : Thread nD τ) ↦[wB.view.set]{fullShare} f : sProp 𝕄) = (((c : Thread nD τ).loc cc0_scoped8) ↦{fullShare} f : sProp 𝕄) := by
  rw [show wB.view.set = Finset.univ from View.set_whole _]
omit [FloatOps F] in
theorem gB_eq (c : Dev nD) (f : Buf (Elt F) (gB.view.loc (c : Thread nD τ))) :
    (gB.view.loc (c : Thread nD τ) ↦[gB.view.set]{fullShare} f : sProp 𝕄) = (((c : Thread nD τ).loc cc0_scoped9) ↦{fullShare} f : sProp 𝕄) := by
  rw [show gB.view.set = Finset.univ from View.set_whole _]

/-- The arrays, the result at `Y`. -/
abbrev arrays (c : Dev nD) (Y : Buf (Elt F) (yM.view.loc (c : Thread nD τ))) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v0) ↦{fullShare} V m c main_v0) ∗ (((c : Thread nD τ).loc main_v1) ↦{fullShare} Y))

/-- What the call leaves in its result, from the launch memory. -/
abbrev outV (c : Dev nD) : Buf (Elt F) (yM.view.loc (c : Thread nD τ)) :=
  outY c (V m c main_arg0) (V m c main_arg1) (V m c main_arg2) (V m c main_arg3) (V m c main_arg4) (V m c main_v0)

/-- What the core holds around the body. -/
def Φ (c : Dev nD) (Y : Buf (Elt F) (yM.view.loc (c : Thread nD τ))) : sProp 𝕄 :=
  iprop(arrays m c Y ∗ Pipeline.ownSems0 osem c ∗ Pipeline.scopedRest (cfg0.spec) c)

theorem bodyWhole (c : Dev nD) (Y : Buf (Elt F) (yM.view.loc (c : Thread nD τ))) (W) (Q : PUnit → sProp 𝕄) :
    iprop((Φ m c Y ∗ owes (c : Thread nD τ) 0 W) ∗ ((Φ m c (outV m c) ∗ ∃ W, owes (c : Thread nD τ) 0 W) -∗ Q ⟨⟩))
      ⊢ wp frame (wpE (defs₀ (F := F)) 𝒱₀ (c : Thread nD τ) none) Set.univ bodyG Q := by
  unfold Φ
  rw [ownSems0_eq, scopedRest0_eq]
  unfold arrays
  rw [x_whole c (V m c main_arg0), o_whole c (V m c main_arg1), n_whole c (V m c main_arg2), z_whole c (V m c main_arg3), y_whole c Y, y_whole c (outV m c)]
  iintro ⟨⟨⟨⟨Hx, Ho, Hn, ⟨Hz, Hzr⟩, HW, Hr, HG, Hy⟩, ⟨xC0, xC1, xC2, oC0, oC1, oC2, nC0, nC1, nC2, zC0, zC1, zC2, yC0, yC1, Sw, Sg⟩, ⟨Bx, Bo, Bn, Bz, Bw, Bg, By⟩⟩, HO⟩, Hk⟩
  ihave Bx := (x_slots c) $$ Bx
  ihave Bo := (o_slots c) $$ Bo
  ihave Bn := (n_slots c) $$ Bn
  ihave Bz := (z_slots c) $$ Bz
  ihave By := (y_slots c) $$ By
  icases Bx with ⟨xS0, xS1, xS2⟩
  icases Bo with ⟨oS0, oS1, oS2⟩
  icases Bn with ⟨nS0, nS1, nS2⟩
  icases Bz with ⟨zS0, zS1, zS2⟩
  icases By with ⟨yS0, yS1⟩
  ihave Hx := (entails_of_eq (open_two (xHome c _))) $$ Hx
  icases Hx with ⟨x0, x1, xA⟩
  ihave Ho := (entails_of_eq (open_two (oHome c _))) $$ Ho
  icases Ho with ⟨o0, o1, oA⟩
  ihave Hn := (entails_of_eq (open_two (nHome c _))) $$ Hn
  icases Hn with ⟨n0, n1, nA⟩
  ihave Hz := (entails_of_eq (open_two (zHome c _))) $$ Hz
  icases Hz with ⟨z0, z1, zA⟩
  iapply (bodyRun c (V m c main_arg0) (V m c main_arg1) (V m c main_arg2) (V m c main_arg3) Y (V m c main_arg4) (V m c main_v0) W)
  isplitr [Hk Hr Hzr]
  · isplitl [x0 x1 xA xS0 xC0 xS1 xC1 xS2 xC2]
    · isplitl [x0]; · iexact x0
      isplitl [x1]; · iexact x1
      isplitl [xA]; · iexact xA
      isplitl [xS0]; · iexact xS0
      isplitl [xC0]; · iexact xC0
      isplitl [xS1]; · iexact xS1
      isplitl [xC1]; · iexact xC1
      isplitl [xS2]; · iexact xS2
      iexact xC2
    isplitl [o0 o1 oA oS0 oC0 oS1 oC1 oS2 oC2]
    · isplitl [o0]; · iexact o0
      isplitl [o1]; · iexact o1
      isplitl [oA]; · iexact oA
      isplitl [oS0]; · iexact oS0
      isplitl [oC0]; · iexact oC0
      isplitl [oS1]; · iexact oS1
      isplitl [oC1]; · iexact oC1
      isplitl [oS2]; · iexact oS2
      iexact oC2
    isplitl [n0 n1 nA nS0 nC0 nS1 nC1 nS2 nC2]
    · isplitl [n0]; · iexact n0
      isplitl [n1]; · iexact n1
      isplitl [nA]; · iexact nA
      isplitl [nS0]; · iexact nS0
      isplitl [nC0]; · iexact nC0
      isplitl [nS1]; · iexact nS1
      isplitl [nC1]; · iexact nC1
      isplitl [nS2]; · iexact nS2
      iexact nC2
    isplitl [z0 z1 zA zS0 zC0 zS1 zC1 zS2 zC2]
    · isplitl [z0]; · iexact z0
      isplitl [z1]; · iexact z1
      isplitl [zA]; · iexact zA
      isplitl [zS0]; · iexact zS0
      isplitl [zC0]; · iexact zC0
      isplitl [zS1]; · iexact zS1
      isplitl [zC1]; · iexact zC1
      isplitl [zS2]; · iexact zS2
      iexact zC2
    isplitl [Hy yS0 yC0 yS1 yC1]
    · isplitl [Hy]; · rw [Ring.aheadSet_zero]; iexact Hy
      isplitl [yS0]; · iexact yS0
      isplitl [yC0]; · iexact yC0
      isplitl [yS1]; · iexact yS1
      iexact yC1
    isplitl [HW]; · iapply (entails_of_eq (wM_eq c _).symm); iexact HW
    isplitl [HG]; · iapply (entails_of_eq (gM_eq c _).symm); iexact HG
    isplitl [Bw]; · icases Bw with ⟨%f, Bw⟩; iexists f; iapply (entails_of_eq (wB_eq c _).symm); iexact Bw
    isplitl [Bg]; · icases Bg with ⟨%f, Bg⟩; iexists f; iapply (entails_of_eq (gB_eq c _).symm); iexact Bg
    isplitl [Sw]; · iexact Sw
    isplitl [Sg]; · iexact Sg
    iexact HO
  iintro ⟨⟨Hx, xS0, xC0, xS1, xC1, xS2, xC2⟩, ⟨Ho, oS0, oC0, oS1, oC1, oS2, oC2⟩, ⟨Hn, nS0, nC0, nS1, nC1, nS2, nC2⟩, ⟨Hz, zS0, zC0, zS1, zC1, zS2, zC2⟩, ⟨Hy, yS0, yC0, yS1, yC1⟩, HW, HG, Bw, Bg, Sw, Sg, HO⟩
  iapply Hk
  isplitr [HO]
  · isplitl [Hx Ho Hn Hz Hzr HW Hr HG Hy]
    · isplitl [Hx]; · iexact Hx
      isplitl [Ho]; · iexact Ho
      isplitl [Hn]; · iexact Hn
      isplitl [Hz Hzr]
      · isplitl [Hz]; · iexact Hz
        iexact Hzr
      isplitl [HW]; · iapply (entails_of_eq (wM_eq c _)); iexact HW
      isplitl [Hr]; · iexact Hr
      isplitl [HG]; · iapply (entails_of_eq (gM_eq c _)); iexact HG
      iexact Hy
    isplitl [xC0 xC1 xC2 oC0 oC1 oC2 nC0 nC1 nC2 zC0 zC1 zC2 yC0 yC1 Sw Sg]
    · isplitl [xC0]; · iexact xC0
      isplitl [xC1]; · iexact xC1
      isplitl [xC2]; · iexact xC2
      isplitl [oC0]; · iexact oC0
      isplitl [oC1]; · iexact oC1
      isplitl [oC2]; · iexact oC2
      isplitl [nC0]; · iexact nC0
      isplitl [nC1]; · iexact nC1
      isplitl [nC2]; · iexact nC2
      isplitl [zC0]; · iexact zC0
      isplitl [zC1]; · iexact zC1
      isplitl [zC2]; · iexact zC2
      isplitl [yC0]; · iexact yC0
      isplitl [yC1]; · iexact yC1
      isplitl [Sw]; · iexact Sw
      iexact Sg
    isplitl [xS0 xS1 xS2]
    · iapply (x_unslots c)
      isplitl [xS0]; · iexact xS0
      isplitl [xS1]; · iexact xS1
      iexact xS2
    isplitl [oS0 oS1 oS2]
    · iapply (o_unslots c)
      isplitl [oS0]; · iexact oS0
      isplitl [oS1]; · iexact oS1
      iexact oS2
    isplitl [nS0 nS1 nS2]
    · iapply (n_unslots c)
      isplitl [nS0]; · iexact nS0
      isplitl [nS1]; · iexact nS1
      iexact nS2
    isplitl [zS0 zS1 zS2]
    · iapply (z_unslots c)
      isplitl [zS0]; · iexact zS0
      isplitl [zS1]; · iexact zS1
      iexact zS2
    isplitl [Bw]; · icases Bw with ⟨%f, Bw⟩; iexists f; iapply (entails_of_eq (wB_eq c _)); iexact Bw
    isplitl [Bg]; · icases Bg with ⟨%f, Bg⟩; iexists f; iapply (entails_of_eq (gB_eq c _)); iexact Bg
    iapply (y_unslots c)
    isplitl [yS0]; · iexact yS0
    iexact yS1
  iexact HO

/-- The proof data: before the one point the result as launched, after it as computed. -/
def dats (_ : Fin 1) (c : Dev nD) : Dat τ (Elt F) Unit ℕ (UU nD τ) ℕ cfg0 c where
  A w := V m c (Pipeline.arrRef (cfg0.spec) w)
  after w t := w.elim0
  Φ p := Φ m c (if p.val = 0 then V m c main_v1 else outV m c)
  q _ := fullShare
  owed _ := 0

theorem defs_tc : (defs₀ (F := F)) .tc cfg0.body = fun _ => bodyG := rfl
theorem prog_eq (t : Fin cfg0.N) : (defs₀ (F := F)) .tc cfg0.body (cfg0.bodyArgs t (cfg0.slots t)) = bodyG := congrFun defs_tc _

set_option backward.isDefEq.respectTransparency.types false in
theorem body_obligation (c : Dev nD) : BodyObligation (dats (F := F) m 0 c) (defs₀ (F := F)) 𝒱₀ () Set.univ := fun t => by
  have ht : t = t0_0 := fin_N0 t
  subst ht
  rw [show (dats m 0 c).Φ (Fin.castSucc t0_0) = Φ m c (V m c main_v1) from rfl, show (dats m 0 c).Φ (Fin.succ t0_0) = Φ m c (outV m c) from rfl]
  unfold Dat.owesAt Pipeline.owesWithin
  rw [show (dats m 0 c).owed (Fin.castSucc t0_0) = 0 from rfl, show (dats m 0 c).owed (Fin.succ t0_0) = 0 from rfl]
  iintro ⟨HΦ, ⟨%W, -, HW⟩, HB⟩
  sl_rw [prog_eq t0_0]
  iapply (bodyWhole m c (V m c main_v1) W)
  isplitl [HΦ HW]
  · isplitl [HΦ]; · iexact HΦ
    iexact HW
  iintro ⟨HΦ, ⟨%W', HW⟩⟩
  isplitl [HΦ]; · iexact HΦ
  isplitl [HW]
  · iexists W'; isplitr; · ipureintro; exact fun _ _ => Or.inl trivial
    iexact HW
  iexact HB

def u₀ : UU nD τ := (initOf (Pipeline.cells cfgs cellOf_inj) (Pipeline.launchToks cfgs cellOf_inj), 1)
/-- The end state: the arrays as they were, the result as computed. -/
def QY (c : Dev nD) (s : MemSt nD τ sig (Elt F)) : Prop :=
  s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5 ∧ s.mem ((c : Thread nD τ).loc main_v0) = V m c main_v0 ∧ s.mem ((c : Thread nD τ).loc main_v1) = outV m c

set_option backward.isDefEq.respectTransparency.types false in
/-- From any memory with zero counters every execution ends, the arguments unchanged, the result at `outV`, every counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := fun c => iprop(arrays m c (V m c main_v1) ∗ Pipeline.ownSems0 osem c)) (Y := fun c => arrays m c (outV m c)) (Z := fun _ => iprop(emp))
    (hX := fun c => by
      rw [unscopedRest0_eq]
      iintro ⟨H0, HS, -, -, -⟩; imodintro
      isplitl [H0 HS]
      · isplitl [H0]; · iexact H0
        iexact HS
      iempintro)
    (hin := fun c => by
      rw [show (dats m 0 c).Φ 0 = Φ m c (V m c main_v1) from rfl]
      unfold Φ
      iintro ⟨⟨H0, HS⟩, HB⟩
      isplitl [H0]; · iexact H0
      isplitl [HS]; · iexact HS
      iexact HB)
    (hout := fun c => by
      rw [show (dats m 0 c).Φ (Fin.last cfg0.N) = Φ m c (outV m c) from rfl]
      unfold Φ
      iintro ⟨H0, HS, HB⟩
      isplitl [H0]; · iexact H0
      isplitl [HS]; · iexact HS
      iexact HB)
    (QY := QY m)
    (hY := fun c s' => by
      unfold arrays QY
      iintro ⟨⟨H0, H1, H2, H3, H4, H5, H6, H7⟩, -, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7⟩
      iexact HSI)
    (hQ := fun _ hh hz => ⟨fun c => (hh c).2, hz⟩)

end Cert.Proof.OutProj

end
-- ==== Proof.Equation.lean ====
/-
  The kernel's result is the reference's, as a function of the six arguments.

  Each lemma says which entry of an argument stands where the kernel's arithmetic reads it: a block's row `r` is row
  1024 b + r of its array, the gate's columns begin at 3072, the weight is the last of the four. Then both results are
  `rowOut` of the same row's data, entry by entry.
-/
module

public import proofs.«01_k».proof.Proof.Row
public import proofs.«01_k».proof.Proof.Run
public import Idealize.ShloMosaic.Lib.ValueLayout

@[expose] public section

set_option maxRecDepth 16384

noncomputable section

namespace Cert.Proof.OutProj

open Cert.KernelIdeal Cert.KernelIdeal.Gen
open Idealize.ShloMosaic Idealize.ShloMosaic.TcCoe
open Idealize.ShloMosaic (ix1 ix2 ix3)

variable {F : FTy → Type} [FloatOps F] (c : Dev nD)

/-- Row `r` of block `b`. -/
def rowAt (b : Fin 16) (r : Fin 1024) : Fin 16384 := ⟨1024 * b.val + r.val, by omega⟩

theorem x_at (X : Buf (Elt F) (xM.view.loc (c : Thread nD τ))) (b : Fin 16) (r l : Fin 1024) :
    (xG b).view.read (Elt F) X (ix2 r l) = (X : S16384x1024.Idx → Elt F _) (ix2 (rowAt b r) l) := by
  refine congrArg (X : S16384x1024.Idx → Elt F _) (funext fun a => Fin.ext ?_)
  refine (ValueKit.view_emb_slice_whole_unit_val main_arg0 (rowOff b) S1024x1024.size (row_inb b) (ix2 r l) a).trans ?_
  match a with
  | ⟨0, _⟩ => rfl
  | ⟨1, _⟩ => exact Nat.zero_add _

theorem o_at (X : Buf (Elt F) (oM.view.loc (c : Thread nD τ))) (b : Fin 16) (r : Fin 1024) (l : Fin 512) :
    (oG b).view.read (Elt F) X (ix2 r l) = (X : S16384x512.Idx → Elt F _) (ix2 (rowAt b r) l) := by
  refine congrArg (X : S16384x512.Idx → Elt F _) (funext fun a => Fin.ext ?_)
  refine (ValueKit.view_emb_slice_whole_unit_val main_arg1 (rowOff b) S1024x512.size (half_inb b) (ix2 r l) a).trans ?_
  match a with
  | ⟨0, _⟩ => rfl
  | ⟨1, _⟩ => exact Nat.zero_add _

theorem n_at (X : Buf (Elt F) (nM.view.loc (c : Thread nD τ))) (b : Fin 16) (r : Fin 1024) (l : Fin 512) :
    (nG b).view.read (Elt F) X (ix2 r l) = (X : S16384x512.Idx → Elt F _) (ix2 (rowAt b r) l) := by
  refine congrArg (X : S16384x512.Idx → Elt F _) (funext fun a => Fin.ext ?_)
  refine (ValueKit.view_emb_slice_whole_unit_val main_arg2 (rowOff b) S1024x512.size (half_inb b) (ix2 r l) a).trans ?_
  match a with
  | ⟨0, _⟩ => rfl
  | ⟨1, _⟩ => exact Nat.zero_add _

theorem z_at (X : Buf (Elt F) (zM.view.loc (c : Thread nD τ))) (b : Fin 16) (r l : Fin 1024) :
    (zG b).view.read (Elt F) X (ix2 r l) = (X : S16384x4096.Idx → Elt F _) (ix2 (rowAt b r) ⟨3072 + l.val, by omega⟩) := by
  refine congrArg (X : S16384x4096.Idx → Elt F _) (funext fun a => Fin.ext ?_)
  refine (ValueKit.view_emb_slice_whole_unit_val main_arg3 (gateOff b) S1024x1024.size (gate_inb b) (ix2 r l) a).trans ?_
  match a with
  | ⟨0, _⟩ => rfl
  | ⟨1, _⟩ => rfl

/-- A buffer stored whole holds what was stored. -/
theorem stored_whole {sg : RefSig} {κ : Kind} {Val : EltTy → Type} (b : Ref sg κ) (f v : b.ty.Contents Val) :
    (View.whole b).writes Val f [⟨Rect.whole _, v⟩] = v :=
  View.read_writes_whole (View.whole b) f v

/-- The kept weight is the last of the four. -/
theorem w_at (Wt : Buf (Elt F) (wM.view.loc (c : Thread nD τ))) (k l : Fin 1024) :
    (wKept c Wt : S1024x1024.Idx → Elt F _) (ix2 k l) = (Wt : S4x1024x1024.Idx → Elt F _) (ix3 3 k l) := by
  have e : wKept c Wt = wTake.view.read (Elt F) Wt := by
    unfold wKept
    exact stored_whole cc0_scoped8 _ _
  rw [e]
  have e' : wTake.view.read (Elt F) Wt
      = shapeCast S1024x1024 (wM.view.readAt (Elt F) (Rect.unit (s := S4x1024x1024) ![3, 0, 0] S1x1024x1024.size (by decide)).toLoadRect Wt) Cert.KernelIdeal.Gen.shapeCasts_S1x1024x1024_S1024x1024 := rfl
  rw [e']
  refine (ValueIdx.shapeCast_1ab_ab_apply _ _ _ _).trans ?_
  refine congrArg (Wt : S4x1024x1024.Idx → Elt F _) (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-- The kept gains are the gains. -/
theorem g_at (Gn : Buf (Elt F) (gM.view.loc (c : Thread nD τ))) : (gKept c Gn : S1x1024.Idx → Elt F _) = Gn := by
  unfold gKept
  exact stored_whole cc0_scoped9 _ _

/-- The host lays the norm's weight as one row. -/
theorem gains_row (m : (ℓ : Loc nD τ sig) → Buf (Elt F) ℓ) (l : Fin 1024) :
    (V m c main_v0 : S1x1024.Idx → Elt F _) (ix2 0 l) = (m ((c : Thread nD τ).loc main_arg5) : S1024.Idx → Elt F _) (ix1 l) := by
  have e : (V m c main_v0 : S1x1024.Idx → Elt F _)
      = shapeCast S1x1024 (m ((c : Thread nD τ).loc main_arg5) : S1024.Idx → Elt F _) shapeCasts_S1024_S1x1024 := by
    simp only [V, hostOps0, StableHlo.TRef.toBuf, StableHlo.TRef.ofBuf, cast_eq]
    after_results_simp <;> rfl
  rw [e]
  pointwise

/-- The kernel's result at an entry. -/
theorem out_at (m : (ℓ : Loc nD τ sig) → Buf (Elt Ideal) ℓ) (i : S16384x1024.Idx) :
    (outV m c : S16384x1024.Idx → EReal) i
      = rowOut (fun k => (m ((c : Thread nD τ).loc main_arg0) : S16384x1024.Idx → EReal) (ix2 (i 0) k))
          (fun k => (m ((c : Thread nD τ).loc main_arg1) : S16384x512.Idx → EReal) (ix2 (i 0) k))
          (fun k => (m ((c : Thread nD τ).loc main_arg2) : S16384x512.Idx → EReal) (ix2 (i 0) k))
          (fun k => (m ((c : Thread nD τ).loc main_arg3) : S16384x4096.Idx → EReal) (ix2 (i 0) ⟨3072 + k.val, by omega⟩))
          (fun k j => (m ((c : Thread nD τ).loc main_arg4) : S4x1024x1024.Idx → EReal) (ix3 3 k j))
          (fun k => (m ((c : Thread nD τ).loc main_arg5) : S1024.Idx → EReal) (ix1 k)) (i 1) := by
  have hr : rowAt (blkOf i) ⟨(i 0).val % 1024, Nat.mod_lt _ (by decide)⟩ = i 0 := Fin.ext (Nat.div_add_mod _ _)
  show block _ _ _ _ _ _ (ix2 _ _) = _
  rw [block_at]
  simp only [x_at, o_at, n_at, z_at, w_at, g_at, hr]
  have e0 := V_main_arg0 m c
  have e1 := V_main_arg1 m c
  have e2 := V_main_arg2 m c
  have e3 := V_main_arg3 m c
  have e4 := V_main_arg4 m c
  have e5 : (fun k : Fin 1024 => (V m c main_v0 : S1x1024.Idx → EReal) (ix2 0 k)) = fun k => (m ((c : Thread nD τ).loc main_arg5) : S1024.Idx → EReal) (ix1 k) :=
    funext fun k => gains_row c m k
  rw [e0, e1, e2, e3, e4, e5]
  rfl

/-- The two results are one function of the arguments. -/
theorem equation (m : (ℓ : Loc nD τ sig) → Buf (Elt Ideal) ℓ) :
    (outV m c : S16384x1024.Idx → EReal)
      = refOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  refine (out_at c m i).trans ?_
  have hi : i = ix2 (i 0) (i 1) := ValueIdx.eq_ix2 i
  refine Eq.trans ?_ (congrArg (refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) hi.symm)
  exact (reference_at _ _ _ _ _ _ (i 0) (i 1)).symm

end Cert.Proof.OutProj
-- ==== Proof.Claims.lean ====
/-
  The claims about the output projection, from its run.
-/
module

public import proofs.«01_k».proof.Defs
public import proofs.«01_k».proof.Proof.Gen.Kernel
public import proofs.«01_k».proof.Proof.Equation
public import Idealize.ShloMosaic.Adequacy

@[expose] public section

set_option maxRecDepth 16384

noncomputable section

namespace Cert.Proof.OutProj

open Idealize.ShloMosaic Idealize.ShloMosaic.TcCoe Idealize.SL.Sem
open Cert.KernelIdeal Cert.KernelIdeal.Gen

variable {F : FTy → Type} [FloatOps F]

/-- What a final state with `QY` says of the result and the arguments. -/
theorem QY.args {m : (ℓ : Loc nD τ sig) → Buf (Elt F) ℓ} {c : Dev nD} {s : MemSt nD τ sig (Elt F)} (h : QY m c s) :
    s.mem ((c : Thread nD τ).loc main_v1) = outV m c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5) := by
  obtain ⟨h0, h1, h2, h3, h4, h5, h6, h7⟩ := h
  exact ⟨h7, h0.trans (V_main_arg0 m c), h1.trans (V_main_arg1 m c), h2.trans (V_main_arg2 m c), h3.trans (V_main_arg3 m c),
    h4.trans (V_main_arg4 m c), h5.trans (V_main_arg5 m c)⟩

theorem frame_kernel : Cert.quiescent_Kernel := fun m ρ _ =>
  (θ_run Cert.KernelIdeal.defs _ _).mono (fun _ h => ⟨fun c => (h.1 c).args.2, h.2⟩) (run_main (F := Bits) m ρ)

theorem frame_ideal : Cert.quiescent_KernelIdeal := fun m ρ _ =>
  (θ_run Cert.KernelIdeal.defs _ _).mono (fun _ h => ⟨fun c => (h.1 c).args.2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem kernel_is_reference : Cert.algebraic_KernelIdeal_ReferenceIdeal := by
  intro m g m' g' _ hargs
  refine ⟨fun c => outV m c, (θ_run Cert.KernelIdeal.defs _ _).mono (fun _ h c => (h.1 c).args) (run_main (F := Ideal) m g), ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5⟩ := hargs c
  rw [a0, a1, a2, a3, a4, a5]
  exact (equation c m).symm

end Cert.Proof.OutProj
-- ==== Proof.BoundaryRow.lean ====
/-
  A layer's boundary, one row at a time: the output projection's row, its norm, the next layer's projection, and how the
  projection's row is laid out in the two results `z` and `vt`.

  `mixed` (Row.lean) is the row of x + gated · w. `normed` is that row divided by its root mean square, times the norm's
  weight. `projected` is the product with the next layer's weight. `scaledAt` is the row as `z` keeps it: the columns of
  both queries carry the factor dh^(-1/2) / ln 2. `valuesAt` is a column of `vt`: per group of 128 value columns, those
  values and then sixteen ones.
-/
module

public import proofs.«01_k».proof.Proof.Row
public import proofs.«01_k».proof.Proof.Gen.BoundaryIdeal
public import proofs.«01_k».proof.Proof.Gen.BoundaryIdeal.Skeleton
public import proofs.«01_k».proof.Proof.Gen.BoundaryReferenceIdeal.Run
public import Idealize.ShloMosaic.Lib.Pointwise

@[expose] public section

set_option maxRecDepth 16384

noncomputable section

namespace Cert.Proof.Boundary

open Idealize.ShloMosaic
open Idealize.ShloMosaic (ix1 ix2 ix3)
open Cert.Proof.OutProj (mixed)

/-- One entry of the normed row. The constants are the kernel's 1024 and its epsilon. -/
def normed (x g : Fin 1024 → EReal) (l : Fin 1024) : EReal :=
  x l * Ideal.rsqrt (Ideal.div (∑ j : Fin 1024, x j * x j) (Ideal.ofBits .f32 0x44800000#32) + Ideal.ofBits .f32 0x358637BD#32) * g l

/-- One entry of the projected row. -/
def projected (x g : Fin 1024 → EReal) (w : Fin 1024 → Fin 4096 → EReal) (e : Fin 4096) : EReal :=
  ∑ k : Fin 1024, normed x g k * w k e

/-- The factor of the queries: 64^(-1/2) / ln 2. -/
def qScale : EReal := ((1 / 8 * (Real.log 2)⁻¹ : ℝ) : EReal)

/-- The row as `z` keeps it. -/
def scaledAt (z : Fin 4096 → EReal) (e : Fin 4096) : EReal :=
  if e.val < 512 ∨ (1536 ≤ e.val ∧ e.val < 2048) then z e * qScale else z e

/-- The value column that row `a` of `vt` keeps, where it keeps one. -/
def valueCol (a : Fin 1152) : ℕ := if a.val / 144 < 4 then 1024 + a.val / 144 * 128 + a.val % 144 else 2048 + a.val / 144 * 128 + a.val % 144

/-- A column of `vt`, from a token's projected row. -/
def valuesAt (z : Fin 4096 → EReal) (a : Fin 1152) : EReal :=
  if h : a.val % 144 < 128 then z ⟨valueCol a, by unfold valueCol; split <;> omega⟩ else 1

theorem scaledAt_pos (z : Fin 4096 → EReal) (e : Fin 4096) (h : e.val < 512 ∨ (1536 ≤ e.val ∧ e.val < 2048)) : scaledAt z e = z e * qScale := if_pos h

theorem scaledAt_neg (z : Fin 4096 → EReal) (e : Fin 4096) (h : ¬(e.val < 512 ∨ (1536 ≤ e.val ∧ e.val < 2048))) : scaledAt z e = z e := if_neg h

theorem valuesAt_pos (z : Fin 4096 → EReal) (a : Fin 1152) (e : Fin 4096) (h : a.val % 144 < 128) (he : e.val = valueCol a) : valuesAt z a = z e :=
  (dif_pos h).trans (congrArg z (Fin.ext he.symm))

theorem valuesAt_one (z : Fin 4096 → EReal) (a : Fin 1152) (h : ¬a.val % 144 < 128) : valuesAt z a = 1 := dif_neg h

section Kernel
open Cert.BoundaryIdeal Cert.BoundaryIdeal.Gen

theorem q_named : Named.named (F := Ideal) Cert.BoundaryIdeal.κ "q_scale" (φ := .f32) 0x3E38AA3B#32 = qScale :=
  IdealRules.named_const.ideal_named_scalar _ _ _ _ rfl

/-- The kernel's mixed rows. -/
theorem pay6_at (z : Vec Ideal S512x1024 .bf16) (o n : Vec Ideal S512x512 .bf16) (x : Vec Ideal S512x1024 .f32)
    (w : Vec Ideal S1x1024x1024 .f32) (r : Fin 512) (l : Fin 1024) :
    k0_pay6 z o n x w (ix2 r l)
      = mixed (fun k => x (ix2 r k)) (fun k => o (ix2 r k)) (fun k => n (ix2 r k)) (fun k => z (ix2 r k)) (fun k j => w (ix3 0 k j)) l := by
  pointwise [k0_pay6, mixed, dot_S512x1024_S1024x1024_S512x1024_1_0_0_1_n_n]

/-- The kernel's normed rows. -/
theorem pay7_at (z : Vec Ideal S512x1024 .bf16) (o n : Vec Ideal S512x512 .bf16) (x : Vec Ideal S512x1024 .f32)
    (w : Vec Ideal S1x1024x1024 .f32) (g : Vec Ideal S1x1x1024 .f32) (r : Fin 512) (l : Fin 1024) :
    k0_pay7 z o n x w g (ix2 r l)
      = normed (fun j => k0_pay6 z o n x w (ix2 r j)) (fun k => g (ix3 0 0 k)) l := by
  pointwise [k0_pay7, normed]

end Kernel

section Reference
open Cert.BoundaryReferenceIdeal Cert.BoundaryReferenceIdeal.Gen

/-- The reference's x + gated · w. -/
def refX (X : FVec Ideal S16384x1024 .f32) (O N : FVec Ideal S16384x512 .bf16) (Z : FVec Ideal S16384x4096 .bf16)
    (W : FVec Ideal S4x1024x1024 .f32) : FVec Ideal S16384x1024 .f32 :=
  addf X (Host.dotGeneral dot_S16384x1024_S1024x1024_S16384x1024_1_0_0_1_n_n none (mulf (concatenate S16384x1024 1 [⟨S16384x512, (extf .f32 O bitsLt_bf16_f32)⟩, ⟨S16384x512, (extf .f32 N bitsLt_bf16_f32)⟩] concatenates_S16384x512_S16384x512_S16384x1024_d1) (mulf (extf .f32 (extractStridedSlice S16384x1024 ![0, 3072] Z slices_S16384x4096_S16384x1024_0_3072) bitsLt_bf16_f32) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 (extractStridedSlice S16384x1024 ![0, 3072] Z slices_S16384x4096_S16384x1024_0_3072) bitsLt_bf16_f32))))))) (shapeCast _ (extractStridedSlice S1x1024x1024 ![0, 0, 0] W slices_S4x1024x1024_S1x1024x1024_0_0_0) shapeCasts_S1x1024x1024_S1024x1024))

/-- The reference's projection of the normed rows. -/
def refZ (X : FVec Ideal S16384x1024 .f32) (G : FVec Ideal S4x1024 .f32) (V : FVec Ideal S4x1024x4096 .f32) : FVec Ideal S16384x4096 .f32 :=
  Host.dotGeneral dot_S16384x1024_S1024x4096_S16384x4096_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] G slices_S4x1024_S1x1024_1_0) shapeCasts_S1x1024_S1024)))) (shapeCast _ (extractStridedSlice S1x1024x4096 ![1, 0, 0] V slices_S4x1024x4096_S1x1024x4096_1_0_0) shapeCasts_S1x1024x4096_S1024x4096)

/-- The reference's factor. -/
def refScale : FVec Ideal S_ .f32 := Host.divf (constant S_ .f32 0x3E000000#32) (Host.log (constant S_ .f32 0x40000000#32))

/-- The reference's result `z`, from its projection. -/
def refScaled (Z : FVec Ideal S16384x4096 .f32) : FVec Ideal S16384x4096 .bf16 :=
  truncf .bf16 ((concatenate S16384x4096 1 [⟨S16384x512, ((mulf (extractStridedSlice S16384x512 ![0, 0] Z slices_S16384x4096_S16384x512_0_0) (broadcastInDim S16384x512 ![] bcast_S_S16384x512 refScale)) : (⟨S16384x512, .f32⟩ : BufTy).Contents (Elt Ideal))⟩, ⟨S16384x512, ((extractStridedSlice S16384x512 ![0, 512] Z slices_S16384x4096_S16384x512_0_512) : (⟨S16384x512, .f32⟩ : BufTy).Contents (Elt Ideal))⟩, ⟨S16384x512, ((extractStridedSlice S16384x512 ![0, 1024] Z slices_S16384x4096_S16384x512_0_1024) : (⟨S16384x512, .f32⟩ : BufTy).Contents (Elt Ideal))⟩, ⟨S16384x512, ((mulf (extractStridedSlice S16384x512 ![0, 1536] Z slices_S16384x4096_S16384x512_0_1536) (broadcastInDim S16384x512 ![] bcast_S_S16384x512 refScale)) : (⟨S16384x512, .f32⟩ : BufTy).Contents (Elt Ideal))⟩, ⟨S16384x512, ((extractStridedSlice S16384x512 ![0, 2048] Z slices_S16384x4096_S16384x512_0_2048) : (⟨S16384x512, .f32⟩ : BufTy).Contents (Elt Ideal))⟩, ⟨S16384x512, ((extractStridedSlice S16384x512 ![0, 2560] Z slices_S16384x4096_S16384x512_0_2560) : (⟨S16384x512, .f32⟩ : BufTy).Contents (Elt Ideal))⟩, ⟨S16384x1024, ((extractStridedSlice S16384x1024 ![0, 3072] Z slices_S16384x4096_S16384x1024_0_3072) : (⟨S16384x1024, .f32⟩ : BufTy).Contents (Elt Ideal))⟩] concatenates_S16384x512_S16384x512_S16384x512_S16384x512_S16384x512_S16384x512_S16384x1024_S16384x4096_d1 : (⟨S16384x4096, .f32⟩ : BufTy).Contents (Elt Ideal))) bitsLt_bf16_f32

/-- The reference's result `vt`, from its projection. -/
def refValues (Z : FVec Ideal S16384x4096 .f32) : FVec Ideal S1152x16384 .bf16 :=
  shapeCast _ (concatenate S8x144x16384 1 [⟨S8x128x16384, (shapeCast _ (transpose S1024x16384 [1, 0] (truncf .bf16 (concatenate S16384x1024 1 [⟨S16384x512, (extractStridedSlice S16384x512 ![0, 1024] Z slices_S16384x4096_S16384x512_0_1024)⟩, ⟨S16384x512, (extractStridedSlice S16384x512 ![0, 2560] Z slices_S16384x4096_S16384x512_0_2560)⟩] concatenates_S16384x512_S16384x512_S16384x1024_d1) bitsLt_bf16_f32) transposes_S16384x1024_S1024x16384_1_0) shapeCasts_S1024x16384_S8x128x16384)⟩, ⟨S8x16x16384, (broadcastInDim S8x16x16384 ![] bcast_S_S8x16x16384 (constant S_ .bf16 0x3F80#16))⟩] concatenates_S8x128x16384_S8x16x16384_S8x144x16384_d1) shapeCasts_S8x144x16384_S1152x16384

theorem refX_at (X : FVec Ideal S16384x1024 .f32) (O N : FVec Ideal S16384x512 .bf16) (Z : FVec Ideal S16384x4096 .bf16)
    (W : FVec Ideal S4x1024x1024 .f32) (r : Fin 16384) (l : Fin 1024) :
    refX X O N Z W (ix2 r l)
      = mixed (fun k => X (ix2 r k)) (fun k => O (ix2 r k)) (fun k => N (ix2 r k)) (fun k => Z (ix2 r ⟨3072 + k.val, by omega⟩))
          (fun k j => W (ix3 0 k j)) l := by
  pointwise [refX, mixed, Ideal.logistic, dot_S16384x1024_S1024x1024_S16384x1024_1_0_0_1_n_n]

theorem refZ_at (X : FVec Ideal S16384x1024 .f32) (G : FVec Ideal S4x1024 .f32) (V : FVec Ideal S4x1024x4096 .f32) (r : Fin 16384) (e : Fin 4096) :
    refZ X G V (ix2 r e) = projected (fun k => X (ix2 r k)) (fun k => G (ix2 1 k)) (fun k j => V (ix3 1 k j)) e := by
  pointwise [refZ, projected, normed, dot_S16384x1024_S1024x4096_S16384x4096_1_0_0_1_n_n]

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem refScale_eq (i : S_.Idx) : refScale i = qScale := by
  have h2 : Real.log 2 ≠ 0 := (Real.log_pos (by norm_num)).ne'
  show Ideal.div (Ideal.ofBits .f32 0x3E000000#32) (Ideal.log (Ideal.ofBits .f32 0x40000000#32)) = _
  rw [ofBits_eighth, ofBits_two, Ideal.log_coe, if_neg (by norm_num), Ideal.div_coe h2, ← EReal.coe_mul, qScale]
  norm_num

theorem refScaled_at (Z : FVec Ideal S16384x4096 .f32) (r : Fin 16384) (e : Fin 4096) :
    refScaled Z (ix2 r e) = scaledAt (fun k => Z (ix2 r k)) e := by
  pointwise [refScaled, scaledAt, refScale_eq]
  by_cases hq : e.val < 512 ∨ (1536 ≤ e.val ∧ e.val < 2048)
  all_goals
    first | rw [if_pos hq] | rw [if_neg hq]
    split_ifs <;>
      first
      | rfl
      | (exfalso; omega)
      | exact congrArg (fun q => Z (ix2 r q)) (Fin.ext (by show _ = e.val; dsimp only; omega))
      | exact congrArg (fun q => Z (ix2 r q) * qScale) (Fin.ext (by show _ = e.val; dsimp only; omega))

theorem refValues_at (Z : FVec Ideal S16384x4096 .f32) (a : Fin 1152) (r : Fin 16384) :
    refValues Z (ix2 a r) = valuesAt (fun k => Z (ix2 r k)) a := by
  pointwise [refValues, valuesAt]
  split_ifs with h h' <;>
    first
    | rfl
    | exact congrArg (fun q => Z (ix2 r q)) (Fin.ext (by dsimp only [valueCol]; split <;> omega))

end Reference

end Cert.Proof.Boundary
-- ==== Proof.BoundaryEquation.lean ====
/-
  The three results of the boundary's kernel are the reference's, as functions of the seven arguments.
-/
module

public import proofs.«01_k».proof.Proof.BoundaryRow
public import proofs.«01_k».proof.Proof.Gen.BoundaryIdeal.Value
public import Idealize.ShloMosaic.Lib.Pipeline.ValueKit

@[expose] public section

set_option maxRecDepth 16384

noncomputable section

namespace Cert.Proof.Boundary

open Cert.BoundaryIdeal Cert.BoundaryIdeal.Gen
open Idealize.ShloMosaic Idealize.ShloMosaic.TcCoe
open Idealize.ShloMosaic (ix1 ix2 ix3)

/-- Which block each window takes at a grid point. -/
theorem idx : ∀ t : Fin cfg0.N, win0_0.index t = ![t.val, 0] ∧ win0_1.index t = ![t.val, 0] ∧ win0_2.index t = ![t.val, 0]
    ∧ win0_3.index t = ![t.val, 3] ∧ win0_4.index t = ![0, 0, 0] ∧ win0_5.index t = ![1, 0, 0] ∧ win0_6.index t = ![1, 0, 0]
    ∧ win0_7.index t = ![t.val, 0] ∧ win0_8.index t = ![t.val, 0] ∧ win0_9.index t = ![0, t.val] :=
  (by decide +kernel : ∀ t : Fin grid0.N, _)

variable (m : (ℓ : Loc nD τ sig) → Buf (Elt Ideal) ℓ) (c : Dev nD)

/-- The reference's x + gated · w of the arguments. -/
abbrev argX : FVec Ideal Cert.BoundaryReferenceIdeal.S16384x1024 .f32 :=
  refX (m ((c : Thread nD τ).loc main_arg0)) (m ((c : Thread nD τ).loc main_arg1)) (m ((c : Thread nD τ).loc main_arg2))
    (m ((c : Thread nD τ).loc main_arg3)) (m ((c : Thread nD τ).loc main_arg4))

/-- The reference's projection of the arguments. -/
abbrev argZ : FVec Ideal Cert.BoundaryReferenceIdeal.S16384x4096 .f32 :=
  refZ (argX m c) (m ((c : Thread nD τ).loc main_arg5)) (m ((c : Thread nD τ).loc main_arg6))

/-- A block of rows times a weight. -/
def rowZ (H : FVec Ideal S512x1024 .f32) (W : FVec Ideal S1x1024x4096 .f32) (r : Fin 512) (e : Fin 4096) : EReal :=
  ∑ k : Fin 1024, H (ix2 r k) * W (ix3 0 k e)

theorem ofBits_one16 : Ideal.ofBits .bf16 0x3F80#16 = 1 := by
  have h : (128 * (2 ^ 7)⁻¹ : ℝ) = 1 := by norm_num
  simp [Ideal.ofBits, Ideal.ieee, -EReal.coe_mul, h]

theorem argX_row (t : Fin cfg0.N) (r : Fin 512) (i : Fin 16384) (hi : i.val = t.val * 512 + r.val) (l : Fin 1024) :
    k0_pay6 (F := Ideal) (iblk m c 3 t) (iblk m c 1 t) (iblk m c 2 t) (iblk m c 0 t) (iblk m c 4 t) (ix2 r l) = argX m c (ix2 i l) := by
  rw [pay6_at, argX, refX_at]
  blk_point [iblk, V, idx t]

section Values
variable (H : FVec Ideal S512x1024 .f32) (W : FVec Ideal S1x1024x4096 .f32)

/-- Values stored at an index of a piece are what `vt` keeps there. -/
theorem valuesAt_piece (f : FVec Ideal S128x512 .bf16) (col : Fin 128 → Fin 4096) (hf : ∀ s r, f (ix2 s r) = rowZ H W r (col s))
    (x : S128x512.Idx) (a : Fin 1152) (r : Fin 512) (hr : r.val = (x 1).val) (hm : a.val % 144 < 128) (hc : (col (x 0)).val = valueCol a) :
    f x = valuesAt (rowZ H W r) a := by
  obtain rfl : r = x 1 := Fin.ext hr
  rw [valuesAt_pos _ a (col (x 0)) hm hc]
  exact (congrArg f (ValueIdx.eq_ix2 x)).trans (hf (x 0) (x 1))

theorem values15_at (s : Fin 128) (r : Fin 512) :
    k0_pay15 H (View.ld W (Rect.unit (s := S1x1024x4096) ![0, 0, 1024] ![1, 1024, 512] inb_S1x1024x4096_S1x1024x512_0_0_1024)) (ix2 s r) = rowZ H W r ⟨1024 + s.val, by omega⟩ := by
  pointwise [k0_pay15, k0_pay14, k0_pay12, rowZ, dot_S512x1024_S1024x512_S512x512_1_0_0_1_n_n]

theorem values16_at (s : Fin 128) (r : Fin 512) :
    k0_pay16 H (View.ld W (Rect.unit (s := S1x1024x4096) ![0, 0, 1024] ![1, 1024, 512] inb_S1x1024x4096_S1x1024x512_0_0_1024)) (ix2 s r) = rowZ H W r ⟨1024 + (128 + s.val), by omega⟩ := by
  pointwise [k0_pay16, k0_pay14, k0_pay12, rowZ, dot_S512x1024_S1024x512_S512x512_1_0_0_1_n_n]

theorem values17_at (s : Fin 128) (r : Fin 512) :
    k0_pay17 H (View.ld W (Rect.unit (s := S1x1024x4096) ![0, 0, 1024] ![1, 1024, 512] inb_S1x1024x4096_S1x1024x512_0_0_1024)) (ix2 s r) = rowZ H W r ⟨1024 + (256 + s.val), by omega⟩ := by
  pointwise [k0_pay17, k0_pay14, k0_pay12, rowZ, dot_S512x1024_S1024x512_S512x512_1_0_0_1_n_n]

theorem values18_at (s : Fin 128) (r : Fin 512) :
    k0_pay18 (k0_pay14 H (View.ld W (Rect.unit (s := S1x1024x4096) ![0, 0, 1024] ![1, 1024, 512] inb_S1x1024x4096_S1x1024x512_0_0_1024))) (ix2 s r) = rowZ H W r ⟨1024 + (384 + s.val), by omega⟩ := by
  pointwise [k0_pay18, k0_pay14, k0_pay12, rowZ, dot_S512x1024_S1024x512_S512x512_1_0_0_1_n_n]

theorem values24_at (s : Fin 128) (r : Fin 512) :
    k0_pay24 H (View.ld W (Rect.unit (s := S1x1024x4096) ![0, 0, 2560] ![1, 1024, 512] inb_S1x1024x4096_S1x1024x512_0_0_2560)) (ix2 s r) = rowZ H W r ⟨2560 + s.val, by omega⟩ := by
  pointwise [k0_pay24, k0_pay23, k0_pay21, rowZ, dot_S512x1024_S1024x512_S512x512_1_0_0_1_n_n]

theorem values1_at (s : Fin 128) (r : Fin 512) :
    k0_pay1 (k0_pay23 H (View.ld W (Rect.unit (s := S1x1024x4096) ![0, 0, 2560] ![1, 1024, 512] inb_S1x1024x4096_S1x1024x512_0_0_2560))) (ix2 s r) = rowZ H W r ⟨2560 + (128 + s.val), by omega⟩ := by
  pointwise [k0_pay1, k0_pay23, k0_pay21, rowZ, dot_S512x1024_S1024x512_S512x512_1_0_0_1_n_n]

theorem values2_at (s : Fin 128) (r : Fin 512) :
    k0_pay2 (k0_pay23 H (View.ld W (Rect.unit (s := S1x1024x4096) ![0, 0, 2560] ![1, 1024, 512] inb_S1x1024x4096_S1x1024x512_0_0_2560))) (ix2 s r) = rowZ H W r ⟨2560 + (256 + s.val), by omega⟩ := by
  pointwise [k0_pay2, k0_pay23, k0_pay21, rowZ, dot_S512x1024_S1024x512_S512x512_1_0_0_1_n_n]

theorem values3_at (s : Fin 128) (r : Fin 512) :
    k0_pay3 (k0_pay23 H (View.ld W (Rect.unit (s := S1x1024x4096) ![0, 0, 2560] ![1, 1024, 512] inb_S1x1024x4096_S1x1024x512_0_0_2560))) (ix2 s r) = rowZ H W r ⟨2560 + (384 + s.val), by omega⟩ := by
  pointwise [k0_pay3, k0_pay23, k0_pay21, rowZ, dot_S512x1024_S1024x512_S512x512_1_0_0_1_n_n]

/-- Values stored at an index of a piece are what `z` keeps there. -/
theorem scaledAt_piece (f : FVec Ideal S512x512 .bf16) (col : Fin 512 → Fin 4096) (hf : ∀ r s, f (ix2 r s) = rowZ H W r (col s))
    (x : S512x512.Idx) (e : Fin 4096) (r : Fin 512) (hr : r.val = (x 0).val) (hc : (col (x 1)).val = e.val)
    (h : ¬(e.val < 512 ∨ (1536 ≤ e.val ∧ e.val < 2048))) : f x = scaledAt (rowZ H W r) e := by
  obtain rfl : r = x 0 := Fin.ext hr
  obtain rfl : col (x 1) = e := Fin.ext hc
  rw [scaledAt_neg _ _ h]
  exact (congrArg f (ValueIdx.eq_ix2 x)).trans (hf (x 0) (x 1))

theorem scaledAt_query (f : FVec Ideal S512x512 .bf16) (col : Fin 512 → Fin 4096) (hf : ∀ r s, f (ix2 r s) = rowZ H W r (col s) * qScale)
    (x : S512x512.Idx) (e : Fin 4096) (r : Fin 512) (hr : r.val = (x 0).val) (hc : (col (x 1)).val = e.val)
    (h : e.val < 512 ∨ (1536 ≤ e.val ∧ e.val < 2048)) : f x = scaledAt (rowZ H W r) e := by
  obtain rfl : r = x 0 := Fin.ext hr
  obtain rfl : col (x 1) = e := Fin.ext hc
  rw [scaledAt_pos _ _ h]
  exact (congrArg f (ValueIdx.eq_ix2 x)).trans (hf (x 0) (x 1))

theorem scaled11_at (r s : Fin 512) :
    k0_pay11 H (View.ld W (Rect.unit (s := S1x1024x4096) ![0, 0, 512] ![1, 1024, 512] inb_S1x1024x4096_S1x1024x512_0_0_512)) (ix2 r s) = rowZ H W r ⟨512 + s.val, by omega⟩ := by
  pointwise [k0_pay11, q_named, rowZ, dot_S512x1024_S1024x512_S512x512_1_0_0_1_n_n]

theorem scaled13_at (r s : Fin 512) :
    k0_pay13 H (View.ld W (Rect.unit (s := S1x1024x4096) ![0, 0, 1024] ![1, 1024, 512] inb_S1x1024x4096_S1x1024x512_0_0_1024)) (ix2 r s) = rowZ H W r ⟨1024 + s.val, by omega⟩ := by
  pointwise [k0_pay13, k0_pay12, q_named, rowZ, dot_S512x1024_S1024x512_S512x512_1_0_0_1_n_n]

theorem scaled19_at (r s : Fin 512) :
    k0_pay19 H (View.ld W (Rect.unit (s := S1x1024x4096) ![0, 0, 1536] ![1, 1024, 512] inb_S1x1024x4096_S1x1024x512_0_0_1536)) (ix2 r s) = rowZ H W r ⟨1536 + s.val, by omega⟩ * qScale := by
  pointwise [k0_pay19, q_named, rowZ, dot_S512x1024_S1024x512_S512x512_1_0_0_1_n_n]

theorem scaled20_at (r s : Fin 512) :
    k0_pay20 H (View.ld W (Rect.unit (s := S1x1024x4096) ![0, 0, 2048] ![1, 1024, 512] inb_S1x1024x4096_S1x1024x512_0_0_2048)) (ix2 r s) = rowZ H W r ⟨2048 + s.val, by omega⟩ := by
  pointwise [k0_pay20, q_named, rowZ, dot_S512x1024_S1024x512_S512x512_1_0_0_1_n_n]

theorem scaled22_at (r s : Fin 512) :
    k0_pay22 H (View.ld W (Rect.unit (s := S1x1024x4096) ![0, 0, 2560] ![1, 1024, 512] inb_S1x1024x4096_S1x1024x512_0_0_2560)) (ix2 r s) = rowZ H W r ⟨2560 + s.val, by omega⟩ := by
  pointwise [k0_pay22, k0_pay21, q_named, rowZ, dot_S512x1024_S1024x512_S512x512_1_0_0_1_n_n]

theorem scaled4_at (r s : Fin 512) :
    k0_pay4 H (View.ld W (Rect.unit (s := S1x1024x4096) ![0, 0, 3072] ![1, 1024, 512] inb_S1x1024x4096_S1x1024x512_0_0_3072)) (ix2 r s) = rowZ H W r ⟨3072 + s.val, by omega⟩ := by
  pointwise [k0_pay4, q_named, rowZ, dot_S512x1024_S1024x512_S512x512_1_0_0_1_n_n]

theorem scaled5_at (r s : Fin 512) :
    k0_pay5 H (View.ld W (Rect.unit (s := S1x1024x4096) ![0, 0, 3584] ![1, 1024, 512] inb_S1x1024x4096_S1x1024x512_0_0_3584)) (ix2 r s) = rowZ H W r ⟨3584 + s.val, by omega⟩ := by
  pointwise [k0_pay5, q_named, rowZ, dot_S512x1024_S1024x512_S512x512_1_0_0_1_n_n]

theorem scaled10_at (r s : Fin 512) (z : Vec Ideal S512x1024 .bf16) (o n : Vec Ideal S512x512 .bf16) (x : Vec Ideal S512x1024 .f32)
    (w : Vec Ideal S1x1024x1024 .f32) (g : Vec Ideal S1x1x1024 .f32) :
    k0_pay10 (k0_pay9 z o n x w g (View.ld W (Rect.unit (s := S1x1024x4096) ![0, 0, 0] ![1, 1024, 512] inb_S1x1024x4096_S1x1024x512_0_0_0))) (ix2 r s)
      = rowZ (k0_pay7 z o n x w g) W r ⟨s.val, by omega⟩ * qScale := by
  pointwise [k0_pay10, k0_pay9, q_named, rowZ, dot_S512x1024_S1024x512_S512x512_1_0_0_1_n_n]

end Values

/-- A block's projected row is the reference's. -/
theorem rowZ_row (t : Fin cfg0.N) (r : Fin 512) (i : Fin 16384) (hi : i.val = t.val * 512 + r.val) (e : Fin 4096) :
    rowZ (k0_pay7 (F := Ideal) (iblk m c 3 t) (iblk m c 1 t) (iblk m c 2 t) (iblk m c 0 t) (iblk m c 4 t) (iblk m c 5 t)) (iblk m c 6 t) r e
      = argZ m c (ix2 i e) := by
  rw [argZ, refZ_at]
  unfold rowZ projected
  refine Finset.sum_congr rfl fun k _ => ?_
  have hrow : (fun j : Fin 1024 => k0_pay6 (F := Ideal) (iblk m c 3 t) (iblk m c 1 t) (iblk m c 2 t) (iblk m c 0 t) (iblk m c 4 t) (ix2 r j))
      = fun j => argX m c (ix2 i j) := funext fun j => argX_row m c t r i hi j
  have hg : (fun k : Fin 1024 => (iblk m c 5 t : S1x1x1024.Idx → EReal) (ix3 0 0 k))
      = fun k => (m ((c : Thread nD τ).loc main_arg5) : S4x1024.Idx → EReal) (ix2 1 k) := by
    funext k
    blk_point [iblk, idx t]
  have hw : (iblk m c 6 t : S1x1024x4096.Idx → EReal) (ix3 0 k e) = (m ((c : Thread nD τ).loc main_arg6) : S4x1024x4096.Idx → EReal) (ix3 1 k e) := by
    blk_point [iblk, V, idx t]
  rw [pay7_at]
  refine congrArg₂ (· * ·) ?_ hw
  exact congrArg₂ (fun a b => normed a b k) hrow hg

theorem final7 : (dats m 0 c).arrAt 7 (cfgs 0).N = argX m c := by
  refine (dats m 0 c).arrAt_eq_of_covers 7 _ (by decide +kernel) fun t _ y => ?_
  blk_simp
  rw [after0_7]
  unfold outsAt0
  frame_out
  have ht : t.val < 32 := t.isLt
  have hy : (y 0).val < 512 := (y 0).isLt
  refine ((congrArg _ (ValueIdx.eq_ix2 y)).trans (argX_row m c t (y 0) ⟨t.val * 512 + (y 0).val, by omega⟩ rfl (y 1))).trans ?_
  blk_ext [idx t]

theorem final8 : (dats m 0 c).arrAt 8 (cfgs 0).N = refScaled (argZ m c) := by
  refine (dats m 0 c).arrAt_eq_of_covers 8 _ (by decide +kernel) fun t _ y => ?_
  blk_simp
  rw [after0_8]; frame_out
  have ht : t.val < 32 := t.isLt
  have hy : (y 0).val < 512 := (y 0).isLt
  refine Eq.trans (b := scaledAt (rowZ (k0_pay7 (F := Ideal) (iblk m c 3 t) (iblk m c 1 t) (iblk m c 2 t) (iblk m c 0 t) (iblk m c 4 t) (iblk m c 5 t)) (iblk m c 6 t) (y 0)) (y 1)) ?_ ?_
  · canon_tiles x h
    case piece0 => exact scaledAt_piece _ _ _ _ (scaled5_at _ _) x (y 1) (y 0) h0 h1.symm (by omega)
    case piece1 => exact scaledAt_piece _ _ _ _ (scaled4_at _ _) x (y 1) (y 0) h0 h1.symm (by omega)
    case piece2 => exact scaledAt_piece _ _ _ _ (scaled22_at _ _) x (y 1) (y 0) h0 h1.symm (by omega)
    case piece3 => exact scaledAt_piece _ _ _ _ (scaled20_at _ _) x (y 1) (y 0) h0 h1.symm (by omega)
    case piece4 => exact scaledAt_query _ _ _ _ (scaled19_at _ _) x (y 1) (y 0) h0 h1.symm (by omega)
    case piece5 => exact scaledAt_piece _ _ _ _ (scaled13_at _ _) x (y 1) (y 0) h0 h1.symm (by omega)
    case piece6 => exact scaledAt_piece _ _ _ _ (scaled11_at _ _) x (y 1) (y 0) h0 h1.symm (by omega)
    case piece7 => exact scaledAt_query _ _ _ _ (fun r s => scaled10_at _ r s _ _ _ _ _ _) x (y 1) (y 0) h0 h1.symm (by omega)
  · refine Eq.trans ?_ ((refScaled_at (argZ m c) ⟨t.val * 512 + (y 0).val, by omega⟩ (y 1)).symm.trans ?_)
    · exact congrArg (fun f => scaledAt f (y 1)) (funext fun e => rowZ_row m c t (y 0) _ rfl e)
    · blk_ext [idx t]

theorem final9 : (dats m 0 c).arrAt 9 (cfgs 0).N = refValues (argZ m c) := by
  refine (dats m 0 c).arrAt_eq_of_covers 9 _ (by decide +kernel) fun t _ y => ?_
  blk_simp
  rw [after0_9]; frame_out
  have ht : t.val < 32 := t.isLt
  have hy : (y 1).val < 512 := (y 1).isLt
  refine Eq.trans (b := valuesAt (rowZ (k0_pay7 (F := Ideal) (iblk m c 3 t) (iblk m c 1 t) (iblk m c 2 t) (iblk m c 0 t) (iblk m c 4 t) (iblk m c 5 t)) (iblk m c 6 t) (y 1)) (y 0)) ?_ ?_
  · canon_tiles x h using (View.cover_of_tiledBy _ ![16, 512] (by sl_kernel_rfl) y)
    case piece0 | piece2 | piece4 | piece6 | piece8 | piece10 | piece12 | piece14 =>
      refine Eq.trans ?_ (valuesAt_one _ _ (by omega)).symm
      open_payloads
      pointwise [ofBits_one16]
    case piece15 => exact valuesAt_piece _ _ _ _ (values15_at _ _) x (y 0) (y 1) h1 (by omega) (by dsimp only [valueCol]; split <;> omega)
    case piece13 => exact valuesAt_piece _ _ _ _ (values16_at _ _) x (y 0) (y 1) h1 (by omega) (by dsimp only [valueCol]; split <;> omega)
    case piece11 => exact valuesAt_piece _ _ _ _ (values17_at _ _) x (y 0) (y 1) h1 (by omega) (by dsimp only [valueCol]; split <;> omega)
    case piece9 => exact valuesAt_piece _ _ _ _ (values18_at _ _) x (y 0) (y 1) h1 (by omega) (by dsimp only [valueCol]; split <;> omega)
    case piece7 => exact valuesAt_piece _ _ _ _ (values24_at _ _) x (y 0) (y 1) h1 (by omega) (by dsimp only [valueCol]; split <;> omega)
    case piece5 => exact valuesAt_piece _ _ _ _ (values1_at _ _) x (y 0) (y 1) h1 (by omega) (by dsimp only [valueCol]; split <;> omega)
    case piece3 => exact valuesAt_piece _ _ _ _ (values2_at _ _) x (y 0) (y 1) h1 (by omega) (by dsimp only [valueCol]; split <;> omega)
    case piece1 => exact valuesAt_piece _ _ _ _ (values3_at _ _) x (y 0) (y 1) h1 (by omega) (by dsimp only [valueCol]; split <;> omega)
  · refine Eq.trans ?_ ((refValues_at (argZ m c) (y 0) ⟨t.val * 512 + (y 1).val, by omega⟩).symm.trans ?_)
    · exact congrArg (fun f => valuesAt f (y 0)) (funext fun e => rowZ_row m c t (y 1) _ rfl e)
    · blk_ext [idx t]

end Cert.Proof.Boundary
-- ==== Proof.BoundaryClaims.lean ====
/-
  The claims about a layer's boundary.
-/
module

public import proofs.«01_k».proof.Defs
public import proofs.«01_k».proof.Proof.Gen.Boundary.Frame
public import proofs.«01_k».proof.Proof.BoundaryEquation
public import Idealize.ShloMosaic.Adequacy

@[expose] public section

set_option maxRecDepth 16384

noncomputable section

namespace Cert.Proof.Boundary

open Idealize.ShloMosaic Idealize.ShloMosaic.TcCoe Idealize.SL.Sem

theorem frame_kernel : Cert.quiescent_Boundary := fun m ρ _ => Cert.Boundary.Gen.frame m ρ

theorem frame_ideal : Cert.quiescent_BoundaryIdeal := fun m ρ _ => Cert.BoundaryIdeal.Gen.frame m ρ

theorem frame_reference : Cert.quiescent_BoundaryReferenceIdeal := fun m ρ _ =>
  (θ_run Cert.BoundaryReferenceIdeal.defs _ _).mono (fun r h => ⟨fun c => (h c).2.2.2, sem_eq_zero_of_no_sems (by decide) r.2⟩)
    (Cert.BoundaryReferenceIdeal.Value.run (F := Ideal) m ρ)

theorem preserves : Cert.preserves_Boundary_BoundaryIdeal :=
  IdealRules.named_const.statement Cert.BoundaryIdeal.κ "q_scale" .f32 0x3E38AA3B#32 (((1 / 8) * (Real.log 2)⁻¹ : ℝ) : EReal) rfl

section Reference
open Cert.BoundaryReferenceIdeal Cert.BoundaryReferenceIdeal.Value

variable (m : (ℓ : Loc nD τ sig) → Buf (Elt Ideal) ℓ) (c : Dev nD)

theorem reference_z : res_main_v43 m c = refScaled (refZ (refX (m ((c : Thread nD τ).loc main_arg0)) (m ((c : Thread nD τ).loc main_arg1))
    (m ((c : Thread nD τ).loc main_arg2)) (m ((c : Thread nD τ).loc main_arg3)) (m ((c : Thread nD τ).loc main_arg4)))
    (m ((c : Thread nD τ).loc main_arg5)) (m ((c : Thread nD τ).loc main_arg6))) := rfl

theorem reference_vt : res_main_v50 m c = refValues (refZ (refX (m ((c : Thread nD τ).loc main_arg0)) (m ((c : Thread nD τ).loc main_arg1))
    (m ((c : Thread nD τ).loc main_arg2)) (m ((c : Thread nD τ).loc main_arg3)) (m ((c : Thread nD τ).loc main_arg4)))
    (m ((c : Thread nD τ).loc main_arg5)) (m ((c : Thread nD τ).loc main_arg6))) := rfl

end Reference

theorem kernel_is_reference : Cert.algebraic_BoundaryIdeal_BoundaryReferenceIdeal := by
  intro m g m' g' _ hargs
  refine ⟨fun c => _, fun c => _, fun c => _, Cert.BoundaryIdeal.Value.run_blocks (F := Ideal) m g, ?_⟩
  refine (θ_run Cert.BoundaryReferenceIdeal.defs _ _).mono (fun r h c => ?_) (Cert.BoundaryReferenceIdeal.Value.run (F := Ideal) m' g')
  obtain ⟨h0, h1, h2, hk⟩ := h c
  obtain ⟨a0, a1, a2, a3, a4, a5, a6⟩ := hargs c
  refine ⟨h0.trans ?_, h1.trans ?_, h2.trans ?_, hk⟩
  · refine Eq.trans ?_ (final7 m c).symm
    rw [a0, a1, a2, a3, a4]
    rfl
  · refine (reference_z m' c).trans (Eq.trans ?_ (final8 m c).symm)
    rw [a0, a1, a2, a3, a4, a5, a6]
  · refine (reference_vt m' c).trans (Eq.trans ?_ (final9 m c).symm)
    rw [a0, a1, a2, a3, a4, a5, a6]

end Cert.Proof.Boundary
-- ==== Proof.InprojEquation.lean ====
/-
  The first layer's projection: the two results `z` and `vt` of the kernel are the reference's, as functions of the
  arguments. The row-wise definitions and the two layouts are those of a layer's boundary.
-/
module

public import proofs.«01_k».proof.Proof.BoundaryEquation
public import proofs.«01_k».proof.Proof.Gen.InprojIdeal.Value
public import proofs.«01_k».proof.Proof.Gen.InprojReferenceIdeal.Run

@[expose] public section

set_option maxRecDepth 16384

noncomputable section

namespace Cert.Proof.Inproj

open Idealize.ShloMosaic Idealize.ShloMosaic.TcCoe
open Idealize.ShloMosaic (ix1 ix2 ix3)
open Cert.Proof.Boundary (normed projected qScale scaledAt valuesAt valueCol valuesAt_one rowZ valuesAt_piece scaledAt_piece scaledAt_query
  refScaled refValues refScaled_at refValues_at ofBits_one16)

section Reference
open Cert.InprojReferenceIdeal Cert.InprojReferenceIdeal.Gen

/-- The reference's projection of the normed rows. -/
def refZ (X : FVec Ideal S8x2048x1024 .f32) (G : FVec Ideal S4x1024 .f32) (V : FVec Ideal S4x1024x4096 .f32) : FVec Ideal S16384x4096 .f32 :=
  Host.dotGeneral dot_S16384x1024_S1024x4096_S16384x4096_1_0_0_1_n_n none (mulf (mulf (shapeCast _ X shapeCasts_S8x2048x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ X shapeCasts_S8x2048x1024_S16384x1024) (shapeCast _ X shapeCasts_S8x2048x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![0, 0] G slices_S4x1024_S1x1024_0_0) shapeCasts_S1x1024_S1024)))) (shapeCast _ (extractStridedSlice S1x1024x4096 ![0, 0, 0] V slices_S4x1024x4096_S1x1024x4096_0_0_0) shapeCasts_S1x1024x4096_S1024x4096)

theorem refZ_at (X : FVec Ideal S8x2048x1024 .f32) (G : FVec Ideal S4x1024 .f32) (V : FVec Ideal S4x1024x4096 .f32) (r : Fin 16384) (e : Fin 4096) :
    refZ X G V (ix2 r e)
      = projected (fun k => X (ix3 ⟨r.val / 2048, by omega⟩ ⟨r.val % 2048, by omega⟩ k)) (fun k => G (ix2 0 k)) (fun k j => V (ix3 0 k j)) e := by
  pointwise [refZ, projected, normed, dot_S16384x1024_S1024x4096_S16384x4096_1_0_0_1_n_n]

end Reference

open Cert.InprojIdeal Cert.InprojIdeal.Gen

theorem q_named : Named.named (F := Ideal) Cert.InprojIdeal.κ "q_scale" (φ := .f32) 0x3E38AA3B#32 = qScale :=
  IdealRules.named_const.ideal_named_scalar _ _ _ _ rfl

/-- Which block each window takes at a grid point. -/
theorem idx : ∀ t : Fin cfg0.N, win0_0.index t = ![t.val, 0] ∧ win0_1.index t = ![0, 0, 0] ∧ win0_2.index t = ![0, 0, 0]
    ∧ win0_4.index t = ![t.val, 0] ∧ win0_5.index t = ![0, t.val] :=
  (by decide +kernel : ∀ t : Fin grid0.N, _)

variable (m : (ℓ : Loc nD τ sig) → Buf (Elt Ideal) ℓ) (c : Dev nD)

/-- The reference's projection of the arguments. -/
abbrev argZ : FVec Ideal Cert.InprojReferenceIdeal.S16384x4096 .f32 :=
  refZ (m ((c : Thread nD τ).loc main_arg0)) (m ((c : Thread nD τ).loc main_arg1)) (m ((c : Thread nD τ).loc main_arg2))

/-- The kernel's normed rows. -/
theorem pay2_at (x : Vec Ideal S512x1024 .f32) (g : Vec Ideal S1x1x1024 .f32) (r : Fin 512) (l : Fin 1024) :
    k0_pay2 x g (ix2 r l) = normed (fun j => x (ix2 r j)) (fun k => g (ix3 0 0 k)) l := by
  pointwise [k0_pay2, normed]

section Values
variable (H : FVec Ideal S512x1024 .f32) (W : FVec Ideal S1x1024x4096 .f32)

theorem values10_at (s : Fin 128) (r : Fin 512) :
    k0_pay10 H (k0_pay6 (View.ld W (Rect.unit (s := S1x1024x4096) ![0, 0, 1024] ![1, 1024, 512] inb_S1x1024x4096_S1x1024x512_0_0_1024))) (constant S512x512 .f32 0x00000000#32) (ix2 s r) = rowZ H W r ⟨1024 + s.val, by omega⟩ := by
  pointwise [k0_pay10, k0_pay9, k0_pay7, k0_pay6, rowZ, dot_S512x1024_S1024x512_S512x512_1_0_0_1_n_n]

theorem values11_at (s : Fin 128) (r : Fin 512) :
    k0_pay11 H (k0_pay6 (View.ld W (Rect.unit (s := S1x1024x4096) ![0, 0, 1024] ![1, 1024, 512] inb_S1x1024x4096_S1x1024x512_0_0_1024))) (constant S512x512 .f32 0x00000000#32) (ix2 s r) = rowZ H W r ⟨1024 + (128 + s.val), by omega⟩ := by
  pointwise [k0_pay11, k0_pay9, k0_pay7, k0_pay6, rowZ, dot_S512x1024_S1024x512_S512x512_1_0_0_1_n_n]

theorem values12_at (s : Fin 128) (r : Fin 512) :
    k0_pay12 H (k0_pay6 (View.ld W (Rect.unit (s := S1x1024x4096) ![0, 0, 1024] ![1, 1024, 512] inb_S1x1024x4096_S1x1024x512_0_0_1024))) (constant S512x512 .f32 0x00000000#32) (ix2 s r) = rowZ H W r ⟨1024 + (256 + s.val), by omega⟩ := by
  pointwise [k0_pay12, k0_pay9, k0_pay7, k0_pay6, rowZ, dot_S512x1024_S1024x512_S512x512_1_0_0_1_n_n]

theorem values13_at (s : Fin 128) (r : Fin 512) :
    k0_pay13 H (k0_pay6 (View.ld W (Rect.unit (s := S1x1024x4096) ![0, 0, 1024] ![1, 1024, 512] inb_S1x1024x4096_S1x1024x512_0_0_1024))) (constant S512x512 .f32 0x00000000#32) (ix2 s r) = rowZ H W r ⟨1024 + (384 + s.val), by omega⟩ := by
  pointwise [k0_pay13, k0_pay9, k0_pay7, k0_pay6, rowZ, dot_S512x1024_S1024x512_S512x512_1_0_0_1_n_n]

theorem values19_at (s : Fin 128) (r : Fin 512) :
    k0_pay19 H (View.ld W (Rect.unit (s := S1x1024x4096) ![0, 0, 2560] ![1, 1024, 512] inb_S1x1024x4096_S1x1024x512_0_0_2560)) (ix2 s r) = rowZ H W r ⟨2560 + s.val, by omega⟩ := by
  pointwise [k0_pay19, k0_pay18, k0_pay16, rowZ, dot_S512x1024_S1024x512_S512x512_1_0_0_1_n_n]

theorem values20_at (s : Fin 128) (r : Fin 512) :
    k0_pay20 H (View.ld W (Rect.unit (s := S1x1024x4096) ![0, 0, 2560] ![1, 1024, 512] inb_S1x1024x4096_S1x1024x512_0_0_2560)) (ix2 s r) = rowZ H W r ⟨2560 + (128 + s.val), by omega⟩ := by
  pointwise [k0_pay20, k0_pay18, k0_pay16, rowZ, dot_S512x1024_S1024x512_S512x512_1_0_0_1_n_n]

theorem values21_at (s : Fin 128) (r : Fin 512) :
    k0_pay21 H (View.ld W (Rect.unit (s := S1x1024x4096) ![0, 0, 2560] ![1, 1024, 512] inb_S1x1024x4096_S1x1024x512_0_0_2560)) (ix2 s r) = rowZ H W r ⟨2560 + (256 + s.val), by omega⟩ := by
  pointwise [k0_pay21, k0_pay18, k0_pay16, rowZ, dot_S512x1024_S1024x512_S512x512_1_0_0_1_n_n]

theorem values22_at (s : Fin 128) (r : Fin 512) :
    k0_pay22 H (View.ld W (Rect.unit (s := S1x1024x4096) ![0, 0, 2560] ![1, 1024, 512] inb_S1x1024x4096_S1x1024x512_0_0_2560)) (ix2 s r) = rowZ H W r ⟨2560 + (384 + s.val), by omega⟩ := by
  pointwise [k0_pay22, k0_pay18, k0_pay16, rowZ, dot_S512x1024_S1024x512_S512x512_1_0_0_1_n_n]

theorem scaled4_at (x : Vec Ideal S512x1024 .f32) (g : Vec Ideal S1x1x1024 .f32) (r s : Fin 512) :
    k0_pay4 x g (View.ld W (Rect.unit (s := S1x1024x4096) ![0, 0, 0] ![1, 1024, 512] inb_S1x1024x4096_S1x1024x512_0_0_0)) (ix2 r s) = rowZ (k0_pay2 x g) W r ⟨s.val, by omega⟩ * qScale := by
  pointwise [k0_pay4, q_named, rowZ, dot_S512x1024_S1024x512_S512x512_1_0_0_1_n_n]

theorem scaled5_at (x : Vec Ideal S512x1024 .f32) (g : Vec Ideal S1x1x1024 .f32) (r s : Fin 512) :
    k0_pay5 x g (View.ld W (Rect.unit (s := S1x1024x4096) ![0, 0, 512] ![1, 1024, 512] inb_S1x1024x4096_S1x1024x512_0_0_512)) (ix2 r s) = rowZ (k0_pay2 x g) W r ⟨512 + s.val, by omega⟩ := by
  pointwise [k0_pay5, rowZ, dot_S512x1024_S1024x512_S512x512_1_0_0_1_n_n]

theorem scaled8_at (r s : Fin 512) :
    k0_pay8 H (k0_pay6 (View.ld W (Rect.unit (s := S1x1024x4096) ![0, 0, 1024] ![1, 1024, 512] inb_S1x1024x4096_S1x1024x512_0_0_1024))) (constant S512x512 .f32 0x00000000#32) (ix2 r s) = rowZ H W r ⟨1024 + s.val, by omega⟩ := by
  pointwise [k0_pay8, k0_pay7, k0_pay6, rowZ, dot_S512x1024_S1024x512_S512x512_1_0_0_1_n_n]

theorem scaled14_at (r s : Fin 512) :
    k0_pay14 H (View.ld W (Rect.unit (s := S1x1024x4096) ![0, 0, 1536] ![1, 1024, 512] inb_S1x1024x4096_S1x1024x512_0_0_1536)) (ix2 r s) = rowZ H W r ⟨1536 + s.val, by omega⟩ * qScale := by
  pointwise [k0_pay14, q_named, rowZ, dot_S512x1024_S1024x512_S512x512_1_0_0_1_n_n]

theorem scaled15_at (r s : Fin 512) :
    k0_pay15 H (View.ld W (Rect.unit (s := S1x1024x4096) ![0, 0, 2048] ![1, 1024, 512] inb_S1x1024x4096_S1x1024x512_0_0_2048)) (ix2 r s) = rowZ H W r ⟨2048 + s.val, by omega⟩ := by
  pointwise [k0_pay15, rowZ, dot_S512x1024_S1024x512_S512x512_1_0_0_1_n_n]

theorem scaled17_at (r s : Fin 512) :
    k0_pay17 H (View.ld W (Rect.unit (s := S1x1024x4096) ![0, 0, 2560] ![1, 1024, 512] inb_S1x1024x4096_S1x1024x512_0_0_2560)) (ix2 r s) = rowZ H W r ⟨2560 + s.val, by omega⟩ := by
  pointwise [k0_pay17, k0_pay16, rowZ, dot_S512x1024_S1024x512_S512x512_1_0_0_1_n_n]

theorem scaled23_at (r s : Fin 512) :
    k0_pay23 H (View.ld W (Rect.unit (s := S1x1024x4096) ![0, 0, 3072] ![1, 1024, 512] inb_S1x1024x4096_S1x1024x512_0_0_3072)) (ix2 r s) = rowZ H W r ⟨3072 + s.val, by omega⟩ := by
  pointwise [k0_pay23, rowZ, dot_S512x1024_S1024x512_S512x512_1_0_0_1_n_n]

theorem scaled24_at (r s : Fin 512) :
    k0_pay24 H (View.ld W (Rect.unit (s := S1x1024x4096) ![0, 0, 3584] ![1, 1024, 512] inb_S1x1024x4096_S1x1024x512_0_0_3584)) (ix2 r s) = rowZ H W r ⟨3584 + s.val, by omega⟩ := by
  pointwise [k0_pay24, rowZ, dot_S512x1024_S1024x512_S512x512_1_0_0_1_n_n]

end Values

/-- The rows as the call takes them. -/
theorem entry_x : V m c main_v0 = shapeCast S16384x1024 (m ((c : Thread nD τ).loc main_arg0)) shapeCasts_S8x2048x1024_S16384x1024 := by
  simp only [V, hostOps0, hostOps0_1, hostOps0_2, List.flatten_cons, List.flatten_nil, List.append_nil, List.cons_append, List.nil_append]
  after_results_simp
  rfl

/-- The norm's weight as the call takes it. -/
theorem entry_g : V m c main_v1 = shapeCast S4x1x1024 (m ((c : Thread nD τ).loc main_arg1)) shapeCasts_S4x1024_S4x1x1024 := by
  simp only [V, hostOps0, hostOps0_1, hostOps0_2, List.flatten_cons, List.flatten_nil, List.append_nil, List.cons_append, List.nil_append]
  after_results_simp
  rfl

theorem merged_at (X : S8x2048x1024.Idx → EReal) (j : S16384x1024.Idx) :
    shapeCast S16384x1024 X shapeCasts_S8x2048x1024_S16384x1024 j
      = X (ix3 ⟨(j 0).val / 2048, by have : (j 0).val < 16384 := (j 0).isLt; omega⟩ ⟨(j 0).val % 2048, by omega⟩ (j 1)) := by
  obtain ⟨a, b, rfl⟩ : ∃ a b, j = ix2 a b := ⟨j 0, j 1, by funext i; fin_cases i <;> rfl⟩
  pointwise

theorem spread_at (X : S4x1024.Idx → EReal) (j : S4x1x1024.Idx) :
    shapeCast S4x1x1024 X shapeCasts_S4x1024_S4x1x1024 j = X (ix2 (j 0) (j 2)) := by
  obtain ⟨a, b, d, rfl⟩ : ∃ a b d, j = ix3 a b d := ⟨j 0, j 1, j 2, by funext i; fin_cases i <;> rfl⟩
  pointwise

/-- A row of a block is a row of the argument. -/
theorem block_x (t : Fin cfg0.N) (r : Fin 512) (i : Fin 16384) (hi : i.val = t.val * 512 + r.val) (j : Fin 1024) :
    (iblk m c 0 t : S512x1024.Idx → EReal) (ix2 r j)
      = (m ((c : Thread nD τ).loc main_arg0) : S8x2048x1024.Idx → EReal) (ix3 ⟨i.val / 2048, by omega⟩ ⟨i.val % 2048, by omega⟩ j) := by
  show (V m c main_v0 : S16384x1024.Idx → EReal) (((cfg0.win 0).blk t).view.emb (ix2 r j)) = _
  have e : ((cfg0.win 0).blk t).view.emb (ix2 r j) = (ix2 i j : S16384x1024.Idx) := by blk_ext [idx t]
  rw [e]
  exact (congrFun (entry_x m c) _).trans (merged_at _ _)

theorem block_g (t : Fin cfg0.N) (k : Fin 1024) :
    (iblk m c 1 t : S1x1x1024.Idx → EReal) (ix3 0 0 k) = (m ((c : Thread nD τ).loc main_arg1) : S4x1024.Idx → EReal) (ix2 0 k) := by
  show (V m c main_v1 : S4x1x1024.Idx → EReal) (((cfg0.win 1).blk t).view.emb (ix3 0 0 k)) = _
  have e : ((cfg0.win 1).blk t).view.emb (ix3 0 0 k) = (ix3 0 0 k : S4x1x1024.Idx) := by blk_ext [idx t]
  rw [e]
  exact (congrFun (entry_g m c) _).trans (spread_at _ _)

/-- A block's projected row is the reference's. -/
theorem rowZ_row (t : Fin cfg0.N) (r : Fin 512) (i : Fin 16384) (hi : i.val = t.val * 512 + r.val) (e : Fin 4096) :
    rowZ (k0_pay2 (F := Ideal) (iblk m c 0 t) (iblk m c 1 t)) (iblk m c 2 t) r e = argZ m c (ix2 i e) := by
  rw [argZ, refZ_at]
  unfold rowZ projected
  refine Finset.sum_congr rfl fun k _ => ?_
  have hw : (iblk m c 2 t : S1x1024x4096.Idx → EReal) (ix3 0 k e) = (m ((c : Thread nD τ).loc main_arg2) : S4x1024x4096.Idx → EReal) (ix3 0 k e) := by
    blk_point [iblk, V, idx t]
  rw [pay2_at]
  refine congrArg₂ (· * ·) ?_ hw
  exact congrArg₂ (fun a b => normed a b k) (funext fun j => block_x m c t r i hi j) (funext fun k => block_g m c t k)

theorem final4 : (dats m 0 c).arrAt 4 (cfgs 0).N = refScaled (argZ m c) := by
  refine (dats m 0 c).arrAt_eq_of_covers 4 _ (by decide +kernel) fun t _ y => ?_
  blk_simp
  rw [after0_4]; unfold outsAt0; frame_out
  have ht : t.val < 32 := t.isLt
  have hy : (y 0).val < 512 := (y 0).isLt
  refine Eq.trans (b := scaledAt (rowZ (k0_pay2 (F := Ideal) (iblk m c 0 t) (iblk m c 1 t)) (iblk m c 2 t) (y 0)) (y 1)) ?_ ?_
  · canon_tiles x h
    case piece0 => exact scaledAt_piece _ _ _ _ (scaled24_at _ _) x (y 1) (y 0) h0 h1.symm (by omega)
    case piece1 => exact scaledAt_piece _ _ _ _ (scaled23_at _ _) x (y 1) (y 0) h0 h1.symm (by omega)
    case piece2 => exact scaledAt_piece _ _ _ _ (scaled17_at _ _) x (y 1) (y 0) h0 h1.symm (by omega)
    case piece3 => exact scaledAt_piece _ _ _ _ (scaled15_at _ _) x (y 1) (y 0) h0 h1.symm (by omega)
    case piece4 => exact scaledAt_query _ _ _ _ (scaled14_at _ _) x (y 1) (y 0) h0 h1.symm (by omega)
    case piece5 => exact scaledAt_piece _ _ _ _ (scaled8_at _ _) x (y 1) (y 0) h0 h1.symm (by omega)
    case piece6 => exact scaledAt_piece _ _ _ _ (scaled5_at _ _ _) x (y 1) (y 0) h0 h1.symm (by omega)
    case piece7 => exact scaledAt_query _ _ _ _ (scaled4_at _ _ _) x (y 1) (y 0) h0 h1.symm (by omega)
  · refine Eq.trans ?_ ((refScaled_at (argZ m c) ⟨t.val * 512 + (y 0).val, by omega⟩ (y 1)).symm.trans ?_)
    · exact congrArg (fun f => scaledAt f (y 1)) (funext fun e => rowZ_row m c t (y 0) _ rfl e)
    · blk_ext [idx t]

theorem final5 : (dats m 0 c).arrAt 5 (cfgs 0).N = refValues (argZ m c) := by
  refine (dats m 0 c).arrAt_eq_of_covers 5 _ (by decide +kernel) fun t _ y => ?_
  blk_simp
  rw [after0_5]; unfold outsAt0; frame_out
  have ht : t.val < 32 := t.isLt
  have hy : (y 1).val < 512 := (y 1).isLt
  refine Eq.trans (b := valuesAt (rowZ (k0_pay2 (F := Ideal) (iblk m c 0 t) (iblk m c 1 t)) (iblk m c 2 t) (y 1)) (y 0)) ?_ ?_
  · canon_tiles x h using (View.cover_of_tiledBy _ ![16, 512] (by sl_kernel_rfl) y)
    case piece0 | piece2 | piece4 | piece6 | piece8 | piece10 | piece12 | piece14 =>
      refine Eq.trans ?_ (valuesAt_one _ _ (by omega)).symm
      open_payloads
      pointwise [ofBits_one16]
    case piece15 => exact valuesAt_piece _ _ _ _ (values10_at _ _) x (y 0) (y 1) h1 (by omega) (by dsimp only [valueCol]; split <;> omega)
    case piece13 => exact valuesAt_piece _ _ _ _ (values11_at _ _) x (y 0) (y 1) h1 (by omega) (by dsimp only [valueCol]; split <;> omega)
    case piece11 => exact valuesAt_piece _ _ _ _ (values12_at _ _) x (y 0) (y 1) h1 (by omega) (by dsimp only [valueCol]; split <;> omega)
    case piece9 => exact valuesAt_piece _ _ _ _ (values13_at _ _) x (y 0) (y 1) h1 (by omega) (by dsimp only [valueCol]; split <;> omega)
    case piece7 => exact valuesAt_piece _ _ _ _ (values19_at _ _) x (y 0) (y 1) h1 (by omega) (by dsimp only [valueCol]; split <;> omega)
    case piece5 => exact valuesAt_piece _ _ _ _ (values20_at _ _) x (y 0) (y 1) h1 (by omega) (by dsimp only [valueCol]; split <;> omega)
    case piece3 => exact valuesAt_piece _ _ _ _ (values21_at _ _) x (y 0) (y 1) h1 (by omega) (by dsimp only [valueCol]; split <;> omega)
    case piece1 => exact valuesAt_piece _ _ _ _ (values22_at _ _) x (y 0) (y 1) h1 (by omega) (by dsimp only [valueCol]; split <;> omega)
  · refine Eq.trans ?_ ((refValues_at (argZ m c) (y 0) ⟨t.val * 512 + (y 1).val, by omega⟩).symm.trans ?_)
    · exact congrArg (fun f => valuesAt f (y 0)) (funext fun e => rowZ_row m c t (y 1) _ rfl e)
    · blk_ext [idx t]

end Cert.Proof.Inproj
-- ==== Proof.InprojClaims.lean ====
/-
  The claims about the first layer's projection.
-/
module

public import proofs.«01_k».proof.Defs
public import proofs.«01_k».proof.Proof.Gen.Inproj.Frame
public import proofs.«01_k».proof.Proof.InprojEquation
public import Idealize.ShloMosaic.Adequacy

@[expose] public section

set_option maxRecDepth 16384

noncomputable section

namespace Cert.Proof.Inproj

open Idealize.ShloMosaic Idealize.ShloMosaic.TcCoe Idealize.SL.Sem
open Cert.Proof.Boundary (refScaled refValues)

theorem frame_kernel : Cert.quiescent_Inproj := fun m ρ _ => Cert.Inproj.Gen.frame m ρ

theorem frame_ideal : Cert.quiescent_InprojIdeal := fun m ρ _ => Cert.InprojIdeal.Gen.frame m ρ

theorem frame_reference : Cert.quiescent_InprojReferenceIdeal := fun m ρ _ =>
  (θ_run Cert.InprojReferenceIdeal.defs _ _).mono (fun r h => ⟨fun c => (h c).2.2, sem_eq_zero_of_no_sems (by decide) r.2⟩)
    (Cert.InprojReferenceIdeal.Value.run (F := Ideal) m ρ)

theorem preserves : Cert.preserves_Inproj_InprojIdeal :=
  IdealRules.named_const.statement Cert.InprojIdeal.κ "q_scale" .f32 0x3E38AA3B#32 (((1 / 8) * (Real.log 2)⁻¹ : ℝ) : EReal) rfl

section Reference
open Cert.InprojReferenceIdeal Cert.InprojReferenceIdeal.Value

variable (m : (ℓ : Loc nD τ sig) → Buf (Elt Ideal) ℓ) (c : Dev nD)

theorem reference_z : res_main_v33 m c = refScaled (refZ (m ((c : Thread nD τ).loc main_arg0)) (m ((c : Thread nD τ).loc main_arg1))
    (m ((c : Thread nD τ).loc main_arg2))) := rfl

end Reference

theorem kernel_is_reference : Cert.algebraic_InprojIdeal_InprojReferenceIdeal := by
  intro m g m' g' _ hargs
  refine ⟨fun c => _, fun c => _, (θ_run Cert.InprojIdeal.defs _ _).mono (fun r h c => ⟨(h c).1, (h c).2.1, (h c).2.2.2⟩)
    (Cert.InprojIdeal.Value.run_blocks (F := Ideal) m g), ?_⟩
  refine (θ_run Cert.InprojReferenceIdeal.defs _ _).mono (fun r h c => ?_) (Cert.InprojReferenceIdeal.Value.run (F := Ideal) m' g')
  obtain ⟨h0, h1, hk⟩ := h c
  obtain ⟨a0, a1, a2, a3⟩ := hargs c
  refine ⟨h0.trans ?_, h1.trans ?_, hk⟩
  · refine (reference_z m' c).trans (Eq.trans ?_ (final4 m c).symm)
    rw [a0, a1, a2]
  · refine Eq.trans ?_ (final5 m c).symm
    rw [a0, a1, a2]
    rfl

end Cert.Proof.Inproj
-- ==== Proof.DiffAttnMath.lean ====
/-
  Differential attention over the extended reals: on finite scores the two softmaxes, however they are normalised, are one
  real number.
-/
module

public import Idealize.ShloMosaic.Lib.Pipeline.ValueKit
public import Idealize.ShloMosaic.Lib.Pointwise

@[expose] public section

noncomputable section

namespace Cert.Proof.DiffAttn

open Idealize.ShloMosaic

/-- The greatest of finitely many real scores is real. -/
theorem fold_max_real {n : ℕ} [NeZero n] (f : Fin n → EReal) (g : Fin n → ℝ) (h : ∀ k, f k = (g k : EReal)) :
    ∃ M : ℝ, Finset.univ.fold max (⊥ : EReal) f = (M : EReal) := by
  obtain rfl : f = fun k => (g k : EReal) := funext h
  have key : ∀ s : Finset (Fin n), s.Nonempty → ∃ M : ℝ, s.fold max (⊥ : EReal) (fun k => (g k : EReal)) = (M : EReal) := by
    intro s hs
    induction hs using Finset.Nonempty.cons_induction with
    | singleton a => exact ⟨g a, by simp⟩
    | cons a s ha _ ih =>
      obtain ⟨M, hM⟩ := ih
      refine ⟨max (g a) M, ?_⟩
      rw [Finset.fold_cons, hM]
      exact (EReal.coe_strictMono.monotone.map_max (a := g a) (b := M)).symm
  exact key _ ⟨0, Finset.mem_univ _⟩

/-- A sum of reals is the real sum. -/
theorem sum_real {ι : Type*} (s : Finset ι) (f : ι → EReal) (g : ι → ℝ) (h : ∀ k, f k = (g k : EReal)) :
    ∑ k ∈ s, f k = ((∑ k ∈ s, g k : ℝ) : EReal) := by
  rw [Finset.sum_congr rfl fun k _ => h k]
  classical
  induction s using Finset.induction_on with
  | empty => simp
  | insert a s ha ih => rw [Finset.sum_insert ha, Finset.sum_insert ha, ih, EReal.coe_add]

/-- The softmax of real scores. -/
def soft {n : ℕ} (s : Fin n → ℝ) (j : Fin n) : ℝ := Real.exp (s j) / ∑ k, Real.exp (s k)

theorem soft_shift {n : ℕ} (s : Fin n → ℝ) (M : ℝ) (j : Fin n) : Real.exp (s j - M) / ∑ k, Real.exp (s k - M) = soft s j := by
  unfold soft
  simp only [Real.exp_sub, ← Finset.sum_div]
  exact div_div_div_cancel_right₀ (Real.exp_ne_zero M) _ _

theorem sum_exp_pos {n : ℕ} [NeZero n] (s : Fin n → ℝ) : 0 < ∑ k, Real.exp (s k) :=
  Finset.sum_pos (fun k _ => Real.exp_pos _) ⟨0, Finset.mem_univ _⟩

/-- The reference's softmax: the exponential of a score less the greatest, over the sum of them. -/
theorem ref_soft {n : ℕ} [NeZero n] (f : Fin n → EReal) (s : Fin n → ℝ) (h : ∀ k, f k = (s k : EReal)) (j : Fin n) :
    Ideal.div (Ideal.exp (f j - max ⊥ (Finset.univ.fold max ⊥ f))) (0 + ∑ k, Ideal.exp (f k - max ⊥ (Finset.univ.fold max ⊥ f)))
      = ((soft s j : ℝ) : EReal) := by
  obtain ⟨M, hM⟩ := fold_max_real f s h
  rw [hM, max_eq_right bot_le, zero_add]
  have he : ∀ k, Ideal.exp (f k - (M : EReal)) = ((Real.exp (s k - M) : ℝ) : EReal) := fun k => by
    rw [h k, ← EReal.coe_sub, Ideal.exp_coe]
  rw [sum_real _ _ _ he, he j, Ideal.div_coe (sum_exp_pos fun k => s k - M).ne', ← EReal.coe_mul, ← soft_shift s M j]
  congr 1
  rw [mul_one_div]

/-- The kernel's weight of a position: two to the score over ln 2, less the greatest of these. -/
def weight {n : ℕ} (f : Fin n → EReal) (j : Fin n) : EReal := Ideal.exp2 (f j - Finset.univ.fold max ⊥ f)

/-- The weights are the exponentials of the scores, all times one positive factor. -/
theorem weight_real {n : ℕ} [NeZero n] (f : Fin n → EReal) (s : Fin n → ℝ) (h : ∀ k, f k = ((s k * (Real.log 2)⁻¹ : ℝ) : EReal)) :
    ∃ M : ℝ, ∀ j, weight f j = ((Real.exp (s j - M) : ℝ) : EReal) := by
  obtain ⟨M, hM⟩ := fold_max_real f _ h
  refine ⟨M * Real.log 2, fun j => ?_⟩
  have hl : Real.log 2 ≠ 0 := (Real.log_pos (by norm_num)).ne'
  rw [weight, hM, h j, ← EReal.coe_sub, Ideal.exp2_coe]
  congr 1
  rw [Real.rpow_eq_pow, Real.rpow_def_of_pos (by norm_num)]
  congr 1
  field_simp

/-- Differential attention as the kernel normalises it: the weighted sums of values over the sums of weights, the second one
    times `lam`, subtracted. -/
theorem kernel_diff {n : ℕ} [NeZero n] (f0 f1 : Fin n → EReal) (s0 s1 : Fin n → ℝ) (v : Fin n → ℝ) (one : Fin n → EReal) (V : Fin n → EReal)
    (L lam' : EReal) (lam : ℝ) (h0 : ∀ k, f0 k = ((s0 k * (Real.log 2)⁻¹ : ℝ) : EReal)) (h1 : ∀ k, f1 k = ((s1 k * (Real.log 2)⁻¹ : ℝ) : EReal))
    (hv : ∀ k, V k = (v k : EReal)) (ho : ∀ k, one k = 1) (hL : L = 1) (hlam : lam' = (lam : EReal)) :
    (∑ k, V k * weight f0 k) * Ideal.div L (∑ k, one k * weight f0 k)
        - (∑ k, V k * weight f1 k) * Ideal.div lam' (∑ k, one k * weight f1 k)
      = ((∑ k, v k * (soft s0 k - lam * soft s1 k) : ℝ) : EReal) := by
  obtain ⟨M0, e0⟩ := weight_real f0 s0 h0
  obtain ⟨M1, e1⟩ := weight_real f1 s1 h1
  have n0 : ∑ k, one k * weight f0 k = ((∑ k, Real.exp (s0 k - M0) : ℝ) : EReal) :=
    sum_real _ _ _ fun k => by rw [ho, one_mul, e0]
  have n1 : ∑ k, one k * weight f1 k = ((∑ k, Real.exp (s1 k - M1) : ℝ) : EReal) :=
    sum_real _ _ _ fun k => by rw [ho, one_mul, e1]
  have w0 : ∑ k, V k * weight f0 k = ((∑ k, v k * Real.exp (s0 k - M0) : ℝ) : EReal) :=
    sum_real _ _ _ fun k => by rw [hv, e0, EReal.coe_mul]
  have w1 : ∑ k, V k * weight f1 k = ((∑ k, v k * Real.exp (s1 k - M1) : ℝ) : EReal) :=
    sum_real _ _ _ fun k => by rw [hv, e1, EReal.coe_mul]
  rw [n0, n1, w0, w1, Ideal.div_coe (sum_exp_pos fun k => s0 k - M0).ne', Ideal.div_coe (sum_exp_pos fun k => s1 k - M1).ne',
    hL, hlam, one_mul, ← EReal.coe_mul, ← EReal.coe_mul, ← EReal.coe_mul, ← EReal.coe_sub]
  congr 1
  have d0 : ∀ k, soft s0 k = Real.exp (s0 k - M0) * (1 / ∑ k, Real.exp (s0 k - M0)) := fun k => by
    rw [← soft_shift s0 M0 k, mul_one_div]
  have d1 : ∀ k, soft s1 k = Real.exp (s1 k - M1) * (1 / ∑ k, Real.exp (s1 k - M1)) := fun k => by
    rw [← soft_shift s1 M1 k, mul_one_div]
  rw [Finset.sum_mul, Finset.sum_mul, ← Finset.sum_sub_distrib]
  refine Finset.sum_congr rfl fun k _ => ?_
  rw [d0 k, d1 k]
  ring

end Cert.Proof.DiffAttn
-- ==== Proof.DiffAttnBlock.lean ====
/-
  One block of 256 queries of one head, as the kernel computes it: the scores against every key, with the distance bias
  subtracted, the weights, the weighted sums of values, and the normed difference.
-/
module

public import proofs.«01_k».proof.Proof.DiffAttnMath
public import proofs.«01_k».proof.Proof.Gen.DiffAttnIdeal.Skeleton
public import Idealize.ShloMosaic.Lib.Pipeline.ValueKit

@[expose] public section

set_option maxRecDepth 16384

noncomputable section

namespace Cert.Proof.DiffAttn

open Idealize.ShloMosaic Idealize.ShloMosaic.TcCoe
open Idealize.ShloMosaic (ix1 ix2 ix3)
open Cert.DiffAttnIdeal Cert.DiffAttnIdeal.Gen

/-- The scores of a block of queries, over ln 2: a column per query and softmax, a row per key. -/
def scoresOf (q : Vec Ideal S1x256x128 .bf16) (k : Vec Ideal S1x2048x128 .bf16) (b0 b1 b2 b3 b4 b5 b6 b7 : Vec Ideal S1x256x256 .f32) : FVec Ideal S2048x512 .f32 :=
  k0_pay28 (k0_pay25 q) (k0_pay26 q) b0 b1 b2 b3 b4 b5 b6 b7 k

/-- The greatest score of every column. -/
def maxOf (q : Vec Ideal S1x256x128 .bf16) (k : Vec Ideal S1x2048x128 .bf16) (b0 b1 b2 b3 b4 b5 b6 b7 : Vec Ideal S1x256x256 .f32) : FVec Ideal S1x512 .f32 :=
  k0_pay29 (k0_pay25 q) (k0_pay26 q) b0 b1 b2 b3 b4 b5 b6 b7 k

/-- The weighted sums of the values and, below them, the sums of the weights. -/
def sumsOf (off : Fin 2 → Nat) (hoff : ∀ a : Fin 2, off a + S2048x512.size a ≤ S2048x512.size a) (q : Vec Ideal S1x256x128 .bf16)
    (k : Vec Ideal S1x2048x128 .bf16) (b0 b1 b2 b3 b4 b5 b6 b7 : Vec Ideal S1x256x256 .f32) (vt : Vec Ideal S144x2048 .bf16) : FVec Ideal S144x512 .f32 :=
  k0_pay42 (maxOf q k b0 b1 b2 b3 b4 b5 b6 b7) (View.ld (scoresOf q k b0 b1 b2 b3 b4 b5 b6 b7) (Rect.unit (s := S2048x512) off S2048x512.size hoff)) vt

/-- The output of a block of queries. -/
def blockOf (off : Fin 2 → Nat) (hoff : ∀ a : Fin 2, off a + S2048x512.size a ≤ S2048x512.size a) (v1 : Elt Ideal .f32) (lam : FVec Ideal S1x1 .f32)
    (g : FVec Ideal S128x1 .f32) (q : Vec Ideal S1x256x128 .bf16)
    (k : Vec Ideal S1x2048x128 .bf16) (b0 b1 b2 b3 b4 b5 b6 b7 : Vec Ideal S1x256x256 .f32) (vt : Vec Ideal S144x2048 .bf16) : FVec Ideal S1x256x128 .bf16 :=
  k0_pay47 v1 lam g
    (View.ld (sumsOf off hoff q k b0 b1 b2 b3 b4 b5 b6 b7 vt) (Rect.unit (s := S144x512) ![0, 0] ![128, 512] inb_S144x512_S128x512_0_0))
    (View.ld (sumsOf off hoff q k b0 b1 b2 b3 b4 b5 b6 b7 vt) (Rect.unit (s := S144x512) ![128, 0] ![1, 512] inb_S144x512_S1x512_128_0))

theorem ofBits_bot : Ideal.ofBits .f32 0xFF800000#32 = ⊥ := by
  simp [Ideal.ofBits, Ideal.ieee, -EReal.coe_mul]

theorem ofBits_zero16 : Ideal.ofBits .bf16 0x0000#16 = 0 := by
  simp [Ideal.ofBits, Ideal.ieee, -EReal.coe_mul]

theorem ofBits_one32 : Ideal.ofBits .f32 0x3F800000#32 = 1 := by
  simp [Ideal.ofBits, Ideal.ieee, -EReal.coe_mul]
  norm_num

theorem slt_64 : ∀ e : Fin 128, IntOp.cmpi .slt (BitVec.ofNat 32 e.val) 64#32 = if e.val < 64 then 1#1 else 0#1 := by decide

theorem maskLo_at (q : Vec Ideal S1x256x128 .bf16) (i : Fin 256) (e : Fin 128) :
    k0_pay25 q (ix2 i e) = if e.val < 64 then q (ix3 0 i e) else 0 := by
  pointwise [k0_pay25, k0_pay23, k0_pay24]
  rw [slt_64]
  by_cases h : e.val < 64 <;> simp [h, Scalar.select]

theorem maskHi_at (q : Vec Ideal S1x256x128 .bf16) (i : Fin 256) (e : Fin 128) :
    k0_pay26 q (ix2 i e) = if e.val < 64 then 0 else q (ix3 0 i e) := by
  pointwise [k0_pay26, k0_pay23, k0_pay24]
  rw [slt_64]
  by_cases h : e.val < 64 <;> simp [h, Scalar.select]

section Scores

variable (q : Vec Ideal S1x256x128 .bf16) (k : Vec Ideal S1x2048x128 .bf16) (b0 b1 b2 b3 b4 b5 b6 b7 : Vec Ideal S1x256x256 .f32)
  (Q : Fin 256 → Fin 128 → ℝ) (K : Fin 2048 → Fin 128 → ℝ) (B : ℕ → Fin 256 → ℝ)
  (hq : ∀ i e, q (ix3 0 i e) = ((Q i e * (1 / 8 * (Real.log 2)⁻¹) : ℝ) : EReal)) (hk : ∀ j e, k (ix3 0 j e) = ((K j e : ℝ) : EReal))
  (hb0 : ∀ (j i : Fin 256), b0 (ix3 0 j i) = ((B (0 + j.val) i * (Real.log 2)⁻¹ : ℝ) : EReal))
  (hb1 : ∀ (j i : Fin 256), b1 (ix3 0 j i) = ((B (256 + j.val) i * (Real.log 2)⁻¹ : ℝ) : EReal))
  (hb2 : ∀ (j i : Fin 256), b2 (ix3 0 j i) = ((B (512 + j.val) i * (Real.log 2)⁻¹ : ℝ) : EReal))
  (hb3 : ∀ (j i : Fin 256), b3 (ix3 0 j i) = ((B (768 + j.val) i * (Real.log 2)⁻¹ : ℝ) : EReal))
  (hb4 : ∀ (j i : Fin 256), b4 (ix3 0 j i) = ((B (1024 + j.val) i * (Real.log 2)⁻¹ : ℝ) : EReal))
  (hb5 : ∀ (j i : Fin 256), b5 (ix3 0 j i) = ((B (1280 + j.val) i * (Real.log 2)⁻¹ : ℝ) : EReal))
  (hb6 : ∀ (j i : Fin 256), b6 (ix3 0 j i) = ((B (1536 + j.val) i * (Real.log 2)⁻¹ : ℝ) : EReal))
  (hb7 : ∀ (j i : Fin 256), b7 (ix3 0 j i) = ((B (1792 + j.val) i * (Real.log 2)⁻¹ : ℝ) : EReal))

/-- The score of a query and a key in the first (0) or second (1) softmax of the head. -/
def score (Q : Fin 256 → Fin 128 → ℝ) (K : Fin 2048 → Fin 128 → ℝ) (B : ℕ → Fin 256 → ℝ) (i : Fin 256) (p : Fin 2) (j : Fin 2048) : ℝ :=
  (∑ e : Fin 64, Q i ⟨p.val * 64 + e.val, by omega⟩ * K j ⟨p.val * 64 + e.val, by omega⟩) * (1 / 8) - B j.val i

theorem sum_split (f : Fin 128 → ℝ) : ∑ x, f x = (∑ e : Fin 64, f ⟨0 * 64 + e.val, by omega⟩) + ∑ e : Fin 64, f ⟨1 * 64 + e.val, by omega⟩ := by
  rw [Fin.sum_univ_add (a := 64) (b := 64) f]
  congr 1 <;> exact Finset.sum_congr rfl fun e _ => congrArg f (Fin.ext (by simp))

include hk hq in
theorem dot_lo (i : Fin 256) (j : Fin 2048) : ∑ x : Fin 128, k (ix3 0 j x) * k0_pay25 q (ix2 i x)
    = (((∑ e : Fin 64, Q i ⟨0 * 64 + e.val, by omega⟩ * K j ⟨0 * 64 + e.val, by omega⟩) * (1 / 8) * (Real.log 2)⁻¹ : ℝ) : EReal) := by
  rw [sum_real _ _ (fun x => if x.val < 64 then K j x * (Q i x * (1 / 8 * (Real.log 2)⁻¹)) else 0), sum_split]
  · congr 1
    have z : (∑ e : Fin 64, if 1 * 64 + e.val < 64 then K j ⟨1 * 64 + e.val, by omega⟩ * (Q i ⟨1 * 64 + e.val, by omega⟩ * (1 / 8 * (Real.log 2)⁻¹)) else 0) = 0 :=
      Finset.sum_eq_zero fun e _ => if_neg (by omega : ¬ 1 * 64 + e.val < 64)
    rw [z, add_zero, Finset.sum_mul, Finset.sum_mul]
    refine Finset.sum_congr rfl fun e _ => ?_
    rw [if_pos (by omega : 0 * 64 + e.val < 64)]
    ring
  · intro x
    rw [maskLo_at, hk]
    split
    · rw [hq]; exact (EReal.coe_mul _ _).symm
    · rw [mul_zero, EReal.coe_zero]

include hk hq in
theorem dot_hi (i : Fin 256) (j : Fin 2048) : ∑ x : Fin 128, k (ix3 0 j x) * k0_pay26 q (ix2 i x)
    = (((∑ e : Fin 64, Q i ⟨1 * 64 + e.val, by omega⟩ * K j ⟨1 * 64 + e.val, by omega⟩) * (1 / 8) * (Real.log 2)⁻¹ : ℝ) : EReal) := by
  rw [sum_real _ _ (fun x => if x.val < 64 then 0 else K j x * (Q i x * (1 / 8 * (Real.log 2)⁻¹))), sum_split]
  · congr 1
    have z : (∑ e : Fin 64, if 0 * 64 + e.val < 64 then 0 else K j ⟨0 * 64 + e.val, by omega⟩ * (Q i ⟨0 * 64 + e.val, by omega⟩ * (1 / 8 * (Real.log 2)⁻¹))) = 0 :=
      Finset.sum_eq_zero fun e _ => if_pos (by omega : 0 * 64 + e.val < 64)
    rw [z, zero_add, Finset.sum_mul, Finset.sum_mul]
    refine Finset.sum_congr rfl fun e _ => ?_
    rw [if_neg (by omega : ¬ 1 * 64 + e.val < 64)]
    ring
  · intro x
    rw [maskHi_at, hk]
    split
    · rw [mul_zero, EReal.coe_zero]
    · rw [hq]; exact (EReal.coe_mul _ _).symm

include hq hk hb0 hb1 hb2 hb3 hb4 hb5 hb6 hb7 in
theorem scores0_at (j : Fin 2048) (i : Fin 256) :
    scoresOf q k b0 b1 b2 b3 b4 b5 b6 b7 (ix2 j ⟨i.val, by omega⟩) = ((score Q K B i 0 j * (Real.log 2)⁻¹ : ℝ) : EReal) := by
  unfold scoresOf
  have hd := dot_lo q k Q K hq hk i j
  generalize k0_pay25 q = lo at hd ⊢
  generalize k0_pay26 q = hi
  have hi' : i.val < 256 := i.isLt
  pointwise [k0_pay28, k0_pay27, dot_S2048x128_S512x128_S2048x512_1_1_0_0_n_n]
  have hj := j.isLt
  rw [show (∑ x : Fin 128, k (ix3 0 j x) * lo (ix2 ⟨i.val, hi'⟩ x)) = _ from hd]
  have hB : ∀ (u : EReal) (n : ℕ) (hn : n = j.val), u = ((B n i * (Real.log 2)⁻¹ : ℝ) : EReal) →
      (((∑ e : Fin 64, Q i ⟨0 * 64 + e.val, by omega⟩ * K j ⟨0 * 64 + e.val, by omega⟩) * (1 / 8) * (Real.log 2)⁻¹ : ℝ) : EReal) - u
        = ((score Q K B i 0 j * (Real.log 2)⁻¹ : ℝ) : EReal) := by
    rintro u n rfl rfl
    rw [← EReal.coe_sub, ← sub_mul]
    rfl
  split_ifs
  all_goals first
    | omega
    | exact hB _ _ (by dsimp only; omega) (hb0 _ _)
    | exact hB _ _ (by dsimp only; omega) (hb1 _ _)
    | exact hB _ _ (by dsimp only; omega) (hb2 _ _)
    | exact hB _ _ (by dsimp only; omega) (hb3 _ _)
    | exact hB _ _ (by dsimp only; omega) (hb4 _ _)
    | exact hB _ _ (by dsimp only; omega) (hb5 _ _)
    | exact hB _ _ (by dsimp only; omega) (hb6 _ _)
    | exact hB _ _ (by dsimp only; omega) (hb7 _ _)

include hq hk hb0 hb1 hb2 hb3 hb4 hb5 hb6 hb7 in
theorem scores1_at (j : Fin 2048) (i : Fin 256) :
    scoresOf q k b0 b1 b2 b3 b4 b5 b6 b7 (ix2 j ⟨256 + i.val, by omega⟩) = ((score Q K B i 1 j * (Real.log 2)⁻¹ : ℝ) : EReal) := by
  unfold scoresOf
  have hd := dot_hi q k Q K hq hk i j
  generalize k0_pay25 q = lo
  generalize k0_pay26 q = hi at hd ⊢
  have hi' : ¬ 256 + i.val < 256 := by omega
  pointwise [k0_pay28, k0_pay27, dot_S2048x128_S512x128_S2048x512_1_1_0_0_n_n]
  have hj := j.isLt
  rw [show (∑ x : Fin 128, k (ix3 0 j x) * hi (ix2 ⟨i.val, i.isLt⟩ x)) = _ from hd]
  have hB : ∀ (u : EReal) (n : ℕ) (hn : n = j.val), u = ((B n i * (Real.log 2)⁻¹ : ℝ) : EReal) →
      (((∑ e : Fin 64, Q i ⟨1 * 64 + e.val, by omega⟩ * K j ⟨1 * 64 + e.val, by omega⟩) * (1 / 8) * (Real.log 2)⁻¹ : ℝ) : EReal) - u
        = ((score Q K B i 1 j * (Real.log 2)⁻¹ : ℝ) : EReal) := by
    rintro u n rfl rfl
    rw [← EReal.coe_sub, ← sub_mul]
    rfl
  split_ifs
  all_goals first
    | omega
    | exact hB _ _ (by dsimp only; omega) (hb0 _ _)
    | exact hB _ _ (by dsimp only; omega) (hb1 _ _)
    | exact hB _ _ (by dsimp only; omega) (hb2 _ _)
    | exact hB _ _ (by dsimp only; omega) (hb3 _ _)
    | exact hB _ _ (by dsimp only; omega) (hb4 _ _)
    | exact hB _ _ (by dsimp only; omega) (hb5 _ _)
    | exact hB _ _ (by dsimp only; omega) (hb6 _ _)
    | exact hB _ _ (by dsimp only; omega) (hb7 _ _)

end Scores

theorem max_at (q : Vec Ideal S1x256x128 .bf16) (k : Vec Ideal S1x2048x128 .bf16) (b0 b1 b2 b3 b4 b5 b6 b7 : Vec Ideal S1x256x256 .f32) (i : Fin 512) :
    maxOf q k b0 b1 b2 b3 b4 b5 b6 b7 (ix2 0 i) = Finset.univ.fold max ⊥ fun j => scoresOf q k b0 b1 b2 b3 b4 b5 b6 b7 (ix2 j i) := by
  unfold maxOf scoresOf
  generalize k0_pay25 q = lo
  generalize k0_pay26 q = hi
  have e : ∀ j i, k0_pay28 lo hi b0 b1 b2 b3 b4 b5 b6 b7 k (ix2 j i) = k0_pay27 lo hi b0 b1 b2 b3 b4 b5 b6 b7 k (ix2 j i) := by
    intro j i
    pointwise [k0_pay28]
  simp only [e]
  unfold k0_pay29
  generalize k0_pay27 lo hi b0 b1 b2 b3 b4 b5 b6 b7 k = s
  pointwise []
  rw [ofBits_bot]

theorem attend_at (mx : FVec Ideal S1x512 .f32) (s : Vec Ideal S2048x512 .f32) (vt : Vec Ideal S144x2048 .bf16) (d : Fin 144) (i : Fin 512) :
    k0_pay42 mx s vt (ix2 d i) = ∑ j : Fin 2048, vt (ix2 d j) * Ideal.exp2 (s (ix2 j i) - mx (ix2 0 i)) := by
  pointwise [k0_pay42, dot_S144x2048_S2048x512_S144x512_1_0_0_1_n_n]
  rfl

theorem ld_scores (s : FVec Ideal S2048x512 .f32) (hoff : ∀ a : Fin 2, (![0, 0] : Fin 2 → Nat) a + S2048x512.size a ≤ S2048x512.size a) (j : Fin 2048) (i : Fin 512) :
    View.ld (Val := Elt Ideal) (e' := .f32) s (Rect.unit (s := S2048x512) ![0, 0] S2048x512.size hoff) (ix2 j i) = s (ix2 j i) := by
  refine View.ld_unit_apply_of _ _ _ _ _ _ fun a => ?_
  fin_cases a <;> simp

theorem ld_values (s : FVec Ideal S144x512 .f32) (x : Fin 128) (i : Fin 512) :
    View.ld (Val := Elt Ideal) (e' := .f32) s (Rect.unit (s := S144x512) ![0, 0] ![128, 512] inb_S144x512_S128x512_0_0) (ix2 x i) = s (ix2 ⟨x.val, by omega⟩ i) := by
  refine View.ld_unit_apply_of _ _ _ _ _ _ fun a => ?_
  fin_cases a <;> simp

theorem ld_weights (s : FVec Ideal S144x512 .f32) (i : Fin 512) :
    View.ld (Val := Elt Ideal) (e' := .f32) s (Rect.unit (s := S144x512) ![128, 0] ![1, 512] inb_S144x512_S1x512_128_0) (ix2 0 i) = s (ix2 128 i) := by
  refine View.ld_unit_apply_of _ _ _ _ _ _ fun a => ?_
  fin_cases a <;> simp

theorem sums_at (off : Fin 2 → Nat) (hoff : ∀ a : Fin 2, off a + S2048x512.size a ≤ S2048x512.size a) (q : Vec Ideal S1x256x128 .bf16)
    (k : Vec Ideal S1x2048x128 .bf16) (b0 b1 b2 b3 b4 b5 b6 b7 : Vec Ideal S1x256x256 .f32) (vt : Vec Ideal S144x2048 .bf16) (h0 : off = ![0, 0]) (d : Fin 144) (i : Fin 512) :
    sumsOf off hoff q k b0 b1 b2 b3 b4 b5 b6 b7 vt (ix2 d i)
      = ∑ j : Fin 2048, vt (ix2 d j) * weight (fun j => scoresOf q k b0 b1 b2 b3 b4 b5 b6 b7 (ix2 j i)) j := by
  subst h0
  unfold sumsOf
  rw [attend_at]
  refine Finset.sum_congr rfl fun j _ => ?_
  rw [max_at, weight, ld_scores]

/-- The eps of the norm. -/
def eps : EReal := Ideal.ofBits .f32 0x358637BD#32

/-- A difference of two softmaxes' values, normed over its 128 entries and scaled. -/
def normedAt (D g : Fin 128 → EReal) (v1 : EReal) (d : Fin 128) : EReal :=
  D d * Ideal.rsqrt (Ideal.div (∑ x, D x * D x) (Ideal.ofBits .f32 0x43000000#32) + eps) * g d * v1

theorem fin_at (v1 : Elt Ideal .f32) (lam : FVec Ideal S1x1 .f32) (g : FVec Ideal S128x1 .f32) (p : Vec Ideal S128x512 .f32) (l : Vec Ideal S1x512 .f32)
    (i : Fin 256) (d : Fin 128) :
    k0_pay47 v1 lam g p l (ix3 0 i d) = normedAt (fun x => p (ix2 x ⟨i.val, by omega⟩) * Ideal.div (Ideal.ofBits .f32 0x3F800000#32) (l (ix2 0 ⟨i.val, by omega⟩))
      - p (ix2 x ⟨256 + i.val, by omega⟩) * Ideal.div (lam (ix2 0 0)) (l (ix2 0 ⟨256 + i.val, by omega⟩))) (fun x => g (ix2 x 0)) v1 d := by
  rw [normedAt, eps, ofBits_one32]
  pointwise [k0_pay47]

theorem block_at (off : Fin 2 → Nat) (hoff : ∀ a : Fin 2, off a + S2048x512.size a ≤ S2048x512.size a) (v1 : Elt Ideal .f32) (lam : FVec Ideal S1x1 .f32)
    (g : FVec Ideal S128x1 .f32) (q : Vec Ideal S1x256x128 .bf16)
    (k : Vec Ideal S1x2048x128 .bf16) (b0 b1 b2 b3 b4 b5 b6 b7 : Vec Ideal S1x256x256 .f32) (vt : Vec Ideal S144x2048 .bf16) (h0 : off = ![0, 0])
    (Q : Fin 256 → Fin 128 → ℝ) (K : Fin 2048 → Fin 128 → ℝ) (B : ℕ → Fin 256 → ℝ) (V : Fin 2048 → Fin 128 → ℝ) (lamR : ℝ)
    (hq : ∀ i e, q (ix3 0 i e) = ((Q i e * (1 / 8 * (Real.log 2)⁻¹) : ℝ) : EReal)) (hk : ∀ j e, k (ix3 0 j e) = ((K j e : ℝ) : EReal))
    (hb0 : ∀ (j i : Fin 256), b0 (ix3 0 j i) = ((B (0 + j.val) i * (Real.log 2)⁻¹ : ℝ) : EReal))
    (hb1 : ∀ (j i : Fin 256), b1 (ix3 0 j i) = ((B (256 + j.val) i * (Real.log 2)⁻¹ : ℝ) : EReal))
    (hb2 : ∀ (j i : Fin 256), b2 (ix3 0 j i) = ((B (512 + j.val) i * (Real.log 2)⁻¹ : ℝ) : EReal))
    (hb3 : ∀ (j i : Fin 256), b3 (ix3 0 j i) = ((B (768 + j.val) i * (Real.log 2)⁻¹ : ℝ) : EReal))
    (hb4 : ∀ (j i : Fin 256), b4 (ix3 0 j i) = ((B (1024 + j.val) i * (Real.log 2)⁻¹ : ℝ) : EReal))
    (hb5 : ∀ (j i : Fin 256), b5 (ix3 0 j i) = ((B (1280 + j.val) i * (Real.log 2)⁻¹ : ℝ) : EReal))
    (hb6 : ∀ (j i : Fin 256), b6 (ix3 0 j i) = ((B (1536 + j.val) i * (Real.log 2)⁻¹ : ℝ) : EReal))
    (hb7 : ∀ (j i : Fin 256), b7 (ix3 0 j i) = ((B (1792 + j.val) i * (Real.log 2)⁻¹ : ℝ) : EReal))
    (hv : ∀ (j : Fin 2048) (d : Fin 128), vt (ix2 ⟨d.val, by omega⟩ j) = ((V j d : ℝ) : EReal)) (ho : ∀ j, vt (ix2 128 j) = 1)
    (hl : lam (ix2 0 0) = (lamR : EReal)) (i : Fin 256) (d : Fin 128) :
    blockOf off hoff v1 lam g q k b0 b1 b2 b3 b4 b5 b6 b7 vt (ix3 0 i d)
      = normedAt (fun x => ((∑ j, V j x * (soft (score Q K B i 0) j - lamR * soft (score Q K B i 1) j) : ℝ) : EReal)) (fun x => g (ix2 x 0)) v1 d := by
  unfold blockOf
  rw [fin_at]
  congr 1
  funext x
  rw [ld_values, ld_values, ld_weights, ld_weights, sums_at _ _ _ _ _ _ _ _ _ _ _ _ _ h0, sums_at _ _ _ _ _ _ _ _ _ _ _ _ _ h0, sums_at _ _ _ _ _ _ _ _ _ _ _ _ _ h0,
    sums_at _ _ _ _ _ _ _ _ _ _ _ _ _ h0]
  exact kernel_diff _ _ _ _ _ _ _ _ _ _ (fun j => scores0_at q k b0 b1 b2 b3 b4 b5 b6 b7 Q K B hq hk hb0 hb1 hb2 hb3 hb4 hb5 hb6 hb7 j i)
    (fun j => scores1_at q k b0 b1 b2 b3 b4 b5 b6 b7 Q K B hq hk hb0 hb1 hb2 hb3 hb4 hb5 hb6 hb7 j i) (fun j => hv j x) ho ofBits_one32 hl

theorem bmod_small (x : ℤ) (h : -2147483648 ≤ x) (h' : x < 2147483648) : Int.bmod x (2 ^ 32) = x :=
  Int.bmod_eq_of_le (by norm_num; omega) (by norm_num; omega)

/-- The distance of two positions, in 32-bit arithmetic. -/
theorem dist_bits (a b : ℕ) (o : ℤ) (ha : a < 2048) (hb : b < 2048) (ho : -2048 ≤ o ∧ o ≤ 2048) :
    ((IntOp.absi (BitVec.ofNat 32 a - BitVec.ofNat 32 b + BitVec.ofInt 32 o)).toInt : ℝ) = |(a : ℝ) - b + o| := by
  have key : (IntOp.absi (BitVec.ofNat 32 a - BitVec.ofNat 32 b + BitVec.ofInt 32 o)).toInt = |(a : ℤ) - b + o| := by
    have e : (BitVec.ofNat 32 a - BitVec.ofNat 32 b + BitVec.ofInt 32 o).toInt = (a : ℤ) - b + o := by
      rw [BitVec.toInt_add, BitVec.toInt_sub, BitVec.toInt_ofInt, BitVec.toInt_ofNat', BitVec.toInt_ofNat',
        bmod_small (a : ℤ) (by omega) (by omega), bmod_small (b : ℤ) (by omega) (by omega), bmod_small o (by omega) (by omega),
        bmod_small ((a : ℤ) - b) (by omega) (by omega), bmod_small ((a : ℤ) - b + o) (by omega) (by omega)]
    unfold IntOp.absi
    rw [BitVec.msb_eq_toInt]
    by_cases hn : (a : ℤ) - b + o < 0
    · rw [e, if_pos (by simpa using hn), BitVec.toInt_neg, e, abs_of_neg hn, bmod_small _ (by omega) (by omega)]
    · rw [e, if_neg (by simpa using hn), e, abs_of_nonneg (by omega)]
  rw [key]
  push_cast
  rfl

end Cert.Proof.DiffAttn
-- ==== Proof.DiffAttnTiles.lean ====
/-
  The distance bias the kernel keeps: fifteen tiles of 256 × 256, one per difference of a block of keys and a block of
  queries, written at the first batch of a head and read at every batch of it.
-/
module

public import proofs.«01_k».proof.Proof.DiffAttnBlock
public import proofs.«01_k».proof.Proof.Gen.DiffAttnIdeal.Value
public import Idealize.ShloMosaic.Lib.Pipeline.ReadBack
public import Idealize.ShloMosaic.Lib.Pipeline.ValueKit.Held

@[expose] public section

set_option maxRecDepth 16384

noncomputable section

namespace Cert.Proof.DiffAttn

open Idealize.ShloMosaic Idealize.ShloMosaic.TcCoe
open Idealize.ShloMosaic (ix1 ix2 ix3)
open Cert.DiffAttnIdeal Cert.DiffAttnIdeal.Gen

/-- The bias at key `j` and query `i` of tile `k`: the slope times the distance. -/
def biasAt (s : EReal) (k j i : ℕ) : EReal := s * ((|(j : ℝ) - i + (((k : ℤ) - 7) * 256 : ℤ)| : ℝ) : EReal)

theorem bias_word (s : EReal) (k : ℕ) (b : BitVec 32) (hk : k < 15) (hb : b = BitVec.ofInt 32 (((k : ℤ) - 7) * 256)) (j i : Fin 256) :
    s * FloatOps.sitofp (F := Ideal) .f32 (IntOp.absi (IntOp.addi (IntOp.subi (BitVec.ofNat 32 j.val) (BitVec.ofNat 32 i.val)) b)) = biasAt s k j.val i.val := by
  subst hb
  exact congrArg (fun r : ℝ => s * (r : EReal)) (dist_bits j.val i.val _ (by omega) (by omega) (by omega))

theorem tile0_at (v : Elt Ideal .f32) (j i : Fin 256) : k0_pay3 v (ix3 0 j i) = biasAt (k0_pay2 v) 0 j.val i.val := by
  pointwise [k0_pay3]
  exact bias_word _ 0 _ (by omega) rfl j i

theorem tile1_at (v : Elt Ideal .f32) (j i : Fin 256) : k0_pay4 v (ix3 0 j i) = biasAt (k0_pay2 v) 1 j.val i.val := by
  pointwise [k0_pay4]
  exact bias_word _ 1 _ (by omega) rfl j i

theorem tile2_at (v : Elt Ideal .f32) (j i : Fin 256) : k0_pay5 v (ix3 0 j i) = biasAt (k0_pay2 v) 2 j.val i.val := by
  pointwise [k0_pay5]
  exact bias_word _ 2 _ (by omega) rfl j i

theorem tile3_at (v : Elt Ideal .f32) (j i : Fin 256) : k0_pay7 (k0_pay6 v) (ix3 0 j i) = biasAt (k0_pay2 v) 3 j.val i.val := by
  pointwise [k0_pay7, k0_pay6]
  exact bias_word _ 3 _ (by omega) rfl j i

theorem tile4_at (v : Elt Ideal .f32) (j i : Fin 256) : k0_pay8 (k0_pay2 v) (iota .tc S256x256 32 [0] iota_S256x256_d0_w32) (iota .tc S256x256 32 [1] iota_S256x256_d1_w32) (ix3 0 j i) = biasAt (k0_pay2 v) 4 j.val i.val := by
  pointwise [k0_pay8]
  exact bias_word _ 4 _ (by omega) rfl j i

theorem tile5_at (v : Elt Ideal .f32) (j i : Fin 256) : k0_pay9 (k0_pay2 v) (iota .tc S256x256 32 [0] iota_S256x256_d0_w32) (iota .tc S256x256 32 [1] iota_S256x256_d1_w32) (ix3 0 j i) = biasAt (k0_pay2 v) 5 j.val i.val := by
  pointwise [k0_pay9]
  exact bias_word _ 5 _ (by omega) rfl j i

theorem tile6_at (v : Elt Ideal .f32) (j i : Fin 256) : k0_pay10 (k0_pay2 v) (iota .tc S256x256 32 [0] iota_S256x256_d0_w32) (iota .tc S256x256 32 [1] iota_S256x256_d1_w32) (ix3 0 j i) = biasAt (k0_pay2 v) 6 j.val i.val := by
  pointwise [k0_pay10]
  exact bias_word _ 6 _ (by omega) rfl j i

theorem tile7_at (v : Elt Ideal .f32) (j i : Fin 256) : k0_pay12 (k0_pay11 (k0_pay2 v) (iota .tc S256x256 32 [0] iota_S256x256_d0_w32) (iota .tc S256x256 32 [1] iota_S256x256_d1_w32)) (ix3 0 j i) = biasAt (k0_pay2 v) 7 j.val i.val := by
  pointwise [k0_pay12, k0_pay11]
  exact bias_word _ 7 _ (by omega) rfl j i

theorem tile8_at (v : Elt Ideal .f32) (j i : Fin 256) : k0_pay13 (k0_pay2 v) (iota .tc S256x256 32 [0] iota_S256x256_d0_w32) (iota .tc S256x256 32 [1] iota_S256x256_d1_w32) (ix3 0 j i) = biasAt (k0_pay2 v) 8 j.val i.val := by
  pointwise [k0_pay13]
  exact bias_word _ 8 _ (by omega) rfl j i

theorem tile9_at (v : Elt Ideal .f32) (j i : Fin 256) : k0_pay14 (k0_pay2 v) (iota .tc S256x256 32 [0] iota_S256x256_d0_w32) (iota .tc S256x256 32 [1] iota_S256x256_d1_w32) (ix3 0 j i) = biasAt (k0_pay2 v) 9 j.val i.val := by
  pointwise [k0_pay14]
  exact bias_word _ 9 _ (by omega) rfl j i

theorem tile10_at (v : Elt Ideal .f32) (j i : Fin 256) : k0_pay15 (k0_pay2 v) (iota .tc S256x256 32 [0] iota_S256x256_d0_w32) (iota .tc S256x256 32 [1] iota_S256x256_d1_w32) (ix3 0 j i) = biasAt (k0_pay2 v) 10 j.val i.val := by
  pointwise [k0_pay15]
  exact bias_word _ 10 _ (by omega) rfl j i

theorem tile11_at (v : Elt Ideal .f32) (j i : Fin 256) : k0_pay17 (k0_pay16 (k0_pay2 v) (iota .tc S256x256 32 [0] iota_S256x256_d0_w32) (iota .tc S256x256 32 [1] iota_S256x256_d1_w32)) (ix3 0 j i) = biasAt (k0_pay2 v) 11 j.val i.val := by
  pointwise [k0_pay17, k0_pay16]
  exact bias_word _ 11 _ (by omega) rfl j i

theorem tile12_at (v : Elt Ideal .f32) (j i : Fin 256) : k0_pay18 (k0_pay2 v) (iota .tc S256x256 32 [0] iota_S256x256_d0_w32) (iota .tc S256x256 32 [1] iota_S256x256_d1_w32) (ix3 0 j i) = biasAt (k0_pay2 v) 12 j.val i.val := by
  pointwise [k0_pay18]
  exact bias_word _ 12 _ (by omega) rfl j i

theorem tile13_at (v : Elt Ideal .f32) (j i : Fin 256) : k0_pay19 (k0_pay2 v) (iota .tc S256x256 32 [0] iota_S256x256_d0_w32) (iota .tc S256x256 32 [1] iota_S256x256_d1_w32) (ix3 0 j i) = biasAt (k0_pay2 v) 13 j.val i.val := by
  pointwise [k0_pay19]
  exact bias_word _ 13 _ (by omega) rfl j i

theorem tile14_at (v : Elt Ideal .f32) (j i : Fin 256) : k0_pay20 (k0_pay2 v) (iota .tc S256x256 32 [0] iota_S256x256_d0_w32) (iota .tc S256x256 32 [1] iota_S256x256_d1_w32) (ix3 0 j i) = biasAt (k0_pay2 v) 14 j.val i.val := by
  pointwise [k0_pay20]
  exact bias_word _ 14 _ (by omega) rfl j i

theorem tile_piece (f : FVec Ideal S1x256x256 .f32) (s : EReal) (k : ℕ) (hf : ∀ j i, f (ix3 0 j i) = biasAt s k j.val i.val)
    (x : S1x256x256.Idx) (y : S15x256x256.Idx) (h0 : (y 0).val = k + (x 0).val) (hx : (x 0).val < 1) (h1 : (y 1).val = (x 1).val) (h2 : (y 2).val = (x 2).val) :
    f x = biasAt s (y 0).val (y 1).val (y 2).val := by
  have e : x = ix3 0 (x 1) (x 2) := by
    funext a
    fin_cases a
    · exact Fin.ext (by show (x 0).val = 0; omega)
    · rfl
    · rfl
  have hk : (y 0).val = k := by omega
  rw [hk, h1, h2]
  exact (congrArg f e).trans (hf (x 1) (x 2))

/-- A load of one tile skips a store of another. -/
theorem skip_tile {sig : RefSig} {κ : Kind} {sp : Space} (v : View sig κ sp S15x256x256 .f32) (o o' : ℕ) (inb inb')
    (w : (Rect.unit (s := S15x256x256) ![o, 0, 0] ![1, 256, 256] inb).shape.Idx → Elt Ideal .f32) (L : List (View.Piece (Elt Ideal) S15x256x256 .f32)) (h : o ≠ o') :
    v.readCov (⟨Rect.unit (s := S15x256x256) ![o, 0, 0] ![1, 256, 256] inb, w⟩ :: L) (Rect.unit (s := S15x256x256) ![o', 0, 0] ![1, 256, 256] inb').toLoadRect
      = v.readCov L (Rect.unit (s := S15x256x256) ![o', 0, 0] ![1, 256, 256] inb').toLoadRect := by
  refine View.readCov_skip v _ w L _ (decide_eq_true ⟨0, ?_⟩)
  simp [Rect.unit, Rect.toLoadRect]
  omega

/-- A load of a tile reads the last store of it. -/
theorem hit_tile {sig : RefSig} {κ : Kind} {sp : Space} (v : View sig κ sp S15x256x256 .f32) (o : ℕ) (inb inb')
    (w : (Rect.unit (s := S15x256x256) ![o, 0, 0] ![1, 256, 256] inb).shape.Idx → Elt Ideal .f32) (L : List (View.Piece (Elt Ideal) S15x256x256 .f32)) :
    v.readCov (⟨Rect.unit (s := S15x256x256) ![o, 0, 0] ![1, 256, 256] inb, w⟩ :: L) (Rect.unit (s := S15x256x256) ![o, 0, 0] ![1, 256, 256] inb').toLoadRect = w :=
  View.readCov_cons_toLoadRect v _ w L

theorem off1_eq : ∀ t : Fin cfg0.N, k0_off1 (grid0.coords t) = ![t.val / 8] := (by decide +kernel : ∀ t : Fin grid0.N, _)

theorem off2_eq : ∀ t : Fin cfg0.N, k0_off2 (grid0.coords t) = ![0, 0] := (by decide +kernel : ∀ t : Fin grid0.N, _)

variable (m : (ℓ : Loc nD τ sig) → Buf (Elt Ideal) ℓ) (c : Dev nD)

/-- The slope of a head, over ln 2. -/
def slope (h : ℕ) : EReal := Ideal.ofBits .f32 (lit0 (Fin.ofNat 8 h)) * (((Real.log 2)⁻¹ : ℝ) : EReal)

/-- The scalars the kernel is given: the slopes, and the two constants of λ. -/
theorem entry_s : (V m c main_cst : S8.Idx → EReal) = fun i => Ideal.ofBits .f32 (lit0 (S8.rowMajor i)) := by
  simp only [V, hostOps0, List.flatten_cons, List.flatten_nil, List.append_nil, List.cons_append, List.nil_append]
  after_results_simp
  rfl

theorem idx0 : ∀ t : Fin cfg0.N, win0_0.index t = ![0] := (by decide +kernel : ∀ t : Fin grid0.N, _)

theorem row8 (k : Fin 8) : S8.rowMajor (ix1 k) = k := by
  fin_cases k <;> rfl

theorem block_s (t : Fin cfg0.N) (k : Fin 8) : (iblk m c 0 t : S8.Idx → EReal) (ix1 k) = Ideal.ofBits .f32 (lit0 k) := by
  show (V m c main_cst : S8.Idx → EReal) (((cfg0.win 0).blk t).view.emb (ix1 k)) = _
  have e : ((cfg0.win 0).blk t).view.emb (ix1 k) = (ix1 k : S8.Idx) := by blk_ext [idx0 t]
  rw [e]
  exact (congrFun (entry_s m c) _).trans (congrArg (fun k => Ideal.ofBits .f32 (lit0 k)) (row8 k))

theorem log2e_named : Named.named (F := Ideal) Cert.DiffAttnIdeal.κ "log2e" (φ := .f32) 0x3FB8AA3B#32 = (((Real.log 2)⁻¹ : ℝ) : EReal) :=
  IdealRules.named_const.ideal_named_scalar _ _ _ _ rfl

theorem slope_at (t : Fin cfg0.N) (inb h) :
    k0_pay2 (View.ld (iblk m c 0 t) (Rect.unit (s := S8) (k0_off1 (grid0.coords t)) ![1] inb) (Shape.Idx.first h)) = slope (t.val / 8) := by
  have e : View.ld (iblk m c 0 t) (Rect.unit (s := S8) (k0_off1 (grid0.coords t)) ![1] inb) (Shape.Idx.first h) = Ideal.ofBits .f32 (lit0 (Fin.ofNat 8 (t.val / 8))) := by
    refine Eq.trans (View.ld_unit_apply_of _ _ _ _ _ (ix1 (Fin.ofNat 8 (t.val / 8))) ?_) (block_s m c t _)
    have ht : t.val < 32 := t.isLt
    intro a
    fin_cases a
    have h1 := congrFun (off1_eq t) 0
    show t.val / 8 % 8 = k0_off1 (grid0.coords t) 0 + 0
    rw [h1]
    show t.val / 8 % 8 = t.val / 8 + 0
    omega
  rw [e, k0_pay2]
  exact congrArg (_ * ·) log2e_named

set_option maxHeartbeats 1000000 in
theorem bias_write (t : Fin cfg0.N) (h : t.val % 8 = 0) (y : S15x256x256.Idx) :
    (outsAt0 m c t.val t.isLt).2 y = biasAt (slope (t.val / 8)) (y 0).val (y 1).val (y 2).val := by
  rw [outsAt0_A m c t h]
  frame_out
  canon_tiles x h
  case piece0 => exact (tile_piece _ _ 14 (tile14_at _) x y (by omega) x0_lt h1 h2).trans (congrArg (biasAt · _ _ _) (slope_at m c t _ _))
  case piece1 => exact (tile_piece _ _ 13 (tile13_at _) x y (by omega) x0_lt h1 h2).trans (congrArg (biasAt · _ _ _) (slope_at m c t _ _))
  case piece2 => exact (tile_piece _ _ 12 (tile12_at _) x y (by omega) x0_lt h1 h2).trans (congrArg (biasAt · _ _ _) (slope_at m c t _ _))
  case piece3 => exact (tile_piece _ _ 11 (tile11_at _) x y (by omega) x0_lt h1 h2).trans (congrArg (biasAt · _ _ _) (slope_at m c t _ _))
  case piece4 => exact (tile_piece _ _ 10 (tile10_at _) x y (by omega) x0_lt h1 h2).trans (congrArg (biasAt · _ _ _) (slope_at m c t _ _))
  case piece5 => exact (tile_piece _ _ 9 (tile9_at _) x y (by omega) x0_lt h1 h2).trans (congrArg (biasAt · _ _ _) (slope_at m c t _ _))
  case piece6 => exact (tile_piece _ _ 8 (tile8_at _) x y (by omega) x0_lt h1 h2).trans (congrArg (biasAt · _ _ _) (slope_at m c t _ _))
  case piece7 => exact (tile_piece _ _ 7 (tile7_at _) x y (by omega) x0_lt h1 h2).trans (congrArg (biasAt · _ _ _) (slope_at m c t _ _))
  case piece8 => exact (tile_piece _ _ 6 (tile6_at _) x y (by omega) x0_lt h1 h2).trans (congrArg (biasAt · _ _ _) (slope_at m c t _ _))
  case piece9 => exact (tile_piece _ _ 5 (tile5_at _) x y (by omega) x0_lt h1 h2).trans (congrArg (biasAt · _ _ _) (slope_at m c t _ _))
  case piece10 => exact (tile_piece _ _ 4 (tile4_at _) x y (by omega) x0_lt h1 h2).trans (congrArg (biasAt · _ _ _) (slope_at m c t _ _))
  case piece11 => exact (tile_piece _ _ 3 (tile3_at _) x y (by omega) x0_lt h1 h2).trans (congrArg (biasAt · _ _ _) (slope_at m c t _ _))
  case piece12 => exact (tile_piece _ _ 2 (tile2_at _) x y (by omega) x0_lt h1 h2).trans (congrArg (biasAt · _ _ _) (slope_at m c t _ _))
  case piece13 => exact (tile_piece _ _ 1 (tile1_at _) x y (by omega) x0_lt h1 h2).trans (congrArg (biasAt · _ _ _) (slope_at m c t _ _))
  case piece14 => exact (tile_piece _ _ 0 (tile0_at _) x y (by omega) x0_lt h1 h2).trans (congrArg (biasAt · _ _ _) (slope_at m c t _ _))

theorem bias_held (t : Fin cfg0.N) (y : S15x256x256.Idx) :
    (outsAt0 m c t.val t.isLt).2 y = biasAt (slope (t.val / 8)) (y 0).val (y 1).val (y 2).val := by
  rw [Pipeline.eq_of_write_hold_apply (fun n h => (outsAt0 m c n h).2) 8 (fun t y => biasAt (slope (t.val / 8)) (y 0).val (y 1).val (y 2).val)
    (bias_write m c) (fun t h i => by rw [outsAt0_B m c t h]; rfl) t y]
  congr 2
  show 8 * (t.val / 8) / 8 = _
  omega

/-- What a batch that is not the first of its head finds. -/
theorem bias_before (t : Fin cfg0.N) (h : ¬t.val % 8 = 0) (hb : t.val - 1 < cfg0.N) (y : S15x256x256.Idx) :
    (outsAt0 m c (t.val - 1) hb).2 y = biasAt (slope (t.val / 8)) (y 0).val (y 1).val (y 2).val := by
  rw [bias_held m c ⟨t.val - 1, hb⟩ y]
  congr 2
  show (t.val - 1) / 8 = _
  omega

end Cert.Proof.DiffAttn
-- ==== Proof.DiffAttnPieces.lean ====
/-
  What a grid point leaves in its output block: eight blocks of 256 queries, each the normed difference of two softmaxes.
-/
module

public import proofs.«01_k».proof.Proof.DiffAttnTiles

@[expose] public section

set_option maxRecDepth 16384

noncomputable section

namespace Cert.Proof.DiffAttn

open Idealize.ShloMosaic Idealize.ShloMosaic.TcCoe
open Idealize.ShloMosaic (ix1 ix2 ix3)
open Cert.DiffAttnIdeal Cert.DiffAttnIdeal.Gen

/-- The score of query `p` and key `j` in the first (0) or second (1) softmax of a head with slope `σ`. -/
def scoreAt (Q K : Fin 2048 → Fin 128 → ℝ) (σ : ℝ) (p : Fin 2048) (a : Fin 2) (j : Fin 2048) : ℝ :=
  (∑ e : Fin 64, Q p ⟨a.val * 64 + e.val, by omega⟩ * K j ⟨a.val * 64 + e.val, by omega⟩) * (1 / 8) - σ * |(j.val : ℝ) - (p.val : ℝ)|

/-- The difference of the two softmaxes over the values. -/
def diffAt (Q K V : Fin 2048 → Fin 128 → ℝ) (σ lam : ℝ) (p : Fin 2048) (d : Fin 128) : ℝ :=
  ∑ j, V j d * (soft (scoreAt Q K σ p 0) j - lam * soft (scoreAt Q K σ p 1) j)

/-- A head's output at query `p`. -/
def outAt (Q K V : Fin 2048 → Fin 128 → ℝ) (σ lam : ℝ) (g : Fin 128 → EReal) (v : EReal) (p : Fin 2048) (d : Fin 128) : EReal :=
  normedAt (fun x => ((diffAt Q K V σ lam p x : ℝ) : EReal)) g v d

theorem bias_real (σ : ℝ) (r qb k j i : ℕ) (hk : k + qb = r + 7) :
    biasAt ((σ * (Real.log 2)⁻¹ : ℝ) : EReal) k j i = ((σ * |((256 * r + j : ℕ) : ℝ) - ((256 * qb + i : ℕ) : ℝ)| * (Real.log 2)⁻¹ : ℝ) : EReal) := by
  rw [biasAt, ← EReal.coe_mul]
  congr 1
  have e : (j : ℝ) - i + (((k : ℤ) - 7) * 256 : ℤ) = ((256 * r + j : ℕ) : ℝ) - ((256 * qb + i : ℕ) : ℝ) := by
    have hk' : (k : ℝ) = r + 7 - qb := by
      have : ((k + qb : ℕ) : ℝ) = ((r + 7 : ℕ) : ℝ) := by rw [hk]
      push_cast at this
      linarith
    push_cast
    rw [hk']
    ring
  rw [e]
  ring

theorem piece_at (qb : ℕ) (hqb : qb < 8) (σ lamR : ℝ) (Q K V : Fin 2048 → Fin 128 → ℝ) (g' : Fin 128 → EReal) (v' : EReal) (s : EReal)
    (hs : s = ((σ * (Real.log 2)⁻¹ : ℝ) : EReal))
    (x : S1x256x128.Idx) (y : S1x2048x128.Idx) (hx : (x 0).val < 1) (h1 : (y 1).val = 256 * qb + (x 1).val) (h2 : (y 2).val = (x 2).val)
    (off : Fin 2 → Nat) (hoff : ∀ a : Fin 2, off a + S2048x512.size a ≤ S2048x512.size a) (v1 : Elt Ideal .f32) (lam : FVec Ideal S1x1 .f32)
    (g : FVec Ideal S128x1 .f32) (q : Vec Ideal S1x256x128 .bf16) (k : Vec Ideal S1x2048x128 .bf16) (b0 b1 b2 b3 b4 b5 b6 b7 : Vec Ideal S1x256x256 .f32)
    (vt : Vec Ideal S144x2048 .bf16) (h0 : off = ![0, 0]) (hv1 : v1 = v') (hlam : lam (ix2 0 0) = (lamR : EReal)) (hg : ∀ d, g (ix2 d 0) = g' d)
    (hq : ∀ (i : Fin 256) e, q (ix3 0 i e) = ((Q ⟨256 * qb + i.val, by omega⟩ e * (1 / 8 * (Real.log 2)⁻¹) : ℝ) : EReal))
    (hk : ∀ j e, k (ix3 0 j e) = ((K j e : ℝ) : EReal))
    (hb0 : ∀ (j i : Fin 256), b0 (ix3 0 j i) = biasAt s (0 + 7 - qb) j.val i.val)
    (hb1 : ∀ (j i : Fin 256), b1 (ix3 0 j i) = biasAt s (1 + 7 - qb) j.val i.val)
    (hb2 : ∀ (j i : Fin 256), b2 (ix3 0 j i) = biasAt s (2 + 7 - qb) j.val i.val)
    (hb3 : ∀ (j i : Fin 256), b3 (ix3 0 j i) = biasAt s (3 + 7 - qb) j.val i.val)
    (hb4 : ∀ (j i : Fin 256), b4 (ix3 0 j i) = biasAt s (4 + 7 - qb) j.val i.val)
    (hb5 : ∀ (j i : Fin 256), b5 (ix3 0 j i) = biasAt s (5 + 7 - qb) j.val i.val)
    (hb6 : ∀ (j i : Fin 256), b6 (ix3 0 j i) = biasAt s (6 + 7 - qb) j.val i.val)
    (hb7 : ∀ (j i : Fin 256), b7 (ix3 0 j i) = biasAt s (7 + 7 - qb) j.val i.val)
    (hv : ∀ (j : Fin 2048) (d : Fin 128), vt (ix2 ⟨d.val, by omega⟩ j) = ((V j d : ℝ) : EReal)) (ho : ∀ j, vt (ix2 128 j) = 1) :
    blockOf off hoff v1 lam g q k b0 b1 b2 b3 b4 b5 b6 b7 vt x = outAt Q K V σ lamR g' v' (y 1) (y 2) := by
  subst hs hv1
  have e : x = ix3 0 (x 1) (x 2) := by
    funext a
    fin_cases a
    · exact Fin.ext (by show (x 0).val = 0; omega)
    · rfl
    · rfl
  have hx1 : (x 1).val < 256 := (x 1).isLt
  have hp : y 1 = (⟨256 * qb + (x 1).val, by omega⟩ : Fin 2048) := Fin.ext h1
  have hd : y 2 = (x 2 : Fin 128) := Fin.ext h2
  rw [hp, hd]
  refine (congrArg _ e).trans ((block_at off hoff v1 lam g q k b0 b1 b2 b3 b4 b5 b6 b7 vt h0 (fun i e => Q ⟨256 * qb + i.val, by omega⟩ e) K
    (fun n i => σ * |(n : ℝ) - ((256 * qb + i.val : ℕ) : ℝ)|) V lamR hq hk
    (fun j i => (hb0 j i).trans (bias_real σ 0 qb _ _ _ (by omega)))
    (fun j i => (hb1 j i).trans (bias_real σ 1 qb _ _ _ (by omega)))
    (fun j i => (hb2 j i).trans (bias_real σ 2 qb _ _ _ (by omega)))
    (fun j i => (hb3 j i).trans (bias_real σ 3 qb _ _ _ (by omega)))
    (fun j i => (hb4 j i).trans (bias_real σ 4 qb _ _ _ (by omega)))
    (fun j i => (hb5 j i).trans (bias_real σ 5 qb _ _ _ (by omega)))
    (fun j i => (hb6 j i).trans (bias_real σ 6 qb _ _ _ (by omega)))
    (fun j i => (hb7 j i).trans (bias_real σ 7 qb _ _ _ (by omega)))
    hv ho hlam (x 1) (x 2)).trans ?_)
  rw [show (fun x => g (ix2 x 0)) = g' from funext hg]
  rfl

theorem queries_ld (X : Vec Ideal S1x2048x128 .bf16) (o : ℕ) (ho : o ≤ 1792) (inb) (i : Fin 256) (e : Fin 128) :
    View.ld (Val := Elt Ideal) (e' := .bf16) X (Rect.unit (s := S1x2048x128) ![0, o, 0] ![1, 256, 128] inb) (ix3 0 i e) = X (ix3 0 ⟨o + i.val, by omega⟩ e) := by
  refine View.ld_unit_apply_of _ _ _ _ _ _ fun a => ?_
  fin_cases a <;> simp

theorem tile_ld (X : Vec Ideal S15x256x256 .f32) (o : ℕ) (ho : o < 15) (inb) (j i : Fin 256) :
    View.ld (Val := Elt Ideal) (e' := .f32) X (Rect.unit (s := S15x256x256) ![o, 0, 0] ![1, 256, 256] inb) (ix3 0 j i) = X (ix3 ⟨o, ho⟩ j i) := by
  refine View.ld_unit_apply_of _ _ _ _ _ _ fun a => ?_
  fin_cases a <;> simp

variable (m : (ℓ : Loc nD τ sig) → Buf (Elt Ideal) ℓ) (c : Dev nD)

theorem scalar_at (t : Fin cfg0.N) (k : ℕ) (hk : k < 8) (inb h) :
    View.ld (iblk m c 0 t) (Rect.unit (s := S8) ![k] ![1] inb) (Shape.Idx.first h) = Ideal.ofBits .f32 (lit0 ⟨k, hk⟩) := by
  refine Eq.trans (View.ld_unit_apply_of _ _ _ _ _ (ix1 ⟨k, hk⟩) fun a => ?_) (block_s m c t _)
  fin_cases a
  rfl

theorem slope_read (t : Fin cfg0.N) (X : Vec Ideal S8 .f32) (hX : X = iblk m c 0 t) (inb h) :
    k0_pay2 (View.ld X (Rect.unit (s := S8) (k0_off1 (grid0.coords t)) ![1] inb) (Shape.Idx.first h)) = slope (t.val / 8) := by
  subst hX
  exact slope_at m c t inb h

theorem queries_read (t : Fin cfg0.N) (X Y : Vec Ideal S1x2048x128 .bf16) (hX : X = Y) (o : ℕ) (ho : o ≤ 1792) (inb) (i : Fin 256) (e : Fin 128) :
    View.ld (Val := Elt Ideal) (e' := .bf16) X (Rect.unit (s := S1x2048x128) ![0, o, 0] ![1, 256, 128] inb) (ix3 0 i e) = Y (ix3 0 ⟨o + i.val, by omega⟩ e) := by
  subst hX
  exact queries_ld X o ho inb i e

theorem tile_read (t : Fin cfg0.N) (h : ¬t.val % 8 = 0) (hb : t.val - 1 < cfg0.N) (X : Vec Ideal S15x256x256 .f32) (hX : X = (outsAt0 m c (t.val - 1) hb).2)
    (o : ℕ) (ho : o < 15) (inb) (j i : Fin 256) :
    View.ld (Val := Elt Ideal) (e' := .f32) X (Rect.unit (s := S15x256x256) ![o, 0, 0] ![1, 256, 256] inb) (ix3 0 j i) = biasAt (slope (t.val / 8)) o j.val i.val := by
  subst hX
  exact (tile_ld _ o ho inb j i).trans (bias_before m c t h hb _)

/-- The row of a value's entry. -/
def valueRow (d : Fin 128) : Fin 144 := ⟨d.val, by omega⟩

section Point

variable (t : Fin cfg0.N) (σ lamR : ℝ) (Q K V : Fin 2048 → Fin 128 → ℝ) (g' : Fin 128 → EReal)
  (hs : slope (t.val / 8) = ((σ * (Real.log 2)⁻¹ : ℝ) : EReal))
  (hlam : k0_pay21 (F := Ideal) (Ideal.ofBits .f32 (lit0 4)) (iblk m c 1 t) (ix2 0 0) = (lamR : EReal))
  (hg : ∀ d : Fin 128, k0_pay22 (F := Ideal) (iblk m c 2 t) (ix2 d 0) = g' d)
  (hq : ∀ p e, (iblk m c 3 t : S1x2048x128.Idx → EReal) (ix3 0 p e) = ((Q p e * (1 / 8 * (Real.log 2)⁻¹) : ℝ) : EReal))
  (hk : ∀ j e, (iblk m c 4 t : S1x2048x128.Idx → EReal) (ix3 0 j e) = ((K j e : ℝ) : EReal))
  (hv : ∀ (j : Fin 2048) (d : Fin 128), (iblk m c 5 t : S144x2048.Idx → EReal) (ix2 (valueRow d) j) = ((V j d : ℝ) : EReal))
  (ho : ∀ j : Fin 2048, (iblk m c 5 t : S144x2048.Idx → EReal) (ix2 128 j) = (1 : EReal))

include hs hlam hg hq hk hv ho

set_option maxHeartbeats 4000000 in
theorem point_B (h : ¬t.val % 8 = 0) (y : S1x2048x128.Idx) :
    (outsAt0 m c t.val t.isLt).1 y = outAt Q K V σ lamR g' (Ideal.ofBits .f32 (lit0 5)) (y 1) (y 2) := by
  have hl : k0_pay21 (F := Ideal) (View.ld (iblk m c 0 t) (Rect.unit (s := S8) ![4] ![1] inb_S8_S1_4) (Shape.Idx.first numel1_S1.symm.le)) (iblk m c 1 t) (ix2 0 0) = (lamR : EReal) :=
    (congrArg (fun v => k0_pay21 (F := Ideal) v (iblk m c 1 t) (ix2 0 0)) (scalar_at m c t 4 (by omega) _ _)).trans hlam
  rw [outsAt0_B m c t h]
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, read_unread_whole]
  have H := @piece_at
  simp only [blockOf, sumsOf, maxOf, scoresOf, k0_pay1, k0_pay23, k0_pay24, k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104, k0_pay105,
      k0_pay106, k0_pay107, k0_pay108, k0_pay109] at H
  canon_tiles x h
  case piece0 =>
    simp only [k0_pay1, k0_pay107, k0_pay108, k0_pay109]
    refine H 7 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1792 (by omega) _ i e).trans (hq _ e)
    case refine_2 => exact fun j i => tile_read m c t h _ _ (read_unread_whole _ _ _) 0 (by omega) _ j i
    case refine_3 => exact fun j i => tile_read m c t h _ _ (read_unread_whole _ _ _) 1 (by omega) _ j i
    case refine_4 => exact fun j i => tile_read m c t h _ _ (read_unread_whole _ _ _) 2 (by omega) _ j i
    case refine_5 => exact fun j i => tile_read m c t h _ _ (read_unread_whole _ _ _) 3 (by omega) _ j i
    case refine_6 => exact fun j i => tile_read m c t h _ _ (read_unread_whole _ _ _) 4 (by omega) _ j i
    case refine_7 => exact fun j i => tile_read m c t h _ _ (read_unread_whole _ _ _) 5 (by omega) _ j i
    case refine_8 => exact fun j i => tile_read m c t h _ _ (read_unread_whole _ _ _) 6 (by omega) _ j i
    case refine_9 => exact fun j i => tile_read m c t h _ _ (read_unread_whole _ _ _) 7 (by omega) _ j i
  case piece1 =>
    refine H 6 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1536 (by omega) _ i e).trans (hq _ e)
    case refine_2 => exact fun j i => tile_read m c t h _ _ (read_unread_whole _ _ _) 1 (by omega) _ j i
    case refine_3 => exact fun j i => tile_read m c t h _ _ (read_unread_whole _ _ _) 2 (by omega) _ j i
    case refine_4 => exact fun j i => tile_read m c t h _ _ (read_unread_whole _ _ _) 3 (by omega) _ j i
    case refine_5 => exact fun j i => tile_read m c t h _ _ (read_unread_whole _ _ _) 4 (by omega) _ j i
    case refine_6 => exact fun j i => tile_read m c t h _ _ (read_unread_whole _ _ _) 5 (by omega) _ j i
    case refine_7 => exact fun j i => tile_read m c t h _ _ (read_unread_whole _ _ _) 6 (by omega) _ j i
    case refine_8 => exact fun j i => tile_read m c t h _ _ (read_unread_whole _ _ _) 7 (by omega) _ j i
    case refine_9 => exact fun j i => tile_read m c t h _ _ (read_unread_whole _ _ _) 8 (by omega) _ j i
  case piece2 =>
    refine H 5 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1280 (by omega) _ i e).trans (hq _ e)
    case refine_2 => exact fun j i => tile_read m c t h _ _ (read_unread_whole _ _ _) 2 (by omega) _ j i
    case refine_3 => exact fun j i => tile_read m c t h _ _ (read_unread_whole _ _ _) 3 (by omega) _ j i
    case refine_4 => exact fun j i => tile_read m c t h _ _ (read_unread_whole _ _ _) 4 (by omega) _ j i
    case refine_5 => exact fun j i => tile_read m c t h _ _ (read_unread_whole _ _ _) 5 (by omega) _ j i
    case refine_6 => exact fun j i => tile_read m c t h _ _ (read_unread_whole _ _ _) 6 (by omega) _ j i
    case refine_7 => exact fun j i => tile_read m c t h _ _ (read_unread_whole _ _ _) 7 (by omega) _ j i
    case refine_8 => exact fun j i => tile_read m c t h _ _ (read_unread_whole _ _ _) 8 (by omega) _ j i
    case refine_9 => exact fun j i => tile_read m c t h _ _ (read_unread_whole _ _ _) 9 (by omega) _ j i
  case piece3 =>
    refine H 4 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1024 (by omega) _ i e).trans (hq _ e)
    case refine_2 => exact fun j i => tile_read m c t h _ _ (read_unread_whole _ _ _) 3 (by omega) _ j i
    case refine_3 => exact fun j i => tile_read m c t h _ _ (read_unread_whole _ _ _) 4 (by omega) _ j i
    case refine_4 => exact fun j i => tile_read m c t h _ _ (read_unread_whole _ _ _) 5 (by omega) _ j i
    case refine_5 => exact fun j i => tile_read m c t h _ _ (read_unread_whole _ _ _) 6 (by omega) _ j i
    case refine_6 => exact fun j i => tile_read m c t h _ _ (read_unread_whole _ _ _) 7 (by omega) _ j i
    case refine_7 => exact fun j i => tile_read m c t h _ _ (read_unread_whole _ _ _) 8 (by omega) _ j i
    case refine_8 => exact fun j i => tile_read m c t h _ _ (read_unread_whole _ _ _) 9 (by omega) _ j i
    case refine_9 => exact fun j i => tile_read m c t h _ _ (read_unread_whole _ _ _) 10 (by omega) _ j i
  case piece4 =>
    refine H 3 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 768 (by omega) _ i e).trans (hq _ e)
    case refine_2 => exact fun j i => tile_read m c t h _ _ (read_unread_whole _ _ _) 4 (by omega) _ j i
    case refine_3 => exact fun j i => tile_read m c t h _ _ (read_unread_whole _ _ _) 5 (by omega) _ j i
    case refine_4 => exact fun j i => tile_read m c t h _ _ (read_unread_whole _ _ _) 6 (by omega) _ j i
    case refine_5 => exact fun j i => tile_read m c t h _ _ (read_unread_whole _ _ _) 7 (by omega) _ j i
    case refine_6 => exact fun j i => tile_read m c t h _ _ (read_unread_whole _ _ _) 8 (by omega) _ j i
    case refine_7 => exact fun j i => tile_read m c t h _ _ (read_unread_whole _ _ _) 9 (by omega) _ j i
    case refine_8 => exact fun j i => tile_read m c t h _ _ (read_unread_whole _ _ _) 10 (by omega) _ j i
    case refine_9 => exact fun j i => tile_read m c t h _ _ (read_unread_whole _ _ _) 11 (by omega) _ j i
  case piece5 =>
    refine H 2 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 512 (by omega) _ i e).trans (hq _ e)
    case refine_2 => exact fun j i => tile_read m c t h _ _ (read_unread_whole _ _ _) 5 (by omega) _ j i
    case refine_3 => exact fun j i => tile_read m c t h _ _ (read_unread_whole _ _ _) 6 (by omega) _ j i
    case refine_4 => exact fun j i => tile_read m c t h _ _ (read_unread_whole _ _ _) 7 (by omega) _ j i
    case refine_5 => exact fun j i => tile_read m c t h _ _ (read_unread_whole _ _ _) 8 (by omega) _ j i
    case refine_6 => exact fun j i => tile_read m c t h _ _ (read_unread_whole _ _ _) 9 (by omega) _ j i
    case refine_7 => exact fun j i => tile_read m c t h _ _ (read_unread_whole _ _ _) 10 (by omega) _ j i
    case refine_8 => exact fun j i => tile_read m c t h _ _ (read_unread_whole _ _ _) 11 (by omega) _ j i
    case refine_9 => exact fun j i => tile_read m c t h _ _ (read_unread_whole _ _ _) 12 (by omega) _ j i
  case piece6 =>
    refine H 1 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 256 (by omega) _ i e).trans (hq _ e)
    case refine_2 => exact fun j i => tile_read m c t h _ _ (read_unread_whole _ _ _) 6 (by omega) _ j i
    case refine_3 => exact fun j i => tile_read m c t h _ _ (read_unread_whole _ _ _) 7 (by omega) _ j i
    case refine_4 => exact fun j i => tile_read m c t h _ _ (read_unread_whole _ _ _) 8 (by omega) _ j i
    case refine_5 => exact fun j i => tile_read m c t h _ _ (read_unread_whole _ _ _) 9 (by omega) _ j i
    case refine_6 => exact fun j i => tile_read m c t h _ _ (read_unread_whole _ _ _) 10 (by omega) _ j i
    case refine_7 => exact fun j i => tile_read m c t h _ _ (read_unread_whole _ _ _) 11 (by omega) _ j i
    case refine_8 => exact fun j i => tile_read m c t h _ _ (read_unread_whole _ _ _) 12 (by omega) _ j i
    case refine_9 => exact fun j i => tile_read m c t h _ _ (read_unread_whole _ _ _) 13 (by omega) _ j i
  case piece7 =>
    simp only [k0_pay23, k0_pay24, k0_pay25, k0_pay26]
    refine H 0 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 0 (by omega) _ i e).trans (hq _ e)
    case refine_2 => exact fun j i => tile_read m c t h _ _ (read_unread_whole _ _ _) 7 (by omega) _ j i
    case refine_3 => exact fun j i => tile_read m c t h _ _ (read_unread_whole _ _ _) 8 (by omega) _ j i
    case refine_4 => exact fun j i => tile_read m c t h _ _ (read_unread_whole _ _ _) 9 (by omega) _ j i
    case refine_5 => exact fun j i => tile_read m c t h _ _ (read_unread_whole _ _ _) 10 (by omega) _ j i
    case refine_6 => exact fun j i => tile_read m c t h _ _ (read_unread_whole _ _ _) 11 (by omega) _ j i
    case refine_7 => exact fun j i => tile_read m c t h _ _ (read_unread_whole _ _ _) 12 (by omega) _ j i
    case refine_8 => exact fun j i => tile_read m c t h _ _ (read_unread_whole _ _ _) 13 (by omega) _ j i
    case refine_9 => exact fun j i => tile_read m c t h _ _ (read_unread_whole _ _ _) 14 (by omega) _ j i

set_option maxHeartbeats 8000000 in
theorem point_A (h : t.val % 8 = 0) (y : S1x2048x128.Idx) :
    (outsAt0 m c t.val t.isLt).1 y = outAt Q K V σ lamR g' (Ideal.ofBits .f32 (lit0 5)) (y 1) (y 2) := by
  have hl : k0_pay21 (F := Ideal) (View.ld (iblk m c 0 t) (Rect.unit (s := S8) ![4] ![1] inb_S8_S1_4) (Shape.Idx.first numel1_S1.symm.le)) (iblk m c 1 t) (ix2 0 0) = (lamR : EReal) :=
    (congrArg (fun v => k0_pay21 (F := Ideal) v (iblk m c 1 t) (ix2 0 0)) (scalar_at m c t 4 (by omega) _ _)).trans hlam
  rw [outsAt0_A m c t h]
  frame_open
  simp (disch := decide) only [↓ View.readCov_skip, ↓ View.readCov_cons_toLoadRect, ↓ View.readCov_fill]
  simp (disch := decide) only [View.read_writes_junk_eq_canon, View.canon_cons_unit_lit',
        View.ld_unit_lit', View.readCov_unit_lit', View.readCov_cons_unit_lit', View.readAt_eq_ld,
        Memref.IsWhole.read_unread, read_unread_whole]
  have H := @piece_at
  simp only [blockOf, sumsOf, maxOf, scoresOf, k0_pay1, k0_pay23, k0_pay24, k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50,
      k0_pay51, k0_pay52, k0_pay53, k0_pay54, k0_pay55, k0_pay56, k0_pay57, k0_pay58, k0_pay59, k0_pay60, k0_pay61, k0_pay62, k0_pay63, k0_pay64,
      k0_pay65, k0_pay66, k0_pay67, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104, k0_pay105,
      k0_pay106, k0_pay107, k0_pay108, k0_pay109] at H
  canon_tiles x h
  case piece0 =>
    simp only [k0_pay1, k0_pay107, k0_pay108, k0_pay109]
    refine H 7 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1792 (by omega) _ i e).trans (hq _ e)
    case refine_2 => exact fun j i => (congrFun ((skip_tile _ 14 0 _ _ _ _ (by decide)).trans ((skip_tile _ 13 0 _ _ _ _ (by decide)).trans ((skip_tile _ 12 0 _ _ _ _ (by decide)).trans ((skip_tile _ 11 0 _ _ _ _ (by decide)).trans ((skip_tile _ 10 0 _ _ _ _ (by decide)).trans ((skip_tile _ 9 0 _ _ _ _ (by decide)).trans ((skip_tile _ 8 0 _ _ _ _ (by decide)).trans ((skip_tile _ 7 0 _ _ _ _ (by decide)).trans ((skip_tile _ 6 0 _ _ _ _ (by decide)).trans ((skip_tile _ 5 0 _ _ _ _ (by decide)).trans ((skip_tile _ 4 0 _ _ _ _ (by decide)).trans ((skip_tile _ 3 0 _ _ _ _ (by decide)).trans ((skip_tile _ 2 0 _ _ _ _ (by decide)).trans ((skip_tile _ 1 0 _ _ _ _ (by decide)).trans (hit_tile _ 0 _ _ _ _))))))))))))))) _).trans ((tile0_at _ j i).trans (congrArg (biasAt · _ _ _) (slope_read m c t _ ((hs0_0 t).read_unread _) _ _)))
    case refine_3 => exact fun j i => (congrFun ((skip_tile _ 14 1 _ _ _ _ (by decide)).trans ((skip_tile _ 13 1 _ _ _ _ (by decide)).trans ((skip_tile _ 12 1 _ _ _ _ (by decide)).trans ((skip_tile _ 11 1 _ _ _ _ (by decide)).trans ((skip_tile _ 10 1 _ _ _ _ (by decide)).trans ((skip_tile _ 9 1 _ _ _ _ (by decide)).trans ((skip_tile _ 8 1 _ _ _ _ (by decide)).trans ((skip_tile _ 7 1 _ _ _ _ (by decide)).trans ((skip_tile _ 6 1 _ _ _ _ (by decide)).trans ((skip_tile _ 5 1 _ _ _ _ (by decide)).trans ((skip_tile _ 4 1 _ _ _ _ (by decide)).trans ((skip_tile _ 3 1 _ _ _ _ (by decide)).trans ((skip_tile _ 2 1 _ _ _ _ (by decide)).trans (hit_tile _ 1 _ _ _ _)))))))))))))) _).trans ((tile1_at _ j i).trans (congrArg (biasAt · _ _ _) (slope_read m c t _ ((hs0_0 t).read_unread _) _ _)))
    case refine_4 => exact fun j i => (congrFun ((skip_tile _ 14 2 _ _ _ _ (by decide)).trans ((skip_tile _ 13 2 _ _ _ _ (by decide)).trans ((skip_tile _ 12 2 _ _ _ _ (by decide)).trans ((skip_tile _ 11 2 _ _ _ _ (by decide)).trans ((skip_tile _ 10 2 _ _ _ _ (by decide)).trans ((skip_tile _ 9 2 _ _ _ _ (by decide)).trans ((skip_tile _ 8 2 _ _ _ _ (by decide)).trans ((skip_tile _ 7 2 _ _ _ _ (by decide)).trans ((skip_tile _ 6 2 _ _ _ _ (by decide)).trans ((skip_tile _ 5 2 _ _ _ _ (by decide)).trans ((skip_tile _ 4 2 _ _ _ _ (by decide)).trans ((skip_tile _ 3 2 _ _ _ _ (by decide)).trans (hit_tile _ 2 _ _ _ _))))))))))))) _).trans ((tile2_at _ j i).trans (congrArg (biasAt · _ _ _) (slope_read m c t _ ((hs0_0 t).read_unread _) _ _)))
    case refine_5 => exact fun j i => (congrFun ((skip_tile _ 14 3 _ _ _ _ (by decide)).trans ((skip_tile _ 13 3 _ _ _ _ (by decide)).trans ((skip_tile _ 12 3 _ _ _ _ (by decide)).trans ((skip_tile _ 11 3 _ _ _ _ (by decide)).trans ((skip_tile _ 10 3 _ _ _ _ (by decide)).trans ((skip_tile _ 9 3 _ _ _ _ (by decide)).trans ((skip_tile _ 8 3 _ _ _ _ (by decide)).trans ((skip_tile _ 7 3 _ _ _ _ (by decide)).trans ((skip_tile _ 6 3 _ _ _ _ (by decide)).trans ((skip_tile _ 5 3 _ _ _ _ (by decide)).trans ((skip_tile _ 4 3 _ _ _ _ (by decide)).trans (hit_tile _ 3 _ _ _ _)))))))))))) _).trans ((tile3_at _ j i).trans (congrArg (biasAt · _ _ _) (slope_read m c t _ ((hs0_0 t).read_unread _) _ _)))
    case refine_6 => exact fun j i => (congrFun ((skip_tile _ 14 4 _ _ _ _ (by decide)).trans ((skip_tile _ 13 4 _ _ _ _ (by decide)).trans ((skip_tile _ 12 4 _ _ _ _ (by decide)).trans ((skip_tile _ 11 4 _ _ _ _ (by decide)).trans ((skip_tile _ 10 4 _ _ _ _ (by decide)).trans ((skip_tile _ 9 4 _ _ _ _ (by decide)).trans ((skip_tile _ 8 4 _ _ _ _ (by decide)).trans ((skip_tile _ 7 4 _ _ _ _ (by decide)).trans ((skip_tile _ 6 4 _ _ _ _ (by decide)).trans ((skip_tile _ 5 4 _ _ _ _ (by decide)).trans (hit_tile _ 4 _ _ _ _))))))))))) _).trans ((tile4_at _ j i).trans (congrArg (biasAt · _ _ _) (slope_read m c t _ ((hs0_0 t).read_unread _) _ _)))
    case refine_7 => exact fun j i => (congrFun ((skip_tile _ 14 5 _ _ _ _ (by decide)).trans ((skip_tile _ 13 5 _ _ _ _ (by decide)).trans ((skip_tile _ 12 5 _ _ _ _ (by decide)).trans ((skip_tile _ 11 5 _ _ _ _ (by decide)).trans ((skip_tile _ 10 5 _ _ _ _ (by decide)).trans ((skip_tile _ 9 5 _ _ _ _ (by decide)).trans ((skip_tile _ 8 5 _ _ _ _ (by decide)).trans ((skip_tile _ 7 5 _ _ _ _ (by decide)).trans ((skip_tile _ 6 5 _ _ _ _ (by decide)).trans (hit_tile _ 5 _ _ _ _)))))))))) _).trans ((tile5_at _ j i).trans (congrArg (biasAt · _ _ _) (slope_read m c t _ ((hs0_0 t).read_unread _) _ _)))
    case refine_8 => exact fun j i => (congrFun ((skip_tile _ 14 6 _ _ _ _ (by decide)).trans ((skip_tile _ 13 6 _ _ _ _ (by decide)).trans ((skip_tile _ 12 6 _ _ _ _ (by decide)).trans ((skip_tile _ 11 6 _ _ _ _ (by decide)).trans ((skip_tile _ 10 6 _ _ _ _ (by decide)).trans ((skip_tile _ 9 6 _ _ _ _ (by decide)).trans ((skip_tile _ 8 6 _ _ _ _ (by decide)).trans ((skip_tile _ 7 6 _ _ _ _ (by decide)).trans (hit_tile _ 6 _ _ _ _))))))))) _).trans ((tile6_at _ j i).trans (congrArg (biasAt · _ _ _) (slope_read m c t _ ((hs0_0 t).read_unread _) _ _)))
    case refine_9 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
  case piece1 =>
    refine H 6 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1536 (by omega) _ i e).trans (hq _ e)
    case refine_2 => exact fun j i => (congrFun ((skip_tile _ 14 1 _ _ _ _ (by decide)).trans ((skip_tile _ 13 1 _ _ _ _ (by decide)).trans ((skip_tile _ 12 1 _ _ _ _ (by decide)).trans ((skip_tile _ 11 1 _ _ _ _ (by decide)).trans ((skip_tile _ 10 1 _ _ _ _ (by decide)).trans ((skip_tile _ 9 1 _ _ _ _ (by decide)).trans ((skip_tile _ 8 1 _ _ _ _ (by decide)).trans ((skip_tile _ 7 1 _ _ _ _ (by decide)).trans ((skip_tile _ 6 1 _ _ _ _ (by decide)).trans ((skip_tile _ 5 1 _ _ _ _ (by decide)).trans ((skip_tile _ 4 1 _ _ _ _ (by decide)).trans ((skip_tile _ 3 1 _ _ _ _ (by decide)).trans ((skip_tile _ 2 1 _ _ _ _ (by decide)).trans (hit_tile _ 1 _ _ _ _)))))))))))))) _).trans ((tile1_at _ j i).trans (congrArg (biasAt · _ _ _) (slope_read m c t _ ((hs0_0 t).read_unread _) _ _)))
    case refine_3 => exact fun j i => (congrFun ((skip_tile _ 14 2 _ _ _ _ (by decide)).trans ((skip_tile _ 13 2 _ _ _ _ (by decide)).trans ((skip_tile _ 12 2 _ _ _ _ (by decide)).trans ((skip_tile _ 11 2 _ _ _ _ (by decide)).trans ((skip_tile _ 10 2 _ _ _ _ (by decide)).trans ((skip_tile _ 9 2 _ _ _ _ (by decide)).trans ((skip_tile _ 8 2 _ _ _ _ (by decide)).trans ((skip_tile _ 7 2 _ _ _ _ (by decide)).trans ((skip_tile _ 6 2 _ _ _ _ (by decide)).trans ((skip_tile _ 5 2 _ _ _ _ (by decide)).trans ((skip_tile _ 4 2 _ _ _ _ (by decide)).trans ((skip_tile _ 3 2 _ _ _ _ (by decide)).trans (hit_tile _ 2 _ _ _ _))))))))))))) _).trans ((tile2_at _ j i).trans (congrArg (biasAt · _ _ _) (slope_read m c t _ ((hs0_0 t).read_unread _) _ _)))
    case refine_4 => exact fun j i => (congrFun ((skip_tile _ 14 3 _ _ _ _ (by decide)).trans ((skip_tile _ 13 3 _ _ _ _ (by decide)).trans ((skip_tile _ 12 3 _ _ _ _ (by decide)).trans ((skip_tile _ 11 3 _ _ _ _ (by decide)).trans ((skip_tile _ 10 3 _ _ _ _ (by decide)).trans ((skip_tile _ 9 3 _ _ _ _ (by decide)).trans ((skip_tile _ 8 3 _ _ _ _ (by decide)).trans ((skip_tile _ 7 3 _ _ _ _ (by decide)).trans ((skip_tile _ 6 3 _ _ _ _ (by decide)).trans ((skip_tile _ 5 3 _ _ _ _ (by decide)).trans ((skip_tile _ 4 3 _ _ _ _ (by decide)).trans (hit_tile _ 3 _ _ _ _)))))))))))) _).trans ((tile3_at _ j i).trans (congrArg (biasAt · _ _ _) (slope_read m c t _ ((hs0_0 t).read_unread _) _ _)))
    case refine_5 => exact fun j i => (congrFun ((skip_tile _ 14 4 _ _ _ _ (by decide)).trans ((skip_tile _ 13 4 _ _ _ _ (by decide)).trans ((skip_tile _ 12 4 _ _ _ _ (by decide)).trans ((skip_tile _ 11 4 _ _ _ _ (by decide)).trans ((skip_tile _ 10 4 _ _ _ _ (by decide)).trans ((skip_tile _ 9 4 _ _ _ _ (by decide)).trans ((skip_tile _ 8 4 _ _ _ _ (by decide)).trans ((skip_tile _ 7 4 _ _ _ _ (by decide)).trans ((skip_tile _ 6 4 _ _ _ _ (by decide)).trans ((skip_tile _ 5 4 _ _ _ _ (by decide)).trans (hit_tile _ 4 _ _ _ _))))))))))) _).trans ((tile4_at _ j i).trans (congrArg (biasAt · _ _ _) (slope_read m c t _ ((hs0_0 t).read_unread _) _ _)))
    case refine_6 => exact fun j i => (congrFun ((skip_tile _ 14 5 _ _ _ _ (by decide)).trans ((skip_tile _ 13 5 _ _ _ _ (by decide)).trans ((skip_tile _ 12 5 _ _ _ _ (by decide)).trans ((skip_tile _ 11 5 _ _ _ _ (by decide)).trans ((skip_tile _ 10 5 _ _ _ _ (by decide)).trans ((skip_tile _ 9 5 _ _ _ _ (by decide)).trans ((skip_tile _ 8 5 _ _ _ _ (by decide)).trans ((skip_tile _ 7 5 _ _ _ _ (by decide)).trans ((skip_tile _ 6 5 _ _ _ _ (by decide)).trans (hit_tile _ 5 _ _ _ _)))))))))) _).trans ((tile5_at _ j i).trans (congrArg (biasAt · _ _ _) (slope_read m c t _ ((hs0_0 t).read_unread _) _ _)))
    case refine_7 => exact fun j i => (congrFun ((skip_tile _ 14 6 _ _ _ _ (by decide)).trans ((skip_tile _ 13 6 _ _ _ _ (by decide)).trans ((skip_tile _ 12 6 _ _ _ _ (by decide)).trans ((skip_tile _ 11 6 _ _ _ _ (by decide)).trans ((skip_tile _ 10 6 _ _ _ _ (by decide)).trans ((skip_tile _ 9 6 _ _ _ _ (by decide)).trans ((skip_tile _ 8 6 _ _ _ _ (by decide)).trans ((skip_tile _ 7 6 _ _ _ _ (by decide)).trans (hit_tile _ 6 _ _ _ _))))))))) _).trans ((tile6_at _ j i).trans (congrArg (biasAt · _ _ _) (slope_read m c t _ ((hs0_0 t).read_unread _) _ _)))
    case refine_8 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
    case refine_9 => exact fun j i => (congrFun ((skip_tile _ 14 8 _ _ _ _ (by decide)).trans ((skip_tile _ 13 8 _ _ _ _ (by decide)).trans ((skip_tile _ 12 8 _ _ _ _ (by decide)).trans ((skip_tile _ 11 8 _ _ _ _ (by decide)).trans ((skip_tile _ 10 8 _ _ _ _ (by decide)).trans ((skip_tile _ 9 8 _ _ _ _ (by decide)).trans (hit_tile _ 8 _ _ _ _))))))) _).trans ((tile8_at _ j i).trans (congrArg (biasAt · _ _ _) (slope_read m c t _ ((hs0_0 t).read_unread _) _ _)))
  case piece2 =>
    refine H 5 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1280 (by omega) _ i e).trans (hq _ e)
    case refine_2 => exact fun j i => (congrFun ((skip_tile _ 14 2 _ _ _ _ (by decide)).trans ((skip_tile _ 13 2 _ _ _ _ (by decide)).trans ((skip_tile _ 12 2 _ _ _ _ (by decide)).trans ((skip_tile _ 11 2 _ _ _ _ (by decide)).trans ((skip_tile _ 10 2 _ _ _ _ (by decide)).trans ((skip_tile _ 9 2 _ _ _ _ (by decide)).trans ((skip_tile _ 8 2 _ _ _ _ (by decide)).trans ((skip_tile _ 7 2 _ _ _ _ (by decide)).trans ((skip_tile _ 6 2 _ _ _ _ (by decide)).trans ((skip_tile _ 5 2 _ _ _ _ (by decide)).trans ((skip_tile _ 4 2 _ _ _ _ (by decide)).trans ((skip_tile _ 3 2 _ _ _ _ (by decide)).trans (hit_tile _ 2 _ _ _ _))))))))))))) _).trans ((tile2_at _ j i).trans (congrArg (biasAt · _ _ _) (slope_read m c t _ ((hs0_0 t).read_unread _) _ _)))
    case refine_3 => exact fun j i => (congrFun ((skip_tile _ 14 3 _ _ _ _ (by decide)).trans ((skip_tile _ 13 3 _ _ _ _ (by decide)).trans ((skip_tile _ 12 3 _ _ _ _ (by decide)).trans ((skip_tile _ 11 3 _ _ _ _ (by decide)).trans ((skip_tile _ 10 3 _ _ _ _ (by decide)).trans ((skip_tile _ 9 3 _ _ _ _ (by decide)).trans ((skip_tile _ 8 3 _ _ _ _ (by decide)).trans ((skip_tile _ 7 3 _ _ _ _ (by decide)).trans ((skip_tile _ 6 3 _ _ _ _ (by decide)).trans ((skip_tile _ 5 3 _ _ _ _ (by decide)).trans ((skip_tile _ 4 3 _ _ _ _ (by decide)).trans (hit_tile _ 3 _ _ _ _)))))))))))) _).trans ((tile3_at _ j i).trans (congrArg (biasAt · _ _ _) (slope_read m c t _ ((hs0_0 t).read_unread _) _ _)))
    case refine_4 => exact fun j i => (congrFun ((skip_tile _ 14 4 _ _ _ _ (by decide)).trans ((skip_tile _ 13 4 _ _ _ _ (by decide)).trans ((skip_tile _ 12 4 _ _ _ _ (by decide)).trans ((skip_tile _ 11 4 _ _ _ _ (by decide)).trans ((skip_tile _ 10 4 _ _ _ _ (by decide)).trans ((skip_tile _ 9 4 _ _ _ _ (by decide)).trans ((skip_tile _ 8 4 _ _ _ _ (by decide)).trans ((skip_tile _ 7 4 _ _ _ _ (by decide)).trans ((skip_tile _ 6 4 _ _ _ _ (by decide)).trans ((skip_tile _ 5 4 _ _ _ _ (by decide)).trans (hit_tile _ 4 _ _ _ _))))))))))) _).trans ((tile4_at _ j i).trans (congrArg (biasAt · _ _ _) (slope_read m c t _ ((hs0_0 t).read_unread _) _ _)))
    case refine_5 => exact fun j i => (congrFun ((skip_tile _ 14 5 _ _ _ _ (by decide)).trans ((skip_tile _ 13 5 _ _ _ _ (by decide)).trans ((skip_tile _ 12 5 _ _ _ _ (by decide)).trans ((skip_tile _ 11 5 _ _ _ _ (by decide)).trans ((skip_tile _ 10 5 _ _ _ _ (by decide)).trans ((skip_tile _ 9 5 _ _ _ _ (by decide)).trans ((skip_tile _ 8 5 _ _ _ _ (by decide)).trans ((skip_tile _ 7 5 _ _ _ _ (by decide)).trans ((skip_tile _ 6 5 _ _ _ _ (by decide)).trans (hit_tile _ 5 _ _ _ _)))))))))) _).trans ((tile5_at _ j i).trans (congrArg (biasAt · _ _ _) (slope_read m c t _ ((hs0_0 t).read_unread _) _ _)))
    case refine_6 => exact fun j i => (congrFun ((skip_tile _ 14 6 _ _ _ _ (by decide)).trans ((skip_tile _ 13 6 _ _ _ _ (by decide)).trans ((skip_tile _ 12 6 _ _ _ _ (by decide)).trans ((skip_tile _ 11 6 _ _ _ _ (by decide)).trans ((skip_tile _ 10 6 _ _ _ _ (by decide)).trans ((skip_tile _ 9 6 _ _ _ _ (by decide)).trans ((skip_tile _ 8 6 _ _ _ _ (by decide)).trans ((skip_tile _ 7 6 _ _ _ _ (by decide)).trans (hit_tile _ 6 _ _ _ _))))))))) _).trans ((tile6_at _ j i).trans (congrArg (biasAt · _ _ _) (slope_read m c t _ ((hs0_0 t).read_unread _) _ _)))
    case refine_7 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
    case refine_8 => exact fun j i => (congrFun ((skip_tile _ 14 8 _ _ _ _ (by decide)).trans ((skip_tile _ 13 8 _ _ _ _ (by decide)).trans ((skip_tile _ 12 8 _ _ _ _ (by decide)).trans ((skip_tile _ 11 8 _ _ _ _ (by decide)).trans ((skip_tile _ 10 8 _ _ _ _ (by decide)).trans ((skip_tile _ 9 8 _ _ _ _ (by decide)).trans (hit_tile _ 8 _ _ _ _))))))) _).trans ((tile8_at _ j i).trans (congrArg (biasAt · _ _ _) (slope_read m c t _ ((hs0_0 t).read_unread _) _ _)))
    case refine_9 => exact fun j i => (congrFun ((skip_tile _ 14 9 _ _ _ _ (by decide)).trans ((skip_tile _ 13 9 _ _ _ _ (by decide)).trans ((skip_tile _ 12 9 _ _ _ _ (by decide)).trans ((skip_tile _ 11 9 _ _ _ _ (by decide)).trans ((skip_tile _ 10 9 _ _ _ _ (by decide)).trans (hit_tile _ 9 _ _ _ _)))))) _).trans ((tile9_at _ j i).trans (congrArg (biasAt · _ _ _) (slope_read m c t _ ((hs0_0 t).read_unread _) _ _)))
  case piece3 =>
    refine H 4 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 1024 (by omega) _ i e).trans (hq _ e)
    case refine_2 => exact fun j i => (congrFun ((skip_tile _ 14 3 _ _ _ _ (by decide)).trans ((skip_tile _ 13 3 _ _ _ _ (by decide)).trans ((skip_tile _ 12 3 _ _ _ _ (by decide)).trans ((skip_tile _ 11 3 _ _ _ _ (by decide)).trans ((skip_tile _ 10 3 _ _ _ _ (by decide)).trans ((skip_tile _ 9 3 _ _ _ _ (by decide)).trans ((skip_tile _ 8 3 _ _ _ _ (by decide)).trans ((skip_tile _ 7 3 _ _ _ _ (by decide)).trans ((skip_tile _ 6 3 _ _ _ _ (by decide)).trans ((skip_tile _ 5 3 _ _ _ _ (by decide)).trans ((skip_tile _ 4 3 _ _ _ _ (by decide)).trans (hit_tile _ 3 _ _ _ _)))))))))))) _).trans ((tile3_at _ j i).trans (congrArg (biasAt · _ _ _) (slope_read m c t _ ((hs0_0 t).read_unread _) _ _)))
    case refine_3 => exact fun j i => (congrFun ((skip_tile _ 14 4 _ _ _ _ (by decide)).trans ((skip_tile _ 13 4 _ _ _ _ (by decide)).trans ((skip_tile _ 12 4 _ _ _ _ (by decide)).trans ((skip_tile _ 11 4 _ _ _ _ (by decide)).trans ((skip_tile _ 10 4 _ _ _ _ (by decide)).trans ((skip_tile _ 9 4 _ _ _ _ (by decide)).trans ((skip_tile _ 8 4 _ _ _ _ (by decide)).trans ((skip_tile _ 7 4 _ _ _ _ (by decide)).trans ((skip_tile _ 6 4 _ _ _ _ (by decide)).trans ((skip_tile _ 5 4 _ _ _ _ (by decide)).trans (hit_tile _ 4 _ _ _ _))))))))))) _).trans ((tile4_at _ j i).trans (congrArg (biasAt · _ _ _) (slope_read m c t _ ((hs0_0 t).read_unread _) _ _)))
    case refine_4 => exact fun j i => (congrFun ((skip_tile _ 14 5 _ _ _ _ (by decide)).trans ((skip_tile _ 13 5 _ _ _ _ (by decide)).trans ((skip_tile _ 12 5 _ _ _ _ (by decide)).trans ((skip_tile _ 11 5 _ _ _ _ (by decide)).trans ((skip_tile _ 10 5 _ _ _ _ (by decide)).trans ((skip_tile _ 9 5 _ _ _ _ (by decide)).trans ((skip_tile _ 8 5 _ _ _ _ (by decide)).trans ((skip_tile _ 7 5 _ _ _ _ (by decide)).trans ((skip_tile _ 6 5 _ _ _ _ (by decide)).trans (hit_tile _ 5 _ _ _ _)))))))))) _).trans ((tile5_at _ j i).trans (congrArg (biasAt · _ _ _) (slope_read m c t _ ((hs0_0 t).read_unread _) _ _)))
    case refine_5 => exact fun j i => (congrFun ((skip_tile _ 14 6 _ _ _ _ (by decide)).trans ((skip_tile _ 13 6 _ _ _ _ (by decide)).trans ((skip_tile _ 12 6 _ _ _ _ (by decide)).trans ((skip_tile _ 11 6 _ _ _ _ (by decide)).trans ((skip_tile _ 10 6 _ _ _ _ (by decide)).trans ((skip_tile _ 9 6 _ _ _ _ (by decide)).trans ((skip_tile _ 8 6 _ _ _ _ (by decide)).trans ((skip_tile _ 7 6 _ _ _ _ (by decide)).trans (hit_tile _ 6 _ _ _ _))))))))) _).trans ((tile6_at _ j i).trans (congrArg (biasAt · _ _ _) (slope_read m c t _ ((hs0_0 t).read_unread _) _ _)))
    case refine_6 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
    case refine_7 => exact fun j i => (congrFun ((skip_tile _ 14 8 _ _ _ _ (by decide)).trans ((skip_tile _ 13 8 _ _ _ _ (by decide)).trans ((skip_tile _ 12 8 _ _ _ _ (by decide)).trans ((skip_tile _ 11 8 _ _ _ _ (by decide)).trans ((skip_tile _ 10 8 _ _ _ _ (by decide)).trans ((skip_tile _ 9 8 _ _ _ _ (by decide)).trans (hit_tile _ 8 _ _ _ _))))))) _).trans ((tile8_at _ j i).trans (congrArg (biasAt · _ _ _) (slope_read m c t _ ((hs0_0 t).read_unread _) _ _)))
    case refine_8 => exact fun j i => (congrFun ((skip_tile _ 14 9 _ _ _ _ (by decide)).trans ((skip_tile _ 13 9 _ _ _ _ (by decide)).trans ((skip_tile _ 12 9 _ _ _ _ (by decide)).trans ((skip_tile _ 11 9 _ _ _ _ (by decide)).trans ((skip_tile _ 10 9 _ _ _ _ (by decide)).trans (hit_tile _ 9 _ _ _ _)))))) _).trans ((tile9_at _ j i).trans (congrArg (biasAt · _ _ _) (slope_read m c t _ ((hs0_0 t).read_unread _) _ _)))
    case refine_9 => exact fun j i => (congrFun ((skip_tile _ 14 10 _ _ _ _ (by decide)).trans ((skip_tile _ 13 10 _ _ _ _ (by decide)).trans ((skip_tile _ 12 10 _ _ _ _ (by decide)).trans ((skip_tile _ 11 10 _ _ _ _ (by decide)).trans (hit_tile _ 10 _ _ _ _))))) _).trans ((tile10_at _ j i).trans (congrArg (biasAt · _ _ _) (slope_read m c t _ ((hs0_0 t).read_unread _) _ _)))
  case piece4 =>
    refine H 3 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 768 (by omega) _ i e).trans (hq _ e)
    case refine_2 => exact fun j i => (congrFun ((skip_tile _ 14 4 _ _ _ _ (by decide)).trans ((skip_tile _ 13 4 _ _ _ _ (by decide)).trans ((skip_tile _ 12 4 _ _ _ _ (by decide)).trans ((skip_tile _ 11 4 _ _ _ _ (by decide)).trans ((skip_tile _ 10 4 _ _ _ _ (by decide)).trans ((skip_tile _ 9 4 _ _ _ _ (by decide)).trans ((skip_tile _ 8 4 _ _ _ _ (by decide)).trans ((skip_tile _ 7 4 _ _ _ _ (by decide)).trans ((skip_tile _ 6 4 _ _ _ _ (by decide)).trans ((skip_tile _ 5 4 _ _ _ _ (by decide)).trans (hit_tile _ 4 _ _ _ _))))))))))) _).trans ((tile4_at _ j i).trans (congrArg (biasAt · _ _ _) (slope_read m c t _ ((hs0_0 t).read_unread _) _ _)))
    case refine_3 => exact fun j i => (congrFun ((skip_tile _ 14 5 _ _ _ _ (by decide)).trans ((skip_tile _ 13 5 _ _ _ _ (by decide)).trans ((skip_tile _ 12 5 _ _ _ _ (by decide)).trans ((skip_tile _ 11 5 _ _ _ _ (by decide)).trans ((skip_tile _ 10 5 _ _ _ _ (by decide)).trans ((skip_tile _ 9 5 _ _ _ _ (by decide)).trans ((skip_tile _ 8 5 _ _ _ _ (by decide)).trans ((skip_tile _ 7 5 _ _ _ _ (by decide)).trans ((skip_tile _ 6 5 _ _ _ _ (by decide)).trans (hit_tile _ 5 _ _ _ _)))))))))) _).trans ((tile5_at _ j i).trans (congrArg (biasAt · _ _ _) (slope_read m c t _ ((hs0_0 t).read_unread _) _ _)))
    case refine_4 => exact fun j i => (congrFun ((skip_tile _ 14 6 _ _ _ _ (by decide)).trans ((skip_tile _ 13 6 _ _ _ _ (by decide)).trans ((skip_tile _ 12 6 _ _ _ _ (by decide)).trans ((skip_tile _ 11 6 _ _ _ _ (by decide)).trans ((skip_tile _ 10 6 _ _ _ _ (by decide)).trans ((skip_tile _ 9 6 _ _ _ _ (by decide)).trans ((skip_tile _ 8 6 _ _ _ _ (by decide)).trans ((skip_tile _ 7 6 _ _ _ _ (by decide)).trans (hit_tile _ 6 _ _ _ _))))))))) _).trans ((tile6_at _ j i).trans (congrArg (biasAt · _ _ _) (slope_read m c t _ ((hs0_0 t).read_unread _) _ _)))
    case refine_5 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
    case refine_6 => exact fun j i => (congrFun ((skip_tile _ 14 8 _ _ _ _ (by decide)).trans ((skip_tile _ 13 8 _ _ _ _ (by decide)).trans ((skip_tile _ 12 8 _ _ _ _ (by decide)).trans ((skip_tile _ 11 8 _ _ _ _ (by decide)).trans ((skip_tile _ 10 8 _ _ _ _ (by decide)).trans ((skip_tile _ 9 8 _ _ _ _ (by decide)).trans (hit_tile _ 8 _ _ _ _))))))) _).trans ((tile8_at _ j i).trans (congrArg (biasAt · _ _ _) (slope_read m c t _ ((hs0_0 t).read_unread _) _ _)))
    case refine_7 => exact fun j i => (congrFun ((skip_tile _ 14 9 _ _ _ _ (by decide)).trans ((skip_tile _ 13 9 _ _ _ _ (by decide)).trans ((skip_tile _ 12 9 _ _ _ _ (by decide)).trans ((skip_tile _ 11 9 _ _ _ _ (by decide)).trans ((skip_tile _ 10 9 _ _ _ _ (by decide)).trans (hit_tile _ 9 _ _ _ _)))))) _).trans ((tile9_at _ j i).trans (congrArg (biasAt · _ _ _) (slope_read m c t _ ((hs0_0 t).read_unread _) _ _)))
    case refine_8 => exact fun j i => (congrFun ((skip_tile _ 14 10 _ _ _ _ (by decide)).trans ((skip_tile _ 13 10 _ _ _ _ (by decide)).trans ((skip_tile _ 12 10 _ _ _ _ (by decide)).trans ((skip_tile _ 11 10 _ _ _ _ (by decide)).trans (hit_tile _ 10 _ _ _ _))))) _).trans ((tile10_at _ j i).trans (congrArg (biasAt · _ _ _) (slope_read m c t _ ((hs0_0 t).read_unread _) _ _)))
    case refine_9 => exact fun j i => (congrFun ((skip_tile _ 14 11 _ _ _ _ (by decide)).trans ((skip_tile _ 13 11 _ _ _ _ (by decide)).trans ((skip_tile _ 12 11 _ _ _ _ (by decide)).trans (hit_tile _ 11 _ _ _ _)))) _).trans ((tile11_at _ j i).trans (congrArg (biasAt · _ _ _) (slope_read m c t _ ((hs0_0 t).read_unread _) _ _)))
  case piece5 =>
    refine H 2 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 512 (by omega) _ i e).trans (hq _ e)
    case refine_2 => exact fun j i => (congrFun ((skip_tile _ 14 5 _ _ _ _ (by decide)).trans ((skip_tile _ 13 5 _ _ _ _ (by decide)).trans ((skip_tile _ 12 5 _ _ _ _ (by decide)).trans ((skip_tile _ 11 5 _ _ _ _ (by decide)).trans ((skip_tile _ 10 5 _ _ _ _ (by decide)).trans ((skip_tile _ 9 5 _ _ _ _ (by decide)).trans ((skip_tile _ 8 5 _ _ _ _ (by decide)).trans ((skip_tile _ 7 5 _ _ _ _ (by decide)).trans ((skip_tile _ 6 5 _ _ _ _ (by decide)).trans (hit_tile _ 5 _ _ _ _)))))))))) _).trans ((tile5_at _ j i).trans (congrArg (biasAt · _ _ _) (slope_read m c t _ ((hs0_0 t).read_unread _) _ _)))
    case refine_3 => exact fun j i => (congrFun ((skip_tile _ 14 6 _ _ _ _ (by decide)).trans ((skip_tile _ 13 6 _ _ _ _ (by decide)).trans ((skip_tile _ 12 6 _ _ _ _ (by decide)).trans ((skip_tile _ 11 6 _ _ _ _ (by decide)).trans ((skip_tile _ 10 6 _ _ _ _ (by decide)).trans ((skip_tile _ 9 6 _ _ _ _ (by decide)).trans ((skip_tile _ 8 6 _ _ _ _ (by decide)).trans ((skip_tile _ 7 6 _ _ _ _ (by decide)).trans (hit_tile _ 6 _ _ _ _))))))))) _).trans ((tile6_at _ j i).trans (congrArg (biasAt · _ _ _) (slope_read m c t _ ((hs0_0 t).read_unread _) _ _)))
    case refine_4 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
    case refine_5 => exact fun j i => (congrFun ((skip_tile _ 14 8 _ _ _ _ (by decide)).trans ((skip_tile _ 13 8 _ _ _ _ (by decide)).trans ((skip_tile _ 12 8 _ _ _ _ (by decide)).trans ((skip_tile _ 11 8 _ _ _ _ (by decide)).trans ((skip_tile _ 10 8 _ _ _ _ (by decide)).trans ((skip_tile _ 9 8 _ _ _ _ (by decide)).trans (hit_tile _ 8 _ _ _ _))))))) _).trans ((tile8_at _ j i).trans (congrArg (biasAt · _ _ _) (slope_read m c t _ ((hs0_0 t).read_unread _) _ _)))
    case refine_6 => exact fun j i => (congrFun ((skip_tile _ 14 9 _ _ _ _ (by decide)).trans ((skip_tile _ 13 9 _ _ _ _ (by decide)).trans ((skip_tile _ 12 9 _ _ _ _ (by decide)).trans ((skip_tile _ 11 9 _ _ _ _ (by decide)).trans ((skip_tile _ 10 9 _ _ _ _ (by decide)).trans (hit_tile _ 9 _ _ _ _)))))) _).trans ((tile9_at _ j i).trans (congrArg (biasAt · _ _ _) (slope_read m c t _ ((hs0_0 t).read_unread _) _ _)))
    case refine_7 => exact fun j i => (congrFun ((skip_tile _ 14 10 _ _ _ _ (by decide)).trans ((skip_tile _ 13 10 _ _ _ _ (by decide)).trans ((skip_tile _ 12 10 _ _ _ _ (by decide)).trans ((skip_tile _ 11 10 _ _ _ _ (by decide)).trans (hit_tile _ 10 _ _ _ _))))) _).trans ((tile10_at _ j i).trans (congrArg (biasAt · _ _ _) (slope_read m c t _ ((hs0_0 t).read_unread _) _ _)))
    case refine_8 => exact fun j i => (congrFun ((skip_tile _ 14 11 _ _ _ _ (by decide)).trans ((skip_tile _ 13 11 _ _ _ _ (by decide)).trans ((skip_tile _ 12 11 _ _ _ _ (by decide)).trans (hit_tile _ 11 _ _ _ _)))) _).trans ((tile11_at _ j i).trans (congrArg (biasAt · _ _ _) (slope_read m c t _ ((hs0_0 t).read_unread _) _ _)))
    case refine_9 => exact fun j i => (congrFun ((skip_tile _ 14 12 _ _ _ _ (by decide)).trans ((skip_tile _ 13 12 _ _ _ _ (by decide)).trans (hit_tile _ 12 _ _ _ _))) _).trans ((tile12_at _ j i).trans (congrArg (biasAt · _ _ _) (slope_read m c t _ ((hs0_0 t).read_unread _) _ _)))
  case piece6 =>
    refine H 1 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 256 (by omega) _ i e).trans (hq _ e)
    case refine_2 => exact fun j i => (congrFun ((skip_tile _ 14 6 _ _ _ _ (by decide)).trans ((skip_tile _ 13 6 _ _ _ _ (by decide)).trans ((skip_tile _ 12 6 _ _ _ _ (by decide)).trans ((skip_tile _ 11 6 _ _ _ _ (by decide)).trans ((skip_tile _ 10 6 _ _ _ _ (by decide)).trans ((skip_tile _ 9 6 _ _ _ _ (by decide)).trans ((skip_tile _ 8 6 _ _ _ _ (by decide)).trans ((skip_tile _ 7 6 _ _ _ _ (by decide)).trans (hit_tile _ 6 _ _ _ _))))))))) _).trans ((tile6_at _ j i).trans (congrArg (biasAt · _ _ _) (slope_read m c t _ ((hs0_0 t).read_unread _) _ _)))
    case refine_3 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
    case refine_4 => exact fun j i => (congrFun ((skip_tile _ 14 8 _ _ _ _ (by decide)).trans ((skip_tile _ 13 8 _ _ _ _ (by decide)).trans ((skip_tile _ 12 8 _ _ _ _ (by decide)).trans ((skip_tile _ 11 8 _ _ _ _ (by decide)).trans ((skip_tile _ 10 8 _ _ _ _ (by decide)).trans ((skip_tile _ 9 8 _ _ _ _ (by decide)).trans (hit_tile _ 8 _ _ _ _))))))) _).trans ((tile8_at _ j i).trans (congrArg (biasAt · _ _ _) (slope_read m c t _ ((hs0_0 t).read_unread _) _ _)))
    case refine_5 => exact fun j i => (congrFun ((skip_tile _ 14 9 _ _ _ _ (by decide)).trans ((skip_tile _ 13 9 _ _ _ _ (by decide)).trans ((skip_tile _ 12 9 _ _ _ _ (by decide)).trans ((skip_tile _ 11 9 _ _ _ _ (by decide)).trans ((skip_tile _ 10 9 _ _ _ _ (by decide)).trans (hit_tile _ 9 _ _ _ _)))))) _).trans ((tile9_at _ j i).trans (congrArg (biasAt · _ _ _) (slope_read m c t _ ((hs0_0 t).read_unread _) _ _)))
    case refine_6 => exact fun j i => (congrFun ((skip_tile _ 14 10 _ _ _ _ (by decide)).trans ((skip_tile _ 13 10 _ _ _ _ (by decide)).trans ((skip_tile _ 12 10 _ _ _ _ (by decide)).trans ((skip_tile _ 11 10 _ _ _ _ (by decide)).trans (hit_tile _ 10 _ _ _ _))))) _).trans ((tile10_at _ j i).trans (congrArg (biasAt · _ _ _) (slope_read m c t _ ((hs0_0 t).read_unread _) _ _)))
    case refine_7 => exact fun j i => (congrFun ((skip_tile _ 14 11 _ _ _ _ (by decide)).trans ((skip_tile _ 13 11 _ _ _ _ (by decide)).trans ((skip_tile _ 12 11 _ _ _ _ (by decide)).trans (hit_tile _ 11 _ _ _ _)))) _).trans ((tile11_at _ j i).trans (congrArg (biasAt · _ _ _) (slope_read m c t _ ((hs0_0 t).read_unread _) _ _)))
    case refine_8 => exact fun j i => (congrFun ((skip_tile _ 14 12 _ _ _ _ (by decide)).trans ((skip_tile _ 13 12 _ _ _ _ (by decide)).trans (hit_tile _ 12 _ _ _ _))) _).trans ((tile12_at _ j i).trans (congrArg (biasAt · _ _ _) (slope_read m c t _ ((hs0_0 t).read_unread _) _ _)))
    case refine_9 => exact fun j i => (congrFun ((skip_tile _ 14 13 _ _ _ _ (by decide)).trans (hit_tile _ 13 _ _ _ _)) _).trans ((tile13_at _ j i).trans (congrArg (biasAt · _ _ _) (slope_read m c t _ ((hs0_0 t).read_unread _) _ _)))
  case piece7 =>
    simp only [k0_pay23, k0_pay24, k0_pay25, k0_pay26]
    refine H 0 (by omega) σ lamR Q K V g' _ _ hs x y x0_lt (by omega) (by omega) (k0_off2 (grid0.coords t)) _ _ _ _ _ _ _ _ _ _ _ _ _ _ _ (off2_eq t)
      (scalar_at m c t 5 (by omega) _ _) hl hg ?_ hk ?_ ?_ ?_ ?_ ?_ ?_ ?_ ?_ hv ho
    case refine_1 => exact fun i e => (queries_read t _ _ ((hs0_3 t).read_unread _) 0 (by omega) _ i e).trans (hq _ e)
    case refine_2 => exact fun j i => (congrFun ((skip_tile _ 14 7 _ _ _ _ (by decide)).trans ((skip_tile _ 13 7 _ _ _ _ (by decide)).trans ((skip_tile _ 12 7 _ _ _ _ (by decide)).trans ((skip_tile _ 11 7 _ _ _ _ (by decide)).trans ((skip_tile _ 10 7 _ _ _ _ (by decide)).trans ((skip_tile _ 9 7 _ _ _ _ (by decide)).trans ((skip_tile _ 8 7 _ _ _ _ (by decide)).trans (hit_tile _ 7 _ _ _ _)))))))) _).trans ((tile7_at _ j i).trans (congrArg (biasAt · _ _ _) (slope_read m c t _ ((hs0_0 t).read_unread _) _ _)))
    case refine_3 => exact fun j i => (congrFun ((skip_tile _ 14 8 _ _ _ _ (by decide)).trans ((skip_tile _ 13 8 _ _ _ _ (by decide)).trans ((skip_tile _ 12 8 _ _ _ _ (by decide)).trans ((skip_tile _ 11 8 _ _ _ _ (by decide)).trans ((skip_tile _ 10 8 _ _ _ _ (by decide)).trans ((skip_tile _ 9 8 _ _ _ _ (by decide)).trans (hit_tile _ 8 _ _ _ _))))))) _).trans ((tile8_at _ j i).trans (congrArg (biasAt · _ _ _) (slope_read m c t _ ((hs0_0 t).read_unread _) _ _)))
    case refine_4 => exact fun j i => (congrFun ((skip_tile _ 14 9 _ _ _ _ (by decide)).trans ((skip_tile _ 13 9 _ _ _ _ (by decide)).trans ((skip_tile _ 12 9 _ _ _ _ (by decide)).trans ((skip_tile _ 11 9 _ _ _ _ (by decide)).trans ((skip_tile _ 10 9 _ _ _ _ (by decide)).trans (hit_tile _ 9 _ _ _ _)))))) _).trans ((tile9_at _ j i).trans (congrArg (biasAt · _ _ _) (slope_read m c t _ ((hs0_0 t).read_unread _) _ _)))
    case refine_5 => exact fun j i => (congrFun ((skip_tile _ 14 10 _ _ _ _ (by decide)).trans ((skip_tile _ 13 10 _ _ _ _ (by decide)).trans ((skip_tile _ 12 10 _ _ _ _ (by decide)).trans ((skip_tile _ 11 10 _ _ _ _ (by decide)).trans (hit_tile _ 10 _ _ _ _))))) _).trans ((tile10_at _ j i).trans (congrArg (biasAt · _ _ _) (slope_read m c t _ ((hs0_0 t).read_unread _) _ _)))
    case refine_6 => exact fun j i => (congrFun ((skip_tile _ 14 11 _ _ _ _ (by decide)).trans ((skip_tile _ 13 11 _ _ _ _ (by decide)).trans ((skip_tile _ 12 11 _ _ _ _ (by decide)).trans (hit_tile _ 11 _ _ _ _)))) _).trans ((tile11_at _ j i).trans (congrArg (biasAt · _ _ _) (slope_read m c t _ ((hs0_0 t).read_unread _) _ _)))
    case refine_7 => exact fun j i => (congrFun ((skip_tile _ 14 12 _ _ _ _ (by decide)).trans ((skip_tile _ 13 12 _ _ _ _ (by decide)).trans (hit_tile _ 12 _ _ _ _))) _).trans ((tile12_at _ j i).trans (congrArg (biasAt · _ _ _) (slope_read m c t _ ((hs0_0 t).read_unread _) _ _)))
    case refine_8 => exact fun j i => (congrFun ((skip_tile _ 14 13 _ _ _ _ (by decide)).trans (hit_tile _ 13 _ _ _ _)) _).trans ((tile13_at _ j i).trans (congrArg (biasAt · _ _ _) (slope_read m c t _ ((hs0_0 t).read_unread _) _ _)))
    case refine_9 => exact fun j i => (congrFun (hit_tile _ 14 _ _ _ _) _).trans ((tile14_at _ j i).trans (congrArg (biasAt · _ _ _) (slope_read m c t _ ((hs0_0 t).read_unread _) _ _)))

theorem point (y : S1x2048x128.Idx) : (outsAt0 m c t.val t.isLt).1 y = outAt Q K V σ lamR g' (Ideal.ofBits .f32 (lit0 5)) (y 1) (y 2) := by
  by_cases h : t.val % 8 = 0
  · exact point_A m c t σ lamR Q K V g' hs hlam hg hq hk hv ho h y
  · exact point_B m c t σ lamR Q K V g' hs hlam hg hq hk hv ho h y

end Point

end Cert.Proof.DiffAttn
-- ==== Proof.DiffAttnEquation.lean ====
/-
  The differential attention of all heads: the kernel's result as a function of the arguments, where the projections and
  the vectors of λ are finite.
-/
module

public import proofs.«01_k».proof.Proof.DiffAttnPieces
public import proofs.«01_k».proof.Proof.BoundaryRow

@[expose] public section

set_option maxRecDepth 16384

noncomputable section

namespace Cert.Proof.DiffAttn

open Idealize.ShloMosaic Idealize.ShloMosaic.TcCoe
open Idealize.ShloMosaic (ix1 ix2 ix3)
open Cert.Proof.Boundary (refScaled refValues refScaled_at refValues_at qScale scaledAt valuesAt scaledAt_pos scaledAt_neg valuesAt_pos valuesAt_one valueCol)
open Cert.DiffAttnIdeal Cert.DiffAttnIdeal.Gen

/-- The slope of a head's distance bias. -/
def sigma (h : Fin 4) : ℝ := ![1 / 4, 1 / 16, 1 / 64, 1 / 256] h

/-- λ, from the four vectors. -/
def lamAt (a b d e : Fin 64 → ℝ) : ℝ := Real.exp (∑ x, a x * b x) - Real.exp (∑ x, d x * e x) + 13421773 / 67108864

/-- The queries (`o = 0`), keys (`o = 1`) or values (`o = 2`) of a head. -/
def colsOf (X : Fin 8 → Fin 2048 → Fin 4096 → ℝ) (o : Fin 3) (b : Fin 8) (h : Fin 4) (p : Fin 2048) (e : Fin 128) : ℝ :=
  X b p ⟨o.val * 512 + h.val * 128 + e.val, by omega⟩

/-- The attention of a head at one query and entry. -/
def headAt (X : Fin 8 → Fin 2048 → Fin 4096 → ℝ) (lam : ℝ) (g : Fin 128 → EReal) (b : Fin 8) (h : Fin 4) (p : Fin 2048) (d : Fin 128) : EReal :=
  outAt (colsOf X 0 b h) (colsOf X 1 b h) (colsOf X 2 b h) (sigma h) lam g (Ideal.ofBits .f32 0x3F4CCCCD#32) p d

theorem head_lt (i : S8x2048x512.Idx) : (i 2).val < 512 := (i 2).isLt

/-- The attention of every head, side by side. -/
def attended (X : Fin 8 → Fin 2048 → Fin 4096 → ℝ) (lam : ℝ) (g : Fin 128 → EReal) : FVec Ideal S8x2048x512 .bf16 := fun i =>
  headAt X lam g (i 0) ⟨(i 2).val / 128, by have := head_lt i; omega⟩ (i 1) ⟨(i 2).val % 128, by omega⟩

theorem slope_bits (h : Fin 4) : Ideal.ofBits .f32 (![0x3E800000#32, 0x3D800000#32, 0x3C800000#32, 0x3B800000#32] h) = (sigma h : EReal) := by
  fin_cases h
  · show Ideal.ofBits .f32 0x3E800000#32 = ((1 / 4 : ℝ) : EReal)
    simp [Ideal.ofBits, Ideal.ieee, -EReal.coe_mul]; norm_num
  · show Ideal.ofBits .f32 0x3D800000#32 = ((1 / 16 : ℝ) : EReal)
    simp [Ideal.ofBits, Ideal.ieee, -EReal.coe_mul]; norm_num
  · show Ideal.ofBits .f32 0x3C800000#32 = ((1 / 64 : ℝ) : EReal)
    simp [Ideal.ofBits, Ideal.ieee, -EReal.coe_mul]; norm_num
  · show Ideal.ofBits .f32 0x3B800000#32 = ((1 / 256 : ℝ) : EReal)
    simp [Ideal.ofBits, Ideal.ieee, -EReal.coe_mul]; norm_num

theorem slope_real (h : Fin 4) : slope h.val = ((sigma h * (Real.log 2)⁻¹ : ℝ) : EReal) := by
  unfold slope
  rw [EReal.coe_mul, ← slope_bits h]
  congr 2
  fin_cases h <;> rfl

theorem ofBits_lam : Ideal.ofBits .f32 0x3E4CCCCD#32 = ((13421773 / 67108864 : ℝ) : EReal) := by
  simp [Ideal.ofBits, Ideal.ieee, -EReal.coe_mul]; norm_num

theorem lam_real (w : Fin 4 → Fin 64 → EReal) (a b d e : Fin 64 → ℝ) (ha : ∀ x, w 0 x = (a x : EReal)) (hb : ∀ x, w 1 x = (b x : EReal))
    (hd : ∀ x, w 2 x = (d x : EReal)) (he : ∀ x, w 3 x = (e x : EReal)) :
    Ideal.exp (∑ x, w 0 x * w 1 x) - Ideal.exp (∑ x, w 2 x * w 3 x) + Ideal.ofBits .f32 0x3E4CCCCD#32 = (lamAt a b d e : EReal) := by
  simp only [ha, hb, hd, he, ofBits_lam, ← EReal.coe_mul]
  rw [sum_real _ _ (fun x => a x * b x) fun _ => rfl, sum_real _ _ (fun x => d x * e x) fun _ => rfl, Ideal.exp_coe, Ideal.exp_coe]
  rw [← EReal.coe_sub, ← EReal.coe_add]
  rfl

theorem pay21_at (lamv : Vec Ideal S4x64 .f32) :
    k0_pay21 (F := Ideal) (Ideal.ofBits .f32 (lit0 4)) lamv (ix2 0 0)
      = Ideal.exp (∑ x : Fin 64, lamv (ix2 0 x) * lamv (ix2 1 x)) - Ideal.exp (∑ x : Fin 64, lamv (ix2 2 x) * lamv (ix2 3 x)) + Ideal.ofBits .f32 (lit0 4) := by
  pointwise [k0_pay21]

theorem pay22_at (g : Vec Ideal S128x1 .f32) (d : Fin 128) : k0_pay22 (F := Ideal) g (ix2 d 0) = g (ix2 d 0) := by
  pointwise [k0_pay22]

theorem idx : ∀ t : Fin cfg0.N, win0_1.index t = ![0, 0] ∧ win0_2.index t = ![0, 0] ∧ win0_3.index t = ![t.val % 8, 0, t.val / 8]
    ∧ win0_4.index t = ![t.val % 8, 0, 4 + t.val / 8] ∧ win0_5.index t = ![t.val / 8, t.val % 8] ∧ win0_6.index t = ![t.val % 8, 0, t.val / 8] :=
  (by decide +kernel : ∀ t : Fin grid0.N, _)

variable (m : (ℓ : Loc nD τ sig) → Buf (Elt Ideal) ℓ) (c : Dev nD)

/-- The projections, with the batches one under another. -/
abbrev rows : S16384x4096.Idx → EReal := shapeCast S16384x4096 (m ((c : Thread nD τ).loc main_arg0)) shapeCasts_S8x2048x4096_S16384x4096

theorem rows_at (X : S8x2048x4096.Idx → EReal) (b : Fin 8) (p : Fin 2048) (e : Fin 4096) :
    shapeCast S16384x4096 X shapeCasts_S8x2048x4096_S16384x4096 (ix2 ⟨b.val * 2048 + p.val, by omega⟩ e) = X (ix3 b p e) := by
  pointwise

theorem split_at (X : S16384x4096.Idx → EReal) (b : Fin 8) (p : Fin 2048) (e : Fin 4096) :
    shapeCast S8x2048x4096 X shapeCasts_S16384x4096_S8x2048x4096 (ix3 b p e) = X (ix2 ⟨b.val * 2048 + p.val, by omega⟩ e) := by
  pointwise

theorem entry_z : V m c main_v36 = shapeCast S8x2048x4096 (refScaled (rows m c)) shapeCasts_S16384x4096_S8x2048x4096 := by
  simp only [V, hostOps0, List.flatten_cons, List.flatten_nil, List.append_nil, List.cons_append, List.nil_append]
  after_results_simp
  rfl

theorem entry_vt : V m c main_v22 = refValues (rows m c) := by
  simp only [V, hostOps0, List.flatten_cons, List.flatten_nil, List.append_nil, List.cons_append, List.nil_append]
  after_results_simp
  unfold refValues
  refine congrArg₂ (fun (a : S8x128x16384.Idx → EReal) (b : S8x16x16384.Idx → EReal) => shapeCast S1152x16384 (concatenate S8x144x16384 1
    [⟨S8x128x16384, a⟩, ⟨S8x16x16384, b⟩] concatenates_S8x128x16384_S8x16x16384_S8x144x16384_d1) shapeCasts_S8x144x16384_S1152x16384) ?_ ?_
  · after_results_simp
    refine congrArg₂ (fun (a b : S16384x512.Idx → EReal) => shapeCast S8x128x16384 (transpose S1024x16384 [1, 0] (truncf (F := Ideal) (φ := .f32) .bf16
      (concatenate S16384x1024 1 [⟨S16384x512, a⟩, ⟨S16384x512, b⟩] concatenates_S16384x512_S16384x512_S16384x1024_d1) bitsLt_bf16_f32)
      transposes_S16384x1024_S1024x16384_1_0) shapeCasts_S1024x16384_S8x128x16384) ?_ ?_
    · after_results_simp
      rfl
    · after_results_simp
      rfl
  · after_results_simp

/-- A vector of λ, as a row. -/
def vecRow (W : S4x64.Idx → EReal) : S1x64.Idx → EReal :=
  broadcastInDim S1x64 ![1] bcast_S64_S1x64_1 (shapeCast S64 (extractStridedSlice S1x64 ![0, 0] W slices_S4x64_S1x64_0_0) shapeCasts_S1x64_S64)

/-- The four vectors of λ, one under another. -/
def stacked (a b d e : S1x64.Idx → EReal) : S4x64.Idx → EReal :=
  concatenate S4x64 0 [⟨S1x64, a⟩, ⟨S1x64, b⟩, ⟨S1x64, d⟩, ⟨S1x64, e⟩] concatenates_S1x64_S1x64_S1x64_S1x64_S4x64_d0

theorem stacked_congr {a b d e a' b' d' e' : S1x64.Idx → EReal} (ha : a = a') (hb : b = b') (hd : d = d') (he : e = e') :
    stacked a b d e = stacked a' b' d' e' := by
  subst ha hb hd he
  rfl

theorem stacked_at (a b d e : S1x64.Idx → EReal) (k : Fin 4) (x : Fin 64) : stacked a b d e (ix2 k x) = (![a, b, d, e] k) (ix2 0 x) := by
  fin_cases k <;> pointwise [stacked]

theorem vecRow_at (W : S4x64.Idx → EReal) (x : Fin 64) : vecRow W (ix2 0 x) = W (ix2 0 x) := by
  pointwise [vecRow]

theorem entry_lam : V m c main_v35 = stacked (vecRow (m ((c : Thread nD τ).loc main_arg1))) (vecRow (m ((c : Thread nD τ).loc main_arg2)))
    (vecRow (m ((c : Thread nD τ).loc main_arg3))) (vecRow (m ((c : Thread nD τ).loc main_arg4))) := by
  simp only [V, hostOps0, List.flatten_cons, List.flatten_nil, List.append_nil, List.cons_append, List.nil_append]
  after_results_simp
  refine stacked_congr ?_ ?_ ?_ ?_ <;> (try after_results_simp) <;> rfl

theorem entry_g : V m c main_v39 = shapeCast S128x1 (shapeCast S128 (extractStridedSlice S1x128 ![0, 0] (m ((c : Thread nD τ).loc main_arg5)) slices_S4x128_S1x128_0_0)
    shapeCasts_S1x128_S128) shapeCasts_S128_S128x1 := by
  simp only [V, hostOps0, List.flatten_cons, List.flatten_nil, List.append_nil, List.cons_append, List.nil_append]
  after_results_simp
  rfl

theorem column_at (G : S4x128.Idx → EReal) (d : Fin 128) :
    shapeCast S128x1 (shapeCast S128 (extractStridedSlice S1x128 ![0, 0] G slices_S4x128_S1x128_0_0) shapeCasts_S1x128_S128) shapeCasts_S128_S128x1 (ix2 d 0)
      = G (ix2 0 d) := by
  pointwise

/-- The vectors of λ as a point of the grid takes them. -/
theorem block_lam (t : Fin cfg0.N) (k : Fin 4) (x : Fin 64) : (iblk m c 1 t : S4x64.Idx → EReal) (ix2 k x)
    = (![vecRow (m ((c : Thread nD τ).loc main_arg1)), vecRow (m ((c : Thread nD τ).loc main_arg2)),
    vecRow (m ((c : Thread nD τ).loc main_arg3)), vecRow (m ((c : Thread nD τ).loc main_arg4))] k) (ix2 0 x) := by
  show (V m c main_v35 : S4x64.Idx → EReal) (((cfg0.win 1).blk t).view.emb (ix2 k x)) = _
  have e : ((cfg0.win 1).blk t).view.emb (ix2 k x) = (ix2 k x : S4x64.Idx) := by blk_ext [idx t]
  rw [e]
  exact (congrFun (entry_lam m c) _).trans (stacked_at _ _ _ _ k x)

theorem block_g (t : Fin cfg0.N) (d : Fin 128) : (iblk m c 2 t : S128x1.Idx → EReal) (ix2 d 0)
    = (m ((c : Thread nD τ).loc main_arg5) : S4x128.Idx → EReal) (ix2 0 d) := by
  show (V m c main_v39 : S128x1.Idx → EReal) (((cfg0.win 2).blk t).view.emb (ix2 d 0)) = _
  have e : ((cfg0.win 2).blk t).view.emb (ix2 d 0) = (ix2 d 0 : S128x1.Idx) := by blk_ext [idx t]
  rw [e]
  exact (congrFun (entry_g m c) _).trans (column_at _ d)

/-- A row of the projections. -/
def zrow (b : Fin 8) (p : Fin 2048) : Fin 4096 → EReal := fun k => (m ((c : Thread nD τ).loc main_arg0) : S8x2048x4096.Idx → EReal) (ix3 b p k)

theorem scaled_at (b : Fin 8) (p : Fin 2048) (e : Fin 4096) :
    shapeCast S8x2048x4096 (refScaled (rows m c)) shapeCasts_S16384x4096_S8x2048x4096 (ix3 b p e) = scaledAt (zrow m c b p) e :=
  (split_at _ b p e).trans ((refScaled_at _ _ e).trans (congrArg (fun f => scaledAt f e) (funext fun k => rows_at _ b p k)))

theorem point_lt (t : Fin cfg0.N) : t.val < 32 := t.isLt

theorem read3_at (t : Fin cfg0.N) (W : Buf (Elt Ideal) ((c : Thread nD τ).loc (Pipeline.arrRef spec0 3))) (A : S8x2048x4096.Idx → EReal) (hW : W = A)
    (p : Fin 2048) (x : Fin 128) (j : S8x2048x4096.Idx) (e : ((cfg0.win 3).blk t).view.emb (ix3 0 p x) = j) :
    (((cfg0.win 3).blk t).view.read (Elt Ideal) W : S1x2048x128.Idx → EReal) (ix3 0 p x) = A j := by
  subst hW e
  rfl

theorem entry3 : (V m c (Pipeline.arrRef spec0 3) : S8x2048x4096.Idx → EReal) = shapeCast S8x2048x4096 (refScaled (rows m c)) shapeCasts_S16384x4096_S8x2048x4096 := entry_z m c

theorem block_q (t : Fin cfg0.N) (b : Fin 8) (h : Fin 4) (hb : b.val = t.val % 8) (hh : h.val = t.val / 8) (p : Fin 2048) (e : Fin 128) (col : Fin 4096)
    (hc : col.val = t.val / 8 * 128 + e.val) :
    (iblk m c 3 t : S1x2048x128.Idx → EReal) (ix3 0 p e) = zrow m c b p col * qScale := by
  have ht := point_lt t
  have hq : col.val < 512 := by omega
  have he : ((cfg0.win 3).blk t).view.emb (ix3 0 p e) = (ix3 b p col : S8x2048x4096.Idx) := by blk_ext [idx t]
  exact (read3_at c t _ _ (entry3 m c) p e _ he).trans ((scaled_at m c b p col).trans (scaledAt_pos (zrow m c b p) col (Or.inl hq)))

theorem read4_at (t : Fin cfg0.N) (W : Buf (Elt Ideal) ((c : Thread nD τ).loc (Pipeline.arrRef spec0 4))) (A : S8x2048x4096.Idx → EReal) (hW : W = A)
    (p : Fin 2048) (x : Fin 128) (j : S8x2048x4096.Idx) (e : ((cfg0.win 4).blk t).view.emb (ix3 0 p x) = j) :
    (((cfg0.win 4).blk t).view.read (Elt Ideal) W : S1x2048x128.Idx → EReal) (ix3 0 p x) = A j := by
  subst hW e
  rfl

theorem entry4 : (V m c (Pipeline.arrRef spec0 4) : S8x2048x4096.Idx → EReal) = shapeCast S8x2048x4096 (refScaled (rows m c)) shapeCasts_S16384x4096_S8x2048x4096 := entry_z m c

theorem block_k (t : Fin cfg0.N) (b : Fin 8) (h : Fin 4) (hb : b.val = t.val % 8) (hh : h.val = t.val / 8) (p : Fin 2048) (e : Fin 128) (col : Fin 4096)
    (hc : col.val = (4 + t.val / 8) * 128 + e.val) :
    (iblk m c 4 t : S1x2048x128.Idx → EReal) (ix3 0 p e) = zrow m c b p col := by
  have ht := point_lt t
  have hq : ¬(col.val < 512 ∨ (1536 ≤ col.val ∧ col.val < 2048)) := by omega
  have he : ((cfg0.win 4).blk t).view.emb (ix3 0 p e) = (ix3 b p col : S8x2048x4096.Idx) := by blk_ext [idx t]
  exact (read4_at c t _ _ (entry4 m c) p e _ he).trans ((scaled_at m c b p col).trans (scaledAt_neg (zrow m c b p) col hq))

theorem block_row (t : Fin cfg0.N) (b : Fin 8) (h : Fin 4) (hb : b.val = t.val % 8) (hh : h.val = t.val / 8) (a : Fin 144) (j : Fin 2048) :
    (iblk m c 5 t : S144x2048.Idx → EReal) (ix2 a j)
      = valuesAt (zrow m c b j) ⟨h.val * 144 + a.val, by omega⟩ := by
  show (V m c main_v22 : S1152x16384.Idx → EReal) (((cfg0.win 5).blk t).view.emb (ix2 a j)) = _
  have e : ((cfg0.win 5).blk t).view.emb (ix2 a j) = (ix2 ⟨h.val * 144 + a.val, by omega⟩ ⟨b.val * 2048 + j.val, by omega⟩ : S1152x16384.Idx) := by blk_ext [idx t]
  rw [e]
  exact (congrFun (entry_vt m c) _).trans ((refValues_at _ _ _).trans (congrArg (fun f => valuesAt f _) (funext fun k => rows_at _ b j k)))

theorem block_v (t : Fin cfg0.N) (b : Fin 8) (h : Fin 4) (hb : b.val = t.val % 8) (hh : h.val = t.val / 8) (d : Fin 128) (j : Fin 2048) :
    (iblk m c 5 t : S144x2048.Idx → EReal) (ix2 (valueRow d) j)
      = zrow m c b j (⟨2 * 512 + h.val * 128 + d.val, by omega⟩ : Fin 4096) :=
  (block_row m c t b h hb hh _ j).trans (valuesAt_pos (zrow m c b j) _ _ (by dsimp only [valueRow]; omega) (by dsimp only [valueCol, valueRow]; split <;> omega))

theorem block_one (t : Fin cfg0.N) (b : Fin 8) (h : Fin 4) (hb : b.val = t.val % 8) (hh : h.val = t.val / 8) (j : Fin 2048) :
    (iblk m c 5 t : S144x2048.Idx → EReal) (ix2 128 j) = (1 : EReal) :=
  (block_row m c t b h hb hh 128 j).trans (valuesAt_one (zrow m c b j) _ (by show ¬(h.val * 144 + 128) % 144 < 128; omega))

section Final

variable (X : Fin 8 → Fin 2048 → Fin 4096 → ℝ) (l1 l2 l3 l4 : Fin 64 → ℝ)
  (hX : ∀ b p (e : Fin 4096), e.val < 1536 → zrow m c b p e = ((X b p e : ℝ) : EReal))
  (h1 : ∀ x, (m ((c : Thread nD τ).loc main_arg1) : S4x64.Idx → EReal) (ix2 0 x) = ((l1 x : ℝ) : EReal))
  (h2 : ∀ x, (m ((c : Thread nD τ).loc main_arg2) : S4x64.Idx → EReal) (ix2 0 x) = ((l2 x : ℝ) : EReal))
  (h3 : ∀ x, (m ((c : Thread nD τ).loc main_arg3) : S4x64.Idx → EReal) (ix2 0 x) = ((l3 x : ℝ) : EReal))
  (h4 : ∀ x, (m ((c : Thread nD τ).loc main_arg4) : S4x64.Idx → EReal) (ix2 0 x) = ((l4 x : ℝ) : EReal))

include hX h1 h2 h3 h4

theorem point_head (t : Fin cfg0.N) (b : Fin 8) (h : Fin 4) (hb : b.val = t.val % 8) (hh : h.val = t.val / 8) (y : S1x2048x128.Idx) :
    (outsAt0 m c t.val t.isLt).1 y
      = headAt X (lamAt l1 l2 l3 l4) (fun d => (m ((c : Thread nD τ).loc main_arg5) : S4x128.Idx → EReal) (ix2 0 d)) b h (y 1) (y 2) := by
  have hl : k0_pay21 (F := Ideal) (Ideal.ofBits .f32 (lit0 4)) (iblk m c 1 t) (ix2 0 0) = ((lamAt l1 l2 l3 l4 : ℝ) : EReal) :=
    (pay21_at _).trans (lam_real (fun k x => (iblk m c 1 t : S4x64.Idx → EReal) (ix2 k x)) l1 l2 l3 l4
      (fun x => (block_lam m c t 0 x).trans ((vecRow_at _ x).trans (h1 x))) (fun x => (block_lam m c t 1 x).trans ((vecRow_at _ x).trans (h2 x)))
      (fun x => (block_lam m c t 2 x).trans ((vecRow_at _ x).trans (h3 x))) (fun x => (block_lam m c t 3 x).trans ((vecRow_at _ x).trans (h4 x))))
  exact point m c t (sigma h) (lamAt l1 l2 l3 l4) (colsOf X 0 b h) (colsOf X 1 b h) (colsOf X 2 b h) _
    ((congrArg slope hh.symm).trans (slope_real h)) hl (fun d => (pay22_at _ d).trans (block_g m c t d))
    (fun p e => (block_q m c t b h hb hh p e ⟨0 * 512 + h.val * 128 + e.val, by omega⟩ (by show 0 * 512 + h.val * 128 + e.val = _; omega)).trans
      ((congrArg (· * qScale) (hX _ _ _ (by show 0 * 512 + h.val * 128 + e.val < _; omega))).trans (EReal.coe_mul _ _).symm))
    (fun p e => (block_k m c t b h hb hh p e ⟨1 * 512 + h.val * 128 + e.val, by omega⟩ (by show 1 * 512 + h.val * 128 + e.val = _; omega)).trans (hX _ _ _ (by show 1 * 512 + h.val * 128 + e.val < _; omega)))
    (fun j d => (block_v m c t b h hb hh d j).trans (hX _ _ _ (by show 2 * 512 + h.val * 128 + d.val < _; omega)))
    (fun j => block_one m c t b h hb hh j) y

theorem final6 : (dats m 0 c).arrAt 6 (cfgs 0).N
    = attended X (lamAt l1 l2 l3 l4) (fun d => (m ((c : Thread nD τ).loc main_arg5) : S4x128.Idx → EReal) (ix2 0 d)) := by
  refine (dats m 0 c).arrAt_eq_of_covers 6 _ (by decide +kernel) fun t _ y => ?_
  blk_simp
  rw [after0_6]
  have ht := point_lt t
  have hy : (y 2).val < 128 := (y 2).isLt
  refine (point_head m c X l1 l2 l3 l4 hX h1 h2 h3 h4 t ⟨t.val % 8, by omega⟩ ⟨t.val / 8, by omega⟩ rfl rfl y).trans ?_
  have e : ((cfg0.win 6).blk t).view.emb y = (ix3 ⟨t.val % 8, by omega⟩ (y 1) ⟨t.val / 8 * 128 + (y 2).val, by omega⟩ : S8x2048x512.Idx) := by blk_ext [idx t]
  refine Eq.trans ?_ (congrArg _ e.symm)
  unfold attended
  congr 1
  · exact Fin.ext (by show t.val / 8 = (t.val / 8 * 128 + (y 2).val) / 128; omega)
  · exact Fin.ext (by show (y 2).val = (t.val / 8 * 128 + (y 2).val) % 128; omega)

end Final

end Cert.Proof.DiffAttn
-- ==== Proof.DiffAttnReference.lean ====
/-
  The reference's attention at an index: softmax of the scores less the bias, the difference of two softmaxes over the
  values, normed.
-/
module

public import proofs.«01_k».proof.Proof.DiffAttnEquation
public import proofs.«01_k».proof.Proof.Gen.DiffAttnReferenceIdeal.Run

@[expose] public section

set_option maxRecDepth 16384

noncomputable section

namespace Cert.Proof.DiffAttn

open Idealize.ShloMosaic Idealize.ShloMosaic.TcCoe
open Idealize.ShloMosaic (ix1 ix2 ix3 ix4 ix5)
open Cert.DiffAttnReferenceIdeal Cert.DiffAttnReferenceIdeal.Gen Cert.DiffAttnReferenceIdeal.Value

/-- The reference's scores, less the bias. -/
def refScores (X : FVec Ideal S8x2048x4096 .f32) : FVec Ideal S8x4x2x2048x2048 .f32 :=
  subf (mulf (Host.dotGeneral dot_S8x2048x4x2x64_S8x2048x4x2x64_S8x4x2x2048x2048_4_4_1_1_023_023 none (shapeCast _ (extractStridedSlice S8x2048x512 ![0, 0, 0] (extractStridedSlice S8x2048x1536 ![0, 0, 0] X slices_S8x2048x4096_S8x2048x1536_0_0_0) slices_S8x2048x1536_S8x2048x512_0_0_0) shapeCasts_S8x2048x512_S8x2048x4x2x64) (shapeCast _ (extractStridedSlice S8x2048x512 ![0, 0, 512] (extractStridedSlice S8x2048x1536 ![0, 0, 0] X slices_S8x2048x4096_S8x2048x1536_0_0_0) slices_S8x2048x1536_S8x2048x512_0_0_512) shapeCasts_S8x2048x512_S8x2048x4x2x64)) (broadcastInDim S8x4x2x2048x2048 ![] bcast_S_S8x4x2x2048x2048 (constant S_ .f32 0x3E000000#32))) (broadcastInDim S8x4x2x2048x2048 ![0, 1, 2, 3, 4] bcast_S1x4x1x2048x2048_S8x4x2x2048x2048_0_1_2_3_4 (mulf (broadcastInDim S1x4x1x2048x2048 ![0, 1, 2, 3, 4] bcast_S1x4x1x1x1_S1x4x1x2048x2048_0_1_2_3_4 (broadcastInDim S1x4x1x1x1 ![1] bcast_S4_S1x4x1x1x1_1 ((fun i => FloatOps.ofBits .f32 (lit0 (S4.rowMajor i)))))) (broadcastInDim S1x4x1x2048x2048 ![0, 1, 2, 3, 4] bcast_S1x1x1x2048x2048_S1x4x1x2048x2048_0_1_2_3_4 (broadcastInDim S1x1x1x2048x2048 ![3, 4] bcast_S2048x2048_S1x1x1x2048x2048_3_4 (sitofp .f32 (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))))))))

/-- The greatest score of every row. -/
def refMax (S : FVec Ideal S8x4x2x2048x2048 .f32) : FVec Ideal S8x4x2x2048 .f32 :=
  maximumf (broadcastInDim S8x4x2x2048 ![] bcast_S_S8x4x2x2048 (constant S_ .f32 0xFF800000#32)) (Host.reduce FloatOps.maximumf S (constant S_ .f32 0xFF800000#32) reducesTo_S8x4x2x2048x2048_S8x4x2x2048_d4 h_S_)

/-- The exponentials of the scores less the greatest. -/
def refExp (S : FVec Ideal S8x4x2x2048x2048 .f32) : FVec Ideal S8x4x2x2048x2048 .f32 :=
  Host.exp (subf S (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (refMax S))))

/-- The reference's softmax. -/
def refSoft (S : FVec Ideal S8x4x2x2048x2048 .f32) : FVec Ideal S8x4x2x2048x2048 .f32 :=
  Host.divf (refExp S) (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (Host.reduceAdd (refExp S) (constant S_ .f32 0x00000000#32) reducesTo_S8x4x2x2048x2048_S8x4x2x2048_d4 h_S_)))

/-- The reference's difference of the two softmaxes, over the values. -/
def refDiff (X : FVec Ideal S8x2048x4096 .f32) (P : FVec Ideal S8x4x2x2048x2048 .f32) (l1 l2 l3 l4 : FVec Ideal S4x64 .f32) : FVec Ideal S8x2048x4x128 .f32 :=
  transpose S8x2048x4x128 [0, 3, 1, 2] (Host.dotGeneral dot_S8x2048x4x128_S8x4x2048x2048_S8x4x128x2048_1_3_3_2_02_01 none (shapeCast _ (extractStridedSlice S8x2048x512 ![0, 0, 1024] (extractStridedSlice S8x2048x1536 ![0, 0, 0] X slices_S8x2048x4096_S8x2048x1536_0_0_0) slices_S8x2048x1536_S8x2048x512_0_0_1024) shapeCasts_S8x2048x512_S8x2048x4x128) (subf (shapeCast _ (extractStridedSlice S8x4x1x2048x2048 ![0, 0, 0, 0, 0] P slices_S8x4x2x2048x2048_S8x4x1x2048x2048_0_0_0_0_0) shapeCasts_S8x4x1x2048x2048_S8x4x2048x2048) (mulf (broadcastInDim S8x4x2048x2048 ![] bcast_S_S8x4x2048x2048 (addf (subf (Host.exp (Host.reduceAdd (mulf (shapeCast _ (extractStridedSlice S1x64 ![0, 0] l1 slices_S4x64_S1x64_0_0) shapeCasts_S1x64_S64) (shapeCast _ (extractStridedSlice S1x64 ![0, 0] l2 slices_S4x64_S1x64_0_0) shapeCasts_S1x64_S64)) (constant S_ .f32 0x00000000#32) reducesTo_S64_S_d0 h_S_)) (Host.exp (Host.reduceAdd (mulf (shapeCast _ (extractStridedSlice S1x64 ![0, 0] l3 slices_S4x64_S1x64_0_0) shapeCasts_S1x64_S64) (shapeCast _ (extractStridedSlice S1x64 ![0, 0] l4 slices_S4x64_S1x64_0_0) shapeCasts_S1x64_S64)) (constant S_ .f32 0x00000000#32) reducesTo_S64_S_d0 h_S_))) (constant S_ .f32 0x3E4CCCCD#32))) (shapeCast _ (extractStridedSlice S8x4x1x2048x2048 ![0, 0, 1, 0, 0] P slices_S8x4x2x2048x2048_S8x4x1x2048x2048_0_0_1_0_0) shapeCasts_S8x4x1x2048x2048_S8x4x2048x2048)))) transposes_S8x4x128x2048_S8x2048x4x128_0_3_1_2

/-- The reference's normed difference. -/
def refNormed (D : FVec Ideal S8x2048x4x128 .f32) (G : FVec Ideal S4x128 .f32) : FVec Ideal S8x2048x512 .bf16 :=
  truncf .bf16 (shapeCast _ (mulf (mulf (mulf D (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf D D) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 (shapeCast _ (extractStridedSlice S1x128 ![0, 0] G slices_S4x128_S1x128_0_0) shapeCasts_S1x128_S128)))) (broadcastInDim S8x2048x4x128 ![] bcast_S_S8x2048x4x128 (constant S_ .f32 0x3F4CCCCD#32))) shapeCasts_S8x2048x4x128_S8x2048x512) bitsLt_bf16_f32

theorem refScores_at (X : FVec Ideal S8x2048x4096 .f32) (b : Fin 8) (h : Fin 4) (a : Fin 2) (p j : Fin 2048) :
    refScores X (ix5 b h a p j)
      = (∑ e : Fin 64, X (ix3 b p ⟨h.val * 128 + a.val * 64 + e.val, by omega⟩) * X (ix3 b j ⟨512 + (h.val * 128 + a.val * 64 + e.val), by omega⟩))
          * Ideal.ofBits .f32 0x3E000000#32
        - Ideal.ofBits .f32 (lit0 h) * (((IntOp.absi (BitVec.ofNat 32 p.val - BitVec.ofNat 32 j.val)).toInt : ℝ) : EReal) := by
  pointwise [refScores, dot_S8x2048x4x2x64_S8x2048x4x2x64_S8x4x2x2048x2048_4_4_1_1_023_023]
  rw [show S4.rowMajor (ix1 h) = h from by fin_cases h <;> rfl]
  rfl

theorem max_inner (S : FVec Ideal S8x4x2x2048x2048 .f32) (v : FVec Ideal S_ .f32) (b : Fin 8) (h : Fin 4) (a : Fin 2) (p : Fin 2048) :
    Host.reduce FloatOps.maximumf S v reducesTo_S8x4x2x2048x2048_S8x4x2x2048_d4 h_S_ (ix4 b h a p)
      = Finset.univ.fold max (v (Shape.Idx.first (by decide))) fun k : Fin 2048 => S (ix5 b h a p k) := by
  pointwise

theorem max_outer (S : FVec Ideal S8x4x2x2048 .f32) (b : Fin 8) (h : Fin 4) (a : Fin 2) (p : Fin 2048) :
    maximumf (broadcastInDim S8x4x2x2048 ![] bcast_S_S8x4x2x2048 (constant S_ .f32 0xFF800000#32)) S (ix4 b h a p)
      = max (Ideal.ofBits .f32 0xFF800000#32) (S (ix4 b h a p)) := rfl

theorem refMax_at (S : FVec Ideal S8x4x2x2048x2048 .f32) (b : Fin 8) (h : Fin 4) (a : Fin 2) (p : Fin 2048) :
    refMax S (ix4 b h a p) = max ⊥ (Finset.univ.fold max ⊥ fun k => S (ix5 b h a p k)) := by
  refine (max_outer _ b h a p).trans (congrArg₂ max ofBits_bot ((max_inner S _ b h a p).trans ?_))
  exact congrArg (fun v => Finset.univ.fold max v fun k : Fin 2048 => S (ix5 b h a p k)) ofBits_bot

theorem refExp_at (S : FVec Ideal S8x4x2x2048x2048 .f32) (b : Fin 8) (h : Fin 4) (a : Fin 2) (p j : Fin 2048) :
    refExp S (ix5 b h a p j) = Ideal.exp (S (ix5 b h a p j) - refMax S (ix4 b h a p)) := by
  pointwise [refExp]

theorem refSoft_at (S : FVec Ideal S8x4x2x2048x2048 .f32) (b : Fin 8) (h : Fin 4) (a : Fin 2) (p j : Fin 2048) :
    refSoft S (ix5 b h a p j) = Ideal.div (refExp S (ix5 b h a p j)) (0 + ∑ k : Fin 2048, refExp S (ix5 b h a p k)) := by
  pointwise [refSoft]

theorem refDiff_at (X : FVec Ideal S8x2048x4096 .f32) (P : FVec Ideal S8x4x2x2048x2048 .f32) (l1 l2 l3 l4 : FVec Ideal S4x64 .f32)
    (b : Fin 8) (p : Fin 2048) (h : Fin 4) (d : Fin 128) :
    refDiff X P l1 l2 l3 l4 (ix4 b p h d)
      = ∑ j : Fin 2048, X (ix3 b j ⟨1024 + (h.val * 128 + d.val), by omega⟩) * (P (ix5 b h 0 p j)
          - (Ideal.exp (∑ x : Fin 64, l1 (ix2 0 x) * l2 (ix2 0 x)) - Ideal.exp (∑ x : Fin 64, l3 (ix2 0 x) * l4 (ix2 0 x)) + Ideal.ofBits .f32 0x3E4CCCCD#32)
            * P (ix5 b h 1 p j)) := by
  pointwise [refDiff, dot_S8x2048x4x128_S8x4x2048x2048_S8x4x128x2048_1_3_3_2_02_01]

theorem refNormed_at (D : FVec Ideal S8x2048x4x128 .f32) (G : FVec Ideal S4x128 .f32) (b : Fin 8) (p : Fin 2048) (i : Fin 512) :
    refNormed D G (ix3 b p i)
      = normedAt (fun d => D (ix4 b p ⟨i.val / 128, by omega⟩ d)) (fun d => G (ix2 0 d)) (Ideal.ofBits .f32 0x3F4CCCCD#32) ⟨i.val % 128, by omega⟩ := by
  pointwise [refNormed, normedAt, eps]

theorem reference_eq (m : (ℓ : Loc nD τ sig) → Buf (Elt Ideal) ℓ) (c : Dev nD) :
    res_main_v79 m c = refNormed (refDiff (m ((c : Thread nD τ).loc main_arg0)) (refSoft (refScores (m ((c : Thread nD τ).loc main_arg0))))
      (m ((c : Thread nD τ).loc main_arg1)) (m ((c : Thread nD τ).loc main_arg2)) (m ((c : Thread nD τ).loc main_arg3)) (m ((c : Thread nD τ).loc main_arg4)))
      (m ((c : Thread nD τ).loc main_arg5)) := rfl

/-- The reference's scores are real where the projections are. -/
theorem scores_real (Z : FVec Ideal S8x2048x4096 .f32) (X : Fin 8 → Fin 2048 → Fin 4096 → ℝ)
    (hX : ∀ b p (e : Fin 4096), e.val < 1536 → Z (ix3 b p e) = ((X b p e : ℝ) : EReal)) (b : Fin 8) (h : Fin 4) (a : Fin 2) (p j : Fin 2048) :
    refScores Z (ix5 b h a p j) = ((scoreAt (colsOf X 0 b h) (colsOf X 1 b h) (sigma h) p a j : ℝ) : EReal) := by
  rw [refScores_at, Boundary.ofBits_eighth]
  have hd : ((IntOp.absi (BitVec.ofNat 32 p.val - BitVec.ofNat 32 j.val)).toInt : ℝ) = |(j.val : ℝ) - (p.val : ℝ)| := by
    have := dist_bits p.val j.val 0 p.isLt j.isLt (by norm_num)
    rw [abs_sub_comm]
    simpa using this
  have hs : Ideal.ofBits .f32 (lit0 h) = ((sigma h : ℝ) : EReal) := (congrArg (Ideal.ofBits .f32) (by fin_cases h <;> rfl)).trans (slope_bits h)
  rw [hd, hs, sum_real _ _ (fun e : Fin 64 => colsOf X 0 b h p ⟨a.val * 64 + e.val, by omega⟩ * colsOf X 1 b h j ⟨a.val * 64 + e.val, by omega⟩) fun e => ?_,
    ← EReal.coe_mul, ← EReal.coe_mul, ← EReal.coe_sub]
  · rfl
  · rw [EReal.coe_mul]
    refine congrArg₂ (· * ·) ((congrArg (fun q => Z (ix3 b p q)) (Fin.ext ?_)).trans (hX b p _ ?_)) ((congrArg (fun q => Z (ix3 b j q)) (Fin.ext ?_)).trans (hX b j _ ?_))
    · show h.val * 128 + a.val * 64 + e.val = 0 * 512 + h.val * 128 + (a.val * 64 + e.val); omega
    · show 0 * 512 + h.val * 128 + (a.val * 64 + e.val) < 1536; omega
    · show 512 + (h.val * 128 + a.val * 64 + e.val) = 1 * 512 + h.val * 128 + (a.val * 64 + e.val); omega
    · show 1 * 512 + h.val * 128 + (a.val * 64 + e.val) < 1536; omega

theorem soft_real (S : FVec Ideal S8x4x2x2048x2048 .f32) (s : Fin 2048 → ℝ) (b : Fin 8) (h : Fin 4) (a : Fin 2) (p : Fin 2048)
    (hs : ∀ j, S (ix5 b h a p j) = ((s j : ℝ) : EReal)) (j : Fin 2048) : refSoft S (ix5 b h a p j) = ((soft s j : ℝ) : EReal) := by
  rw [refSoft_at]
  simp only [refExp_at, refMax_at]
  exact ref_soft (fun k => S (ix5 b h a p k)) s hs j

/-- The reference's result, where the projections and the vectors of λ are real. -/
theorem reference_at (Z : FVec Ideal S8x2048x4096 .f32) (L1 L2 L3 L4 : FVec Ideal S4x64 .f32) (G : FVec Ideal S4x128 .f32)
    (X : Fin 8 → Fin 2048 → Fin 4096 → ℝ) (l1 l2 l3 l4 : Fin 64 → ℝ)
    (hX : ∀ b p (e : Fin 4096), e.val < 1536 → Z (ix3 b p e) = ((X b p e : ℝ) : EReal)) (h1 : ∀ x, L1 (ix2 0 x) = ((l1 x : ℝ) : EReal))
    (h2 : ∀ x, L2 (ix2 0 x) = ((l2 x : ℝ) : EReal)) (h3 : ∀ x, L3 (ix2 0 x) = ((l3 x : ℝ) : EReal)) (h4 : ∀ x, L4 (ix2 0 x) = ((l4 x : ℝ) : EReal)) :
    refNormed (refDiff Z (refSoft (refScores Z)) L1 L2 L3 L4) G = attended X (lamAt l1 l2 l3 l4) (fun d => G (ix2 0 d)) := by
  funext i
  obtain ⟨b, p, i, rfl⟩ : ∃ b p i', i = ix3 b p i' := ⟨i 0, i 1, i 2, by funext k; fin_cases k <;> rfl⟩
  rw [refNormed_at]
  have hi := i.isLt
  show _ = headAt X (lamAt l1 l2 l3 l4) (fun d => G (ix2 0 d)) b ⟨i.val / 128, by omega⟩ p ⟨i.val % 128, by omega⟩
  generalize (⟨i.val / 128, by omega⟩ : Fin 4) = h
  rw [headAt, outAt]
  refine congrArg (fun f => normedAt f (fun d => G (ix2 0 d)) (Ideal.ofBits .f32 0x3F4CCCCD#32) ⟨i.val % 128, by omega⟩) (funext fun d => ?_)
  rw [refDiff_at]
  refine sum_real _ _ (fun j => colsOf X 2 b h j d * (soft (scoreAt (colsOf X 0 b h) (colsOf X 1 b h) (sigma h) p 0) j
    - lamAt l1 l2 l3 l4 * soft (scoreAt (colsOf X 0 b h) (colsOf X 1 b h) (sigma h) p 1) j)) fun j => ?_
  have hl : Ideal.exp (∑ x : Fin 64, L1 (ix2 0 x) * L2 (ix2 0 x)) - Ideal.exp (∑ x : Fin 64, L3 (ix2 0 x) * L4 (ix2 0 x)) + Ideal.ofBits .f32 0x3E4CCCCD#32
      = ((lamAt l1 l2 l3 l4 : ℝ) : EReal) :=
    lam_real (![fun x => L1 (ix2 0 x), fun x => L2 (ix2 0 x), fun x => L3 (ix2 0 x), fun x => L4 (ix2 0 x)]) l1 l2 l3 l4 h1 h2 h3 h4
  rw [hl, soft_real _ _ b h 0 p (scores_real Z X hX b h 0 p) j, soft_real _ _ b h 1 p (scores_real Z X hX b h 1 p) j]
  rw [← EReal.coe_mul, ← EReal.coe_sub, EReal.coe_mul]
  refine congrArg (· * _) ((congrArg (fun q => Z (ix3 b j q)) (Fin.ext ?_)).trans (hX b j _ ?_))
  · show 1024 + (h.val * 128 + d.val) = 2 * 512 + h.val * 128 + d.val; omega
  · show 2 * 512 + h.val * 128 + d.val < 1536; omega

end Cert.Proof.DiffAttn
-- ==== Proof.DiffAttnClaims.lean ====
/-
  The claims about the differential attention.
-/
module

public import proofs.«01_k».proof.Defs
public import proofs.«01_k».proof.Proof.Gen.DiffAttn.Frame
public import proofs.«01_k».proof.Proof.DiffAttnReference
public import Idealize.ShloMosaic.Adequacy
public import Idealize.ShloMosaic.Lib.ReduceAll
public import Idealize.ShloMosaic.Lib.KernelVsHost

@[expose] public section

set_option maxRecDepth 16384

noncomputable section

namespace Cert.Proof.DiffAttn

open Idealize.ShloMosaic Idealize.ShloMosaic.TcCoe Idealize.SL.Sem
open Idealize.ShloMosaic (ix1 ix2 ix3)

/-- The shapes of the precondition fit. -/
theorem pre_facts : Cert.Pre_finite4.Facts where
  slices_S8x2048x4096_S8x2048x1536_0_0_0 := by decide
  bcast_S_S8x2048x1536 := by decide
  reducesTo_S8x2048x1536_S_d0_1_2 := by decide
  h_S_ := by decide
  slices_S4x64_S1x64_0_0 := by decide
  shapeCasts_S1x64_S64 := by decide
  bcast_S_S64 := by decide
  reducesTo_S64_S_d0 := by decide

/-- A value below +∞ in absolute value is a real number. -/
theorem real_of_abs_lt (x : Ideal .f32)
    (h : FloatOps.cmpf .olt (FloatOps.hostAbsf x) (FloatOps.ofBits (F := Ideal) .f32 0x7F800000#32) = 1#1) :
    (x : EReal) = ((x.toReal : ℝ) : EReal) := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · simp [hx, IntOp.xori] at h'
  · push Not at hx
    exact (EReal.coe_toReal hx.1 hx.2).symm

section Finite
open Cert.Pre_finite4

instance : Subsingleton S_.Idx := ⟨fun a b => funext fun k => k.elim0⟩

theorem row_real [Facts] (l : FVec Ideal S4x64 .f32)
    (h : Host.reduce IntOp.andi (cmpf .olt (Host.absf (shapeCast S64 (extractStridedSlice S1x64 ![0, 0] l Facts.slices_S4x64_S1x64_0_0)
      Facts.shapeCasts_S1x64_S64)) (broadcastInDim S64 ![] Facts.bcast_S_S64 (constant S_ .f32 0x7F800000#32))) (constantI S_ 1 1#1)
      Facts.reducesTo_S64_S_d0 Facts.h_S_ (fun k => k.elim0) = 1#1) (x : Fin 64) :
    (l (ix2 0 x) : EReal) = (((l (ix2 0 x)).toReal : ℝ) : EReal) := by
  refine real_of_abs_lt _ ?_
  have e := Host.reduce_andi_all _ _ _ _ _ h (ix1 x)
  refine Eq.trans ?_ e
  pointwise

theorem columns_real [Facts] (Z : FVec Ideal S8x2048x4096 .f32)
    (h : Host.reduce IntOp.andi (cmpf .olt (Host.absf (extractStridedSlice S8x2048x1536 ![0, 0, 0] Z Facts.slices_S8x2048x4096_S8x2048x1536_0_0_0))
      (broadcastInDim S8x2048x1536 ![] Facts.bcast_S_S8x2048x1536 (constant S_ .f32 0x7F800000#32))) (constantI S_ 1 1#1)
      Facts.reducesTo_S8x2048x1536_S_d0_1_2 Facts.h_S_ (fun k => k.elim0) = 1#1) (b : Fin 8) (p : Fin 2048) (e : Fin 4096) (he : e.val < 1536) :
    (Z (ix3 b p e) : EReal) = (((Z (ix3 b p e)).toReal : ℝ) : EReal) := by
  refine real_of_abs_lt _ ?_
  have e := Host.reduce_andi_all _ _ _ _ _ h (ix3 b p ⟨e.val, he⟩)
  refine Eq.trans ?_ e
  pointwise

/-- What the precondition says of the arrays: the columns of the attention and the four vectors of λ are real. -/
theorem finite_real [Facts] (Z : FVec Ideal S8x2048x4096 .f32) (L1 L2 L3 L4 : FVec Ideal S4x64 .f32) (G : FVec Ideal S4x128 .f32)
    (h : fn (F := Ideal) Z L1 L2 L3 L4 G = fun _ => 1#1) :
    (∀ b p (e : Fin 4096), e.val < 1536 → (Z (ix3 b p e) : EReal) = (((Z (ix3 b p e)).toReal : ℝ) : EReal))
    ∧ (∀ x, (L1 (ix2 0 x) : EReal) = (((L1 (ix2 0 x)).toReal : ℝ) : EReal)) ∧ (∀ x, (L2 (ix2 0 x) : EReal) = (((L2 (ix2 0 x)).toReal : ℝ) : EReal))
    ∧ (∀ x, (L3 (ix2 0 x) : EReal) = (((L3 (ix2 0 x)).toReal : ℝ) : EReal)) ∧ (∀ x, (L4 (ix2 0 x) : EReal) = (((L4 (ix2 0 x)).toReal : ℝ) : EReal)) := by
  have h0 := congrFun h (fun k => k.elim0)
  dsimp only [fn, fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨columns_real Z h0, row_real L1 e1, row_real L2 e2, row_real L3 e3, row_real L4 e4⟩

end Finite

theorem frame_kernel : Cert.quiescent_DiffAttn := fun m ρ _ => Cert.DiffAttn.Gen.frame m ρ

theorem frame_ideal : Cert.quiescent_DiffAttnIdeal := fun m ρ _ => Cert.DiffAttnIdeal.Gen.frame m ρ

theorem frame_ideal_finite : Cert.quiescent_DiffAttnIdeal_pre_finite4 (hPre_finite4 := pre_facts) := fun m ρ _ => Cert.DiffAttnIdeal.Gen.frame m ρ

theorem frame_reference : Cert.quiescent_DiffAttnReferenceIdeal := fun m ρ _ =>
  (θ_run Cert.DiffAttnReferenceIdeal.defs _ _).mono (fun r h => ⟨fun c => (h c).2, sem_eq_zero_of_no_sems (by decide) r.2⟩)
    (Cert.DiffAttnReferenceIdeal.Value.run (F := Ideal) m ρ)

theorem frame_reference_finite : Cert.quiescent_DiffAttnReferenceIdeal_pre_finite4 (hPre_finite4 := pre_facts) := fun m ρ _ =>
  frame_reference m ρ trivial

theorem preserves : Cert.preserves_DiffAttn_DiffAttnIdeal :=
  IdealRules.named_const.statement Cert.DiffAttnIdeal.κ "log2e" .f32 0x3FB8AA3B#32 (((Real.log 2)⁻¹ : ℝ) : EReal) rfl

theorem kernel_is_reference : Cert.algebraic_DiffAttnIdeal_DiffAttnReferenceIdeal_pre_finite4 (hPre_finite4 := pre_facts) := by
  intro m g m' g' hpre hargs
  refine ⟨fun c => _, (θ_run Cert.DiffAttnIdeal.defs _ _).mono (fun r h c => h c)
    (Cert.DiffAttnIdeal.Value.run_blocks (F := Ideal) m g), ?_⟩
  refine (θ_run Cert.DiffAttnReferenceIdeal.defs _ _).mono (fun r h c => ?_) (Cert.DiffAttnReferenceIdeal.Value.run (F := Ideal) m' g')
  obtain ⟨h0, hk⟩ := h c
  obtain ⟨a0, a1, a2, a3, a4, a5⟩ := hargs c
  obtain ⟨hX, h1, h2, h3, h4⟩ := @finite_real pre_facts _ _ _ _ _ _ (hpre c)
  refine ⟨h0.trans ?_, hk⟩
  refine (reference_eq m' c).trans ?_
  rw [a0, a1, a2, a3, a4, a5]
  exact (reference_at _ _ _ _ _ _ (fun b p e => (m ((c : Thread Cert.DiffAttnIdeal.nD Cert.DiffAttnIdeal.τ).loc Cert.DiffAttnIdeal.main_arg0) (ix3 b p e)).toReal)
    _ _ _ _ hX h1 h2 h3 h4).trans (final6 m c _ _ _ _ _ hX h1 h2 h3 h4).symm

end Cert.Proof.DiffAttn
-- ==== Proof.lean ====
/-
  Four of the layer's kernels.

  The output projection after the last layer: the two attention results, gated by silu of the gate columns, through the
  output projection, added to the residual rows and normed. Proof/Names, Pieces, Block, Trip, Body, Split and Run go through
  that kernel once, for any float values; Row and Equation read its result at the ideal values beside the reference's;
  Claims states both.

  The boundary between two layers: the same projection into the residual rows, their norm, the next layer's input projection,
  and its two layouts. Proof/BoundaryRow, BoundaryEquation and BoundaryClaims.

  The first layer's norm, input projection and the same two layouts. Proof/InprojEquation and InprojClaims.

  The differential attention of a layer: two softmaxes of scores with a distance bias, their difference
  over the values, normed. Proof/DiffAttnMath, Block, Tiles, Pieces and Equation read the kernel's result;
  DiffAttnReference reads the reference's; DiffAttnClaims states both.
-/
module

public import proofs.«01_k».proof.Proof.Claims
public import proofs.«01_k».proof.Proof.BoundaryClaims
public import proofs.«01_k».proof.Proof.InprojClaims
public import proofs.«01_k».proof.Proof.DiffAttnClaims
public import proofs.«01_k».proof.Proof.Gen.ReferenceIdeal.Run
public import proofs.«01_k».proof.Proof.Gen.Boundary.Frame
public import proofs.«01_k».proof.Proof.Gen.BoundaryIdeal.Value
public import proofs.«01_k».proof.Proof.Gen.BoundaryReferenceIdeal.Run
public import proofs.«01_k».proof.Proof.Gen.Inproj.Frame
public import proofs.«01_k».proof.Proof.Gen.InprojIdeal.Value
public import proofs.«01_k».proof.Proof.Gen.InprojReferenceIdeal.Run
public import proofs.«01_k».proof.Proof.Gen.DiffAttn.Frame
public import proofs.«01_k».proof.Proof.Gen.DiffAttnIdeal.Value
public import proofs.«01_k».proof.Proof.Gen.DiffAttnReferenceIdeal.Run

@[expose] public section

noncomputable section

namespace Cert.Proof

theorem claim : Cert.Claim := ⟨Cert.Kernel.Gen.facts, Cert.KernelIdeal.Gen.facts, Cert.ReferenceIdeal.Gen.facts,
  Cert.Boundary.Gen.facts, Cert.BoundaryIdeal.Gen.facts, Cert.BoundaryReferenceIdeal.Gen.facts,
  Cert.Inproj.Gen.facts, Cert.InprojIdeal.Gen.facts, Cert.InprojReferenceIdeal.Gen.facts,
  Cert.DiffAttn.Gen.facts, Cert.DiffAttnIdeal.Gen.facts, Cert.DiffAttnReferenceIdeal.Gen.facts, DiffAttn.pre_facts,
  OutProj.frame_kernel, OutProj.frame_ideal, OutProj.frame_reference,
  Boundary.frame_kernel, Boundary.frame_ideal, Boundary.frame_reference,
  Inproj.frame_kernel, Inproj.frame_ideal, Inproj.frame_reference,
  DiffAttn.frame_kernel, DiffAttn.frame_ideal, DiffAttn.frame_ideal_finite, DiffAttn.frame_reference, DiffAttn.frame_reference_finite,
  trivial, OutProj.kernel_is_reference, Boundary.preserves, Boundary.kernel_is_reference,
  Inproj.preserves, Inproj.kernel_is_reference,
  DiffAttn.preserves, DiffAttn.kernel_is_reference⟩

end Cert.Proof
